-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "scale" .f32 0x3DD53B95#32 (((Real.sqrt 192)⁻¹ * (Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "alpha" .f32 0x3F9837F0#32 ((Real.sqrt (Real.sqrt 2) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.named_const.Statement Cert.Kernel6Ideal.κ "alpha" .f32 0x3F9837F0#32 ((Real.sqrt (Real.sqrt 2) : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v27_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  IdealRules.named_const.Statement Cert.Kernel7Ideal.κ "alpha" .f32 0x3F9837F0#32 ((Real.sqrt (Real.sqrt 2) : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v27_2)) (v1 : (c : Dev Cert.Kernel7Ideal.nD) → Buf (Elt Ideal) ((c.tc : Thread Cert.Kernel7Ideal.nD Cert.Kernel7Ideal.τ).loc Cert.Kernel7Ideal.main_v27_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27_2) = v0 c
          ∧ r.2.mem ((c.tc : Thread Cert.Kernel7Ideal.nD Cert.Kernel7Ideal.τ).loc Cert.Kernel7Ideal.main_v27_4) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v129) = v0 c
          ∧ r.2.mem ((c.tc : Thread Cert.Reference7Ideal.nD Cert.Reference7Ideal.τ).loc Cert.Reference7Ideal.main_v85) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S4x4096x8x192 : Shape := ⟨4, ![4, 4096, 8, 192]⟩
abbrev S4x4096x8x128 : Shape := ⟨4, ![4, 4096, 8, 128]⟩
abbrev S4x4096x64 : Shape := ⟨3, ![4, 4096, 64]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn {F : FTy → Type} [FloatOps F] (main_arg0 : FVec F S4x4096x8x192 .f32) (main_arg1 : FVec F S4x4096x8x128 .f32) (main_arg2 : FVec F S4x4096x64 .f32) (main_arg3 : FVec F S4x4096x8x128 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Pre_finite2.lean ====
abbrev S4x4096x1024 : Shape := ⟨3, ![4, 4096, 1024]⟩
abbrev S1024x6848 : Shape := ⟨2, ![1024, 6848]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x6848 : S_.BroadcastsInDim S1024x6848 (![] : Fin 0 → Fin S1024x6848.rank)
  reducesTo_S1024x6848_S_d0_1 : S1024x6848.ReducesTo [0, 1] S_

variable [Facts]

def fn {F : FTy → Type} [FloatOps F] (main_arg0 : FVec F S4x4096x1024 .f32) (main_arg1 : FVec F S1024x6848 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x6848 .f32 := Host.absf main_arg1
  let main_cst_0 : FVec F S_ .f32 := constant S_ .f32 0x7F800000#32
  let main_v5 : FVec F S1024x6848 .f32 := broadcastInDim S1024x6848 ![] bcast_S_S1024x6848 main_cst_0
  let main_v6 : IVec S1024x6848 1 := cmpf .olt main_v4 main_v5
  let main_c_1 : IVec S_ 1 := constantI S_ 1 1#1
  let main_v7 : IVec S_ 1 := (fun x v => Host.reduce IntOp.andi x v reducesTo_S1024x6848_S_d0_1 h_S_) main_v6 main_c_1
  let main_v8 : IVec S_ 1 := andi main_v3 main_v7
  main_v8
-- ==== Pre_finite3.lean ====
abbrev S4x4096x6848 : Shape := ⟨3, ![4, 4096, 6848]⟩
abbrev S4x4096x32 : Shape := ⟨3, ![4, 4096, 32]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4x4096x384 : Shape := ⟨3, ![4, 4096, 384]⟩
abbrev S_ : Shape := ⟨0, ![]⟩

class Facts : Prop where
  slices_S4x4096x6848_S4x4096x384_0_0_0 : S4x4096x6848.Slices ![0, 0, 0] S4x4096x384
  bcast_S_S4x4096x384 : S_.BroadcastsInDim S4x4096x384 (![] : Fin 0 → Fin S4x4096x384.rank)
  reducesTo_S4x4096x384_S_d0_1_2 : S4x4096x384.ReducesTo [0, 1, 2] S_
  h_S_ : 0 < S_.numel
  bcast_S_S384 : S_.BroadcastsInDim S384 (![] : Fin 0 → Fin S384.rank)
  reducesTo_S384_S_d0 : S384.ReducesTo [0] S_
  bcast_S_S384x1536 : S_.BroadcastsInDim S384x1536 (![] : Fin 0 → Fin S384x1536.rank)
  reducesTo_S384x1536_S_d0_1 : S384x1536.ReducesTo [0, 1] S_

variable [Facts]

def fn {F : FTy → Type} [FloatOps F] (main_arg0 : FVec F S4x4096x6848 .f32) (main_arg1 : FVec F S4x4096x32 .f32) (main_arg2 : FVec F S4x4096x32 .f32) (main_arg3 : FVec F S384 .f32) (main_arg4 : FVec F S384x1536 .f32) (main_arg5 : FVec F S256 .f32) (main_arg6 : FVec F S256x2048 .f32) : IVec S_ 1 :=
  let main_v0 : FVec F S4x4096x384 .f32 := (extractStridedSlice S4x4096x384 ![0, 0, 0] · slices_S4x4096x6848_S4x4096x384_0_0_0) main_arg0
  let main_v1 : FVec F S4x4096x384 .f32 := Host.absf main_v0
  let main_cst : FVec F S_ .f32 := constant S_ .f32 0x7F800000#32
  let main_v2 : FVec F S4x4096x384 .f32 := broadcastInDim S4x4096x384 ![] bcast_S_S4x4096x384 main_cst
  let main_v3 : IVec S4x4096x384 1 := cmpf .olt main_v1 main_v2
  let main_c : IVec S_ 1 := constantI S_ 1 1#1
  let main_v4 : IVec S_ 1 := (fun x v => Host.reduce IntOp.andi x v reducesTo_S4x4096x384_S_d0_1_2 h_S_) main_v3 main_c
  let main_v5 : FVec F S384 .f32 := Host.absf main_arg3
  let main_cst_0 : FVec F S_ .f32 := constant S_ .f32 0x7F800000#32
  let main_v6 : FVec F S384 .f32 := broadcastInDim S384 ![] bcast_S_S384 main_cst_0
  let main_v7 : IVec S384 1 := cmpf .olt main_v5 main_v6
  let main_c_1 : IVec S_ 1 := constantI S_ 1 1#1
  let main_v8 : IVec S_ 1 := (fun x v => Host.reduce IntOp.andi x v reducesTo_S384_S_d0 h_S_) main_v7 main_c_1
  let main_v9 : IVec S_ 1 := andi main_v4 main_v8
  let main_v10 : FVec F S384x1536 .f32 := Host.absf main_arg4
  let main_cst_2 : FVec F S_ .f32 := constant S_ .f32 0x7F800000#32
  let main_v11 : FVec F S384x1536 .f32 := broadcastInDim S384x1536 ![] bcast_S_S384x1536 main_cst_2
  let main_v12 : IVec S384x1536 1 := cmpf .olt main_v10 main_v11
  let main_c_3 : IVec S_ 1 := constantI S_ 1 1#1
  let main_v13 : IVec S_ 1 := (fun x v => Host.reduce IntOp.andi x v reducesTo_S384x1536_S_d0_1 h_S_) main_v12 main_c_3
  let main_v14 : IVec S_ 1 := andi main_v9 main_v13
  main_v14
-- ==== Pre_finite6.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4x4096x1024 .f32) (main_arg1 : FVec F S16384x1024 .f32) (main_arg2 : FVec F S16384x1024 .f32) (main_arg3 : FVec F S4x4096x6848 .f32) (main_arg4 : FVec F S1024x1024 .f32) (main_arg5 : FVec F S1024 .f32) (main_arg6 : FVec F S1024 .f32) (main_arg7 : FVec F S1024x32 .f32) (main_arg8 : FVec F S32 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32 .f32 := Host.absf main_arg7
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  main_v13
-- ==== Pre_finite7.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x4096x1024 .f32) (main_arg1 : FVec F S16384x1024 .f32) (main_arg2 : FVec F S16384x1024 .f32) (main_arg3 : FVec F S4x4096x6848 .f32) (main_arg4 : FVec F S1024x1024 .f32) (main_arg5 : FVec F S1024 .f32) (main_arg6 : FVec F S1024 .f32) (main_arg7 : FVec F S1024x32 .f32) (main_arg8 : FVec F S32 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32 .f32 := Host.absf main_arg7
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S32 .f32 := Host.absf main_arg8
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4x4096x8x192 : Shape := ⟨4, ![4, 4096, 8, 192]⟩
abbrev S4x4096x8x128 : Shape := ⟨4, ![4, 4096, 8, 128]⟩
abbrev S4x4096x64 : Shape := ⟨3, ![4, 4096, 64]⟩
abbrev S_ : Shape := ⟨0, ![]⟩
abbrev S4x4096x8x256 : Shape := ⟨4, ![4, 4096, 8, 256]⟩
abbrev S16384x2048 : Shape := ⟨2, ![16384, 2048]⟩
abbrev S16384x1024 : Shape := ⟨2, ![16384, 1024]⟩
abbrev S4x4096x128 : Shape := ⟨3, ![4, 4096, 128]⟩
abbrev S16384x128 : Shape := ⟨2, ![16384, 128]⟩
abbrev S32x512x8x128 : Shape := ⟨4, ![32, 512, 8, 128]⟩
abbrev S32x8x128x512 : Shape := ⟨4, ![32, 8, 128, 512]⟩
abbrev S32x8x16x512 : Shape := ⟨4, ![32, 8, 16, 512]⟩
abbrev S32x8x144x512 : Shape := ⟨4, ![32, 8, 144, 512]⟩
abbrev S32x1152x512 : Shape := ⟨3, ![32, 1152, 512]⟩
abbrev S4096x256 : Shape := ⟨2, ![4096, 256]⟩
abbrev S4096x128 : Shape := ⟨2, ![4096, 128]⟩
abbrev S8x144x512 : Shape := ⟨3, ![8, 144, 512]⟩
abbrev S4x144x256 : Shape := ⟨3, ![4, 144, 256]⟩
abbrev S256x256 : Shape := ⟨2, ![256, 256]⟩
abbrev S1x256 : Shape := ⟨2, ![1, 256]⟩
abbrev S512x128 : Shape := ⟨2, ![512, 128]⟩
abbrev S512x256 : Shape := ⟨2, ![512, 256]⟩
abbrev S1x144x512 : Shape := ⟨3, ![1, 144, 512]⟩
abbrev S144x512 : Shape := ⟨2, ![144, 512]⟩
abbrev S256 : Shape := ⟨1, ![256]⟩
abbrev S1x144x256 : Shape := ⟨3, ![1, 144, 256]⟩
abbrev S144x256 : Shape := ⟨2, ![144, 256]⟩
abbrev S128x256 : Shape := ⟨2, ![128, 256]⟩
abbrev S256x128 : Shape := ⟨2, ![256, 128]⟩

abbrev nBuf : Space → Nat
  | .hbm => 31
  | .vmem => 11
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x128, .f32⟩
  | .hbm, ⟨2, _⟩ => ⟨S4x4096x64, .f32⟩
  | .hbm, ⟨3, _⟩ => ⟨S4x4096x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x8x192, .f32⟩
  | .hbm, ⟨10, _⟩ => ⟨S4x4096x8x192, .f32⟩
  | .hbm, ⟨11, _⟩ => ⟨S_, .i32⟩
  | .hbm, ⟨12, _⟩ => ⟨S_, .f32⟩
  | .hbm, ⟨13, _⟩ => ⟨S4x4096x8x256, .f32⟩
  | .hbm, ⟨14, _⟩ => ⟨S16384x2048, .f32⟩
  | .hbm, ⟨15, _⟩ => ⟨S16384x2048, .bf16⟩
  | .hbm, ⟨16, _⟩ => ⟨S16384x1024, .f32⟩
  | .hbm, ⟨17, _⟩ => ⟨S16384x1024, .bf16⟩
  | .hbm, ⟨18, _⟩ => ⟨S_, .i32⟩
  | .hbm, ⟨19, _⟩ => ⟨S_, .f32⟩
  | .hbm, ⟨20, _⟩ => ⟨S4x4096x128, .f32⟩
  | .hbm, ⟨21, _⟩ => ⟨S16384x128, .f32⟩
  | .hbm, ⟨22, _⟩ => ⟨S16384x128, .bf16⟩
  | .hbm, ⟨23, _⟩ => ⟨S32x512x8x128, .f32⟩
  | .hbm, ⟨24, _⟩ => ⟨S32x8x128x512, .f32⟩
  | .hbm, ⟨25, _⟩ => ⟨S_, .f32⟩
  | .hbm, ⟨26, _⟩ => ⟨S32x8x16x512, .f32⟩
  | .hbm, ⟨27, _⟩ => ⟨S32x8x144x512, .f32⟩
  | .hbm, ⟨28, _⟩ => ⟨S32x1152x512, .f32⟩
  | .hbm, ⟨29, _⟩ => ⟨S32x1152x512, .bf16⟩
  | .hbm, ⟨30, _⟩ => ⟨S16384x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x144x512, .bf16⟩
  | .local _ .vmem, ⟨7, _⟩ => ⟨S8x144x512, .bf16⟩
  | .local _ .vmem, ⟨8, _⟩ => ⟨S4096x128, .bf16⟩
  | .local _ .vmem, ⟨9, _⟩ => ⟨S4096x128, .bf16⟩
  | .local _ .vmem, ⟨10, _⟩ => ⟨S4x144x256, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x8x192 : Shape := ⟨4, ![4, 4096, 8, 192]⟩
abbrev S4x4096x8x128 : Shape := ⟨4, ![4, 4096, 8, 128]⟩
abbrev S4x4096x64 : Shape := ⟨3, ![4, 4096, 64]⟩
abbrev S4x4096x1x64 : Shape := ⟨4, ![4, 4096, 1, 64]⟩
abbrev S4x4096x8x64 : Shape := ⟨4, ![4, 4096, 8, 64]⟩
abbrev S4x8x4096x4096 : Shape := ⟨4, ![4, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x128, .f32⟩
  | .hbm, ⟨2, _⟩ => ⟨S4x4096x64, .f32⟩
  | .hbm, ⟨3, _⟩ => ⟨S4x4096x8x128, .f32⟩
  | .hbm, ⟨4, _⟩ => ⟨S4x4096x1x64, .f32⟩
  | .hbm, ⟨5, _⟩ => ⟨S4x4096x8x64, .f32⟩
  | .hbm, ⟨6, _⟩ => ⟨S4x4096x8x192, .f32⟩
  | .hbm, ⟨7, _⟩ => ⟨S4x8x4096x4096, .f32⟩
  | .hbm, ⟨8, _⟩ => ⟨S_, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4096, .i32⟩
  | .hbm, ⟨13, _⟩ => ⟨S4096x1, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S1x1x4096x4096, .i1⟩
  | .hbm, ⟨19, _⟩ => ⟨S_, .f32⟩
  | .hbm, ⟨20, _⟩ => ⟨S_, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S_, .f32⟩
  | .hbm, ⟨27, _⟩ => ⟨S4x8x4096, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x128x4096, .f32⟩
  | .hbm, ⟨39, _⟩ => ⟨S4x4096x8x128, .f32⟩
  | .hbm, ⟨40, _⟩ => ⟨S16384x1024, .f32⟩
  | .hbm, ⟨41, _⟩ => ⟨S16384x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x6848 : Shape := ⟨2, ![1024, 6848]⟩
abbrev S16384x1024 : Shape := ⟨2, ![16384, 1024]⟩
abbrev S6848x1024 : Shape := ⟨2, ![6848, 1024]⟩
abbrev S704x1024 : Shape := ⟨2, ![704, 1024]⟩
abbrev S32x1024 : Shape := ⟨2, ![32, 1024]⟩
abbrev S768x1024 : Shape := ⟨2, ![768, 1024]⟩
abbrev S6144x1024 : Shape := ⟨2, ![6144, 1024]⟩
abbrev S16384x6912 : Shape := ⟨2, ![16384, 6912]⟩
abbrev S512x1024 : Shape := ⟨2, ![512, 1024]⟩
abbrev S512x6912 : Shape := ⟨2, ![512, 6912]⟩
abbrev S512x768 : Shape := ⟨2, ![512, 768]⟩

abbrev nBuf : Space → Nat
  | .hbm => 13
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x6848, .f32⟩
  | .hbm, ⟨2, _⟩ => ⟨S16384x1024, .f32⟩
  | .hbm, ⟨3, _⟩ => ⟨S6848x1024, .f32⟩
  | .hbm, ⟨4, _⟩ => ⟨S704x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S768x1024, .f32⟩
  | .hbm, ⟨9, _⟩ => ⟨S6144x1024, .f32⟩
  | .hbm, ⟨10, _⟩ => ⟨S6144x1024, .bf16⟩
  | .hbm, ⟨11, _⟩ => ⟨S768x1024, .bf16⟩
  | .hbm, ⟨12, _⟩ => ⟨S16384x6912, .bf16⟩
  | .local _ .vmem, ⟨0, _⟩ => ⟨S512x1024, .f32⟩
  | .local _ .vmem, ⟨1, _⟩ => ⟨S512x1024, .f32⟩
  | .local _ .vmem, ⟨2, _⟩ => ⟨S6144x1024, .bf16⟩
  | .local _ .vmem, ⟨3, _⟩ => ⟨S768x1024, .bf16⟩
  | .local _ .vmem, ⟨4, _⟩ => ⟨S512x6912, .bf16⟩
  | .local _ .vmem, ⟨5, _⟩ => ⟨S512x6912, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6912 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4x4096x1024 : Shape := ⟨3, ![4, 4096, 1024]⟩
abbrev S1024x6848 : Shape := ⟨2, ![1024, 6848]⟩
abbrev S4x4096x6848 : Shape := ⟨3, ![4, 4096, 6848]⟩
abbrev S4x4096x704 : Shape := ⟨3, ![4, 4096, 704]⟩
abbrev S4x4096x6144 : Shape := ⟨3, ![4, 4096, 6144]⟩
abbrev S4x4096x32 : Shape := ⟨3, ![4, 4096, 32]⟩
abbrev S4x4096x6912 : Shape := ⟨3, ![4, 4096, 6912]⟩
abbrev S16384x6912 : Shape := ⟨2, ![16384, 6912]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6848, .f32⟩
  | .hbm, ⟨2, _⟩ => ⟨S4x4096x6848, .f32⟩
  | .hbm, ⟨3, _⟩ => ⟨S4x4096x704, .f32⟩
  | .hbm, ⟨4, _⟩ => ⟨S4x4096x6144, .f32⟩
  | .hbm, ⟨5, _⟩ => ⟨S4x4096x32, .f32⟩
  | .hbm, ⟨6, _⟩ => ⟨S4x4096x32, .f32⟩
  | .hbm, ⟨7, _⟩ => ⟨S4x4096x32, .f32⟩
  | .hbm, ⟨8, _⟩ => ⟨S4x4096x6912, .f32⟩
  | .hbm, ⟨9, _⟩ => ⟨S16384x6912, .f32⟩
  | .hbm, ⟨10, _⟩ => ⟨S16384x6912, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel3.lean ====
abbrev S4x4096x6848 : Shape := ⟨3, ![4, 4096, 6848]⟩
abbrev S4x4096x32 : Shape := ⟨3, ![4, 4096, 32]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4x4096x64 : Shape := ⟨3, ![4, 4096, 64]⟩
abbrev S_ : Shape := ⟨0, ![]⟩
abbrev S4x4096x128 : Shape := ⟨3, ![4, 4096, 128]⟩
abbrev S16384x128 : Shape := ⟨2, ![16384, 128]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S4x4096x6144 : Shape := ⟨3, ![4, 4096, 6144]⟩
abbrev S4x4096x704 : Shape := ⟨3, ![4, 4096, 704]⟩
abbrev S4x4096x6912 : Shape := ⟨3, ![4, 4096, 6912]⟩
abbrev S16384x6912 : Shape := ⟨2, ![16384, 6912]⟩
abbrev S384x8x192 : Shape := ⟨3, ![384, 8, 192]⟩
abbrev S384x8x64 : Shape := ⟨3, ![384, 8, 64]⟩
abbrev S384x8x32 : Shape := ⟨3, ![384, 8, 32]⟩
abbrev S384x8x256 : Shape := ⟨3, ![384, 8, 256]⟩
abbrev S384x2048 : Shape := ⟨2, ![384, 2048]⟩
abbrev S1x384 : Shape := ⟨2, ![1, 384]⟩
abbrev S1x256 : Shape := ⟨2, ![1, 256]⟩
abbrev S16384x2048 : Shape := ⟨2, ![16384, 2048]⟩
abbrev S16384x1024 : Shape := ⟨2, ![16384, 1024]⟩
abbrev S32x1152x512 : Shape := ⟨3, ![32, 1152, 512]⟩
abbrev S512x768 : Shape := ⟨2, ![512, 768]⟩
abbrev S512x128 : Shape := ⟨2, ![512, 128]⟩
abbrev S512x2048 : Shape := ⟨2, ![512, 2048]⟩
abbrev S512x1024 : Shape := ⟨2, ![512, 1024]⟩
abbrev S1x1152x512 : Shape := ⟨3, ![1, 1152, 512]⟩
abbrev S512x384 : Shape := ⟨2, ![512, 384]⟩
abbrev S512 : Shape := ⟨1, ![512]⟩
abbrev S512x1 : Shape := ⟨2, ![512, 1]⟩
abbrev S512x256 : Shape := ⟨2, ![512, 256]⟩
abbrev S1024x512 : Shape := ⟨2, ![1024, 512]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩

abbrev nBuf : Space → Nat
  | .hbm => 48
  | .vmem => 19
  | .smem => 0
  | _ => 0

abbrev bufTy : (tb : Table) → Fin (tcTables nBuf tb) → BufTy
  | .hbm, ⟨0, _⟩ => ⟨S4x4096x6848, .f32⟩
  | .hbm, ⟨1, _⟩ => ⟨S4x4096x32, .f32⟩
  | .hbm, ⟨2, _⟩ => ⟨S4x4096x32, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S4x4096x64, .f32⟩
  | .hbm, ⟨8, _⟩ => ⟨S_, .i32⟩
  | .hbm, ⟨9, _⟩ => ⟨S_, .f32⟩
  | .hbm, ⟨10, _⟩ => ⟨S4x4096x128, .f32⟩
  | .hbm, ⟨11, _⟩ => ⟨S16384x128, .f32⟩
  | .hbm, ⟨12, _⟩ => ⟨S4x4096x64, .f32⟩
  | .hbm, ⟨13, _⟩ => ⟨S_, .i32⟩
  | .hbm, ⟨14, _⟩ => ⟨S_, .f32⟩
  | .hbm, ⟨15, _⟩ => ⟨S4x4096x128, .f32⟩
  | .hbm, ⟨16, _⟩ => ⟨S16384x128, .f32⟩
  | .hbm, ⟨17, _⟩ => ⟨S256x8x256, .f32⟩
  | .hbm, ⟨18, _⟩ => ⟨S256x8x128, .f32⟩
  | .hbm, ⟨19, _⟩ => ⟨S256x1024, .f32⟩
  | .hbm, ⟨20, _⟩ => ⟨S256x1024, .bf16⟩
  | .hbm, ⟨21, _⟩ => ⟨S256x8x128, .f32⟩
  | .hbm, ⟨22, _⟩ => ⟨S256x1024, .f32⟩
  | .hbm, ⟨23, _⟩ => ⟨S1024x256, .f32⟩
  | .hbm, ⟨24, _⟩ => ⟨S1024x256, .bf16⟩
  | .hbm, ⟨25, _⟩ => ⟨S4x4096x6144, .f32⟩
  | .hbm, ⟨26, _⟩ => ⟨S4x4096x704, .f32⟩
  | .hbm, ⟨27, _⟩ => ⟨S4x4096x32, .f32⟩
  | .hbm, ⟨28, _⟩ => ⟨S4x4096x32, .f32⟩
  | .hbm, ⟨29, _⟩ => ⟨S4x4096x32, .f32⟩
  | .hbm, ⟨30, _⟩ => ⟨S4x4096x6912, .f32⟩
  | .hbm, ⟨31, _⟩ => ⟨S16384x6912, .f32⟩
  | .hbm, ⟨32, _⟩ => ⟨S16384x6912, .bf16⟩
  | .hbm, ⟨33, _⟩ => ⟨S384x8x192, .f32⟩
  | .hbm, ⟨34, _⟩ => ⟨S384x8x64, .f32⟩
  | .hbm, ⟨35, _⟩ => ⟨S384x8x32, .f32⟩
  | .hbm, ⟨36, _⟩ => ⟨S384x8x32, .f32⟩
  | .hbm, ⟨37, _⟩ => ⟨S384x8x32, .f32⟩
  | .hbm, ⟨38, _⟩ => ⟨S384x8x64, .f32⟩
  | .hbm, ⟨39, _⟩ => ⟨S384x8x256, .f32⟩
  | .hbm, ⟨40, _⟩ => ⟨S384x2048, .f32⟩
  | .hbm, ⟨41, _⟩ => ⟨S384x2048, .bf16⟩
  | .hbm, ⟨42, _⟩ => ⟨S1x384, .f32⟩
  | .hbm, ⟨43, _⟩ => ⟨S1x256, .f32⟩
  | .hbm, ⟨44, _⟩ => ⟨S16384x2048, .bf16⟩
  | .hbm, ⟨45, _⟩ => ⟨S16384x1024, .bf16⟩
  | .hbm, ⟨46, _⟩ => ⟨S32x1152x512, .bf16⟩
  | .hbm, ⟨47, _⟩ => ⟨S16384x128, .bf16⟩
  | .local _ .vmem, ⟨0, _⟩ => ⟨S512x768, .bf16⟩
  | .local _ .vmem, ⟨1, _⟩ => ⟨S512x768, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S384x2048, .bf16⟩
  | .local _ .vmem, ⟨7, _⟩ => ⟨S256x1024, .bf16⟩
  | .local _ .vmem, ⟨8, _⟩ => ⟨S1024x256, .bf16⟩
  | .local _ .vmem, ⟨9, _⟩ => ⟨S1x384, .f32⟩
  | .local _ .vmem, ⟨10, _⟩ => ⟨S1x256, .f32⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S1x1152x512, .bf16⟩
  | .local _ .vmem, ⟨16, _⟩ => ⟨S1x1152x512, .bf16⟩
  | .local _ .vmem, ⟨17, _⟩ => ⟨S512x128, .bf16⟩
  | .local _ .vmem, ⟨18, _⟩ => ⟨S512x128, .bf16⟩
  | _, _ => ⟨S4x4096x6848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1152x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "scale" => some (((Real.sqrt 192)⁻¹ * (Real.log 2)⁻¹ : ℝ) : EReal)
  | _ => none
-- ==== Reference3Ideal.lean ====
abbrev S4x4096x6848 : Shape := ⟨3, ![4, 4096, 6848]⟩
abbrev S4x4096x32 : Shape := ⟨3, ![4, 4096, 32]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4x4096x384 : Shape := ⟨3, ![4, 4096, 384]⟩
abbrev S4x4096x256 : Shape := ⟨3, ![4, 4096, 256]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S1x1x384 : Shape := ⟨3, ![1, 1, 384]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4x4096x8x64 : Shape := ⟨4, ![4, 4096, 8, 64]⟩
abbrev S4x4096x1x32 : Shape := ⟨4, ![4, 4096, 1, 32]⟩
abbrev S4x4096x8x32 : Shape := ⟨4, ![4, 4096, 8, 32]⟩
abbrev S1x1x256 : Shape := ⟨3, ![1, 1, 256]⟩
abbrev S4x4096x2048 : Shape := ⟨3, ![4, 4096, 2048]⟩
abbrev S4x4096x8x256 : Shape := ⟨4, ![4, 4096, 8, 256]⟩
abbrev S16384x2048 : Shape := ⟨2, ![16384, 2048]⟩
abbrev S32x512x8x128 : Shape := ⟨4, ![32, 512, 8, 128]⟩
abbrev S32x8x128x512 : Shape := ⟨4, ![32, 8, 128, 512]⟩
abbrev S32x8x144x512 : Shape := ⟨4, ![32, 8, 144, 512]⟩
abbrev S4x4096x128 : Shape := ⟨3, ![4, 4096, 128]⟩
abbrev S16384x128 : Shape := ⟨2, ![16384, 128]⟩
abbrev S16384x1024 : Shape := ⟨2, ![16384, 1024]⟩
abbrev S32x1152x512 : Shape := ⟨3, ![32, 1152, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x6848, .f32⟩
  | .hbm, ⟨1, _⟩ => ⟨S4x4096x32, .f32⟩
  | .hbm, ⟨2, _⟩ => ⟨S4x4096x32, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S4x4096x384, .f32⟩
  | .hbm, ⟨8, _⟩ => ⟨S4x4096x256, .f32⟩
  | .hbm, ⟨9, _⟩ => ⟨S4x4096x64, .f32⟩
  | .hbm, ⟨10, _⟩ => ⟨S4x4096x384, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x384, .f32⟩
  | .hbm, ⟨22, _⟩ => ⟨S4x4096x384, .f32⟩
  | .hbm, ⟨23, _⟩ => ⟨S1x1x384, .f32⟩
  | .hbm, ⟨24, _⟩ => ⟨S4x4096x384, .f32⟩
  | .hbm, ⟨25, _⟩ => ⟨S4x4096x384, .f32⟩
  | .hbm, ⟨26, _⟩ => ⟨S4x4096x1536, .f32⟩
  | .hbm, ⟨27, _⟩ => ⟨S4x4096x8x192, .f32⟩
  | .hbm, ⟨28, _⟩ => ⟨S4x4096x8x128, .f32⟩
  | .hbm, ⟨29, _⟩ => ⟨S4x4096x8x64, .f32⟩
  | .hbm, ⟨30, _⟩ => ⟨S4x4096x1x32, .f32⟩
  | .hbm, ⟨31, _⟩ => ⟨S4x4096x1x32, .f32⟩
  | .hbm, ⟨32, _⟩ => ⟨S4x4096x8x32, .f32⟩
  | .hbm, ⟨33, _⟩ => ⟨S4x4096x8x32, .f32⟩
  | .hbm, ⟨34, _⟩ => ⟨S4x4096x8x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x32, .f32⟩
  | .hbm, ⟨41, _⟩ => ⟨S4x4096x8x32, .f32⟩
  | .hbm, ⟨42, _⟩ => ⟨S4x4096x8x32, .f32⟩
  | .hbm, ⟨43, _⟩ => ⟨S4x4096x8x32, .f32⟩
  | .hbm, ⟨44, _⟩ => ⟨S4x4096x8x64, .f32⟩
  | .hbm, ⟨45, _⟩ => ⟨S4x4096x8x192, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x256, .f32⟩
  | .hbm, ⟨58, _⟩ => ⟨S4x4096x256, .f32⟩
  | .hbm, ⟨59, _⟩ => ⟨S1x1x256, .f32⟩
  | .hbm, ⟨60, _⟩ => ⟨S4x4096x256, .f32⟩
  | .hbm, ⟨61, _⟩ => ⟨S4x4096x256, .f32⟩
  | .hbm, ⟨62, _⟩ => ⟨S4x4096x2048, .f32⟩
  | .hbm, ⟨63, _⟩ => ⟨S4x4096x8x256, .f32⟩
  | .hbm, ⟨64, _⟩ => ⟨S4x4096x8x128, .f32⟩
  | .hbm, ⟨65, _⟩ => ⟨S4x4096x8x128, .f32⟩
  | .hbm, ⟨66, _⟩ => ⟨S4x4096x32, .f32⟩
  | .hbm, ⟨67, _⟩ => ⟨S4x4096x32, .f32⟩
  | .hbm, ⟨68, _⟩ => ⟨S4x4096x32, .f32⟩
  | .hbm, ⟨69, _⟩ => ⟨S4x4096x32, .f32⟩
  | .hbm, ⟨70, _⟩ => ⟨S4x4096x32, .f32⟩
  | .hbm, ⟨71, _⟩ => ⟨S4x4096x32, .f32⟩
  | .hbm, ⟨72, _⟩ => ⟨S4x4096x32, .f32⟩
  | .hbm, ⟨73, _⟩ => ⟨S4x4096x32, .f32⟩
  | .hbm, ⟨74, _⟩ => ⟨S4x4096x64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4x4096x8x192, .f32⟩
  | .hbm, ⟨81, _⟩ => ⟨S4x4096x8x192, .f32⟩
  | .hbm, ⟨82, _⟩ => ⟨S_, .i32⟩
  | .hbm, ⟨83, _⟩ => ⟨S_, .f32⟩
  | .hbm, ⟨84, _⟩ => ⟨S4x4096x8x256, .f32⟩
  | .hbm, ⟨85, _⟩ => ⟨S16384x2048, .f32⟩
  | .hbm, ⟨86, _⟩ => ⟨S32x512x8x128, .f32⟩
  | .hbm, ⟨87, _⟩ => ⟨S32x8x128x512, .f32⟩
  | .hbm, ⟨88, _⟩ => ⟨S_, .f32⟩
  | .hbm, ⟨89, _⟩ => ⟨S_, .f32⟩
  | .hbm, ⟨90, _⟩ => ⟨S32x8x144x512, .f32⟩
  | .hbm, ⟨91, _⟩ => ⟨S_, .i32⟩
  | .hbm, ⟨92, _⟩ => ⟨S_, .f32⟩
  | .hbm, ⟨93, _⟩ => ⟨S4x4096x128, .f32⟩
  | .hbm, ⟨94, _⟩ => ⟨S16384x128, .f32⟩
  | .hbm, ⟨95, _⟩ => ⟨S16384x2048, .bf16⟩
  | .hbm, ⟨96, _⟩ => ⟨S16384x1024, .f32⟩
  | .hbm, ⟨97, _⟩ => ⟨S16384x1024, .bf16⟩
  | .hbm, ⟨98, _⟩ => ⟨S32x1152x512, .f32⟩
  | .hbm, ⟨99, _⟩ => ⟨S32x1152x512, .bf16⟩
  | .hbm, ⟨100, _⟩ => ⟨S16384x128, .bf16⟩
  | _, _ => ⟨S4x4096x6848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c : Ref sig .tc := ⟨.hbm, 82, rfl⟩
abbrev main_call0_v0 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_call1_v0 : Ref sig .tc := ⟨.hbm, 89, rfl⟩
abbrev main_v71 : Ref sig .tc := ⟨.hbm, 90, rfl⟩
abbrev main_c_8 : Ref sig .tc := ⟨.hbm, 91, rfl⟩
abbrev main_call2_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel4.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x4096x6144 : Shape := ⟨3, ![4, 4096, 6144]⟩
abbrev S4x4096x704 : Shape := ⟨3, ![4, 4096, 704]⟩
abbrev S4x4096x32 : Shape := ⟨3, ![4, 4096, 32]⟩
abbrev S4x4096x6912 : Shape := ⟨3, ![4, 4096, 6912]⟩
abbrev S16384x6912 : Shape := ⟨2, ![16384, 6912]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S16384x128 : Shape := ⟨2, ![16384, 128]⟩
abbrev S256x128 : Shape := ⟨2, ![256, 128]⟩
abbrev S512x1024 : Shape := ⟨2, ![512, 1024]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128 : Shape := ⟨1, ![128]⟩
abbrev S128x128 : Shape := ⟨2, ![128, 128]⟩

abbrev nBuf : Space → Nat
  | .hbm => 46
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x6848, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S4x4096x6144, .f32⟩
  | .hbm, ⟨13, _⟩ => ⟨S4x4096x704, .f32⟩
  | .hbm, ⟨14, _⟩ => ⟨S4x4096x32, .f32⟩
  | .hbm, ⟨15, _⟩ => ⟨S4x4096x32, .f32⟩
  | .hbm, ⟨16, _⟩ => ⟨S4x4096x32, .f32⟩
  | .hbm, ⟨17, _⟩ => ⟨S4x4096x6912, .f32⟩
  | .hbm, ⟨18, _⟩ => ⟨S16384x6912, .f32⟩
  | .hbm, ⟨19, _⟩ => ⟨S16384x6912, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S1, .i32⟩
  | .hbm, ⟨27, _⟩ => ⟨S1024x128, .f32⟩
  | .hbm, ⟨28, _⟩ => ⟨S1024x128, .bf16⟩
  | .hbm, ⟨29, _⟩ => ⟨S1024x128, .f32⟩
  | .hbm, ⟨30, _⟩ => ⟨S1024x128, .f32⟩
  | .hbm, ⟨31, _⟩ => ⟨S1024x128, .bf16⟩
  | .hbm, ⟨32, _⟩ => ⟨S1024x256, .bf16⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S16384x1024, .f32⟩
  | .hbm, ⟨42, _⟩ => ⟨S16384x1024, .bf16⟩
  | .hbm, ⟨43, _⟩ => ⟨S16384x128, .i32⟩
  | .hbm, ⟨44, _⟩ => ⟨S16384x128, .f32⟩
  | .hbm, ⟨45, _⟩ => ⟨S256x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x128, .i32⟩
  | .local _ .vmem, ⟨20, _⟩ => ⟨S512x128, .i32⟩
  | .local _ .vmem, ⟨21, _⟩ => ⟨S512x128, .f32⟩
  | .local _ .vmem, ⟨22, _⟩ => ⟨S512x128, .f32⟩
  | .local _ .vmem, ⟨23, _⟩ => ⟨S8x128, .i32⟩
  | .local _ .vmem, ⟨24, _⟩ => ⟨S8x128, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel4Ideal.lean ====
variable {F : FTy → Type} [FloatOps F] [Named F]
def κ : String → Option EReal := fun
  | "alpha" => some ((Real.sqrt (Real.sqrt 2) : ℝ) : EReal)
  | _ => none
-- ==== Reference4Ideal.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x6848 : Shape := ⟨2, ![16384, 6848]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x6848, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x6848, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel5.lean ====
abbrev S4x4096 : Shape := ⟨2, ![4, 4096]⟩
abbrev S128x128 : Shape := ⟨2, ![128, 128]⟩
abbrev S_ : Shape := ⟨0, ![]⟩
abbrev S63 : Shape := ⟨1, ![63]⟩
abbrev S1 : Shape := ⟨1, ![1]⟩
abbrev S64 : Shape := ⟨1, ![64]⟩
abbrev S32 : Shape := ⟨1, ![32]⟩
abbrev S128 : Shape := ⟨1, ![128]⟩
abbrev S1x128 : Shape := ⟨2, ![1, 128]⟩
abbrev S16384x128 : Shape := ⟨2, ![16384, 128]⟩
abbrev S8x128 : Shape := ⟨2, ![8, 128]⟩
abbrev S1024x128 : Shape := ⟨2, ![1024, 128]⟩
abbrev S120x128 : Shape := ⟨2, ![120, 128]⟩
abbrev S128x1 : Shape := ⟨2, ![128, 1]⟩

abbrev nBuf : Space → Nat
  | .hbm => 55
  | .vmem => 11
  | .smem => 0
  | _ => 0

abbrev bufTy : (tb : Table) → Fin (tcTables nBuf tb) → BufTy
  | .hbm, ⟨0, _⟩ => ⟨S4x4096, .i32⟩
  | .hbm, ⟨1, _⟩ => ⟨S128x128, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x128, .f32⟩
  | .local _ .vmem, ⟨0, _⟩ => ⟨S8x128, .i32⟩
  | .local _ .vmem, ⟨1, _⟩ => ⟨S8x128, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_3 : Ref sig .tc := ⟨.hbm, 32, rfl⟩
abbrev main_v7 : Ref sig .tc := ⟨.hbm, 33, rfl⟩
abbrev main_v8 : Ref sig .tc := ⟨.hbm, 34, rfl⟩
abbrev main_cst_4 : Ref sig .tc := ⟨.hbm, 35, rfl⟩
abbrev main_v9 : Ref sig .tc := ⟨.hbm, 36, rfl⟩
abbrev main_v10 : Ref sig .tc := ⟨.hbm, 37, rfl⟩
abbrev main_cst_5 : Ref sig .tc := ⟨.hbm, 38, rfl⟩
abbrev main_v11 : Ref sig .tc := ⟨.hbm, 39, rfl⟩
abbrev main_v12 : Ref sig .tc := ⟨.hbm, 40, rfl⟩
abbrev main_cst_6 : Ref sig .tc := ⟨.hbm, 41, rfl⟩
abbrev main_v13 : Ref sig .tc := ⟨.hbm, 42, rfl⟩
abbrev main_v14 : Ref sig .tc := ⟨.hbm, 43, rfl⟩
abbrev main_cst_7 : Ref sig .tc := ⟨.hbm, 44, rfl⟩
abbrev main_v15 : Ref sig .tc := ⟨.hbm, 45, rfl⟩
abbrev main_v16 : Ref sig .tc := ⟨.hbm, 46, rfl⟩
abbrev main_cst_8 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v20_2 : Ref sig .tc := ⟨.hbm, 53, rfl⟩
abbrev main_v20_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096 : Shape := ⟨2, ![4, 4096]⟩
abbrev S_ : Shape := ⟨0, ![]⟩
abbrev S63 : Shape := ⟨1, ![63]⟩
abbrev S1 : Shape := ⟨1, ![1]⟩
abbrev S64 : Shape := ⟨1, ![64]⟩
abbrev S4x4096x1 : Shape := ⟨3, ![4, 4096, 1]⟩
abbrev S1x1x64 : Shape := ⟨3, ![1, 1, 64]⟩
abbrev S4x4096x64 : Shape := ⟨3, ![4, 4096, 64]⟩
abbrev S32 : Shape := ⟨1, ![32]⟩
abbrev S1x1x32 : Shape := ⟨3, ![1, 1, 32]⟩
abbrev S4x4096x32 : Shape := ⟨3, ![4, 4096, 32]⟩
abbrev S4x4096x128 : Shape := ⟨3, ![4, 4096, 128]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S63, .f32⟩
  | .hbm, ⟨9, _⟩ => ⟨S_, .f32⟩
  | .hbm, ⟨10, _⟩ => ⟨S63, .f32⟩
  | .hbm, ⟨11, _⟩ => ⟨S63, .f32⟩
  | .hbm, ⟨12, _⟩ => ⟨S1, .f32⟩
  | .hbm, ⟨13, _⟩ => ⟨S_, .f32⟩
  | .hbm, ⟨14, _⟩ => ⟨S63, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S1, .f32⟩
  | .hbm, ⟨19, _⟩ => ⟨S63, .f32⟩
  | .hbm, ⟨20, _⟩ => ⟨S63, .f32⟩
  | .hbm, ⟨21, _⟩ => ⟨S63, .f32⟩
  | .hbm, ⟨22, _⟩ => ⟨S1, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S4x4096, .f32⟩
  | .hbm, ⟨31, _⟩ => ⟨S4x4096x1, .f32⟩
  | .hbm, ⟨32, _⟩ => ⟨S1x1x64, .f32⟩
  | .hbm, ⟨33, _⟩ => ⟨S4x4096x64, .f32⟩
  | .hbm, ⟨34, _⟩ => ⟨S4x4096x64, .f32⟩
  | .hbm, ⟨35, _⟩ => ⟨S4x4096x64, .f32⟩
  | .hbm, ⟨36, _⟩ => ⟨S4x4096x64, .f32⟩
  | .hbm, ⟨37, _⟩ => ⟨S4x4096x64, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4x4096, .f32⟩
  | .hbm, ⟨55, _⟩ => ⟨S4x4096x1, .f32⟩
  | .hbm, ⟨56, _⟩ => ⟨S1x1x32, .f32⟩
  | .hbm, ⟨57, _⟩ => ⟨S4x4096x32, .f32⟩
  | .hbm, ⟨58, _⟩ => ⟨S4x4096x32, .f32⟩
  | .hbm, ⟨59, _⟩ => ⟨S4x4096x32, .f32⟩
  | .hbm, ⟨60, _⟩ => ⟨S4x4096x32, .f32⟩
  | .hbm, ⟨61, _⟩ => ⟨S4x4096x32, .f32⟩
  | .hbm, ⟨62, _⟩ => ⟨S4x4096x128, .f32⟩
  | .hbm, ⟨63, _⟩ => ⟨S4x4096x64, .f32⟩
  | .hbm, ⟨64, _⟩ => ⟨S4x4096x128, .f32⟩
  | .hbm, ⟨65, _⟩ => ⟨S4x4096x64, .f32⟩
  | .hbm, ⟨66, _⟩ => ⟨S_, .i32⟩
  | .hbm, ⟨67, _⟩ => ⟨S_, .f32⟩
  | .hbm, ⟨68, _⟩ => ⟨S4x4096x128, .f32⟩
  | .hbm, ⟨69, _⟩ => ⟨S4x4096x64, .f32⟩
  | .hbm, ⟨70, _⟩ => ⟨S_, .i32⟩
  | .hbm, ⟨71, _⟩ => ⟨S_, .f32⟩
  | .hbm, ⟨72, _⟩ => ⟨S4x4096x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_cst_5 : Ref sig .tc := ⟨.hbm, 45, rfl⟩
abbrev main_v18 : Ref sig .tc := ⟨.hbm, 46, rfl⟩
abbrev main_v19 : Ref sig .tc := ⟨.hbm, 47, rfl⟩
abbrev main_cst_6 : Ref sig .tc := ⟨.hbm, 48, rfl⟩
abbrev main_v20 : Ref sig .tc := ⟨.hbm, 49, rfl⟩
abbrev main_v21 : Ref sig .tc := ⟨.hbm, 50, rfl⟩
abbrev main_cst_7 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_call1_v0 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_call2_v0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]
-- ==== Kernel6.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x4096x6144 : Shape := ⟨3, ![4, 4096, 6144]⟩
abbrev S4x4096x704 : Shape := ⟨3, ![4, 4096, 704]⟩
abbrev S4x4096x32 : Shape := ⟨3, ![4, 4096, 32]⟩
abbrev S4x4096x6912 : Shape := ⟨3, ![4, 4096, 6912]⟩
abbrev S16384x6912 : Shape := ⟨2, ![16384, 6912]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S16384x128 : Shape := ⟨2, ![16384, 128]⟩
abbrev S256x128 : Shape := ⟨2, ![256, 128]⟩
abbrev S512x1024 : Shape := ⟨2, ![512, 1024]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128 : Shape := ⟨1, ![128]⟩
abbrev S128x128 : Shape := ⟨2, ![128, 128]⟩

abbrev nBuf : Space → Nat
  | .hbm => 46
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x6848, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S4x4096x6144, .f32⟩
  | .hbm, ⟨13, _⟩ => ⟨S4x4096x704, .f32⟩
  | .hbm, ⟨14, _⟩ => ⟨S4x4096x32, .f32⟩
  | .hbm, ⟨15, _⟩ => ⟨S4x4096x32, .f32⟩
  | .hbm, ⟨16, _⟩ => ⟨S4x4096x32, .f32⟩
  | .hbm, ⟨17, _⟩ => ⟨S4x4096x6912, .f32⟩
  | .hbm, ⟨18, _⟩ => ⟨S16384x6912, .f32⟩
  | .hbm, ⟨19, _⟩ => ⟨S16384x6912, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S1, .i32⟩
  | .hbm, ⟨27, _⟩ => ⟨S1024x128, .f32⟩
  | .hbm, ⟨28, _⟩ => ⟨S1024x128, .bf16⟩
  | .hbm, ⟨29, _⟩ => ⟨S1024x128, .f32⟩
  | .hbm, ⟨30, _⟩ => ⟨S1024x128, .f32⟩
  | .hbm, ⟨31, _⟩ => ⟨S1024x128, .bf16⟩
  | .hbm, ⟨32, _⟩ => ⟨S1024x256, .bf16⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S16384x1024, .f32⟩
  | .hbm, ⟨42, _⟩ => ⟨S16384x1024, .bf16⟩
  | .hbm, ⟨43, _⟩ => ⟨S16384x128, .i32⟩
  | .hbm, ⟨44, _⟩ => ⟨S16384x128, .f32⟩
  | .hbm, ⟨45, _⟩ => ⟨S256x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x128, .i32⟩
  | .local _ .vmem, ⟨20, _⟩ => ⟨S512x128, .i32⟩
  | .local _ .vmem, ⟨21, _⟩ => ⟨S512x128, .f32⟩
  | .local _ .vmem, ⟨22, _⟩ => ⟨S512x128, .f32⟩
  | .local _ .vmem, ⟨23, _⟩ => ⟨S8x128, .i32⟩
  | .local _ .vmem, ⟨24, _⟩ => ⟨S8x128, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel6Ideal.lean ====
variable {F : FTy → Type} [FloatOps F] [Named F]
def κ : String → Option EReal := fun
  | "alpha" => some ((Real.sqrt (Real.sqrt 2) : ℝ) : EReal)
  | _ => none
-- ==== Reference6Ideal.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x6848 : Shape := ⟨2, ![16384, 6848]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x32 : Shape := ⟨2, ![16384, 32]⟩
abbrev S1x32 : Shape := ⟨2, ![1, 32]⟩
abbrev S16384x1x32 : Shape := ⟨3, ![16384, 1, 32]⟩
abbrev S16384x32x1 : Shape := ⟨3, ![16384, 32, 1]⟩
abbrev S16384x32x32 : Shape := ⟨3, ![16384, 32, 32]⟩
abbrev S32x1 : Shape := ⟨2, ![32, 1]⟩
abbrev S32x32 : Shape := ⟨2, ![32, 32]⟩
abbrev S1x32x32 : Shape := ⟨3, ![1, 32, 32]⟩
abbrev S4 : Shape := ⟨1, ![4]⟩
abbrev S1x4x1 : Shape := ⟨3, ![1, 4, 1]⟩
abbrev S16384x4x32 : Shape := ⟨3, ![16384, 4, 32]⟩
abbrev S16384x4 : Shape := ⟨2, ![16384, 4]⟩
abbrev S16384x128 : Shape := ⟨2, ![16384, 128]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S16384x1024, .f32⟩
  | 2 => ⟨S16384x1024, .f32⟩
  | 3 => ⟨S4x4096x6848, .f32⟩
  | 4 => ⟨S1024x1024, .f32⟩
  | 5 => ⟨S1024, .f32⟩
  | 6 => ⟨S1024, .f32⟩
  | 7 => ⟨S1024x32, .f32⟩
  | 8 => ⟨S32, .f32⟩
  | 9 => ⟨S16384x6848, .f32⟩
  | 10 => ⟨S16384x1024, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S_, .f32⟩
  | 33 => ⟨S_, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S16384x1024, .f32⟩
  | 55 => ⟨S16384x1024, .f32⟩
  | 56 => ⟨S_, .f32⟩
  | 57 => ⟨S16384x1, .f32⟩
  | 58 => ⟨S16384x1, .f32⟩
  | 59 => ⟨S16384x1, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .bf16⟩
  | 69 => ⟨S16384x32, .f32⟩
  | 70 => ⟨S1x32, .f32⟩
  | 71 => ⟨S16384x32, .f32⟩
  | 72 => ⟨S16384x32, .f32⟩
  | 73 => ⟨S32, .i32⟩
  | 74 => ⟨S16384x1x32, .f32⟩
  | 75 => ⟨S16384x32x1, .f32⟩
  | 76 => ⟨S16384x32x32, .f32⟩
  | 77 => ⟨S16384x32x32, .f32⟩
  | 78 => ⟨S16384x32x32, .i1⟩
  | 79 => ⟨S16384x1x32, .f32⟩
  | 80 => ⟨S16384x32x1, .f32⟩
  | 81 => ⟨S16384x32x32, .f32⟩
  | 82 => ⟨S16384x32x32, .f32⟩
  | 83 => ⟨S16384x32x32, .i1⟩
  | 84 => ⟨S1x32, .i32⟩
  | 85 => ⟨S32x1, .i32⟩
  | 86 => ⟨S32x32, .i32⟩
  | 87 => ⟨S32x32, .i32⟩
  | 88 => ⟨S32x32, .i1⟩
  | 89 => ⟨S1x32x32, .i1⟩
  | 90 => ⟨S16384x32x32, .i1⟩
  | 91 => ⟨S16384x32x32, .i1⟩
  | 92 => ⟨S16384x32x32, .i1⟩
  | 93 => ⟨S_, .f32⟩
  | 94 => ⟨S_, .f32⟩
  | 95 => ⟨S16384x32x32, .f32⟩
  | 96 => ⟨S16384x32x32, .f32⟩
  | 97 => ⟨S16384x32x32, .f32⟩
  | 98 => ⟨S_, .f32⟩
  | 99 => ⟨S16384x32, .f32⟩
  | 100 => ⟨S16384x1x32, .f32⟩
  | 101 => ⟨S4, .f32⟩
  | 102 => ⟨S1x4x1, .f32⟩
  | 103 => ⟨S16384x4x32, .f32⟩
  | 104 => ⟨S16384x4x32, .f32⟩
  | 105 => ⟨S16384x4x32, .i1⟩
  | 106 => ⟨S16384x1x32, .f32⟩
  | 107 => ⟨S_, .f32⟩
  | 108 => ⟨S16384x4x32, .f32⟩
  | 109 => ⟨S16384x4x32, .f32⟩
  | 110 => ⟨S16384x4x32, .f32⟩
  | 111 => ⟨S_, .f32⟩
  | 112 => ⟨S16384x4, .f32⟩
  | 113 => ⟨S_, .f32⟩
  | 114 => ⟨S16384, .f32⟩
  | 115 => ⟨S_, .f32⟩
  | 116 => ⟨S16384, .f32⟩
  | 117 => ⟨S16384, .f32⟩
  | 118 => ⟨S16384x1, .f32⟩
  | 119 => ⟨S16384x4, .f32⟩
  | 120 => ⟨S16384x4, .f32⟩
  | 121 => ⟨S16384x4, .f32⟩
  | 122 => ⟨S_, .f32⟩
  | 123 => ⟨S16384, .f32⟩
  | 124 => ⟨S16384x1, .f32⟩
  | 125 => ⟨S16384x4, .f32⟩
  | 126 => ⟨S16384x4, .f32⟩
  | 127 => ⟨S_, .i32⟩
  | _ => ⟨S4x4096x1024, .f32⟩

abbrev hbmTy0_1 (i : Nat) : BufTy := match i % 128 with
  | 0 => ⟨S_, .f32⟩
  | 1 => ⟨S16384x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_cst_10 : Ref sig .tc := ⟨.hbm, 94, rfl⟩
abbrev main_call0_v0 : Ref sig .tc := ⟨.hbm, 95, rfl⟩
abbrev main_call0_v1 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_call1_v0 : Ref sig .tc := ⟨.hbm, 108, rfl⟩
abbrev main_call1_v1 : Ref sig .tc := ⟨.hbm, 109, rfl⟩
abbrev main_v83 : Ref sig .tc := ⟨.hbm, 110, rfl⟩
abbrev main_cst_13 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c : Ref sig .tc := ⟨.hbm, 127, rfl⟩
abbrev main_call2_v0 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel7.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x4096x6144 : Shape := ⟨3, ![4, 4096, 6144]⟩
abbrev S4x4096x704 : Shape := ⟨3, ![4, 4096, 704]⟩
abbrev S4x4096x32 : Shape := ⟨3, ![4, 4096, 32]⟩
abbrev S4x4096x6912 : Shape := ⟨3, ![4, 4096, 6912]⟩
abbrev S16384x6912 : Shape := ⟨2, ![16384, 6912]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S16384x128 : Shape := ⟨2, ![16384, 128]⟩
abbrev S256x128 : Shape := ⟨2, ![256, 128]⟩
abbrev S512x1024 : Shape := ⟨2, ![512, 1024]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128 : Shape := ⟨1, ![128]⟩
abbrev S128x128 : Shape := ⟨2, ![128, 128]⟩

abbrev nBuf : Space → Nat
  | .hbm => 46
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x6848, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S4x4096x6144, .f32⟩
  | .hbm, ⟨13, _⟩ => ⟨S4x4096x704, .f32⟩
  | .hbm, ⟨14, _⟩ => ⟨S4x4096x32, .f32⟩
  | .hbm, ⟨15, _⟩ => ⟨S4x4096x32, .f32⟩
  | .hbm, ⟨16, _⟩ => ⟨S4x4096x32, .f32⟩
  | .hbm, ⟨17, _⟩ => ⟨S4x4096x6912, .f32⟩
  | .hbm, ⟨18, _⟩ => ⟨S16384x6912, .f32⟩
  | .hbm, ⟨19, _⟩ => ⟨S16384x6912, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S1, .i32⟩
  | .hbm, ⟨27, _⟩ => ⟨S1024x128, .f32⟩
  | .hbm, ⟨28, _⟩ => ⟨S1024x128, .bf16⟩
  | .hbm, ⟨29, _⟩ => ⟨S1024x128, .f32⟩
  | .hbm, ⟨30, _⟩ => ⟨S1024x128, .f32⟩
  | .hbm, ⟨31, _⟩ => ⟨S1024x128, .bf16⟩
  | .hbm, ⟨32, _⟩ => ⟨S1024x256, .bf16⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S16384x1024, .f32⟩
  | .hbm, ⟨42, _⟩ => ⟨S16384x1024, .bf16⟩
  | .hbm, ⟨43, _⟩ => ⟨S16384x128, .i32⟩
  | .hbm, ⟨44, _⟩ => ⟨S16384x128, .f32⟩
  | .hbm, ⟨45, _⟩ => ⟨S256x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x128, .i32⟩
  | .local _ .vmem, ⟨20, _⟩ => ⟨S512x128, .i32⟩
  | .local _ .vmem, ⟨21, _⟩ => ⟨S512x128, .f32⟩
  | .local _ .vmem, ⟨22, _⟩ => ⟨S512x128, .f32⟩
  | .local _ .vmem, ⟨23, _⟩ => ⟨S8x128, .i32⟩
  | .local _ .vmem, ⟨24, _⟩ => ⟨S8x128, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel7Ideal.lean ====
variable {F : FTy → Type} [FloatOps F] [Named F]
def κ : String → Option EReal := fun
  | "alpha" => some ((Real.sqrt (Real.sqrt 2) : ℝ) : EReal)
  | _ => none
-- ==== Reference7Ideal.lean ====
abbrev S4x4096x1024 : Shape := ⟨3, ![4, 4096, 1024]⟩
abbrev S16384x1024 : Shape := ⟨2, ![16384, 1024]⟩
abbrev S4x4096x6848 : Shape := ⟨3, ![4, 4096, 6848]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x6848 : Shape := ⟨2, ![16384, 6848]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x32 : Shape := ⟨2, ![16384, 32]⟩
abbrev S1x32 : Shape := ⟨2, ![1, 32]⟩
abbrev S16384x1x32 : Shape := ⟨3, ![16384, 1, 32]⟩
abbrev S16384x32x1 : Shape := ⟨3, ![16384, 32, 1]⟩
abbrev S16384x32x32 : Shape := ⟨3, ![16384, 32, 32]⟩
abbrev S32x1 : Shape := ⟨2, ![32, 1]⟩
abbrev S32x32 : Shape := ⟨2, ![32, 32]⟩
abbrev S1x32x32 : Shape := ⟨3, ![1, 32, 32]⟩
abbrev S32x512x32 : Shape := ⟨3, ![32, 512, 32]⟩
abbrev S32x128 : Shape := ⟨2, ![32, 128]⟩
abbrev S32x1x128 : Shape := ⟨3, ![32, 1, 128]⟩
abbrev S32x8x128 : Shape := ⟨3, ![32, 8, 128]⟩
abbrev S256x128 : Shape := ⟨2, ![256, 128]⟩
abbrev S1x32x1 : Shape := ⟨3, ![1, 32, 1]⟩
abbrev S1x1x32 : Shape := ⟨3, ![1, 1, 32]⟩
abbrev S32x32x1 : Shape := ⟨3, ![32, 32, 1]⟩
abbrev S32x32x32 : Shape := ⟨3, ![32, 32, 32]⟩
abbrev S512 : Shape := ⟨1, ![512]⟩
abbrev S1x1x512x1 : Shape := ⟨4, ![1, 1, 512, 1]⟩
abbrev S1x512x1x1 : Shape := ⟨4, ![1, 512, 1, 1]⟩
abbrev S1x512x512x1 : Shape := ⟨4, ![1, 512, 512, 1]⟩
abbrev S32x1x512x32 : Shape := ⟨4, ![32, 1, 512, 32]⟩
abbrev S32x512x512x32 : Shape := ⟨4, ![32, 512, 512, 32]⟩
abbrev S32x1x32 : Shape := ⟨3, ![32, 1, 32]⟩
abbrev S4 : Shape := ⟨1, ![4]⟩
abbrev S1x4x1 : Shape := ⟨3, ![1, 4, 1]⟩
abbrev S16384x4x32 : Shape := ⟨3, ![16384, 4, 32]⟩
abbrev S16384x4 : Shape := ⟨2, ![16384, 4]⟩
abbrev S16384x8 : Shape := ⟨2, ![16384, 8]⟩
abbrev S16384x128 : Shape := ⟨2, ![16384, 128]⟩

abbrev nBuf : Space → Nat
  | .hbm => 185
  | .vmem => 0
  | .smem => 0
  | _ => 0

abbrev hbmTy0_0 (i : Nat) : BufTy := match i % 128 with
  | 0 => ⟨S4x4096x1024, .f32⟩
  | 1 => ⟨S16384x1024, .f32⟩
  | 2 => ⟨S16384x1024, .f32⟩
  | 3 => ⟨S4x4096x6848, .f32⟩
  | 4 => ⟨S1024x1024, .f32⟩
  | 5 => ⟨S1024, .f32⟩
  | 6 => ⟨S1024, .f32⟩
  | 7 => ⟨S1024x32, .f32⟩
  | 8 => ⟨S32, .f32⟩
  | 9 => ⟨S16384x6848, .f32⟩
  | 10 => ⟨S16384x1024, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S_, .f32⟩
  | 33 => ⟨S_, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S16384x1024, .f32⟩
  | 55 => ⟨S16384x1024, .f32⟩
  | 56 => ⟨S_, .f32⟩
  | 57 => ⟨S16384x1, .f32⟩
  | 58 => ⟨S16384x1, .f32⟩
  | 59 => ⟨S16384x1, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .bf16⟩
  | 69 => ⟨S16384x32, .f32⟩
  | 70 => ⟨S1x32, .f32⟩
  | 71 => ⟨S16384x32, .f32⟩
  | 72 => ⟨S16384x32, .f32⟩
  | 73 => ⟨S32, .i32⟩
  | 74 => ⟨S16384x1x32, .f32⟩
  | 75 => ⟨S16384x32x1, .f32⟩
  | 76 => ⟨S16384x32x32, .f32⟩
  | 77 => ⟨S16384x32x32, .f32⟩
  | 78 => ⟨S16384x32x32, .i1⟩
  | 79 => ⟨S16384x1x32, .f32⟩
  | 80 => ⟨S16384x32x1, .f32⟩
  | 81 => ⟨S16384x32x32, .f32⟩
  | 82 => ⟨S16384x32x32, .f32⟩
  | 83 => ⟨S16384x32x32, .i1⟩
  | 84 => ⟨S1x32, .i32⟩
  | 85 => ⟨S32x1, .i32⟩
  | 86 => ⟨S32x32, .i32⟩
  | 87 => ⟨S32x32, .i32⟩
  | 88 => ⟨S32x32, .i1⟩
  | 89 => ⟨S1x32x32, .i1⟩
  | 90 => ⟨S16384x32x32, .i1⟩
  | 91 => ⟨S16384x32x32, .i1⟩
  | 92 => ⟨S16384x32x32, .i1⟩
  | 93 => ⟨S_, .f32⟩
  | 94 => ⟨S_, .f32⟩
  | 95 => ⟨S16384x32x32, .f32⟩
  | 96 => ⟨S16384x32x32, .f32⟩
  | 97 => ⟨S16384x32x32, .f32⟩
  | 98 => ⟨S_, .f32⟩
  | 99 => ⟨S16384x32, .f32⟩
  | 100 => ⟨S_, .f32⟩
  | 101 => ⟨S16384x32, .f32⟩
  | 102 => ⟨S16384x32, .i1⟩
  | 103 => ⟨S_, .f32⟩
  | 104 => ⟨S_, .f32⟩
  | 105 => ⟨S16384x32, .f32⟩
  | 106 => ⟨S16384x32, .f32⟩
  | 107 => ⟨S16384x32, .f32⟩
  | 108 => ⟨S32x512x32, .f32⟩
  | 109 => ⟨S_, .f32⟩
  | 110 => ⟨S32x32, .f32⟩
  | 111 => ⟨S_, .i32⟩
  | 112 => ⟨S_, .f32⟩
  | 113 => ⟨S32x128, .f32⟩
  | 114 => ⟨S32x1x128, .f32⟩
  | 115 => ⟨S32x8x128, .f32⟩
  | 116 => ⟨S256x128, .f32⟩
  | 117 => ⟨S256x128, .i32⟩
  | 118 => ⟨S_, .f32⟩
  | 119 => ⟨S32x32, .f32⟩
  | 120 => ⟨S32x32, .f32⟩
  | 121 => ⟨S_, .f32⟩
  | 122 => ⟨S32x32, .f32⟩
  | 123 => ⟨S32x32, .f32⟩
  | 124 => ⟨S32x32, .f32⟩
  | 125 => ⟨S_, .f32⟩
  | 126 => ⟨S32x32, .f32⟩
  | 127 => ⟨S32x32, .f32⟩
  | _ => ⟨S4x4096x1024, .f32⟩

abbrev hbmTy0_1 (i : Nat) : BufTy := match i % 128 with
  | 0 => ⟨S1x32x1, .i32⟩
  | 1 => ⟨S1x1x32, .i32⟩
  | 2 => ⟨S1x32x32, .i32⟩
  | 3 => ⟨S1x32x32, .i32⟩
  | 4 => ⟨S1x32x32, .i1⟩
  | 5 => ⟨S32x32x1, .f32⟩
  | 6 => ⟨S_, .f32⟩
  | 7 => ⟨S32x32x32, .i1⟩
  | 8 => ⟨S32x32x32, .f32⟩
  | 9 => ⟨S32x32x32, .f32⟩
  | 10 => ⟨S32x32x32, .f32⟩
  | 11 => ⟨S_, .f32⟩
  | 12 => ⟨S32x32, .f32⟩
  | 13 => ⟨S512, .i32⟩
  | 14 => ⟨S1x1x512x1, .i32⟩
  | 15 => ⟨S1x512x1x1, .i32⟩
  | 16 => ⟨S1x512x512x1, .i32⟩
  | 17 => ⟨S1x512x512x1, .i32⟩
  | 18 => ⟨S1x512x512x1, .i1⟩
  | 19 => ⟨S32x1x512x32, .f32⟩
  | 20 => ⟨S_, .f32⟩
  | 21 => ⟨S32x512x512x32, .i1⟩
  | 22 => ⟨S32x512x512x32, .f32⟩
  | 23 => ⟨S32x512x512x32, .f32⟩
  | 24 => ⟨S32x512x512x32, .f32⟩
  | 25 => ⟨S_, .f32⟩
  | 26 => ⟨S32x512x32, .f32⟩
  | 27 => ⟨S32x1x32, .f32⟩
  | 28 => ⟨S32x512x32, .f32⟩
  | 29 => ⟨S32x512x32, .f32⟩
  | 30 => ⟨S16384x32, .f32⟩
  | 31 => ⟨S16384x1x32, .f32⟩
  | 32 => ⟨S4, .f32⟩
  | 33 => ⟨S1x4x1, .f32⟩
  | 34 => ⟨S16384x4x32, .f32⟩
  | 35 => ⟨S16384x4x32, .f32⟩
  | 36 => ⟨S16384x4x32, .i1⟩
  | 37 => ⟨S32, .f32⟩
  | 38 => ⟨S1x1x32, .f32⟩
  | 39 => ⟨S_, .f32⟩
  | 40 => ⟨S16384x4x32, .f32⟩
  | 41 => ⟨S16384x4x32, .f32⟩
  | 42 => ⟨S16384x4x32, .f32⟩
  | 43 => ⟨S_, .f32⟩
  | 44 => ⟨S16384x4, .f32⟩
  | 45 => ⟨S16384x1x32, .f32⟩
  | 46 => ⟨S_, .f32⟩
  | 47 => ⟨S16384x4x32, .f32⟩
  | 48 => ⟨S16384x4x32, .f32⟩
  | 49 => ⟨S16384x4x32, .f32⟩
  | 50 => ⟨S_, .f32⟩
  | 51 => ⟨S16384x4, .f32⟩
  | 52 => ⟨S16384x8, .f32⟩
  | 53 => ⟨S16384x8, .i32⟩
  | 54 => ⟨S_, .i32⟩
  | 55 => ⟨S_, .i32⟩
  | 56 => ⟨S16384x128, .i32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_cst_10 : Ref sig .tc := ⟨.hbm, 94, rfl⟩
abbrev main_call0_v0 : Ref sig .tc := ⟨.hbm, 95, rfl⟩
abbrev main_call0_v1 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_cst_14 : Ref sig .tc := ⟨.hbm, 104, rfl⟩
abbrev main_call1_v0 : Ref sig .tc := ⟨.hbm, 105, rfl⟩
abbrev main_call1_v1 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_c : Ref sig .tc := ⟨.hbm, 111, rfl⟩
abbrev main_call2_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_v108 : Ref sig .tc := ⟨.hbm, 152, rfl⟩
abbrev main_cst_22 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_23 : Ref sig .tc := ⟨.hbm, 167, rfl⟩
abbrev main_call5_v0 : Ref sig .tc := ⟨.hbm, 168, rfl⟩
abbrev main_call5_v1 : Ref sig .tc := ⟨.hbm, 169, rfl⟩
abbrev main_v122 : Ref sig .tc := ⟨.hbm, 170, rfl⟩
abbrev main_cst_24 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_call6_v0 : Ref sig .tc := ⟨.hbm, 175, rfl⟩
abbrev main_call6_v1 : Ref sig .tc := ⟨.hbm, 176, rfl⟩
abbrev main_v125 : Ref sig .tc := ⟨.hbm, 177, rfl⟩
abbrev main_cst_26 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_c_27 : Ref sig .tc := ⟨.hbm, 182, rfl⟩
abbrev main_call7_v0 : Ref sig .tc := ⟨.hbm, 183, rfl⟩
abbrev main_v129 : Ref sig .tc := ⟨.hbm, 184, rfl⟩

abbrev nD : Nat := 1
abbrev τ : Topo := Topo.v7x

variable {F : FTy → Type} [FloatOps F]
-- ==== Proof.Pre.lean ====
/- What the precondition says: every query and every key is a real number. -/
module

public import proofs.«01_k».proof.Pre_finite
public import Idealize.ShloMosaic.Lib.ReduceAll
public import Idealize.ShloMosaic.Lib.Pointwise
public import Idealize.ShloMosaic.Lib.Decide

@[expose] public section

set_option maxRecDepth 16384

noncomputable section

namespace Cert.Pre_finite

open Idealize.ShloMosaic

instance facts : Facts where
  bcast_S_S4x4096x8x192 := by decide
  reducesTo_S4x4096x8x192_S_d0_1_2_3 := by decide
  h_S_ := by decide
  bcast_S_S4x4096x8x128 := by decide
  reducesTo_S4x4096x8x128_S_d0_1_2_3 := by decide
  bcast_S_S4x4096x64 := by decide
  reducesTo_S4x4096x64_S_d0_1_2 := by decide

theorem and_one : ∀ a b : BitVec 1, a &&& b = 1#1 → a = 1#1 ∧ b = 1#1 := by decide

theorem ofBits_inf : Ideal.ofBits .f32 0x7F800000#32 = (⊤ : EReal) := by simp [Ideal.ofBits, Ideal.ieee]

/-- A magnitude below infinity is that of a real number. -/
theorem real_of_cmp (x : EReal) (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- A whole array whose magnitudes are all below infinity is real at every index. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, @Eq EReal (x i) (r : EReal) := by
  have : Subsingleton S_.Idx := ⟨fun a b => funext fun k => k.elim0⟩
  exact real_of_cmp _ (Host.reduce_andi_all _ _ hr hu j e i)

/-- The precondition: queries and both parts of the keys are real. -/
theorem real_of (a0 : FVec Ideal S4x4096x8x192 .f32) (a1 : FVec Ideal S4x4096x8x128 .f32) (a2 : FVec Ideal S4x4096x64 .f32)
    (a3 : FVec Ideal S4x4096x8x128 .f32) (h : fn (F := Ideal) a0 a1 a2 a3 = fun _ => 1#1) :
    (∀ i, ∃ r : ℝ, @Eq EReal (a0 i) r) ∧ (∀ i, ∃ r : ℝ, @Eq EReal (a1 i) r) ∧ (∀ i, ∃ r : ℝ, @Eq EReal (a2 i) r) := by
  have e := congrFun h (fun k => k.elim0 : S_.Idx)
  obtain ⟨e01, e2⟩ := and_one _ _ e
  obtain ⟨e0, e1⟩ := and_one _ _ e01
  exact ⟨real_of_all a0 Facts.bcast_S_S4x4096x8x192 Facts.reducesTo_S4x4096x8x192_S_d0_1_2_3 Facts.h_S_ (fun k => k.elim0) e0,
    real_of_all a1 Facts.bcast_S_S4x4096x8x128 Facts.reducesTo_S4x4096x8x128_S_d0_1_2_3 Facts.h_S_ (fun k => k.elim0) e1,
    real_of_all a2 Facts.bcast_S_S4x4096x64 Facts.reducesTo_S4x4096x64_S_d0_1_2 Facts.h_S_ (fun k => k.elim0) e2⟩

end Cert.Pre_finite

end
-- ==== Proof.Tiles.lean ====
/- The tiled schedule of the attention kernel, written once for all its steps.

   A grid point of the kernel holds one head of one batch row: 4096 queries in sixteen groups of 256, 4096 keys in eight
   tiles of 512. Group `t` meets the key tiles `0 … t/2`, the last of them under the causal mask (only its first half
   when `t` is even). The definitions below are one softmax step over a key tile, the running maximum of a group, and the
   list of the stores the body makes into its accumulator. The theorems say that what the body's run leaves is exactly
   this schedule. -/
module

public import proofs.«01_k».proof.Proof.Gen.KernelIdeal.Value

@[expose] public section

set_option maxRecDepth 65536

noncomputable section

namespace Cert.KernelIdeal.Tiles

open Cert.KernelIdeal Cert.KernelIdeal.Gen Idealize.ShloMosaic Idealize.ShloMosaic.TcCoe Idealize.SL.Sem

variable {F : FTy → Type} [FloatOps F] [Named F]

/-! ## The blocks a step loads -/

theorem inbQ (t : Fin 16) : ∀ a, (![256 * t.val, 0] : Fin 2 → Nat) a + S256x256.size a ≤ S4096x256.size a := by
  have := t.isLt
  intro a; fin_cases a <;> simp <;> omega

theorem inbK (j : Fin 8) : ∀ a, (![512 * j.val, 0] : Fin 2 → Nat) a + S512x128.size a ≤ S4096x128.size a := by
  have := j.isLt
  intro a; fin_cases a <;> simp <;> omega

theorem inbV (j : Fin 8) : ∀ a, (![j.val, 0, 0] : Fin 3 → Nat) a + S1x144x512.size a ≤ S8x144x512.size a := by
  have := j.isLt
  intro a; fin_cases a <;> simp <;> omega

theorem inbA (c : Fin 4) : ∀ a, (![c.val, 0, 0] : Fin 3 → Nat) a + S1x144x256.size a ≤ S4x144x256.size a := by
  have := c.isLt
  intro a; fin_cases a <;> simp <;> omega

theorem inbO (t : Fin 16) : ∀ a, (![256 * t.val, 0] : Fin 2 → Nat) a + S256x128.size a ≤ S4096x128.size a := by
  have := t.isLt
  intro a; fin_cases a <;> simp <;> omega

/-- The slot of the accumulator that query group `c` of a round owns. -/
abbrev slot (c : Fin 4) : Rect S4x144x256 := Rect.unit (s := S4x144x256) ![c.val, 0, 0] S1x144x256.size (inbA c)

/-- What one grid point's body is given: the four input blocks, through the buffers that hold them, and the accumulator. -/
structure Env (F : FTy → Type) [FloatOps F] where
  arg2 : Memref sig .tc .vmem S4096x256 .bf16
  harg2 : arg2.IsWhole
  arg3 : Memref sig .tc .vmem S4096x128 .bf16
  harg3 : arg3.IsWhole
  arg4 : Memref sig .tc .vmem S4096x128 .bf16
  harg4 : arg4.IsWhole
  arg5 : Memref sig .tc .vmem S8x144x512 .bf16
  harg5 : arg5.IsWhole
  arg7 : Memref sig .tc .vmem S4x144x256 .f32
  x0 : Vec F S4096x256 .bf16
  x1 : Vec F S4096x128 .bf16
  x2 : Vec F S4096x128 .bf16
  x3 : Vec F S8x144x512 .bf16

variable (e : Env F)

/-- Query group `t`: 256 query rows. -/
def qB (t : Fin 16) : Vec F S256x256 .bf16 :=
  View.readAt (Elt F) e.arg2.view (Rect.unit (s := S4096x256) ![256 * t.val, 0] S256x256.size (inbQ t)).toLoadRect (e.harg2.unread e.x0)

/-- Key tile `j`, the part without position. -/
def k1B (j : Fin 8) : Vec F S512x128 .bf16 :=
  View.readAt (Elt F) e.arg3.view (Rect.unit (s := S4096x128) ![512 * j.val, 0] S512x128.size (inbK j)).toLoadRect (e.harg3.unread e.x1)

/-- Key tile `j`, the rotated part (the same for every head). -/
def k2B (j : Fin 8) : Vec F S512x128 .bf16 :=
  View.readAt (Elt F) e.arg4.view (Rect.unit (s := S4096x128) ![512 * j.val, 0] S512x128.size (inbK j)).toLoadRect (e.harg4.unread e.x2)

/-- Value tile `j`, transposed, with its rows of ones below. -/
def vB (j : Fin 8) : Vec F S1x144x512 .bf16 :=
  View.readAt (Elt F) e.arg5.view (Rect.unit (s := S8x144x512) ![j.val, 0, 0] S1x144x512.size (inbV j)).toLoadRect (e.harg5.unread e.x3)

/-! ## One softmax step -/

/-- A key tile: both parts side by side. -/
def kCat (k1 k2 : Vec F S512x128 .bf16) : FVec F S512x256 .bf16 :=
  concatenate S512x256 1 [⟨S512x128, shapeCast S512x128 k1 shapeCasts_S512x128_S512x128⟩, ⟨S512x128, shapeCast S512x128 k2 shapeCasts_S512x128_S512x128⟩] concatenates_S512x128_S512x128_S512x256_d1

/-- The scores of a whole key tile against a query group. -/
def sFull (q : Vec F S256x256 .bf16) (k1 k2 : Vec F S512x128 .bf16) : FVec F S512x256 .f32 :=
  matmul dot_S512x256_S256x256_S512x256_1_1_0_0_n_n none (kCat k1 k2) (shapeCast S256x256 q shapeCasts_S256x256_S256x256) (constant S512x256 .f32 0x00000000#32)

/-- The scores of the first half of a key tile. -/
def sHalf (q : Vec F S256x256 .bf16) (k1 k2 : Vec F S512x128 .bf16) : FVec F S256x256 .f32 :=
  matmul dot_S256x256_S256x256_S256x256_1_1_0_0_n_n none (extractStridedSlice S256x256 ![0, 0] (kCat k1 k2) slices_S512x256_o0_0_S256x256) (shapeCast S256x256 q shapeCasts_S256x256_S256x256) (constant S256x256 .f32 0x00000000#32)

/-- The causal mask on a whole tile: key `a + k` is kept for query `b + w` when it is not later. -/
def maskFull (a b : BitVec 32) (s : FVec F S512x256 .f32) : FVec F S512x256 .f32 :=
  select (cmpi .sle (addi (iota .tc S512x256 32 [0] iota_S512x256_d0_w32) (broadcast S512x256 a)) (addi (iota .tc S512x256 32 [1] iota_S512x256_d1_w32) (broadcast S512x256 b))) s (broadcast S512x256 (Named.named κ "mask" 0xF149F2CA#32))

/-- The causal mask on half a tile. -/
def maskHalf (a b : BitVec 32) (s : FVec F S256x256 .f32) : FVec F S256x256 .f32 :=
  select (cmpi .sle (addi (iota .tc S256x256 32 [0] iota_S256x256_d0_w32) (broadcast S256x256 a)) (addi (iota .tc S256x256 32 [1] iota_S256x256_d1_w32) (broadcast S256x256 b))) s (broadcast S256x256 (Named.named κ "mask" 0xF149F2CA#32))

/-- The running maximum after a whole tile. -/
def newM (s : FVec F S512x256 .f32) (m : FVec F S1x256 .f32) : FVec F S1x256 .f32 :=
  maximumf m (shapeCast S1x256 (multiReduction .maximumf [0] S256 s 0xFF800000#32 reduces_S512x256_S256 (.inl rfl) rfl) shapeCasts_S256_S1x256)

/-- The running maximum after half a tile. -/
def newMH (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- The accumulator after a whole tile: the old one rescaled, the tile's weighted values added. -/
def accF (s : FVec F S512x256 .f32) (m : FVec F S1x256 .f32) (v : Vec F S1x144x512 .bf16) (acc : Vec F S1x144x256 .f32) : FVec F S1x144x256 .f32 :=
  shapeCast S1x144x256
    (addf (mulf (broadcastTo S144x256 (exp2 (subf m (newM s m))) broadcasts_S1x256_S144x256) (shapeCast S144x256 acc shapeCasts_S1x144x256_S144x256))
      (matmul dot_S144x512_S512x256_S144x256_1_0_0_1_n_n none (shapeCast S144x512 v shapeCasts_S1x144x512_S144x512)
        (truncf .bf16 (exp2 (subf s (broadcastTo S512x256 (newM s m) broadcasts_S1x256_S512x256))) bitsLt_bf16_f32) (constant S144x256 .f32 0x00000000#32)))
    shapeCasts_S144x256_S1x144x256

/-- The accumulator after half a tile. -/
def accH (s : FVec F S256x256 .f32) (m : FVec F S1x256 .f32) (v : Vec F S1x144x512 .bf16) (acc : Vec F S1x144x256 .f32) : FVec F S1x144x256 .f32 :=
  shapeCast S1x144x256
    (addf (mulf (broadcastTo S144x256 (exp2 (subf m (newMH s m))) broadcasts_S1x256_S144x256) (shapeCast S144x256 acc shapeCasts_S1x144x256_S144x256))
      (matmul dot_S144x256_S256x256_S144x256_1_0_0_1_n_n none (extractStridedSlice S144x256 ![0, 0] (shapeCast S144x512 v shapeCasts_S1x144x512_S144x512) slices_S144x512_o0_0_S144x256)
        (truncf .bf16 (exp2 (subf s (broadcastTo S256x256 (newMH s m) broadcasts_S1x256_S256x256))) bitsLt_bf16_f32) (constant S144x256 .f32 0x00000000#32)))
    shapeCasts_S144x256_S1x144x256

/-- The group's result: the weighted values over the sum of the weights, queries down the rows. -/
def outB (acc : Vec F S1x144x256 .f32) : FVec F S256x128 .bf16 :=
  truncf .bf16 (transpose S256x128 [1, 0]
    (divf (extractStridedSlice S128x256 ![0, 0] (shapeCast S144x256 acc shapeCasts_S1x144x256_S144x256) slices_S144x256_o0_0_S128x256)
      (broadcastTo S128x256 (extractStridedSlice S1x256 ![128, 0] (shapeCast S144x256 acc shapeCasts_S1x144x256_S144x256) slices_S144x256_o128_0_S1x256) broadcasts_S1x256_S128x256))
    transposes_S128x256_p1_0_S256x128) bitsLt_bf16_f32

/-! ## The schedule -/

/-- Key tile `n`, counted by a natural number. -/
def tile (n : Nat) : Fin 8 := ⟨n % 8, Nat.mod_lt _ (by decide)⟩

/-- The running maximum of group `t` before key tile `n`. -/
def mAt (t : Fin 16) : Nat → FVec F S1x256 .f32
  | 0 => broadcast S1x256 (Named.named κ "mask" 0xF149F2CA#32)
  | n + 1 => newM (sFull (qB e t) (k1B e (tile n)) (k2B e (tile n))) (mAt t n)

/-- What group `t` stores when it has met key tile `j`, its accumulator having been `acc`: before its last tile there is
no mask, its last tile is masked, and only half of it is met when `t` is even. -/
def stepB (t : Fin 16) (j : Fin 8) (acc : Vec F S1x144x256 .f32) : FVec F S1x144x256 .f32 :=
  if j.val < t.val / 2 then
    accF (sFull (qB e t) (k1B e j) (k2B e j)) (mAt e t j.val) (vB e j) acc
  else if t.val % 2 = 0 then
    accH (maskHalf (BitVec.ofNat 32 (512 * (t.val % 4 / 2))) (BitVec.ofNat 32 (256 * (t.val % 4))) (sHalf (qB e t) (k1B e j) (k2B e j))) (mAt e t j.val) (vB e j) acc
  else
    accF (maskFull (BitVec.ofNat 32 (512 * (t.val % 4 / 2))) (BitVec.ofNat 32 (256 * (t.val % 4))) (sFull (qB e t) (k1B e j) (k2B e j))) (mAt e t j.val) (vB e j) acc

/-- Group `c` of round `r`. -/
def grp (r c : Fin 4) : Fin 16 := ⟨4 * r.val + c.val, by omega⟩

/-- The stores into the accumulator that a round's steps `(c, j)` (last first) leave on top of the list `L`. -/
def stores (r : Fin 4) (L : List (View.Piece (Elt F) S4x144x256 .f32)) : List (Fin 4 × Fin 8) → List (View.Piece (Elt F) S4x144x256 .f32)
  | [] => L
  | (c, j) :: w => ⟨slot c, stepB e (grp r c) j (e.arg7.view.readCov (stores r L w) (slot c).toLoadRect)⟩ :: stores r L w

/-- The accumulator set to zero: the first store of every round. -/
def zeroed (L : List (View.Piece (Elt F) S4x144x256 .f32)) : List (View.Piece (Elt F) S4x144x256 .f32) :=
  ⟨Rect.unit (s := S4x144x256) ![0, 0, 0] S4x144x256.size inb_S4x144x256_S4x144x256_0_0_0, shapeCast S4x144x256 (broadcast S4x144x256 (Scalar.ofBits .f32 0x00000000#32)) shapeCasts_S4x144x256_S4x144x256⟩ :: L

/-- The four groups' steps on one key tile, last first. -/
def four (j : Fin 8) : List (Fin 4 × Fin 8) := [(3, j), (2, j), (1, j), (0, j)]

/-- The last two groups' steps on one key tile, last first. -/
def two (j : Fin 8) : List (Fin 4 × Fin 8) := [(3, j), (2, j)]

/-- The steps of the four rounds, last first. -/
def steps (r : Fin 4) : List (Fin 4 × Fin 8) :=
  match r with
  | 0 => two 1 ++ four 0
  | 1 => two 3 ++ four 2 ++ four 1 ++ four 0
  | 2 => two 5 ++ four 4 ++ four 3 ++ four 2 ++ four 1 ++ four 0
  | 3 => two 7 ++ four 6 ++ four 5 ++ four 4 ++ four 3 ++ four 2 ++ four 1 ++ four 0

/-- The accumulator's stores up to the end of round 0, 1, 2, 3. -/
def round0 : List (View.Piece (Elt F) S4x144x256 .f32) := stores e 0 (zeroed []) (steps 0)
def round1 : List (View.Piece (Elt F) S4x144x256 .f32) := stores e 1 (zeroed (round0 e)) (steps 1)
def round2 : List (View.Piece (Elt F) S4x144x256 .f32) := stores e 2 (zeroed (round1 e)) (steps 2)
def round3 : List (View.Piece (Elt F) S4x144x256 .f32) := stores e 3 (zeroed (round2 e)) (steps 3)

/-! ## The run is the schedule -/

variable (c : Dev nD)

/-- The stores the run records up to the end of the first round are the schedule's. -/
theorem stores_round0 : kernelRun0_A.sl.HS0_7 c e.arg2 e.harg2 e.arg3 e.harg3 e.arg4 e.harg4 e.arg5 e.harg5 e.arg7 e.x0 e.x1 e.x2 e.x3 = round0 e := rfl

/-- The stores the run records up to the end of the second round are the schedule's. -/
theorem stores_round1 : kernelRun0_A.sl.HS0_22 c e.arg2 e.harg2 e.arg3 e.harg3 e.arg4 e.harg4 e.arg5 e.harg5 e.arg7 e.x0 e.x1 e.x2 e.x3 = round1 e := rfl

/-- The stores the run records up to the end of the third round are the schedule's. -/
theorem stores_round2 : kernelRun0_A.sl.HS0_45 c e.arg2 e.harg2 e.arg3 e.harg3 e.arg4 e.harg4 e.arg5 e.harg5 e.arg7 e.x0 e.x1 e.x2 e.x3 = round2 e := rfl

/-- The stores the run records up to the end of the fourth round are the schedule's. -/
theorem stores_round3 : kernelRun0_A.sl.HS0_76 c e.arg2 e.harg2 e.arg3 e.harg3 e.arg4 e.harg4 e.arg5 e.harg5 e.arg7 e.x0 e.x1 e.x2 e.x3 = round3 e := rfl

/-- What group `c` of round `r` writes to the result, the round's stores being `L`. -/
def piece (r c : Fin 4) (L : List (View.Piece (Elt F) S4x144x256 .f32)) : View.Piece (Elt F) S4096x128 .bf16 :=
  ⟨Rect.unit (s := S4096x128) ![256 * (grp r c).val, 0] S256x128.size (inbO (grp r c)), outB (e.arg7.view.readCov L (slot c).toLoadRect)⟩

/-- The sixteen blocks of the result, last first. -/
def pieces : List (View.Piece (Elt F) S4096x128 .bf16) :=
  [piece e 3 3 (round3 e), piece e 3 2 (round3 e), piece e 3 1 (round3 e), piece e 3 0 (round3 e),
   piece e 2 3 (round2 e), piece e 2 2 (round2 e), piece e 2 1 (round2 e), piece e 2 0 (round2 e),
   piece e 1 3 (round1 e), piece e 1 2 (round1 e), piece e 1 1 (round1 e), piece e 1 0 (round1 e),
   piece e 0 3 (round0 e), piece e 0 2 (round0 e), piece e 0 1 (round0 e), piece e 0 0 (round0 e)]

/-- The blocks the body's run writes are the schedule's. -/
theorem run_pieces (i : grid0.Coords) (arg6 : Memref sig .tc .vmem S4096x128 .bf16) (harg6 : arg6.IsWhole) (harg7 : e.arg7.IsWhole) :
    (kernelRun0_A c i e.arg2 e.harg2 e.arg3 e.harg3 e.arg4 e.harg4 e.arg5 e.harg5 arg6 harg6 e.arg7 harg7 e.x0 e.x1 e.x2 e.x3).1 = pieces e := rfl

end Cert.KernelIdeal.Tiles

end
-- ==== Proof.Step.lean ====
/- One softmax step read at an index, over the extended reals. -/
module

public import proofs.«01_k».proof.Proof.Tiles
public import Idealize.ShloMosaic.Lib.Pointwise

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pointwise

/-- The pattern a maximum starts from is `-∞`. -/
theorem ofBits_low : Ideal.ofBits .f32 0xFF800000#32 = ⊥ := by simp [Ideal.ofBits, Ideal.ieee]

/-- A maximum over all rows that starts from `-∞` is a supremum. -/
theorem fold_max {n : ℕ} (f : Fin n → EReal) :
    Finset.fold max (Ideal.ofBits .f32 0xFF800000#32) f Finset.univ = Finset.univ.sup f := by
  rw [ofBits_low]; rfl

theorem kCat_apply (k1 k2 : Vec Ideal S512x128 .bf16) (k : Fin 512) (d : Fin 256) :
    kCat k1 k2 (ix2 k d) = if h : d.val < 128 then k1 (ix2 k ⟨d.val, h⟩) else k2 (ix2 k ⟨d.val - 128, by omega⟩) := by
  pointwise [kCat]

theorem sFull_apply (q : Vec Ideal S256x256 .bf16) (k1 k2 : Vec Ideal S512x128 .bf16) (k : Fin 512) (w : Fin 256) :
    sFull q k1 k2 (ix2 k w) = ∑ d : Fin 256, (kCat k1 k2 (ix2 k d) : EReal) * q (ix2 w d) := by
  pointwise [sFull]

theorem sHalf_apply (q : Vec Ideal S256x256 .bf16) (k1 k2 : Vec Ideal S512x128 .bf16) (k : Fin 256) (w : Fin 256) :
    sHalf q k1 k2 (ix2 k w) = ∑ d : Fin 256, (kCat k1 k2 (ix2 (⟨k.val, by omega⟩ : Fin 512) d) : EReal) * q (ix2 w d) := by
  pointwise [sHalf]

/-- The comparison of the causal mask, on numbers small enough to be the words' own. -/
theorem le_words {a b x y : ℕ} (ha : a + x < 2 ^ 31) (hb : b + y < 2 ^ 31) :
    IntOp.cmpi .sle (IntOp.addi (BitVec.ofNat 32 x) (BitVec.ofNat 32 a)) (IntOp.addi (BitVec.ofNat 32 y) (BitVec.ofNat 32 b)) = 1#1 ↔ a + x ≤ b + y := by
  rw [IntOp.cmpi_sle, IntOp.addi, IntOp.addi, ← BitVec.ofNat_add, ← BitVec.ofNat_add,
    BitVec.toInt_eq_toNat_of_lt (by simp; omega), BitVec.toInt_eq_toNat_of_lt (by simp; omega)]
  simp
  omega

theorem maskFull_apply (a b : ℕ) (ha : a < 4096) (hb : b < 4096) (s : FVec Ideal S512x256 .f32) (k : Fin 512) (w : Fin 256) :
    maskFull (BitVec.ofNat 32 a) (BitVec.ofNat 32 b) s (ix2 k w) = if a + k.val ≤ b + w.val then s (ix2 k w) else (⊥ : EReal) := by
  pointwise [maskFull]
  rw [Scalar.select]
  refine if_congr (le_words (by omega) (by omega)) rfl rfl

theorem maskHalf_apply (a b : ℕ) (ha : a < 4096) (hb : b < 4096) (s : FVec Ideal S256x256 .f32) (k : Fin 256) (w : Fin 256) :
    maskHalf (BitVec.ofNat 32 a) (BitVec.ofNat 32 b) s (ix2 k w) = if a + k.val ≤ b + w.val then s (ix2 k w) else (⊥ : EReal) := by
  pointwise [maskHalf]
  rw [Scalar.select]
  refine if_congr (le_words (by omega) (by omega)) rfl rfl

theorem newM_apply (s : FVec Ideal S512x256 .f32) (m : FVec Ideal S1x256 .f32) (w : Fin 256) :
    newM s m (ix2 (0 : Fin 1) w) = max (m (ix2 (0 : Fin 1) w)) (Finset.univ.sup fun k : Fin 512 => (s (ix2 k w) : EReal)) := by
  pointwise [newM]
  exact congrArg _ (fold_max _)

theorem newMH_apply (s : FVec Ideal S256x256 .f32) (m : FVec Ideal S1x256 .f32) (w : Fin 256) :
    newMH s m (ix2 (0 : Fin 1) w) = max (m (ix2 (0 : Fin 1) w)) (Finset.univ.sup fun k : Fin 256 => (s (ix2 k w) : EReal)) := by
  pointwise [newMH]
  exact congrArg _ (fold_max _)

theorem accF_apply (s : FVec Ideal S512x256 .f32) (m : FVec Ideal S1x256 .f32) (v : Vec Ideal S1x144x512 .bf16) (acc : Vec Ideal S1x144x256 .f32) (r : Fin 144) (w : Fin 256) :
    accF s m v acc (ix3 (0 : Fin 1) r w) = Ideal.exp2 (m (ix2 (0 : Fin 1) w) - newM s m (ix2 (0 : Fin 1) w)) * acc (ix3 (0 : Fin 1) r w)
      + ∑ k : Fin 512, (v (ix3 (0 : Fin 1) r k) : EReal) * Ideal.exp2 (s (ix2 k w) - newM s m (ix2 (0 : Fin 1) w)) := by
  pointwise [accF]
  rfl

theorem accH_apply (s : FVec Ideal S256x256 .f32) (m : FVec Ideal S1x256 .f32) (v : Vec Ideal S1x144x512 .bf16) (acc : Vec Ideal S1x144x256 .f32) (r : Fin 144) (w : Fin 256) :
    accH s m v acc (ix3 (0 : Fin 1) r w) = Ideal.exp2 (m (ix2 (0 : Fin 1) w) - newMH s m (ix2 (0 : Fin 1) w)) * acc (ix3 (0 : Fin 1) r w)
      + ∑ k : Fin 256, (v (ix3 (0 : Fin 1) r (⟨k.val, by omega⟩ : Fin 512)) : EReal) * Ideal.exp2 (s (ix2 k w) - newMH s m (ix2 (0 : Fin 1) w)) := by
  pointwise [accH]
  rfl

theorem outB_apply (acc : Vec Ideal S1x144x256 .f32) (w : Fin 256) (d : Fin 128) :
    outB acc (ix2 w d) = Ideal.div (acc (ix3 (0 : Fin 1) (⟨d.val, by omega⟩ : Fin 144) w)) (acc (ix3 (0 : Fin 1) (128 : Fin 144) w)) := by
  pointwise [outB]

end Cert.KernelIdeal.Tiles

end
-- ==== Proof.Reads.lean ====
/- What the accumulator of a query group holds when the group's round is over: its own steps, one after the other, from
   zero. The other groups' stores go to other slots and do not reach it. -/
module

public import proofs.«01_k».proof.Proof.Tiles
public import Idealize.ShloMosaic.Lib.Pipeline.ReadBack

@[expose] public section

set_option maxRecDepth 16384

noncomputable section

namespace Cert.KernelIdeal.Tiles

open Cert.KernelIdeal Cert.KernelIdeal.Gen Idealize.ShloMosaic Idealize.ShloMosaic.TcCoe Idealize.SL.Sem

variable {F : FTy → Type} [FloatOps F] [Named F] (e : Env F)

/-- Different slots do not meet. -/
theorem slot_disj : ∀ c c' : Fin 4, c' ≠ c → LoadRect.disj (slot c') (slot c).toLoadRect = true := by decide +kernel

/-- The accumulator of a group before any step. -/
def zeroB : FVec F S1x144x256 .f32 := fun _ => Scalar.ofBits .f32 0x00000000#32

/-- A group's accumulator after the steps of the list that are its own, last first. -/
def run1 (r c : Fin 4) (z : FVec F S1x144x256 .f32) : List (Fin 4 × Fin 8) → FVec F S1x144x256 .f32
  | [] => z
  | (c', j) :: w => if c' = c then stepB e (grp r c) j (run1 r c z w) else run1 r c z w

theorem read_stores (r c : Fin 4) (L : List (View.Piece (Elt F) S4x144x256 .f32)) (w : List (Fin 4 × Fin 8)) :
    e.arg7.view.readCov (stores e r L w) (slot c).toLoadRect = run1 e r c (e.arg7.view.readCov L (slot c).toLoadRect) w := by
  induction w with
  | nil => rfl
  | cons p w ih =>
    obtain ⟨c', j⟩ := p
    rw [stores, run1]
    split
    · next h => subst h; rw [View.readCov_cons_toLoadRect, ih]
    · next h => rw [View.readCov_skip _ _ _ _ _ (slot_disj c c' h), ih]

theorem read_zeroed (c : Fin 4) (L : List (View.Piece (Elt F) S4x144x256 .f32)) :
    e.arg7.view.readCov (zeroed L) (slot c).toLoadRect = zeroB := by
  rw [zeroed, View.readCov_fill _ _ _ _ _ (by intro a; fin_cases a <;> rfl)]
  rfl

/-- The accumulator of group `t` before key tile `n`. -/
def accN (t : Fin 16) : Nat → FVec F S1x144x256 .f32
  | 0 => zeroB
  | n + 1 => stepB e t (tile n) (accN t n)

theorem run1_four (r c : Fin 4) (z : FVec F S1x144x256 .f32) (j : Fin 8) (w : List (Fin 4 × Fin 8)) :
    run1 e r c z (four j ++ w) = stepB e (grp r c) j (run1 e r c z w) := by
  fin_cases c <;> simp [four, run1]

theorem run1_two (r c : Fin 4) (z : FVec F S1x144x256 .f32) (j : Fin 8) (w : List (Fin 4 × Fin 8)) :
    run1 e r c z (two j ++ w) = if c.val < 2 then run1 e r c z w else stepB e (grp r c) j (run1 e r c z w) := by
  fin_cases c <;> simp [two, run1]

theorem accN_succ (t : Fin 16) (n : Nat) : accN e t (n + 1) = stepB e t (tile n) (accN e t n) := rfl

theorem half_grp (r c : Fin 4) : (grp r c).val / 2 + 1 = if c.val < 2 then 2 * r.val + 1 else 2 * r.val + 1 + 1 := by
  revert r c; decide

theorem run1_steps (r c : Fin 4) : run1 e r c zeroB (steps r) = accN e (grp r c) ((grp r c).val / 2 + 1) := by
  have h1 : run1 e r c zeroB (steps r) =
      if c.val < 2 then accN e (grp r c) (2 * r.val + 1) else accN e (grp r c) (2 * r.val + 1 + 1) := by
    have z : accN e (grp r c) 0 = run1 e r c zeroB [] := rfl
    match r with
    | 0 | 1 | 2 | 3 =>
      rw [steps, ← List.append_nil (four 0)]
      simp only [List.append_assoc, run1_two, run1_four, ← z]
      rfl
  rw [h1, half_grp]
  split <;> rfl

theorem read_round0 (c : Fin 4) : e.arg7.view.readCov (round0 e) (slot c).toLoadRect = accN e (grp 0 c) ((grp 0 c).val / 2 + 1) := by
  rw [round0, read_stores, read_zeroed, run1_steps]

theorem read_round1 (c : Fin 4) : e.arg7.view.readCov (round1 e) (slot c).toLoadRect = accN e (grp 1 c) ((grp 1 c).val / 2 + 1) := by
  rw [round1, read_stores, read_zeroed, run1_steps]

theorem read_round2 (c : Fin 4) : e.arg7.view.readCov (round2 e) (slot c).toLoadRect = accN e (grp 2 c) ((grp 2 c).val / 2 + 1) := by
  rw [round2, read_stores, read_zeroed, run1_steps]

theorem read_round3 (c : Fin 4) : e.arg7.view.readCov (round3 e) (slot c).toLoadRect = accN e (grp 3 c) ((grp 3 c).val / 2 + 1) := by
  rw [round3, read_stores, read_zeroed, run1_steps]

/-- The sixteen blocks of the result, by query group, last first. -/
theorem pieces_eq : pieces e = (List.ofFn fun t : Fin 16 =>
    (⟨Rect.unit (s := S4096x128) ![256 * t.val, 0] S256x128.size (inbO t), outB (accN e t (t.val / 2 + 1))⟩ : View.Piece (Elt F) S4096x128 .bf16)).reverse := by
  rw [pieces]
  simp only [piece, read_round0, read_round1, read_round2, read_round3]
  simp only [List.ofFn_succ, List.ofFn_zero, List.reverse_cons, List.reverse_nil, List.nil_append, List.cons_append]
  rfl

end Cert.KernelIdeal.Tiles

end
-- ==== Proof.Softmax.lean ====
/- A softmax taken block by block: the running maximum and the running weighted sum. -/
module

public import Mathlib.Data.EReal.Operations
public import Idealize.ShloMosaic.PureOps.Ideal

@[expose] public section

noncomputable section

namespace Cert.Softmax

open Idealize.ShloMosaic

/-- The largest of the first `n` scores. -/
def top (s : ℕ → EReal) (n : ℕ) : EReal := (Finset.range n).sup s

/-- The first `n` values, each weighted by `2` to its score less the largest. -/
def acc (s v : ℕ → EReal) (n : ℕ) : EReal :=
  ∑ k ∈ Finset.range n, v k * Ideal.exp2 (s k - top s n)

theorem top_zero (s : ℕ → EReal) : top s 0 = ⊥ := rfl

theorem acc_zero (s v : ℕ → EReal) : acc s v 0 = 0 := rfl

theorem top_add (s : ℕ → EReal) (n w : ℕ) :
    top s (n + w) = max (top s n) (Finset.univ.sup fun i : Fin w => s (n + i)) := by
  apply le_antisymm
  · refine Finset.sup_le fun k hk => ?_
    rw [Finset.mem_range] at hk
    by_cases h : k < n
    · exact le_max_of_le_left (Finset.le_sup (Finset.mem_range.2 h))
    · refine le_max_of_le_right ?_
      have := Finset.le_sup (f := fun i : Fin w => s (n + i)) (Finset.mem_univ ⟨k - n, by omega⟩)
      simpa [Nat.add_sub_cancel' (not_lt.1 h)] using this
  · refine max_le (Finset.sup_mono (by simp)) (Finset.sup_le fun i _ => Finset.le_sup (Finset.mem_range.2 (by omega)))

theorem le_top (s : ℕ → EReal) {k n : ℕ} (h : k < n) : s k ≤ top s n := Finset.le_sup (Finset.mem_range.2 h)

theorem top_ne_top (s : ℕ → EReal) (hs : ∀ k, s k ≠ ⊤) (n : ℕ) : top s n ≠ ⊤ := by
  rw [← lt_top_iff_ne_top, top, Finset.sup_lt_iff bot_lt_top]
  exact fun k _ => lt_top_iff_ne_top.2 (hs k)

theorem exp2_nonneg (x : EReal) : 0 ≤ Ideal.exp2 x := by
  induction x using EReal.rec with
  | bot => simp
  | coe r => simp only [Ideal.exp2_coe]; exact_mod_cast (Real.rpow_pos_of_pos two_pos r).le
  | top => simp

/-- Changing the point from which the scores are measured. -/
theorem exp2_shift {x m M : EReal} (hx : x ≤ m) (hm : m ≤ M) (hM : M ≠ ⊤) :
    Ideal.exp2 (m - M) * Ideal.exp2 (x - m) = Ideal.exp2 (x - M) := by
  induction M using EReal.rec with
  | top => exact absurd rfl hM
  | bot =>
    obtain rfl : m = ⊥ := le_bot_iff.1 hm
    obtain rfl : x = ⊥ := le_bot_iff.1 hx
    simp
  | coe M =>
    induction m using EReal.rec with
    | top => exact absurd hm (by simp)
    | bot => obtain rfl : x = ⊥ := le_bot_iff.1 hx
             simp
    | coe m =>
      induction x using EReal.rec with
      | top => exact absurd hx (by simp)
      | bot => simp
      | coe x =>
        rw [← EReal.coe_sub, ← EReal.coe_sub, ← EReal.coe_sub, Ideal.exp2_coe, Ideal.exp2_coe, Ideal.exp2_coe,
          ← EReal.coe_mul]
        congr 1
        show (2:ℝ) ^ (m - M) * (2:ℝ) ^ (x - m) = (2:ℝ) ^ (x - M)
        rw [← Real.rpow_add two_pos]
        congr 1; ring

theorem exp2_ne_top {x : EReal} (h : x ≠ ⊤) : Ideal.exp2 x ≠ ⊤ := by
  induction x using EReal.rec with
  | bot => simp
  | coe r => simp
  | top => exact absurd rfl h

theorem mul_sum {ι : Type} (a : EReal) (h0 : 0 ≤ a) (h1 : a ≠ ⊤) (S : Finset ι) (f : ι → EReal) :
    a * ∑ k ∈ S, f k = ∑ k ∈ S, a * f k := by
  classical
  induction S using Finset.induction_on with
  | empty => simp
  | insert i S hi ih => rw [Finset.sum_insert hi, Finset.sum_insert hi, EReal.left_distrib_of_nonneg_of_ne_top h0 h1, ih]

theorem sub_ne_top {m M : EReal} (h : m ≤ M) (hM : M ≠ ⊤) : m - M ≠ ⊤ := by
  induction M using EReal.rec with
  | top => exact absurd rfl hM
  | bot => obtain rfl : m = ⊥ := le_bot_iff.1 h
           simp
  | coe M => induction m using EReal.rec with
    | top => exact absurd h (by simp)
    | bot => simp
    | coe m => rw [← EReal.coe_sub]; exact EReal.coe_ne_top _

theorem acc_add (s v : ℕ → EReal) (hs : ∀ k, s k ≠ ⊤) (n w : ℕ) :
    acc s v (n + w) = Ideal.exp2 (top s n - top s (n + w)) * acc s v n
      + ∑ i : Fin w, v (n + i) * Ideal.exp2 (s (n + i) - top s (n + w)) := by
  have hM := top_ne_top s hs (n + w)
  have hle : top s n ≤ top s (n + w) := Finset.sup_mono (by simp)
  rw [acc, Finset.sum_range_add, acc, mul_sum _ (exp2_nonneg _) (exp2_ne_top (sub_ne_top hle hM)),
    Fin.sum_univ_eq_sum_range fun i => v (n + i) * Ideal.exp2 (s (n + i) - top s (n + w))]
  congr 1
  refine Finset.sum_congr rfl fun k hk => ?_
  rw [mul_left_comm, exp2_shift (le_top s (Finset.mem_range.1 hk)) hle hM]

/-- Scores that are `-∞` from `n` on change neither. -/
theorem top_ext (s : ℕ → EReal) {n N : ℕ} (h : n ≤ N) (hs : ∀ k, n ≤ k → k < N → s k = ⊥) : top s N = top s n := by
  apply le_antisymm
  · refine Finset.sup_le fun k hk => ?_
    by_cases hkn : k < n
    · exact le_top s hkn
    · rw [hs k (by omega) (Finset.mem_range.1 hk)]; exact bot_le
  · exact Finset.sup_mono (by simpa using h)

theorem acc_ext (s v : ℕ → EReal) {n N : ℕ} (h : n ≤ N) (hs : ∀ k, n ≤ k → k < N → s k = ⊥) :
    acc s v N = acc s v n := by
  rw [acc, acc, top_ext s h hs]
  symm
  refine Finset.sum_subset (by simpa using h) fun k hk hk' => ?_
  rw [hs k (by simpa using hk') (Finset.mem_range.1 hk)]
  simp

end Cert.Softmax

end
-- ==== Proof.Group.lean ====
/- The invariant of a query group: before key tile `n` its running maximum and its accumulator are those of the first
   `512 n` keys, so at the end the block it writes is the softmax of its scores against the values. -/
module

public import proofs.«01_k».proof.Proof.Step
public import proofs.«01_k».proof.Proof.Reads
public import proofs.«01_k».proof.Proof.Softmax
public import Idealize.ShloMosaic.Lib.WholeRead

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pointwise

variable (e : Env Ideal)

/-- A row of the sequence, counted by a natural number. -/
def row (n : ℕ) : Fin 4096 := ⟨n % 4096, Nat.mod_lt _ (by decide)⟩

/-- Entry `d` of key `k`, both parts side by side. -/
def key (k : ℕ) (d : Fin 256) : EReal :=
  if h : d.val < 128 then e.x1 (ix2 (row k) ⟨d.val, h⟩) else e.x2 (ix2 (row k) (⟨d.val - 128, by omega⟩ : Fin 128))

/-- The score of key `k` for query `q`. -/
def score (q k : ℕ) : EReal := ∑ d : Fin 256, key e k d * e.x0 (ix2 (row q) d)

/-- The causal score. -/
def sm (q k : ℕ) : EReal := if k ≤ q then score e q k else ⊥

/-- Entry `r` of value `k`. -/
def val (r : Fin 144) (k : ℕ) : EReal := e.x3 (ix3 (tile (k / 512)) r (⟨k % 512, Nat.mod_lt _ (by decide)⟩ : Fin 512))

/-! ## The loads -/

theorem qB_apply (t : Fin 16) (w d : Fin 256) : qB e t (ix2 w d) = e.x0 (ix2 (row (256 * t.val + w.val)) d) := by
  rw [qB, Memref.IsWhole.readAt_unread]
  congr 1
  funext a
  have := t.isLt; have := w.isLt
  fin_cases a <;> apply Fin.ext <;> simp [ix2, row] <;> omega

theorem k1B_apply (j : Fin 8) (k : Fin 512) (d : Fin 128) : k1B e j (ix2 k d) = e.x1 (ix2 (row (512 * j.val + k.val)) d) := by
  rw [k1B, Memref.IsWhole.readAt_unread]
  congr 1
  funext a
  have := j.isLt; have := k.isLt
  fin_cases a <;> apply Fin.ext <;> simp [ix2, row] <;> omega

theorem k2B_apply (j : Fin 8) (k : Fin 512) (d : Fin 128) : k2B e j (ix2 k d) = e.x2 (ix2 (row (512 * j.val + k.val)) d) := by
  rw [k2B, Memref.IsWhole.readAt_unread]
  congr 1
  funext a
  have := j.isLt; have := k.isLt
  fin_cases a <;> apply Fin.ext <;> simp [ix2, row] <;> omega

theorem vB_apply (j : Fin 8) (r : Fin 144) (k : Fin 512) : vB e j (ix3 (0 : Fin 1) r k) = val e r (512 * j.val + k.val) := by
  rw [vB, Memref.IsWhole.readAt_unread, val]
  congr 1
  funext a
  have := j.isLt; have := k.isLt
  fin_cases a <;> apply Fin.ext <;> simp [ix3, tile] <;> omega

theorem kCat_eq (j : Fin 8) (k : Fin 512) (d : Fin 256) :
    kCat (k1B e j) (k2B e j) (ix2 k d) = key e (512 * j.val + k.val) d := by
  rw [kCat_apply, key]
  simp only [k1B_apply, k2B_apply]

theorem sFull_eq (t : Fin 16) (j : Fin 8) (k : Fin 512) (w : Fin 256) :
    sFull (qB e t) (k1B e j) (k2B e j) (ix2 k w) = score e (256 * t.val + w.val) (512 * j.val + k.val) := by
  rw [sFull_apply, score]
  exact Finset.sum_congr rfl fun d _ => by rw [kCat_eq, qB_apply]

theorem sHalf_eq (t : Fin 16) (j : Fin 8) (k : Fin 256) (w : Fin 256) :
    sHalf (qB e t) (k1B e j) (k2B e j) (ix2 k w) = score e (256 * t.val + w.val) (512 * j.val + k.val) := by
  rw [sHalf_apply, score]
  exact Finset.sum_congr rfl fun d _ => by rw [kCat_eq, qB_apply]

/-! ## The invariant -/

theorem tile_val {n : ℕ} (h : n < 8) : (tile n).val = n := Nat.mod_eq_of_lt h

theorem mAt_eq (t : Fin 16) (w : Fin 256) : ∀ n : ℕ, n ≤ t.val / 2 →
    mAt e t n (ix2 (0 : Fin 1) w) = Softmax.top (sm e (256 * t.val + w.val)) (512 * n)
  | 0, _ => rfl
  | n + 1, hn => by
    have := t.isLt
    rw [mAt, newM_apply, mAt_eq t w n (by omega), Nat.mul_add, Softmax.top_add]
    congr 2
    funext k
    rw [sFull_eq, sm, tile_val (by omega), if_pos (by omega)]

/-- A tile without a mask. -/
theorem full_step (t : Fin 16) (n : ℕ) (hn : n < t.val / 2) (k : Fin 512) (w : Fin 256) :
    sFull (qB e t) (k1B e (tile n)) (k2B e (tile n)) (ix2 k w) = sm e (256 * t.val + w.val) (512 * n + k.val) := by
  have := t.isLt
  rw [sFull_eq, sm, tile_val (by omega), if_pos (by omega)]

/-- The last tile of an odd group. -/
theorem full_last (t : Fin 16) (ht : ¬t.val % 2 = 0) (k : Fin 512) (w : Fin 256) :
    maskFull (BitVec.ofNat 32 (512 * (t.val % 4 / 2))) (BitVec.ofNat 32 (256 * (t.val % 4)))
      (sFull (qB e t) (k1B e (tile (t.val / 2))) (k2B e (tile (t.val / 2)))) (ix2 k w)
      = sm e (256 * t.val + w.val) (512 * (t.val / 2) + k.val) := by
  have := t.isLt
  rw [maskFull_apply _ _ (by omega) (by omega), sFull_eq, sm, tile_val (by omega)]
  exact if_congr (by omega) rfl rfl

/-- The last tile of an even group: half a tile. -/
theorem half_last (t : Fin 16) (ht : t.val % 2 = 0) (k : Fin 256) (w : Fin 256) :
    maskHalf (BitVec.ofNat 32 (512 * (t.val % 4 / 2))) (BitVec.ofNat 32 (256 * (t.val % 4)))
      (sHalf (qB e t) (k1B e (tile (t.val / 2))) (k2B e (tile (t.val / 2)))) (ix2 k w)
      = sm e (256 * t.val + w.val) (512 * (t.val / 2) + k.val) := by
  have := t.isLt
  rw [maskHalf_apply _ _ (by omega) (by omega), sHalf_eq, sm, tile_val (by omega)]
  exact if_congr (by omega) rfl rfl

/-- One step over a whole tile whose scores are those of the next 512 keys. -/
theorem accF_eq (S V : ℕ → EReal) (hS : ∀ k, S k ≠ ⊤) (n : ℕ) (s : FVec Ideal S512x256 .f32) (m : FVec Ideal S1x256 .f32)
    (v : Vec Ideal S1x144x512 .bf16) (a : Vec Ideal S1x144x256 .f32) (r : Fin 144) (w : Fin 256)
    (hs : ∀ k : Fin 512, s (ix2 k w) = S (n + k.val)) (hm : m (ix2 (0 : Fin 1) w) = Softmax.top S n)
    (hv : ∀ k : Fin 512, v (ix3 (0 : Fin 1) r k) = V (n + k.val)) (ha : a (ix3 (0 : Fin 1) r w) = Softmax.acc S V n) :
    accF s m v a (ix3 (0 : Fin 1) r w) = Softmax.acc S V (n + 512) := by
  have hM : newM s m (ix2 (0 : Fin 1) w) = Softmax.top S (n + 512) := by
    rw [newM_apply, Softmax.top_add, hm]
    simp only [hs]
  rw [accF_apply, Softmax.acc_add S V hS, hM, hm, ha]
  simp only [hs, hv]

/-- One step over half a tile. -/
theorem accH_eq (S V : ℕ → EReal) (hS : ∀ k, S k ≠ ⊤) (n : ℕ) (s : FVec Ideal S256x256 .f32) (m : FVec Ideal S1x256 .f32)
    (v : Vec Ideal S1x144x512 .bf16) (a : Vec Ideal S1x144x256 .f32) (r : Fin 144) (w : Fin 256)
    (hs : ∀ k : Fin 256, s (ix2 k w) = S (n + k.val)) (hm : m (ix2 (0 : Fin 1) w) = Softmax.top S n)
    (hv : ∀ k : Fin 512, v (ix3 (0 : Fin 1) r k) = V (n + k.val)) (ha : a (ix3 (0 : Fin 1) r w) = Softmax.acc S V n) :
    accH s m v a (ix3 (0 : Fin 1) r w) = Softmax.acc S V (n + 256) := by
  have hM : newMH s m (ix2 (0 : Fin 1) w) = Softmax.top S (n + 256) := by
    rw [newMH_apply, Softmax.top_add, hm]
    simp only [hs]
  rw [accH_apply, Softmax.acc_add S V hS, hM, hm, ha]
  simp only [hs, hv]

theorem accN_eq (hs : ∀ q k, sm e q k ≠ ⊤) (t : Fin 16) (r : Fin 144) (w : Fin 256) : ∀ n : ℕ, n ≤ t.val / 2 →
    accN e t n (ix3 (0 : Fin 1) r w) = Softmax.acc (sm e (256 * t.val + w.val)) (val e r) (512 * n)
  | 0, _ => by
    show Ideal.ofBits .f32 0x00000000#32 = 0
    simp [Ideal.ofBits, Ideal.ieee]
  | n + 1, hn => by
    have := t.isLt
    rw [accN_succ, stepB, tile_val (by omega), if_pos (by omega), Nat.mul_add]
    refine accF_eq _ _ (hs _) _ _ _ _ _ r w (fun k => full_step e t n (by omega) k w) (mAt_eq e t w n (by omega))
      (fun k => ?_) (accN_eq hs t r w n (by omega))
    rw [vB_apply, tile_val (by omega)]

/-- A group's accumulator at the end of its round is that of all the keys. -/
theorem accN_last (hs : ∀ q k, sm e q k ≠ ⊤) (t : Fin 16) (r : Fin 144) (w : Fin 256) :
    accN e t (t.val / 2 + 1) (ix3 (0 : Fin 1) r w) = Softmax.acc (sm e (256 * t.val + w.val)) (val e r) 4096 := by
  have ht := t.isLt
  have hv : ∀ k : Fin 512, vB e (tile (t.val / 2)) (ix3 (0 : Fin 1) r k) = val e r (512 * (t.val / 2) + k.val) := fun k => by
    rw [vB_apply, tile_val (by omega)]
  rw [accN_succ, stepB, tile_val (by omega), if_neg (by omega)]
  split
  · next h =>
    rw [accH_eq _ _ (hs _) _ _ _ _ _ r w (fun k => half_last e t h k w) (mAt_eq e t w _ le_rfl) hv (accN_eq e hs t r w _ le_rfl)]
    exact (Softmax.acc_ext _ _ (by omega) fun k h1 h2 => if_neg (by omega)).symm
  · next h =>
    rw [accF_eq _ _ (hs _) _ _ _ _ _ r w (fun k => full_last e t h k w) (mAt_eq e t w _ le_rfl) hv (accN_eq e hs t r w _ le_rfl)]
    exact (Softmax.acc_ext _ _ (by omega) fun k h1 h2 => if_neg (by omega)).symm

/-- The attention of a head: what query `q` gets in entry `d`. -/
def att (q : ℕ) (d : Fin 128) : EReal :=
  Ideal.div (Softmax.acc (sm e q) (val e ⟨d.val, by omega⟩) 4096) (Softmax.acc (sm e q) (val e 128) 4096)

/-- The block a grid point leaves. -/
def attB : Vec Ideal S4096x128 .bf16 := fun y => att e (y 0).val (y 1)

/-- What group `t` writes, at an index. -/
theorem outB_eq (hs : ∀ q k, sm e q k ≠ ⊤) (t : Fin 16) (x : S256x128.Idx) :
    outB (accN e t (t.val / 2 + 1)) x = att e (256 * t.val + (x 0).val) (x 1) := by
  obtain ⟨w, d, rfl⟩ : ∃ (w : Fin 256) (d : Fin 128), x = ix2 w d := ⟨x 0, x 1, eq_ix2 x⟩
  rw [outB_apply, accN_last e hs, accN_last e hs]
  rfl

theorem canon_pieces (hs : ∀ q k, sm e q k ≠ ⊤) : View.canon (pieces e) = attB e := by
  funext y
  rw [pieces_eq, ← List.append_nil (List.reverse _)]
  refine View.canon_append_of_pieces (attB e) [] _ ?_ y ?_
  · intro p hp x
    rw [List.mem_reverse, List.mem_ofFn] at hp
    obtain ⟨t, rfl⟩ := hp
    refine (outB_eq e hs t x).trans (congrArg₂ (att e) ?_ (Fin.ext ?_))
    · simp
    · simp
  · have h0 : (y 0).val < 4096 := (y 0).isLt
    have h1 : (y 1).val < 128 := (y 1).isLt
    refine ⟨_, List.mem_reverse.2 (List.mem_ofFn.2 ⟨⟨(y 0).val / 256, by omega⟩, rfl⟩), ?_⟩
    rw [Rect.mem_set_unit]
    intro a
    fin_cases a <;> simp <;> omega

end Cert.KernelIdeal.Tiles

end
-- ==== Proof.Host.lean ====
/- What the arrays the kernel is given hold: the scaled queries with their padding, the two parts of the keys, and the
   transposed values with the rows of ones, each from the program's arguments. -/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.KernelIdeal.Prep

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- The factor of the queries. -/
def fac : EReal := Ideal.div (Ideal.rsqrt (Ideal.ofBits .f32 0x43400000#32)) (Ideal.log (Ideal.ofBits .f32 0x40000000#32))

/-- The padding is zero. -/
theorem pad_zero : FloatOps.sitofp (F := Ideal) .f32 (0#32 : BitVec 32) = (0 : EReal) := by
  show (((0#32 : BitVec 32).toInt : ℝ) : EReal) = 0
  simp

theorem v7_at (b : Fin 4) (q : Fin 4096) (h : Fin 8) (d : Fin 256) :
    @Eq EReal (V m c main_v7 (ix2 (⟨4096 * b.val + q.val, by omega⟩ : Fin 16384) (⟨256 * h.val + d.val, by omega⟩ : Fin 2048)))
      (if hd : d.val < 192 then @HMul.hMul EReal EReal EReal _ (m ((c.tc : Thread nD τ).loc main_arg0) (ix4 b q h (⟨d.val, hd⟩ : Fin 192))) fac else 0) := by
  unfold V
  after_reads_at
  have e1 : (4096 * b.val + q.val) / 4096 = b.val := by omega
  have e2 : (4096 * b.val + q.val) % 4096 = q.val := by omega
  have e3 : (256 * h.val + d.val) / 256 = h.val := by omega
  have e4 : (256 * h.val + d.val) % 256 = d.val := by omega
  simp only [e1, e2, e3, e4, Fin.is_lt, true_and, Fin.eta]
  split
  · rfl
  · exact pad_zero

theorem v9_at (b : Fin 4) (q : Fin 4096) (h : Fin 8) (d : Fin 128) :
    @Eq EReal (V m c main_v9 (ix2 (⟨4096 * b.val + q.val, by omega⟩ : Fin 16384) (⟨128 * h.val + d.val, by omega⟩ : Fin 1024)))
      (m ((c.tc : Thread nD τ).loc main_arg1) (ix4 b q h d)) := by
  unfold V
  after_reads_at
  have e1 : (4096 * b.val + q.val) / 4096 = b.val := by omega
  have e2 : (4096 * b.val + q.val) % 4096 = q.val := by omega
  have e3 : (128 * h.val + d.val) / 128 = h.val := by omega
  have e4 : (128 * h.val + d.val) % 128 = d.val := by omega
  simp only [e1, e2, e3, e4, Fin.eta]

theorem v12_at (b : Fin 4) (q : Fin 4096) (d : Fin 128) :
    @Eq EReal (V m c main_v12 (ix2 (⟨4096 * b.val + q.val, by omega⟩ : Fin 16384) d))
      (if hd : d.val < 64 then (m ((c.tc : Thread nD τ).loc main_arg2) (ix3 b q (⟨d.val, hd⟩ : Fin 64)) : EReal) else 0) := by
  unfold V
  after_reads_at
  have e1 : (4096 * b.val + q.val) / 4096 = b.val := by omega
  have e2 : (4096 * b.val + q.val) % 4096 = q.val := by omega
  simp only [e1, e2, Fin.is_lt, true_and, Fin.eta]
  split
  · rfl
  · exact pad_zero

theorem v18_at (b : Fin 4) (j : Fin 8) (h : Fin 8) (r : Fin 144) (k : Fin 512) :
    @Eq EReal (V m c main_v18 (ix3 (⟨8 * b.val + j.val, by omega⟩ : Fin 32) (⟨144 * h.val + r.val, by omega⟩ : Fin 1152) k))
      (if hr : r.val < 128 then (m ((c.tc : Thread nD τ).loc main_arg3) (ix4 b (⟨512 * j.val + k.val, by omega⟩ : Fin 4096) h (⟨r.val, hr⟩ : Fin 128)) : EReal) else 1) := by
  unfold V
  after_reads_at
  have e3 : (144 * h.val + r.val) / 144 = h.val := by omega
  have e4 : (144 * h.val + r.val) % 144 = r.val := by omega
  simp only [e3, e4, Fin.eta]
  split
  · after_reads_at
    have e1 : (8 * b.val + j.val) / 8 = b.val := by omega
    have e2 : (8 * b.val + j.val) % 8 * 512 + k.val = 512 * j.val + k.val := by omega
    simp only [e1, e2, Fin.eta]
  · after_reads_at

end Cert.KernelIdeal.Prep

end
-- ==== Proof.Array.lean ====
/- The kernel's result array after the launch: each grid point is one batch row and one head, and its block is the
   attention of that head over the point's blocks of the prepared arrays. -/
module

public import proofs.«01_k».proof.Proof.Group
public import proofs.«01_k».proof.Proof.Host
public import proofs.«01_k».proof.Proof.Gen.KernelIdeal.Value
public import Idealize.ShloMosaic.Lib.Pipeline.ValueKit

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- What the body meets at grid point `t`. -/
def env (t : Fin cfg0.N) : Env Ideal where
  arg2 := ms0_0 t
  harg2 := hs0_0 t
  arg3 := ms0_1 t
  harg3 := hs0_1 t
  arg4 := ms0_2 t
  harg4 := hs0_2 t
  arg5 := ms0_3 t
  harg5 := hs0_3 t
  arg7 := scM0_0
  x0 := iblk m c 0 t
  x1 := iblk m c 1 t
  x2 := iblk m c 2 t
  x3 := iblk m c 3 t

/-- The point of batch row `b` and head `h`. -/
def pt (b : Fin 4) (h : Fin 8) : Fin cfg0.N := ⟨8 * b.val + h.val, by have := b.isLt; have := h.isLt; have : cfg0.N = 32 := N_0; omega⟩

/-- The block the body leaves is the attention of its environment. -/
theorem out_env (e : Env Ideal) (hs : ∀ q k, sm e q k ≠ ⊤) (i : grid0.Coords) (arg6 : Memref sig .tc .vmem S4096x128 .bf16)
    (harg6 : arg6.IsWhole) (harg7 : e.arg7.IsWhole) :
    out0_A_4 (F := Ideal) c i e.arg2 e.harg2 e.arg3 e.harg3 e.arg4 e.harg4 e.arg5 e.harg5 arg6 harg6 e.arg7 harg7 e.x0 e.x1 e.x2 e.x3
      = attB e :=
  (View.read_writes_junk_eq_canon _ _).trans
    ((congrArg View.canon (run_pieces (c := c) e i arg6 harg6 harg7)).trans (canon_pieces e hs))

/-- So point `t` leaves the attention of its head. -/
theorem after_eq (t : Fin cfg0.N) (hs : ∀ q k, sm (env m c t) q k ≠ ⊤) :
    (dats m 0 c).after 4 t = attB (env m c t) :=
  (after0_4 m c t).trans (out_env c (env m c t) hs (grid0.coords t) (ms0_4 t) (hs0_4 t) (Memref.isWhole_whole _))

/-- The windows' blocks: point `8 b + h` is at `(b, h)`. -/
theorem index_all : ∀ t : Fin grid0.N,
    win0_0.index t = ![t.val / 8, t.val % 8] ∧ win0_1.index t = ![t.val / 8, t.val % 8] ∧ win0_2.index t = ![t.val / 8, 0]
    ∧ win0_3.index t = ![t.val / 8, t.val % 8, 0] ∧ win0_4.index t = ![t.val / 8, t.val % 8] := by decide +kernel

/-- The result array: at row `4096 b + q` and column `128 h + d` the attention of query `q` by head `h` of batch row `b`. -/
def result : Vec Ideal S16384x1024 .bf16 := fun i =>
  att (env m c (pt ⟨(i 0).val / 4096, by have h : (i 0).val < 16384 := (i 0).isLt; omega⟩ ⟨(i 1).val / 128, by have h : (i 1).val < 1024 := (i 1).isLt; omega⟩)) ((i 0).val % 4096)
    ⟨(i 1).val % 128, Nat.mod_lt _ (by decide)⟩

theorem result_at (t : Fin cfg0.N) (q : Fin 4096) (d : Fin 128) (i : S16384x1024.Idx)
    (h0 : (i 0).val = t.val / 8 * 4096 + q.val) (h1 : (i 1).val = t.val % 8 * 128 + d.val) :
    result m c i = att (env m c t) q.val d := by
  have ht : t = pt ⟨(i 0).val / 4096, by have h : (i 0).val < 16384 := (i 0).isLt; omega⟩ ⟨(i 1).val / 128, by have h : (i 1).val < 1024 := (i 1).isLt; omega⟩ := by
    apply Fin.ext
    show t.val = 8 * ((i 0).val / 4096) + (i 1).val / 128
    omega
  have hq : (i 0).val % 4096 = q.val := by omega
  have hd : (⟨(i 1).val % 128, Nat.mod_lt _ (by decide)⟩ : Fin 128) = d := Fin.ext (by show (i 1).val % 128 = d.val; omega)
  rw [result, ← ht, hq, hd]

theorem arrAt_eq (hs : ∀ t q k, sm (env m c t) q k ≠ ⊤) : (dats m 0 c).arrAt 4 cfg0.N = result m c := by
  refine (dats m 0 c).arrAt_eq_of_covers 4 _ (by decide +kernel) fun t hf y => ?_
  blk_simp [index_all]
  rw [after_eq m c t (hs t)]
  refine (result_at m c t (y 0) (y 1) _ ?_ ?_).symm
  · blk_simp [index_all]
  · blk_simp [index_all]

/-! ## The point's blocks -/

theorem x0_at (b : Fin 4) (h : Fin 8) (q : Fin 4096) (d : Fin 256) :
    (env m c (pt b h)).x0 (ix2 q d)
      = V m c main_v7 (ix2 (⟨4096 * b.val + q.val, by omega⟩ : Fin 16384) (⟨256 * h.val + d.val, by omega⟩ : Fin 2048)) := by
  show iblk m c 0 (pt b h) (ix2 q d) = _
  have hp : (pt b h).val = 8 * b.val + h.val := rfl
  blk_ext [iblk, index_all, hp]

theorem x1_at (b : Fin 4) (h : Fin 8) (q : Fin 4096) (d : Fin 128) :
    (env m c (pt b h)).x1 (ix2 q d)
      = V m c main_v9 (ix2 (⟨4096 * b.val + q.val, by omega⟩ : Fin 16384) (⟨128 * h.val + d.val, by omega⟩ : Fin 1024)) := by
  show iblk m c 1 (pt b h) (ix2 q d) = _
  have hp : (pt b h).val = 8 * b.val + h.val := rfl
  blk_ext [iblk, index_all, hp]

theorem x2_at (b : Fin 4) (h : Fin 8) (q : Fin 4096) (d : Fin 128) :
    (env m c (pt b h)).x2 (ix2 q d) = V m c main_v12 (ix2 (⟨4096 * b.val + q.val, by omega⟩ : Fin 16384) d) := by
  show iblk m c 2 (pt b h) (ix2 q d) = _
  have hp : (pt b h).val = 8 * b.val + h.val := rfl
  blk_ext [iblk, index_all, hp]

theorem x3_at (b : Fin 4) (h : Fin 8) (j : Fin 8) (r : Fin 144) (k : Fin 512) :
    (env m c (pt b h)).x3 (ix3 j r k)
      = V m c main_v18 (ix3 (⟨8 * b.val + j.val, by omega⟩ : Fin 32) (⟨144 * h.val + r.val, by omega⟩ : Fin 1152) k) := by
  show iblk m c 3 (pt b h) (ix3 j r k) = _
  have hp : (pt b h).val = 8 * b.val + h.val := rfl
  blk_ext [iblk, index_all, hp]

end Cert.KernelIdeal.Tiles

end
-- ==== Proof.Equation.lean ====
/- The equation of the two softmaxes: powers of two of scores carried in units of `log 2`, normalised after the sum over
   the values, and exponentials of the plain scores, normalised before it. -/
module

public import proofs.«01_k».proof.Proof.Softmax

@[expose] public section

noncomputable section

namespace Cert.Softmax

open Idealize.ShloMosaic

/-- Scores of the keys up to `q`, the later ones masked. -/
def upTo (q : ℕ) (s : ℕ → ℝ) (k : ℕ) : EReal := if k ≤ q then ((s k : ℝ) : EReal) else ⊥

theorem upTo_ne_top (q : ℕ) (s : ℕ → ℝ) (k : ℕ) : upTo q s k ≠ ⊤ := by
  unfold upTo; split <;> simp

/-- The largest score is that of a key which is not masked. -/
theorem top_upTo (q : ℕ) (s : ℕ → ℝ) {N : ℕ} (hN : 0 < N) :
    ∃ k₀ < N, k₀ ≤ q ∧ (∀ k < N, k ≤ q → s k ≤ s k₀) ∧ top (upTo q s) N = ((s k₀ : ℝ) : EReal) := by
  obtain ⟨k₀, hk₀, he⟩ := Finset.exists_mem_eq_sup (Finset.range N) ⟨0, Finset.mem_range.2 hN⟩ (upTo q s)
  have hq : k₀ ≤ q := by
    by_contra h
    have h0 := le_top (upTo q s) hN
    rw [top, he, upTo, upTo, if_pos (Nat.zero_le _), if_neg h] at h0
    exact absurd h0 (by simp)
  have ht : top (upTo q s) N = ((s k₀ : ℝ) : EReal) := by rw [top, he, upTo, if_pos hq]
  refine ⟨k₀, Finset.mem_range.1 hk₀, hq, fun k hk hkq => ?_, ht⟩
  have h := le_top (upTo q s) hk
  rw [ht, upTo, if_pos hkq] at h
  exact_mod_cast h

/-- The weight of key `k` less the largest score, as a real number. -/
def wt (q : ℕ) (s : ℕ → ℝ) (k₀ k : ℕ) : ℝ := if k ≤ q then (2:ℝ) ^ (s k - s k₀) else 0

theorem wt_nonneg (q : ℕ) (s : ℕ → ℝ) (k₀ k : ℕ) : 0 ≤ wt q s k₀ k := by
  unfold wt; split
  · exact (Real.rpow_pos_of_pos two_pos _).le
  · exact le_rfl

theorem exp2_upTo (q : ℕ) (s : ℕ → ℝ) (k₀ k : ℕ) : Ideal.exp2 (upTo q s k - ((s k₀ : ℝ) : EReal)) = ((wt q s k₀ k : ℝ) : EReal) := by
  unfold upTo wt
  split
  · rw [← EReal.coe_sub, Ideal.exp2_coe]; rfl
  · simp

theorem exp_upTo (q : ℕ) (s : ℕ → ℝ) (k₀ k : ℕ) :
    Ideal.exp (upTo q (fun k => s k * Real.log 2) k - ((s k₀ * Real.log 2 : ℝ) : EReal)) = ((wt q s k₀ k : ℝ) : EReal) := by
  unfold upTo wt
  split
  · rw [← EReal.coe_sub, Ideal.exp_coe, Real.rpow_def_of_pos two_pos]
    congr 2; ring
  · simp

theorem coe_sum {ι : Type} (S : Finset ι) (f : ι → ℝ) : ((∑ k ∈ S, f k : ℝ) : EReal) = ∑ k ∈ S, ((f k : ℝ) : EReal) := by
  classical
  induction S using Finset.induction_on with
  | empty => simp
  | insert i S hi ih => rw [Finset.sum_insert hi, Finset.sum_insert hi, EReal.coe_add, ih]

/-- The equation. -/
theorem normalise (q : ℕ) (s : ℕ → ℝ) (v : ℕ → EReal) {N : ℕ} (hN : 0 < N) :
    Ideal.div (acc (upTo q s) v N) (acc (upTo q s) (fun _ => 1) N) =
      ∑ k ∈ Finset.range N, v k * Ideal.div (Ideal.exp (upTo q (fun k => s k * Real.log 2) k - top (upTo q fun k => s k * Real.log 2) N))
        (∑ k ∈ Finset.range N, Ideal.exp (upTo q (fun k => s k * Real.log 2) k - top (upTo q fun k => s k * Real.log 2) N)) := by
  obtain ⟨k₀, hk₀, hq, hle, ht⟩ := top_upTo q s hN
  have hlog : 0 < Real.log 2 := Real.log_pos one_lt_two
  have ht' : top (upTo q fun k => s k * Real.log 2) N = ((s k₀ * Real.log 2 : ℝ) : EReal) := by
    obtain ⟨k₁, hk₁, hq₁, hle₁, ht₁⟩ := top_upTo q (fun k => s k * Real.log 2) hN
    rw [ht₁]
    congr 1
    exact le_antisymm (mul_le_mul_of_nonneg_right (hle k₁ hk₁ hq₁) hlog.le) (hle₁ k₀ hk₀ hq)
  have hL : 0 < ∑ k ∈ Finset.range N, wt q s k₀ k := by
    refine Finset.sum_pos' (fun k _ => wt_nonneg q s k₀ k) ⟨k₀, Finset.mem_range.2 hk₀, ?_⟩
    rw [wt, if_pos hq, sub_self, Real.rpow_zero]; exact one_pos
  simp only [acc, ht, ht', exp2_upTo, exp_upTo, one_mul, ← coe_sum]
  simp only [Ideal.div_coe hL.ne']
  rw [mul_comm, mul_sum _ (by exact_mod_cast (one_div_pos.2 hL).le) (EReal.coe_ne_top _)]
  exact Finset.sum_congr rfl fun k _ => by rw [mul_comm, mul_assoc]

end Cert.Softmax

end
-- ==== Proof.Ref.lean ====
/- What the reference computes, at an index. -/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Idealize.ShloMosaic.Pointwise

variable (x0 : (⟨S4x4096x8x192, .f32⟩ : BufTy).Contents (Elt Ideal)) (x1 : (⟨S4x4096x8x128, .f32⟩ : BufTy).Contents (Elt Ideal))
  (x2 : (⟨S4x4096x64, .f32⟩ : BufTy).Contents (Elt Ideal)) (x3 : (⟨S4x4096x8x128, .f32⟩ : BufTy).Contents (Elt Ideal))

/-- A key, both parts side by side. -/
def keyR (b : Fin 4) (h : Fin 8) (k : Fin 4096) (d : Fin 192) : EReal :=
  if hd : d.val < 128 then x1 (ix4 b k h (⟨d.val, hd⟩ : Fin 128)) else x2 (ix3 b k (⟨d.val - 128, by omega⟩ : Fin 64))

/-- The causal score of a key for a query. -/
def scoreR (b : Fin 4) (h : Fin 8) (q k : Fin 4096) : EReal :=
  if k.val ≤ q.val then (∑ d : Fin 192, x0 (ix4 b q h d) * keyR x1 x2 b h k d) * Ideal.rsqrt (Ideal.ofBits .f32 0x43400000#32) else ⊥

/-- The weight of a key for a query, not yet normalised. -/
def wR (b : Fin 4) (h : Fin 8) (q k : Fin 4096) : EReal :=
  Ideal.exp (scoreR x0 x1 x2 b h q k - Finset.univ.sup fun k => scoreR x0 x1 x2 b h q k)

theorem v2_at (b : Fin 4) (h : Fin 8) (k : Fin 4096) (d : Fin 192) :
    @Eq EReal (val_main_v2 (F := Ideal) x1 x2 (ix4 b k h d)) (keyR x1 x2 b h k d) := by
  pointwise [val_main_v2, val_main_v1, val_main_v0]
  rfl

theorem v3_at (b : Fin 4) (h : Fin 8) (q k : Fin 4096) :
    @Eq EReal (val_main_v3 (F := Ideal) x0 x1 x2 (ix4 b h q k)) (∑ d : Fin 192, x0 (ix4 b q h d) * keyR x1 x2 b h k d) := by
  rw [val_main_v3_apply]
  refine Finset.sum_congr rfl fun d _ => ?_
  rw [show ridx_main_v3 (ix4 b h q k) d = ix4 b k h d from eq_ix4 _, show lidx_main_v3 (ix4 b h q k) d = ix4 b q h d from eq_ix4 _]
  exact congrArg _ (v2_at x1 x2 b h k d)

/-- The reference's comparison of positions. -/
theorem ge_words {x y : ℕ} (hx : x < 4096) (hy : y < 4096) :
    IntOp.cmpi .sge (BitVec.ofNat 32 x) (BitVec.ofNat 32 y) = 1#1 ↔ y ≤ x := by
  rw [IntOp.cmpi_sge, BitVec.toInt_eq_toNat_of_lt (by simp; omega), BitVec.toInt_eq_toNat_of_lt (by simp; omega)]
  simp
  omega

theorem low : Ideal.ofBits .f32 0xFF800000#32 = ⊥ := by simp [Ideal.ofBits, Ideal.ieee]

theorem v14_at (b : Fin 4) (h : Fin 8) (q k : Fin 4096) :
    @Eq EReal (val_main_v14 (F := Ideal) x0 x1 x2 (ix4 b h q k)) (scoreR x0 x1 x2 b h q k) := by
  pointwise [val_main_v14, val_main_call0_v1, val_main_v13, val_main_v12, val_main_v11, val_main_v10, val_main_v9, val_main_v8, val_main_v7, val_main_v6, val_main_v5, val_main_v4, val_main_cst, val_main_call0_v2, val_main_call0_v0, val_main_cst_0]
  rw [Scalar.select, scoreR]
  exact if_congr (ge_words q.isLt k.isLt) (congrArg (· * _) (v3_at x0 x1 x2 b h q k)) low

theorem max_at (y : FVec Ideal S4x8x4096x4096 .f32) (b : Fin 4) (h : Fin 8) (q : Fin 4096) :
    @Eq EReal (Host.reduce (FloatOps.maximumf (F := Ideal) (φ := .f32)) y (constant (F := Ideal) S_ .f32 0xFF800000#32) reducesTo_S4x8x4096x4096_S4x8x4096_d3 h_S_ (ix3 b h q))
      (Finset.univ.sup fun k : Fin 4096 => (y (ix4 b h q k) : EReal)) := by
  pointwise
  rw [low]
  rfl

theorem v17_at (b : Fin 4) (h : Fin 8) (q : Fin 4096) :
    @Eq EReal (val_main_v17 (F := Ideal) x0 x1 x2 (ix3 b h q)) (Finset.univ.sup fun k => scoreR x0 x1 x2 b h q k) := by
  have h1 : @Eq EReal (val_main_v15 (F := Ideal) x0 x1 x2 (ix3 b h q)) (Finset.univ.sup fun k => scoreR x0 x1 x2 b h q k) :=
    (max_at _ b h q).trans (congrArg _ (funext fun k => v14_at x0 x1 x2 b h q k))
  have h2 : @Eq EReal (val_main_v16 (F := Ideal) (ix3 b h q)) ⊥ := by rw [val_main_v16_apply]; exact low
  rw [val_main_v17_apply]
  show max _ _ = _
  rw [h1, h2]
  exact max_eq_right bot_le

theorem v21_at (b : Fin 4) (h : Fin 8) (q k : Fin 4096) :
    @Eq EReal (val_main_v21 (F := Ideal) x0 x1 x2 (ix4 b h q k)) (wR x0 x1 x2 b h q k) := by
  rw [val_main_v21_apply, val_main_v20_apply, val_main_v19_apply, val_main_v18_apply,
    show idx_main_v18 (idx_main_v19 (ix4 b h q k)) = ix3 b h q from eq_ix3 _]
  exact congrArg Ideal.exp (congrArg₂ (· - ·) (v14_at x0 x1 x2 b h q k) (v17_at x0 x1 x2 b h q))

theorem v25_at (b : Fin 4) (h : Fin 8) (q k : Fin 4096) :
    @Eq EReal (val_main_v25 (F := Ideal) x0 x1 x2 (ix4 b h q k)) (Ideal.div (wR x0 x1 x2 b h q k) (∑ k, wR x0 x1 x2 b h q k)) := by
  rw [val_main_v25_apply, val_main_v24_apply, val_main_v23_apply, val_main_v22_apply]
  refine congrArg₂ Ideal.div (v21_at x0 x1 x2 b h q k) ?_
  have h0 : @Eq EReal (val_main_cst_3 (F := Ideal) (Shape.Idx.first h_S_)) 0 := by
    rw [val_main_cst_3_apply]; show Ideal.ofBits .f32 0x00000000#32 = 0; simp [Ideal.ofBits, Ideal.ieee]
  refine (congrArg₂ (· + ·) h0 (Finset.sum_congr rfl fun k' _ => ?_)).trans (zero_add _)
  rw [show idx_main_v22 (idx_main_v23 (idx_main_v24 (ix4 b h q k))) k' = ix4 b h q k' from eq_ix4 _]
  exact v21_at x0 x1 x2 b h q k'

theorem v29_at (b : Fin 4) (h : Fin 8) (q : Fin 4096) (d : Fin 128) :
    @Eq EReal (val_main_v29 (F := Ideal) x0 x1 x2 x3 (ix2 (⟨4096 * b.val + q.val, by omega⟩ : Fin 16384) (⟨128 * h.val + d.val, by omega⟩ : Fin 1024)))
      (∑ k : Fin 4096, x3 (ix4 b k h d) * Ideal.div (wR x0 x1 x2 b h q k) (∑ k, wR x0 x1 x2 b h q k)) := by
  rw [val_main_v29_apply, val_main_v28_apply, val_main_v27_apply, val_main_v26_apply]
  refine Finset.sum_congr rfl fun k _ => ?_
  have e : idx_main_v28 (ix2 (⟨4096 * b.val + q.val, by omega⟩ : Fin 16384) (⟨128 * h.val + d.val, by omega⟩ : Fin 1024)) = ix4 b q h d := by
    have hb := b.isLt; have hq := q.isLt; have hh := h.isLt; have hd := d.isLt
    funext a
    match a with
    | ⟨0, _⟩ | ⟨1, _⟩ | ⟨2, _⟩ | ⟨3, _⟩ => exact Fin.ext (by simp [ix2, ix4]; omega)
  rw [e, show lidx_main_v26 (idx_main_v27 (ix4 b q h d)) k = ix4 b k h d from eq_ix4 _,
    show ridx_main_v26 (idx_main_v27 (ix4 b q h d)) k = ix4 b h q k from eq_ix4 _]
  exact congrArg _ (v25_at x0 x1 x2 b h q k)

end Cert.ReferenceIdeal.Attn

end
-- ==== Proof.Final.lean ====
/- The two results are equal: the kernel's attention of real scores is the reference's softmax. -/
module

public import proofs.«01_k».proof.Proof.Array
public import proofs.«01_k».proof.Proof.Equation
public import proofs.«01_k».proof.Proof.Ref

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pointwise

/-! ## The two constants -/

/-- One over the square root of a head's width. -/
def rho : ℝ := (Real.sqrt 192)⁻¹

theorem rsqrt_const : Ideal.rsqrt (Ideal.ofBits .f32 0x43400000#32) = ((rho : ℝ) : EReal) := by
  have e : Ideal.ofBits .f32 0x43400000#32 = ((192 : ℝ) : EReal) := by
    simp [Ideal.ofBits, Ideal.ieee, -EReal.coe_mul]; norm_num
  rw [e]
  simp [rho]

theorem fac_eq : Prep.fac = ((rho / Real.log 2 : ℝ) : EReal) := by
  have e : Ideal.ofBits .f32 0x40000000#32 = ((2 : ℝ) : EReal) := by
    simp [Ideal.ofBits, Ideal.ieee, -EReal.coe_mul]; norm_num
  have hl : Ideal.log ((2 : ℝ) : EReal) = ((Real.log 2 : ℝ) : EReal) := by simp
  have h0 : Real.log 2 ≠ 0 := (Real.log_pos one_lt_two).ne'
  rw [Prep.fac, rsqrt_const, e, hl, Ideal.div_coe h0, ← EReal.coe_mul]
  congr 1
  ring

/-! ## The kernel's scores -/

variable (m : (ℓ : Loc nD τ sig) → Buf (Elt Ideal) ℓ) (c : Dev nD)
variable (qr : S4x4096x8x192.Idx → ℝ) (nr : S4x4096x8x128.Idx → ℝ) (pr : S4x4096x64.Idx → ℝ)

/-- Entry `d` of a key. -/
def kr (b : Fin 4) (h : Fin 8) (k : Fin 4096) (d : Fin 192) : ℝ :=
  if hd : d.val < 128 then nr (ix4 b k h (⟨d.val, hd⟩ : Fin 128)) else pr (ix3 b k (⟨d.val - 128, by omega⟩ : Fin 64))

/-- The product of a query and a key. -/
def dotp (b : Fin 4) (h : Fin 8) (q k : Fin 4096) : ℝ := ∑ d : Fin 192, qr (ix4 b q h d) * kr nr pr b h k d

section
variable (hq : ∀ i, @Eq EReal (m ((c.tc : Thread nD τ).loc main_arg0) i) (qr i : ℝ))
  (hn : ∀ i, @Eq EReal (m ((c.tc : Thread nD τ).loc main_arg1) i) (nr i : ℝ))
  (hp : ∀ i, @Eq EReal (m ((c.tc : Thread nD τ).loc main_arg2) i) (pr i : ℝ))
include hq hn hp

theorem x0_low (b : Fin 4) (h : Fin 8) (q : Fin 4096) (d : Fin 256) (hd : d.val < 192) :
    @Eq EReal ((env m c (pt b h)).x0 (ix2 q d)) ((qr (ix4 b q h (⟨d.val, hd⟩ : Fin 192)) * (rho / Real.log 2) : ℝ)) := by
  refine (x0_at m c b h q d).trans ((Prep.v7_at m c b q h d).trans ?_)
  rw [dif_pos hd, hq, fac_eq, ← EReal.coe_mul]

theorem x0_high (b : Fin 4) (h : Fin 8) (q : Fin 4096) (d : Fin 256) (hd : ¬ d.val < 192) :
    @Eq EReal ((env m c (pt b h)).x0 (ix2 q d)) 0 := by
  refine (x0_at m c b h q d).trans ((Prep.v7_at m c b q h d).trans ?_)
  rw [dif_neg hd]

theorem key_low (b : Fin 4) (h : Fin 8) (k : ℕ) (d : Fin 256) (hd : d.val < 192) :
    key (env m c (pt b h)) k d = ((kr nr pr b h (row k) ⟨d.val, hd⟩ : ℝ) : EReal) := by
  unfold key kr
  by_cases h1 : d.val < 128
  · rw [dif_pos h1, dif_pos h1]
    exact (x1_at m c b h (row k) ⟨d.val, h1⟩).trans ((Prep.v9_at m c b (row k) h ⟨d.val, h1⟩).trans (hn _))
  · rw [dif_neg h1, dif_neg h1]
    refine (x2_at m c b h (row k) ⟨d.val - 128, _⟩).trans ((Prep.v12_at m c b (row k) ⟨d.val - 128, _⟩).trans ?_)
    have h2 : d.val - 128 < 64 := by omega
    exact (dif_pos h2).trans (hp _)

theorem score_eq (b : Fin 4) (h : Fin 8) (q k : ℕ) :
    score (env m c (pt b h)) q k = ((dotp qr nr pr b h (row q) (row k) * (rho / Real.log 2) : ℝ) : EReal) := by
  unfold score
  rw [show (∑ d : Fin 256, key (env m c (pt b h)) k d * (env m c (pt b h)).x0 (ix2 (row q) d))
      = (∑ d : Fin (192 + 64), key (env m c (pt b h)) k d * (env m c (pt b h)).x0 (ix2 (row q) d) : EReal) from rfl, Fin.sum_univ_add]
  have hz : (∑ i : Fin 64, key (env m c (pt b h)) k (Fin.natAdd 192 i) * (env m c (pt b h)).x0 (ix2 (row q) (Fin.natAdd 192 i)) : EReal) = 0 :=
    Finset.sum_eq_zero fun i _ => by
      rw [x0_high m c qr nr pr hq hn hp b h (row q) (Fin.natAdd 192 i) (by simp), mul_zero]
  rw [hz, add_zero, dotp, Finset.sum_mul, Softmax.coe_sum]
  refine Finset.sum_congr rfl fun i _ => ?_
  rw [x0_low m c qr nr pr hq hn hp b h (row q) (Fin.castAdd 64 i) i.isLt, key_low m c qr nr pr hq hn hp b h k (Fin.castAdd 64 i) i.isLt,
    ← EReal.coe_mul]
  congr 1
  show kr nr pr b h (row k) i * (qr (ix4 b (row q) h i) * (rho / Real.log 2)) = qr (ix4 b (row q) h i) * kr nr pr b h (row k) i * (rho / Real.log 2)
  ring

theorem sm_eq (b : Fin 4) (h : Fin 8) (q : ℕ) :
    sm (env m c (pt b h)) q = Softmax.upTo q fun k => dotp qr nr pr b h (row q) (row k) * (rho / Real.log 2) := by
  funext k
  rw [sm, score_eq m c qr nr pr hq hn hp]
  rfl

theorem sm_ne_top (t : Fin cfg0.N) (q k : ℕ) : sm (env m c t) q k ≠ ⊤ := by
  have hN : cfg0.N = 32 := N_0
  have ht := t.isLt
  have e : t = pt ⟨t.val / 8, by omega⟩ ⟨t.val % 8, by omega⟩ := Fin.ext (by show t.val = 8 * (t.val / 8) + t.val % 8; omega)
  rw [e, sm_eq m c qr nr pr hq hn hp]
  exact Softmax.upTo_ne_top _ _ _

end

/-! ## The kernel's values -/

theorem val_low (b : Fin 4) (h : Fin 8) (d : Fin 128) (k : ℕ) :
    val (env m c (pt b h)) ⟨d.val, by omega⟩ k = (m ((c.tc : Thread nD τ).loc main_arg3) (ix4 b (row k) h d) : EReal) := by
  unfold val
  refine (x3_at m c b h (tile (k / 512)) ⟨d.val, _⟩ ⟨k % 512, _⟩).trans
    ((Prep.v18_at m c b (tile (k / 512)) h ⟨d.val, _⟩ ⟨k % 512, _⟩).trans ?_)
  refine (dif_pos d.isLt).trans ?_
  congr 2
  apply Fin.ext
  show 512 * (k / 512 % 8) + k % 512 = k % 4096
  omega

theorem val_ones (b : Fin 4) (h : Fin 8) : val (env m c (pt b h)) 128 = fun _ => 1 := by
  funext k
  unfold val
  refine (x3_at m c b h (tile (k / 512)) 128 ⟨k % 512, _⟩).trans
    ((Prep.v18_at m c b (tile (k / 512)) h 128 ⟨k % 512, _⟩).trans ?_)
  exact dif_neg (by decide)

theorem row_val (k : Fin 4096) : row k.val = k := Fin.ext (Nat.mod_eq_of_lt k.isLt)

end Cert.KernelIdeal.Tiles

namespace Cert.ReferenceIdeal.Attn

open Cert.ReferenceIdeal Idealize.ShloMosaic Idealize.ShloMosaic.Pointwise
open Cert.KernelIdeal.Tiles (rho kr dotp row)

variable (x0 : (⟨S4x4096x8x192, .f32⟩ : BufTy).Contents (Elt Ideal)) (x1 : (⟨S4x4096x8x128, .f32⟩ : BufTy).Contents (Elt Ideal))
  (x2 : (⟨S4x4096x64, .f32⟩ : BufTy).Contents (Elt Ideal))
variable (qr : S4x4096x8x192.Idx → ℝ) (nr : S4x4096x8x128.Idx → ℝ) (pr : S4x4096x64.Idx → ℝ)
  (hq : ∀ i, @Eq EReal (x0 i) (qr i : ℝ)) (hn : ∀ i, @Eq EReal (x1 i) (nr i : ℝ)) (hp : ∀ i, @Eq EReal (x2 i) (pr i : ℝ))
include hq hn hp

theorem keyR_eq (b : Fin 4) (h : Fin 8) (k : Fin 4096) (d : Fin 192) : keyR x1 x2 b h k d = ((kr nr pr b h k d : ℝ) : EReal) := by
  unfold keyR kr
  split
  · exact hn _
  · exact hp _

theorem scoreR_eq (b : Fin 4) (h : Fin 8) (q k : Fin 4096) :
    scoreR x0 x1 x2 b h q k
      = Softmax.upTo q.val (fun k => dotp qr nr pr b h (row q.val) (row k) * (rho / Real.log 2) * Real.log 2) k.val := by
  have h0 : Real.log 2 ≠ 0 := (Real.log_pos one_lt_two).ne'
  unfold scoreR Softmax.upTo
  congr 1
  beta_reduce
  rw [Cert.KernelIdeal.Tiles.rsqrt_const, Cert.KernelIdeal.Tiles.row_val, Cert.KernelIdeal.Tiles.row_val]
  have e : (∑ d : Fin 192, x0 (ix4 b q h d) * keyR x1 x2 b h k d : EReal) = ((dotp qr nr pr b h q k : ℝ) : EReal) := by
    rw [dotp, Softmax.coe_sum]
    exact Finset.sum_congr rfl fun d _ => by rw [hq, keyR_eq x0 x1 x2 qr nr pr hq hn hp, ← EReal.coe_mul]
  rw [e, ← EReal.coe_mul]
  congr 1
  field_simp

omit hq hn hp in
/-- A maximum over the first `N` numbers is one over `Fin N`. -/
theorem top_fin (s : ℕ → EReal) (N : ℕ) : Softmax.top s N = Finset.univ.sup fun k : Fin N => s k.val := by
  apply le_antisymm
  · exact Finset.sup_le fun k hk => Finset.le_sup (f := fun k : Fin N => s k.val) (Finset.mem_univ ⟨k, Finset.mem_range.1 hk⟩)
  · exact Finset.sup_le fun k _ => Softmax.le_top s k.isLt

/-- The reference's weights, by the scores counted from zero. -/
theorem wR_eq (b : Fin 4) (h : Fin 8) (q k : Fin 4096) :
    wR x0 x1 x2 b h q k
      = Ideal.exp (Softmax.upTo q.val (fun k => dotp qr nr pr b h (row q.val) (row k) * (rho / Real.log 2) * Real.log 2) k.val
        - Softmax.top (Softmax.upTo q.val fun k => dotp qr nr pr b h (row q.val) (row k) * (rho / Real.log 2) * Real.log 2) 4096) := by
  rw [wR, top_fin, scoreR_eq x0 x1 x2 qr nr pr hq hn hp]
  congr 2
  exact Finset.sup_congr rfl fun k _ => scoreR_eq x0 x1 x2 qr nr pr hq hn hp b h q k

end Cert.ReferenceIdeal.Attn

namespace Cert.KernelIdeal.Tiles

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)
variable (qr : S4x4096x8x192.Idx → ℝ) (nr : S4x4096x8x128.Idx → ℝ) (pr : S4x4096x64.Idx → ℝ)
variable (hq : ∀ i, @Eq EReal (m ((c.tc : Thread nD τ).loc main_arg0) i) (qr i : ℝ))
  (hn : ∀ i, @Eq EReal (m ((c.tc : Thread nD τ).loc main_arg1) i) (nr i : ℝ))
  (hp : ∀ i, @Eq EReal (m ((c.tc : Thread nD τ).loc main_arg2) i) (pr i : ℝ))
include hq hn hp

/-- The kernel's attention of one query is the reference's. -/
theorem att_eq (b : Fin 4) (h : Fin 8) (q : Fin 4096) (d : Fin 128) :
    att (env m c (pt b h)) q.val d
      = (∑ k : Fin 4096, @HMul.hMul EReal EReal EReal _ (m ((c.tc : Thread nD τ).loc main_arg3) (ix4 b k h d))
          (Ideal.div (Cert.ReferenceIdeal.Attn.wR (m ((c.tc : Thread nD τ).loc main_arg0)) (m ((c.tc : Thread nD τ).loc main_arg1)) (m ((c.tc : Thread nD τ).loc main_arg2)) b h q k)
            (∑ k, Cert.ReferenceIdeal.Attn.wR (m ((c.tc : Thread nD τ).loc main_arg0)) (m ((c.tc : Thread nD τ).loc main_arg1)) (m ((c.tc : Thread nD τ).loc main_arg2)) b h q k)) : EReal) := by
  rw [att, sm_eq m c qr nr pr hq hn hp, val_ones, Softmax.normalise _ _ _ (by decide), Finset.sum_range, Finset.sum_range]
  simp only [Cert.ReferenceIdeal.Attn.wR_eq _ _ _ qr nr pr hq hn hp]
  refine Finset.sum_congr rfl fun k _ => ?_
  rw [val_low m c b h d k.val, row_val]

/-- The kernel's result array is the reference's. -/
theorem result_eq :
    result m c = Cert.ReferenceIdeal.Read.val_main_v29 (F := Ideal) (m ((c.tc : Thread nD τ).loc main_arg0)) (m ((c.tc : Thread nD τ).loc main_arg1))
      (m ((c.tc : Thread nD τ).loc main_arg2)) (m ((c.tc : Thread nD τ).loc main_arg3)) := by
  funext i
  have h0 : (i 0).val < 16384 := (i 0).isLt
  have h1 : (i 1).val < 1024 := (i 1).isLt
  obtain ⟨b, hb⟩ : ∃ b : Fin 4, b.val = (i 0).val / 4096 := ⟨⟨(i 0).val / 4096, by omega⟩, rfl⟩
  obtain ⟨q, hq'⟩ : ∃ q : Fin 4096, q.val = (i 0).val % 4096 := ⟨⟨(i 0).val % 4096, by omega⟩, rfl⟩
  obtain ⟨h, hh⟩ : ∃ h : Fin 8, h.val = (i 1).val / 128 := ⟨⟨(i 1).val / 128, by omega⟩, rfl⟩
  obtain ⟨d, hd⟩ : ∃ d : Fin 128, d.val = (i 1).val % 128 := ⟨⟨(i 1).val % 128, by omega⟩, rfl⟩
  have hi : i = ix2 (⟨4096 * b.val + q.val, by omega⟩ : Fin 16384) (⟨128 * h.val + d.val, by omega⟩ : Fin 1024) := by
    funext a
    fin_cases a <;> apply Fin.ext
    · show (i 0).val = 4096 * b.val + q.val
      omega
    · show (i 1).val = 128 * h.val + d.val
      omega
  have hpt : (pt b h).val = 8 * b.val + h.val := rfl
  refine (result_at m c (pt b h) q d i (by omega) (by omega)).trans ?_
  rw [att_eq m c qr nr pr hq hn hp, hi]
  exact (Cert.ReferenceIdeal.Attn.v29_at _ _ _ _ b h q d).symm

end Cert.KernelIdeal.Tiles

end
-- ==== Proof.ProjPre.lean ====
/- What the projection's precondition says: the input and the weight are real numbers. -/
module

public import proofs.«01_k».proof.Pre_finite2
public import proofs.«01_k».proof.Proof.Pre

@[expose] public section

set_option maxRecDepth 16384

noncomputable section

namespace Cert.Pre_finite2

open Idealize.ShloMosaic

instance facts : Facts where
  bcast_S_S4x4096x1024 := by decide
  reducesTo_S4x4096x1024_S_d0_1_2 := by decide
  h_S_ := by decide
  bcast_S_S1024x6848 := by decide
  reducesTo_S1024x6848_S_d0_1 := by decide

theorem real_of (a0 : FVec Ideal S4x4096x1024 .f32) (a1 : FVec Ideal S1024x6848 .f32) (h : fn (F := Ideal) a0 a1 = fun _ => 1#1) :
    (∀ i, ∃ r : ℝ, @Eq EReal (a0 i) r) ∧ (∀ i, ∃ r : ℝ, @Eq EReal (a1 i) r) := by
  have e := congrFun h (fun k => k.elim0 : S_.Idx)
  obtain ⟨e0, e1⟩ := Cert.Pre_finite.and_one _ _ e
  exact ⟨Cert.Pre_finite.real_of_all a0 Facts.bcast_S_S4x4096x1024 Facts.reducesTo_S4x4096x1024_S_d0_1_2 Facts.h_S_ (fun k => k.elim0) e0,
    Cert.Pre_finite.real_of_all a1 Facts.bcast_S_S1024x6848 Facts.reducesTo_S1024x6848_S_d0_1 Facts.h_S_ (fun k => k.elim0) e1⟩

end Cert.Pre_finite2

end
-- ==== Proof.ProjBlock.lean ====
/- The input projection: what the body leaves in a block, and the result array after the launch. -/
module

public import proofs.«01_k».proof.Proof.Gen.Kernel2Ideal.Value
public import Idealize.ShloMosaic.Lib.Pointwise
public import Idealize.ShloMosaic.Lib.Pipeline.ReadBack
public import Idealize.ShloMosaic.Lib.Pipeline.CanonAppend
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline Idealize.ShloMosaic.Pointwise

/-- One store's payload: the rows of the input against 768 rows of weights. -/
theorem pay_at (x : Vec Ideal S512x1024 .f32) (w : Vec Ideal S768x1024 .bf16) (r : Fin 512) (n : Fin 768) :
    @Eq EReal (k0_pay6 (F := Ideal) x w (ix2 r n)) (∑ k : Fin 1024, @HMul.hMul EReal EReal EReal _ (x (ix2 r k)) (w (ix2 n k))) := by
  pointwise [k0_pay6, k0_pay5]

/-- Weight row `n` of the block's product: the wide weights, then the latent ones. -/
def wrow (x1 : Vec Ideal S6144x1024 .bf16) (x2 : Vec Ideal S768x1024 .bf16) (n : Fin 6912) (k : Fin 1024) : EReal :=
  if h : n.val < 6144 then x1 (ix2 (⟨n.val, h⟩ : Fin 6144) k) else x2 (ix2 (⟨n.val - 6144, by omega⟩ : Fin 768) k)

/-- The block: every row of the input against every row of the weights. -/
def blockP (x0 : Vec Ideal S512x1024 .f32) (x1 : Vec Ideal S6144x1024 .bf16) (x2 : Vec Ideal S768x1024 .bf16) : Vec Ideal S512x6912 .bf16 := fun y =>
  (∑ k : Fin 1024, @HMul.hMul EReal EReal EReal _ (x0 (ix2 (y 0) k)) (wrow x1 x2 (y 1) k) : EReal)

variable (x0 : Vec Ideal S512x1024 .f32) (x1 : Vec Ideal S6144x1024 .bf16) (x2 : Vec Ideal S768x1024 .bf16)

/-- A store at column `o` of the product with 768 weight rows is a piece of the block. -/
theorem piece_eq (o : ℕ) (ho : o + 768 ≤ 6912) (w : Vec Ideal S768x1024 .bf16) (hw : ∀ (n : Fin 768) (k : Fin 1024), @Eq EReal (w (ix2 n k)) (wrow x1 x2 ⟨o + n.val, by omega⟩ k))
    (hb : ∀ a : Fin 2, (![0, o] : Fin 2 → ℕ) a + S512x768.size a ≤ S512x6912.size a) (x : S512x768.Idx) :
    @Eq EReal (k0_pay6 (F := Ideal) x0 w x) (blockP x0 x1 x2 ((Rect.unit (s := S512x6912) ![0, o] S512x768.size hb).emb x)) := by
  obtain ⟨r, n, rfl⟩ : ∃ (r : Fin 512) (n : Fin 768), x = ix2 r n := ⟨x 0, x 1, eq_ix2 x⟩
  rw [pay_at]
  unfold blockP
  refine Finset.sum_congr rfl fun k _ => ?_
  rw [hw]
  congr 2
  · congr 1
    apply Fin.ext
    simp
  · apply Fin.ext
    simp

/-- Rows `o ..` of the wide weights. -/
theorem ld_wide (o : ℕ) (ho : o + 768 ≤ 6144) (hb : ∀ a : Fin 2, (![o, 0] : Fin 2 → ℕ) a + S768x1024.size a ≤ S6144x1024.size a)
    (n : Fin 768) (k : Fin 1024) :
    @Eq EReal (View.ld x1 (Rect.unit (s := S6144x1024) ![o, 0] S768x1024.size hb) (ix2 n k)) (wrow x1 x2 ⟨o + n.val, by omega⟩ k) := by
  unfold wrow
  rw [dif_pos (show o + n.val < 6144 by omega)]
  show x1 _ = x1 _
  congr 1
  funext a
  fin_cases a <;> apply Fin.ext <;> simp [ix2]

theorem ld_whole (n : Fin 768) (k : Fin 1024) :
    @Eq EReal (View.ld x2 r0_17 (ix2 n k)) (wrow x1 x2 ⟨6144 + n.val, by omega⟩ k) := by
  unfold wrow
  rw [dif_neg (show ¬ 6144 + n.val < 6144 by omega)]
  show x2 _ = x2 _
  congr 1
  funext a
  fin_cases a <;> apply Fin.ext <;> simp [ix2]

theorem ld_x : View.ld x0 r0_0 = x0 := by
  funext y
  show x0 _ = x0 _
  congr 1
  funext a
  fin_cases a <;> apply Fin.ext <;> simp

/-- What the body leaves in the block. -/
theorem out_eq : out0_3 x0 x1 x2 = blockP x0 x1 x2 := by
  funext y
  unfold out0_3 k0_pay11
  rw [ld_x, ← List.append_nil (_ :: _)]
  refine View.canon_append_of_pieces (blockP x0 x1 x2) [] _ ?_ y (cover0_3 _ _ _ _ _ _ _ _ _ y)
  intro p hp x
  simp only [List.mem_cons, List.not_mem_nil, or_false] at hp
  rcases hp with rfl | rfl | rfl | rfl | rfl | rfl | rfl | rfl | rfl
  · exact piece_eq x0 x1 x2 6144 (by decide) _ (ld_whole x1 x2) inb_S512x6912_S512x768_0_6144 x
  · exact piece_eq x0 x1 x2 5376 (by decide) _ (ld_wide x1 x2 5376 (by decide) inb_S6144x1024_S768x1024_5376_0) inb_S512x6912_S512x768_0_5376 x
  · exact piece_eq x0 x1 x2 4608 (by decide) _ (ld_wide x1 x2 4608 (by decide) inb_S6144x1024_S768x1024_4608_0) inb_S512x6912_S512x768_0_4608 x
  · exact piece_eq x0 x1 x2 3840 (by decide) _ (ld_wide x1 x2 3840 (by decide) inb_S6144x1024_S768x1024_3840_0) inb_S512x6912_S512x768_0_3840 x
  · exact piece_eq x0 x1 x2 3072 (by decide) _ (ld_wide x1 x2 3072 (by decide) inb_S6144x1024_S768x1024_3072_0) inb_S512x6912_S512x768_0_3072 x
  · exact piece_eq x0 x1 x2 2304 (by decide) _ (ld_wide x1 x2 2304 (by decide) inb_S6144x1024_S768x1024_2304_0) inb_S512x6912_S512x768_0_2304 x
  · exact piece_eq x0 x1 x2 1536 (by decide) _ (ld_wide x1 x2 1536 (by decide) inb_S6144x1024_S768x1024_1536_0) inb_S512x6912_S512x768_0_1536 x
  · exact piece_eq x0 x1 x2 768 (by decide) _ (ld_wide x1 x2 768 (by decide) inb_S6144x1024_S768x1024_768_0) inb_S512x6912_S512x768_0_768 x
  · exact piece_eq x0 x1 x2 0 (by decide) _ (ld_wide x1 x2 0 (by decide) inb_S6144x1024_S768x1024_0_0) inb_S512x6912_S512x768_0_0 x

/-! ## The result array -/

variable (m : (ℓ : Loc nD τ sig) → Buf (Elt Ideal) ℓ) (c : Dev nD)

theorem index_all : ∀ t : Fin grid0.N,
    win0_0.index t = ![t.val, 0] ∧ win0_1.index t = ![0, 0] ∧ win0_2.index t = ![0, 0] ∧ win0_3.index t = ![t.val, 0] := by decide +kernel

theorem x0_at (t : Fin cfg0.N) (r : Fin 512) (k : Fin 1024) (i : Fin 16384) (hi : i.val = t.val * 512 + r.val) :
    iblk m c 0 t (ix2 r k) = V m c main_v0 (ix2 i k) := by
  blk_ext [iblk, index_all, hi]

theorem x1_at (t : Fin cfg0.N) (n : Fin 6144) (k : Fin 1024) : iblk m c 1 t (ix2 n k) = V m c main_v8 (ix2 n k) := by
  blk_ext [iblk, index_all]

theorem x2_at (t : Fin cfg0.N) (n : Fin 768) (k : Fin 1024) : iblk m c 2 t (ix2 n k) = V m c main_v9 (ix2 n k) := by
  blk_ext [iblk, index_all]

/-- The result array: every row of the input against every row of the weights. -/
def result : Vec Ideal S16384x6912 .bf16 := fun i =>
  (∑ k : Fin 1024, @HMul.hMul EReal EReal EReal _ (V m c main_v0 (ix2 (i 0) k)) (wrow (V m c main_v8) (V m c main_v9) (i 1) k) : EReal)

theorem block_at (t : Fin cfg0.N) (y : S512x6912.Idx) (i : S16384x6912.Idx) (h0 : (i 0).val = t.val * 512 + (y 0).val) (h1 : (i 1).val = (y 1).val) :
    blockP (iblk m c 0 t) (iblk m c 1 t) (iblk m c 2 t) y = result m c i := by
  have e1 : i 1 = y 1 := Fin.ext h1
  unfold blockP result
  refine Finset.sum_congr rfl fun k _ => ?_
  rw [x0_at m c t (y 0) k (i 0) h0, e1]
  have ew : wrow (iblk m c 1 t) (iblk m c 2 t) (y 1) k = wrow (V m c main_v8) (V m c main_v9) (y 1) k := by
    unfold wrow
    split
    · exact x1_at m c t _ k
    · exact x2_at m c t _ k
  rw [ew]

theorem arrAt_eq : (dats m 0 c).arrAt 3 cfg0.N = result m c := by
  refine (dats m 0 c).arrAt_eq_of_covers 3 _ (by decide +kernel) fun t hf y => ?_
  blk_simp [index_all]
  rw [after0_3 m c t, out_eq]
  refine block_at m c t y _ ?_ ?_
  · blk_simp [index_all]
  · blk_simp [index_all]

end Cert.Kernel2Ideal.Proj

end
-- ==== Proof.ProjHost.lean ====
/- The input projection: what the arrays the kernel is given hold, from the input and the weight. -/
module

public import proofs.«01_k».proof.Proof.Gen.Kernel2Ideal.Value
public import Idealize.ShloMosaic.Lib.StableHlo.ReadAt
public import Idealize.ShloMosaic.Lib.Pointwise

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pointwise

variable (m : (ℓ : Loc nD τ sig) → Buf (Elt Ideal) ℓ) (c : Dev nD)

theorem v0_at (b : Fin 4) (q : Fin 4096) (k : Fin 1024) :
    @Eq EReal (V m c main_v0 (ix2 (⟨4096 * b.val + q.val, by omega⟩ : Fin 16384) k)) (m ((c.tc : Thread nD τ).loc main_arg0) (ix3 b q k)) := by
  unfold V
  after_reads_at

/-- The wide weights: the weight's columns from 704 on. -/
theorem v8_at (n : Fin 6144) (k : Fin 1024) :
    @Eq EReal (V m c main_v8 (ix2 n k)) (m ((c.tc : Thread nD τ).loc main_arg1) (ix2 k (⟨704 + n.val, by omega⟩ : Fin 6848))) := by
  unfold V
  after_reads_at

/-- The latent weights: the weight's first 704 columns, then the negated second half of the rotary ones, then the first half. -/
theorem v9_at (n : Fin 768) (k : Fin 1024) :
    @Eq EReal (V m c main_v9 (ix2 n k))
      (if n.val < 704 then m ((c.tc : Thread nD τ).loc main_arg1) (ix2 k (⟨n.val, by omega⟩ : Fin 6848))
        else if n.val < 736 then @Neg.neg EReal _ (m ((c.tc : Thread nD τ).loc main_arg1) (ix2 k (⟨672 + (n.val - 704), by omega⟩ : Fin 6848)))
        else m ((c.tc : Thread nD τ).loc main_arg1) (ix2 k (⟨640 + (n.val - 736), by omega⟩ : Fin 6848))) := by
  unfold V
  after_reads_at
  by_cases h1 : n.val < 704
  · rw [dif_pos h1, if_pos h1]
    after_reads_at
  · rw [dif_neg h1, if_neg h1]
    by_cases h2 : n.val < 736
    · rw [dif_pos (show n.val - 704 < 32 by omega), if_pos h2]
      after_reads_at
    · rw [dif_neg (show ¬ n.val - 704 < 32 by omega), if_neg h2]
      after_reads_at
      have e : 640 + (n.val - 704 - 32) = 640 + (n.val - 736) := by omega
      simp only [e]

end Cert.Kernel2Ideal.Proj

end
-- ==== Proof.ProjRef.lean ====
/- The input projection's reference at an index: one row of the input against one column of the weight, negated on the
   columns of the turned rotary part. -/
module

public import proofs.«01_k».proof.Proof.Gen.Reference2Ideal.Read
public import Idealize.ShloMosaic.Lib.Pointwise

@[expose] public section

set_option maxRecDepth 16384

noncomputable section

namespace Cert.Reference2Ideal.Proj

open Cert.Reference2Ideal Cert.Reference2Ideal.Gen Cert.Reference2Ideal.Read Idealize.ShloMosaic Idealize.ShloMosaic.TcCoe
open Idealize.ShloMosaic.Pointwise

variable (x : FVec Ideal S4x4096x1024 .f32) (w : FVec Ideal S1024x6848 .f32)

/-- One row of the input against one column of the weight. -/
def row (b : Fin 4) (q : Fin 4096) (n : Fin 6848) : EReal :=
  ∑ k : Fin 1024, @HMul.hMul EReal EReal EReal _ (x (ix3 b q k)) (w (ix2 k n))

theorem v0_at (b : Fin 4) (q : Fin 4096) (n : Fin 6848) : @Eq EReal (val_main_v0 (F := Ideal) x w (ix3 b q n)) (row x w b q n) := by
  pointwise [val_main_v0, row]

theorem v8_at (b : Fin 4) (q : Fin 4096) (n : Fin 6912) :
    @Eq EReal (val_main_v8 (F := Ideal) x w (ix2 (⟨4096 * b.val + q.val, by omega⟩ : Fin 16384) n))
      (if h0 : n.val < 6144 then row x w b q ⟨704 + n.val, by omega⟩
        else if h1 : n.val - 6144 < 704 then row x w b q ⟨n.val - 6144, by omega⟩
        else if h2 : n.val - 6144 - 704 < 32 then - row x w b q ⟨672 + (n.val - 6144 - 704), by omega⟩
        else row x w b q ⟨640 + (n.val - 6144 - 704 - 32), by omega⟩) := by
  pointwise [val_main_v8, val_main_v7, val_main_v6, val_main_v5, val_main_v4, val_main_v3, val_main_v2, val_main_v1, v0_at]

end Cert.Reference2Ideal.Proj

end
-- ==== Proof.ProjFinal.lean ====
/- The input projection: the kernel's result array is the reference's. -/
module

public import proofs.«01_k».proof.Proof.ProjBlock
public import proofs.«01_k».proof.Proof.ProjHost
public import proofs.«01_k».proof.Proof.ProjRef

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pointwise

/-- Over real numbers a negated weight column gives the negated product. -/
theorem sum_neg (n : ℕ) (x w : Fin n → EReal) (xr wr : Fin n → ℝ) (hx : ∀ k, x k = (xr k : EReal)) (hw : ∀ k, w k = (wr k : EReal)) :
    (∑ k, x k * (- w k) : EReal) = - ∑ k, x k * w k := by
  have h : ∀ f : Fin n → ℝ, ∑ k, ((f k : ℝ) : EReal) = ((∑ k, f k : ℝ) : EReal) := by
    intro f
    induction (Finset.univ : Finset (Fin n)) using Finset.cons_induction with
    | empty => simp
    | cons a s ha ih => rw [Finset.sum_cons, Finset.sum_cons, ih, EReal.coe_add]
  simp only [hx, hw, ← EReal.coe_neg, ← EReal.coe_mul, h]
  simp only [mul_neg, Finset.sum_neg_distrib]

variable (m : (ℓ : Loc nD τ sig) → Buf (Elt Ideal) ℓ) (c : Dev nD)

/-- Row `n` of the weights the kernel is given, as a column of the weight. -/
theorem wrow_at (n : Fin 6912) (k : Fin 1024) :
    wrow (V m c main_v8) (V m c main_v9) n k
      = if h0 : n.val < 6144 then m ((c.tc : Thread nD τ).loc main_arg1) (ix2 k (⟨704 + n.val, by omega⟩ : Fin 6848))
        else if h1 : n.val - 6144 < 704 then m ((c.tc : Thread nD τ).loc main_arg1) (ix2 k (⟨n.val - 6144, by omega⟩ : Fin 6848))
        else if h2 : n.val - 6144 - 704 < 32 then @Neg.neg EReal _ (m ((c.tc : Thread nD τ).loc main_arg1) (ix2 k (⟨672 + (n.val - 6144 - 704), by omega⟩ : Fin 6848)))
        else m ((c.tc : Thread nD τ).loc main_arg1) (ix2 k (⟨640 + (n.val - 6144 - 704 - 32), by omega⟩ : Fin 6848)) := by
  unfold wrow
  by_cases h0 : n.val < 6144
  · rw [dif_pos h0, dif_pos h0]
    exact v8_at m c _ k
  · rw [dif_neg h0, dif_neg h0]
    refine (v9_at m c _ k).trans ?_
    by_cases h1 : n.val - 6144 < 704
    · rw [dif_pos h1, if_pos h1]
    · rw [dif_neg h1, if_neg h1]
      by_cases h2 : n.val - 6144 - 704 < 32
      · have h2' : n.val - 6144 < 736 := by omega
        rw [dif_pos h2, if_pos h2']
      · have h2' : ¬ n.val - 6144 < 736 := by omega
        have e : n.val - 6144 - 736 = n.val - 6144 - 704 - 32 := by omega
        rw [dif_neg h2, if_neg h2']
        simp only [e]

variable (xr : S4x4096x1024.Idx → ℝ) (wr : S1024x6848.Idx → ℝ)
variable (hx : ∀ i, @Eq EReal (m ((c.tc : Thread nD τ).loc main_arg0) i) (xr i : ℝ))
  (hw : ∀ i, @Eq EReal (m ((c.tc : Thread nD τ).loc main_arg1) i) (wr i : ℝ))
include hx hw

theorem result_at (b : Fin 4) (q : Fin 4096) (n : Fin 6912) :
    @Eq EReal (result m c (ix2 (⟨4096 * b.val + q.val, by omega⟩ : Fin 16384) n))
      (Cert.Reference2Ideal.Read.val_main_v8 (F := Ideal) (m ((c.tc : Thread nD τ).loc main_arg0)) (m ((c.tc : Thread nD τ).loc main_arg1))
        (ix2 (⟨4096 * b.val + q.val, by omega⟩ : Fin 16384) n)) := by
  rw [Cert.Reference2Ideal.Proj.v8_at]
  show (∑ k : Fin 1024, @HMul.hMul EReal EReal EReal _ (V m c main_v0 (ix2 (⟨4096 * b.val + q.val, by omega⟩ : Fin 16384) k))
    (wrow (V m c main_v8) (V m c main_v9) n k) : EReal) = _
  refine (Finset.sum_congr rfl fun k _ => congrArg₂ (fun a b : EReal => a * b) (v0_at m c b q k) (wrow_at m c n k)).trans ?_
  unfold Cert.Reference2Ideal.Proj.row
  by_cases h0 : n.val < 6144
  · simp only [dif_pos h0]
  · by_cases h1 : n.val - 6144 < 704
    · simp only [dif_neg h0, dif_pos h1]
    · by_cases h2 : n.val - 6144 - 704 < 32
      · simp only [dif_neg h0, dif_neg h1, dif_pos h2]
        exact sum_neg 1024 _ _ (fun k => xr (ix3 b q k)) (fun k => wr (ix2 k _)) (fun k => hx _) (fun k => hw _)
      · simp only [dif_neg h0, dif_neg h1, dif_neg h2]

theorem result_eq :
    result m c = Cert.Reference2Ideal.Read.val_main_v8 (F := Ideal) (m ((c.tc : Thread nD τ).loc main_arg0)) (m ((c.tc : Thread nD τ).loc main_arg1)) := by
  funext i
  have h0 : (i 0).val < 16384 := (i 0).isLt
  obtain ⟨b, hb⟩ : ∃ b : Fin 4, b.val = (i 0).val / 4096 := ⟨⟨(i 0).val / 4096, by omega⟩, rfl⟩
  obtain ⟨q, hq⟩ : ∃ q : Fin 4096, q.val = (i 0).val % 4096 := ⟨⟨(i 0).val % 4096, by omega⟩, rfl⟩
  have hi : i = ix2 (⟨4096 * b.val + q.val, by omega⟩ : Fin 16384) (i 1 : Fin 6912) := by
    funext a
    fin_cases a <;> apply Fin.ext
    · show (i 0).val = 4096 * b.val + q.val
      omega
    · rfl
  rw [hi]
  exact result_at m c xr wr hx hw b q (i 1)

end Cert.Kernel2Ideal.Proj

end
-- ==== Proof.PrepPre.lean ====
/- What the preparation's precondition says: the query latents, their weight and the queries' weight are real numbers. -/
module

public import proofs.«01_k».proof.Pre_finite3
public import proofs.«01_k».proof.Proof.Pre
public import Idealize.ShloMosaic.Lib.Pointwise

@[expose] public section

set_option maxRecDepth 16384

noncomputable section

namespace Cert.Pre_finite3

open Idealize.ShloMosaic Idealize.ShloMosaic.Pointwise

instance facts : Facts where
  slices_S4x4096x6848_S4x4096x384_0_0_0 := by decide
  bcast_S_S4x4096x384 := by decide
  reducesTo_S4x4096x384_S_d0_1_2 := by decide
  h_S_ := by decide
  bcast_S_S384 := by decide
  reducesTo_S384_S_d0 := by decide
  bcast_S_S384x1536 := by decide
  reducesTo_S384x1536_S_d0_1 := by decide

theorem real_of (a0 : FVec Ideal S4x4096x6848 .f32) (a1 a2 : FVec Ideal S4x4096x32 .f32) (a3 : FVec Ideal S384 .f32) (a4 : FVec Ideal S384x1536 .f32)
    (a5 : FVec Ideal S256 .f32) (a6 : FVec Ideal S256x2048 .f32) (h : fn (F := Ideal) a0 a1 a2 a3 a4 a5 a6 = fun _ => 1#1) :
    (∀ (b : Fin 4) (q : Fin 4096) (k : Fin 384), ∃ r : ℝ, @Eq EReal (a0 (ix3 b q (⟨k.val, by omega⟩ : Fin 6848))) r)
      ∧ (∀ i, ∃ r : ℝ, @Eq EReal (a3 i) r) ∧ (∀ i, ∃ r : ℝ, @Eq EReal (a4 i) r) := by
  have e := congrFun h (fun k => k.elim0 : S_.Idx)
  unfold fn at e
  dsimp only at e
  obtain ⟨e01, e2⟩ := Cert.Pre_finite.and_one _ _ e
  obtain ⟨e0, e1⟩ := Cert.Pre_finite.and_one _ _ e01
  generalize hx : extractStridedSlice S4x4096x384 ![0, 0, 0] a0 Facts.slices_S4x4096x6848_S4x4096x384_0_0_0 = x at e0
  have h0 := Cert.Pre_finite.real_of_all x Facts.bcast_S_S4x4096x384 Facts.reducesTo_S4x4096x384_S_d0_1_2 Facts.h_S_ (fun k => k.elim0) e0
  subst hx
  refine ⟨fun b q k => ?_, Cert.Pre_finite.real_of_all a3 Facts.bcast_S_S384 Facts.reducesTo_S384_S_d0 Facts.h_S_ (fun k => k.elim0) e1,
    Cert.Pre_finite.real_of_all a4 Facts.bcast_S_S384x1536 Facts.reducesTo_S384x1536_S_d0_1 Facts.h_S_ (fun k => k.elim0) e2⟩
  obtain ⟨r, hr⟩ := h0 (ix3 b q k)
  refine ⟨r, Eq.trans ?_ hr⟩
  pointwise

end Cert.Pre_finite3

end
-- ==== Proof.PrepPieces.lean ====
/- The attention's preparation: what the body's stores are, output by output. -/
module

public import proofs.«01_k».proof.Proof.Gen.Kernel3Ideal.Frame
public import Idealize.ShloMosaic.Lib.Pointwise
public import Idealize.ShloMosaic.Lib.WholeRead
public import Idealize.ShloMosaic.Lib.Pipeline.ReadBack
public import Idealize.ShloMosaic.Lib.Pipeline.CanonAppend

@[expose] public section

set_option maxRecDepth 16384

noncomputable section

namespace Cert.Kernel3Ideal.Prep

open Cert.Kernel3Ideal Cert.Kernel3Ideal.Gen Idealize.ShloMosaic Idealize.ShloMosaic.TcCoe Idealize.SL.Sem
open Idealize.ShloMosaic.Pointwise

variable {F : FTy → Type} [FloatOps F] [Named F]

/-- What one grid point's body is given: the eight input blocks, through the buffers that hold them. -/
structure Env (F : FTy → Type) [FloatOps F] where
  arg1 : Memref sig .tc .vmem S512x768 .bf16
  harg1 : arg1.IsWhole
  arg2 : Memref sig .tc .vmem S512x128 .f32
  harg2 : arg2.IsWhole
  arg3 : Memref sig .tc .vmem S512x128 .f32
  harg3 : arg3.IsWhole
  arg4 : Memref sig .tc .vmem S384x2048 .bf16
  harg4 : arg4.IsWhole
  arg5 : Memref sig .tc .vmem S256x1024 .bf16
  harg5 : arg5.IsWhole
  arg6 : Memref sig .tc .vmem S1024x256 .bf16
  harg6 : arg6.IsWhole
  arg7 : Memref sig .tc .vmem S1x384 .f32
  harg7 : arg7.IsWhole
  arg8 : Memref sig .tc .vmem S1x256 .f32
  harg8 : arg8.IsWhole
  x0 : Vec F S512x768 .bf16
  x1 : Vec F S512x128 .f32
  x2 : Vec F S512x128 .f32
  x3 : Vec F S384x2048 .bf16
  x4 : Vec F S256x1024 .bf16
  x5 : Vec F S1024x256 .bf16
  x6 : Vec F S1x384 .f32
  x7 : Vec F S1x256 .f32

variable (e : Env F)

/-! ## The loads: every buffer whole -/

def rd0 : Vec F S512x768 .bf16 := View.readAt (Elt F) e.arg1.view (Rect.unit (s := S512x768) ![0, 0] S512x768.size inb_S512x768_S512x768_0_0).toLoadRect (e.harg1.unread e.x0)
def rd1 : Vec F S512x128 .f32 := View.readAt (Elt F) e.arg2.view (Rect.unit (s := S512x128) ![0, 0] S512x128.size inb_S512x128_S512x128_0_0).toLoadRect (e.harg2.unread e.x1)
def rd2 : Vec F S512x128 .f32 := View.readAt (Elt F) e.arg3.view (Rect.unit (s := S512x128) ![0, 0] S512x128.size inb_S512x128_S512x128_0_0).toLoadRect (e.harg3.unread e.x2)
def rd3 : Vec F S384x2048 .bf16 := View.readAt (Elt F) e.arg4.view (Rect.unit (s := S384x2048) ![0, 0] S384x2048.size inb_S384x2048_S384x2048_0_0).toLoadRect (e.harg4.unread e.x3)
def rd4 : Vec F S256x1024 .bf16 := View.readAt (Elt F) e.arg5.view (Rect.unit (s := S256x1024) ![0, 0] S256x1024.size inb_S256x1024_S256x1024_0_0).toLoadRect (e.harg5.unread e.x4)
def rd5 : Vec F S1024x256 .bf16 := View.readAt (Elt F) e.arg6.view (Rect.unit (s := S1024x256) ![0, 0] S1024x256.size inb_S1024x256_S1024x256_0_0).toLoadRect (e.harg6.unread e.x5)
def rd6 : Vec F S1x384 .f32 := View.readAt (Elt F) e.arg7.view (Rect.unit (s := S1x384) ![0, 0] S1x384.size inb_S1x384_S1x384_0_0).toLoadRect (e.harg7.unread e.x6)
def rd7 : Vec F S1x256 .f32 := View.readAt (Elt F) e.arg8.view (Rect.unit (s := S1x256) ![0, 0] S1x256.size inb_S1x256_S1x256_0_0).toLoadRect (e.harg8.unread e.x7)

theorem rd0_eq : rd0 e = e.x0 := by
  funext y
  rw [rd0, Memref.IsWhole.readAt_unread]
  congr 1
  funext a
  fin_cases a <;> apply Fin.ext <;> simp

theorem rd1_eq : rd1 e = e.x1 := by
  funext y
  rw [rd1, Memref.IsWhole.readAt_unread]
  congr 1
  funext a
  fin_cases a <;> apply Fin.ext <;> simp

theorem rd2_eq : rd2 e = e.x2 := by
  funext y
  rw [rd2, Memref.IsWhole.readAt_unread]
  congr 1
  funext a
  fin_cases a <;> apply Fin.ext <;> simp

theorem rd3_eq : rd3 e = e.x3 := by
  funext y
  rw [rd3, Memref.IsWhole.readAt_unread]
  congr 1
  funext a
  fin_cases a <;> apply Fin.ext <;> simp

theorem rd4_eq : rd4 e = e.x4 := by
  funext y
  rw [rd4, Memref.IsWhole.readAt_unread]
  congr 1
  funext a
  fin_cases a <;> apply Fin.ext <;> simp

theorem rd5_eq : rd5 e = e.x5 := by
  funext y
  rw [rd5, Memref.IsWhole.readAt_unread]
  congr 1
  funext a
  fin_cases a <;> apply Fin.ext <;> simp

theorem rd6_eq : rd6 e = e.x6 := by
  funext y
  rw [rd6, Memref.IsWhole.readAt_unread]
  congr 1
  funext a
  fin_cases a <;> apply Fin.ext <;> simp

theorem rd7_eq : rd7 e = e.x7 := by
  funext y
  rw [rd7, Memref.IsWhole.readAt_unread]
  congr 1
  funext a
  fin_cases a <;> apply Fin.ext <;> simp

/-! ## The values stored -/

/-- The queries' part without position: 128 columns of the queries at column `o`, scaled. -/
def nopeP (v : FVec F S512x2048 .f32) (o : ℕ) (hs : S512x2048.Slices ![0, o] S512x128) : FVec F S512x128 .bf16 :=
  truncf .bf16 (mulf (extractStridedSlice S512x128 ![0, o] v hs) (broadcast S512x128 (Named.named κ "scale" 0x3DD53B95#32))) bitsLt_bf16_f32

/-- Columns times one table plus the columns half a turn away times the other. -/
def turn (v : FVec F S512x128 .f32) (c s : FVec F S512x128 .f32) : FVec F S512x128 .f32 :=
  addf (mulf v c) (mulf (dynamicRotate 1 64#32 none v rotates_S512x128_d1) s)

/-- The queries' part with position: 128 columns of the queries at column `o`, turned and scaled. -/
def ropeP (c s : FVec F S512x128 .f32) (v : FVec F S512x2048 .f32) (o : ℕ) (hs : S512x2048.Slices ![0, o] S512x128) : FVec F S512x128 .bf16 :=
  truncf .bf16 (mulf (turn (extractStridedSlice S512x128 ![0, o] v hs) c s) (broadcast S512x128 (Named.named κ "scale" 0x3DD53B95#32))) bitsLt_bf16_f32

/-- One head's values: 128 rows at row `o`. -/
def valP (v : FVec F S1024x512 .bf16) (o : ℕ) (hs : S1024x512.Slices ![o, 0] S128x512) : FVec F S1x128x512 .bf16 :=
  shapeCast S1x128x512 (extractStridedSlice S128x512 ![o, 0] v hs) shapeCasts_S128x512_S1x128x512

/-- Sixteen rows of ones. -/
def oneP : FVec F S1x16x512 .bf16 :=
  shapeCast S1x16x512 (broadcast S16x512 (Scalar.ofBits .bf16 0x3F80#16)) shapeCasts_S16x512_S1x16x512

/-! ## The stores, last first -/

def qPieces (c s : FVec F S512x128 .f32) (v : FVec F S512x2048 .f32) : List (View.Piece (Elt F) S512x2048 .bf16) :=
  [⟨Rect.unit (s := S512x2048) ![0, 1920] S512x128.size inb_S512x2048_S512x128_0_1920, ropeP c s v 1920 slices_S512x2048_o0_1920_S512x128⟩,
   ⟨Rect.unit (s := S512x2048) ![0, 1792] S512x128.size inb_S512x2048_S512x128_0_1792, nopeP v 1792 slices_S512x2048_o0_1792_S512x128⟩,
   ⟨Rect.unit (s := S512x2048) ![0, 1664] S512x128.size inb_S512x2048_S512x128_0_1664, ropeP c s v 1664 slices_S512x2048_o0_1664_S512x128⟩,
   ⟨Rect.unit (s := S512x2048) ![0, 1536] S512x128.size inb_S512x2048_S512x128_0_1536, nopeP v 1536 slices_S512x2048_o0_1536_S512x128⟩,
   ⟨Rect.unit (s := S512x2048) ![0, 1408] S512x128.size inb_S512x2048_S512x128_0_1408, ropeP c s v 1408 slices_S512x2048_o0_1408_S512x128⟩,
   ⟨Rect.unit (s := S512x2048) ![0, 1280] S512x128.size inb_S512x2048_S512x128_0_1280, nopeP v 1280 slices_S512x2048_o0_1280_S512x128⟩,
   ⟨Rect.unit (s := S512x2048) ![0, 1152] S512x128.size inb_S512x2048_S512x128_0_1152, ropeP c s v 1152 slices_S512x2048_o0_1152_S512x128⟩,
   ⟨Rect.unit (s := S512x2048) ![0, 1024] S512x128.size inb_S512x2048_S512x128_0_1024, nopeP v 1024 slices_S512x2048_o0_1024_S512x128⟩,
   ⟨Rect.unit (s := S512x2048) ![0, 896] S512x128.size inb_S512x2048_S512x128_0_896, ropeP c s v 896 slices_S512x2048_o0_896_S512x128⟩,
   ⟨Rect.unit (s := S512x2048) ![0, 768] S512x128.size inb_S512x2048_S512x128_0_768, nopeP v 768 slices_S512x2048_o0_768_S512x128⟩,
   ⟨Rect.unit (s := S512x2048) ![0, 640] S512x128.size inb_S512x2048_S512x128_0_640, ropeP c s v 640 slices_S512x2048_o0_640_S512x128⟩,
   ⟨Rect.unit (s := S512x2048) ![0, 512] S512x128.size inb_S512x2048_S512x128_0_512, nopeP v 512 slices_S512x2048_o0_512_S512x128⟩,
   ⟨Rect.unit (s := S512x2048) ![0, 384] S512x128.size inb_S512x2048_S512x128_0_384, ropeP c s v 384 slices_S512x2048_o0_384_S512x128⟩,
   ⟨Rect.unit (s := S512x2048) ![0, 256] S512x128.size inb_S512x2048_S512x128_0_256, nopeP v 256 slices_S512x2048_o0_256_S512x128⟩,
   ⟨Rect.unit (s := S512x2048) ![0, 128] S512x128.size inb_S512x2048_S512x128_0_128, ropeP c s v 128 slices_S512x2048_o0_128_S512x128⟩,
   ⟨Rect.unit (s := S512x2048) ![0, 0] S512x128.size inb_S512x2048_S512x128_0_0, nopeP v 0 slices_S512x2048_o0_0_S512x128⟩]

def vPieces (v : FVec F S1024x512 .bf16) : List (View.Piece (Elt F) S1x1152x512 .bf16) :=
  [⟨Rect.unit (s := S1x1152x512) ![0, 1136, 0] S1x16x512.size inb_S1x1152x512_S1x16x512_0_1136_0, oneP⟩,
   ⟨Rect.unit (s := S1x1152x512) ![0, 1008, 0] S1x128x512.size inb_S1x1152x512_S1x128x512_0_1008_0, valP v 896 slices_S1024x512_o896_0_S128x512⟩,
   ⟨Rect.unit (s := S1x1152x512) ![0, 992, 0] S1x16x512.size inb_S1x1152x512_S1x16x512_0_992_0, oneP⟩,
   ⟨Rect.unit (s := S1x1152x512) ![0, 864, 0] S1x128x512.size inb_S1x1152x512_S1x128x512_0_864_0, valP v 768 slices_S1024x512_o768_0_S128x512⟩,
   ⟨Rect.unit (s := S1x1152x512) ![0, 848, 0] S1x16x512.size inb_S1x1152x512_S1x16x512_0_848_0, oneP⟩,
   ⟨Rect.unit (s := S1x1152x512) ![0, 720, 0] S1x128x512.size inb_S1x1152x512_S1x128x512_0_720_0, valP v 640 slices_S1024x512_o640_0_S128x512⟩,
   ⟨Rect.unit (s := S1x1152x512) ![0, 704, 0] S1x16x512.size inb_S1x1152x512_S1x16x512_0_704_0, oneP⟩,
   ⟨Rect.unit (s := S1x1152x512) ![0, 576, 0] S1x128x512.size inb_S1x1152x512_S1x128x512_0_576_0, valP v 512 slices_S1024x512_o512_0_S128x512⟩,
   ⟨Rect.unit (s := S1x1152x512) ![0, 560, 0] S1x16x512.size inb_S1x1152x512_S1x16x512_0_560_0, oneP⟩,
   ⟨Rect.unit (s := S1x1152x512) ![0, 432, 0] S1x128x512.size inb_S1x1152x512_S1x128x512_0_432_0, valP v 384 slices_S1024x512_o384_0_S128x512⟩,
   ⟨Rect.unit (s := S1x1152x512) ![0, 416, 0] S1x16x512.size inb_S1x1152x512_S1x16x512_0_416_0, oneP⟩,
   ⟨Rect.unit (s := S1x1152x512) ![0, 288, 0] S1x128x512.size inb_S1x1152x512_S1x128x512_0_288_0, valP v 256 slices_S1024x512_o256_0_S128x512⟩,
   ⟨Rect.unit (s := S1x1152x512) ![0, 272, 0] S1x16x512.size inb_S1x1152x512_S1x16x512_0_272_0, oneP⟩,
   ⟨Rect.unit (s := S1x1152x512) ![0, 144, 0] S1x128x512.size inb_S1x1152x512_S1x128x512_0_144_0, valP v 128 slices_S1024x512_o128_0_S128x512⟩,
   ⟨Rect.unit (s := S1x1152x512) ![0, 128, 0] S1x16x512.size inb_S1x1152x512_S1x16x512_0_128_0, oneP⟩,
   ⟨Rect.unit (s := S1x1152x512) ![0, 0, 0] S1x128x512.size inb_S1x1152x512_S1x128x512_0_0_0, valP v 0 slices_S1024x512_o0_0_S128x512⟩]

variable (c : Dev nD) (i : grid0.Coords) (arg9 : Memref sig .tc .vmem S512x2048 .bf16) (harg9 : arg9.IsWhole) (arg10 : Memref sig .tc .vmem S512x1024 .bf16)
  (harg10 : arg10.IsWhole) (arg11 : Memref sig .tc .vmem S1x1152x512 .bf16) (harg11 : arg11.IsWhole) (arg12 : Memref sig .tc .vmem S512x128 .bf16) (harg12 : arg12.IsWhole)

theorem run_q : (kernelRun0_A c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7).1
    = qPieces (k0_pay7 (rd1 e)) (k0_pay8 (rd2 e)) (k0_pay9 (rd0 e) (rd6 e) (rd3 e)) := rfl

theorem run_k : (kernelRun0_A c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7).2.1
    = [⟨Rect.unit (s := S512x1024) ![0, 0] S512x1024.size inb_S512x1024_S512x1024_0_0, k0_pay31 (k0_pay29 (k0_pay6 (rd0 e))) (rd7 e) (rd4 e)⟩] := rfl

theorem run_v : (kernelRun0_A c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7).2.2.1
    = vPieces (k0_pay32 (k0_pay29 (k0_pay6 (rd0 e))) (rd7 e) (rd5 e)) := rfl

theorem run_r : (kernelRun0_A c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7).2.2.2.1
    = [⟨Rect.unit (s := S512x128) ![0, 0] S512x128.size inb_S512x128_S512x128_0_0, k0_pay5 (k0_pay6 (rd0 e)) (k0_pay7 (rd1 e)) (k0_pay8 (rd2 e))⟩] := rfl

end Cert.Kernel3Ideal.Prep

end
-- ==== Proof.PrepBlock.lean ====
/- The attention's preparation: what the body leaves in each block, row by row. -/
module

public import proofs.«01_k».proof.Proof.PrepPieces

@[expose] public section

set_option maxRecDepth 16384

noncomputable section

namespace Cert.Kernel3Ideal.Prep

open Cert.Kernel3Ideal Cert.Kernel3Ideal.Gen Idealize.ShloMosaic Idealize.ShloMosaic.TcCoe Idealize.SL.Sem
open Idealize.ShloMosaic.Pipeline Idealize.ShloMosaic.Pointwise

/-! ## One row -/

/-- A row of query latents, normalised and weighted. -/
def qn (x : Fin 768 → EReal) (g : Fin 384 → EReal) (k : Fin 384) : EReal :=
  x ⟨k.val, by omega⟩ * Ideal.rsqrt (Ideal.div (∑ j : Fin 384, x ⟨j.val, by omega⟩ * x ⟨j.val, by omega⟩) (Ideal.ofBits .f32 0x43C00000#32) + Ideal.ofBits .f32 0x358637BD#32) * g k

/-- A row of key and value latents, normalised and weighted. -/
def kn (x : Fin 768 → EReal) (g : Fin 256 → EReal) (k : Fin 256) : EReal :=
  x ⟨384 + k.val, by omega⟩ * Ideal.rsqrt (Ideal.div (∑ j : Fin 256, x ⟨384 + j.val, by omega⟩ * x ⟨384 + j.val, by omega⟩) (Ideal.ofBits .f32 0x43800000#32) + Ideal.ofBits .f32 0x358637BD#32) * g k

/-- The row's query at column `n`. -/
def qcol (x : Fin 768 → EReal) (g : Fin 384 → EReal) (w : Fin 384 → Fin 2048 → EReal) (n : Fin 2048) : EReal :=
  ∑ k : Fin 384, qn x g k * w k n

/-- Columns times one table plus the columns half a turn away times the other. -/
def turned (v c s : Fin 128 → EReal) (d : Fin 128) : EReal :=
  v d * c d + v ⟨(d.val + 128 - 64) % 128, Nat.mod_lt _ (by decide)⟩ * s d

/-- The scale of the queries. -/
def scale : EReal := (((Real.sqrt 192)⁻¹ * (Real.log 2)⁻¹ : ℝ) : EReal)

/-- The row's stored query at column `n`: of each head 128 columns without position and 128 with. -/
def qOut (x : Fin 768 → EReal) (c s : Fin 128 → EReal) (g : Fin 384 → EReal) (w : Fin 384 → Fin 2048 → EReal) (n : Fin 2048) : EReal :=
  if n.val % 256 < 128 then qcol x g w n * scale
  else turned (fun j => qcol x g w ⟨n.val / 256 * 256 + 128 + j.val, by omega⟩) c s ⟨(n.val - 128) % 128, Nat.mod_lt _ (by decide)⟩ * scale

/-- The row's key at column `n`. -/
def kOut (x : Fin 768 → EReal) (g : Fin 256 → EReal) (w : Fin 256 → Fin 1024 → EReal) (n : Fin 1024) : EReal :=
  ∑ k : Fin 256, kn x g k * w k n

/-- The row's value at row `n` of the transposed values: of each head 128 rows, then 16 ones. -/
def vOut (x : Fin 768 → EReal) (g : Fin 256 → EReal) (w : Fin 1024 → Fin 256 → EReal) (n : Fin 1152) : EReal :=
  if h : n.val % 144 < 128 then ∑ k : Fin 256, w ⟨n.val / 144 * 128 + n.val % 144, by omega⟩ k * kn x g k else 1

/-- The row's rotated key at column `d`. -/
def rOut (x : Fin 768 → EReal) (c s : Fin 128 → EReal) (d : Fin 128) : EReal :=
  turned (fun j => x ⟨640 + j.val, by omega⟩) c s d

/-! ## The stored values at an index -/

theorem q_at (x0 : Vec Ideal S512x768 .bf16) (x6 : Vec Ideal S1x384 .f32) (x3 : Vec Ideal S384x2048 .bf16) (r : Fin 512) (n : Fin 2048) :
    @Eq EReal (k0_pay9 (F := Ideal) x0 x6 x3 (ix2 r n)) (qcol (fun j => x0 (ix2 r j)) (fun j => x6 (ix2 0 j)) (fun k n => x3 (ix2 k n)) n) := by
  unfold qcol qn
  pointwise [k0_pay9, k0_pay6]

theorem k_at (x0 : Vec Ideal S512x768 .bf16) (x7 : Vec Ideal S1x256 .f32) (x4 : Vec Ideal S256x1024 .bf16) (r : Fin 512) (n : Fin 1024) :
    @Eq EReal (k0_pay31 (F := Ideal) (k0_pay29 (k0_pay6 x0)) x7 x4 (ix2 r n)) (kOut (fun j => x0 (ix2 r j)) (fun j => x7 (ix2 0 j)) (fun k n => x4 (ix2 k n)) n) := by
  unfold kOut kn
  pointwise [k0_pay31, k0_pay30, k0_pay29, k0_pay6]

theorem v_at (x0 : Vec Ideal S512x768 .bf16) (x7 : Vec Ideal S1x256 .f32) (x5 : Vec Ideal S1024x256 .bf16) (r : Fin 512) (n : Fin 1024) :
    @Eq EReal (k0_pay32 (F := Ideal) (k0_pay29 (k0_pay6 x0)) x7 x5 (ix2 n r))
      (∑ k : Fin 256, @HMul.hMul EReal EReal EReal _ (x5 (ix2 n k)) (kn (fun j => x0 (ix2 r j)) (fun j => x7 (ix2 0 j)) k)) := by
  unfold kn
  pointwise [k0_pay32, k0_pay30, k0_pay29, k0_pay6]

theorem nope_at (v : FVec Ideal S512x2048 .f32) (o : ℕ) (ho : o + 128 ≤ 2048) (hs : S512x2048.Slices ![0, o] S512x128) (r : Fin 512) (d : Fin 128) :
    @Eq EReal (nopeP (F := Ideal) v o hs (ix2 r d)) (@HMul.hMul EReal EReal EReal _ (v (ix2 r ⟨o + d.val, by omega⟩)) scale) := by
  have : @Eq EReal (nopeP (F := Ideal) v o hs (ix2 r d)) (@HMul.hMul EReal EReal EReal _ (v (ix2 r ⟨o + d.val, by omega⟩)) (Named.named (F := Ideal) (φ := .f32) κ "scale" 0x3DD53B95#32)) := by
    pointwise [nopeP]
  exact this

theorem rope_at (c s : FVec Ideal S512x128 .f32) (v : FVec Ideal S512x2048 .f32) (o : ℕ) (ho : o + 128 ≤ 2048) (hs : S512x2048.Slices ![0, o] S512x128) (r : Fin 512) (d : Fin 128) :
    @Eq EReal (ropeP (F := Ideal) c s v o hs (ix2 r d))
      (turned (fun j => v (ix2 r ⟨o + j.val, by omega⟩)) (fun j => c (ix2 r j)) (fun j => s (ix2 r j)) d * scale) := by
  have : @Eq EReal (ropeP (F := Ideal) c s v o hs (ix2 r d))
      (turned (fun j => v (ix2 r ⟨o + j.val, by omega⟩)) (fun j => c (ix2 r j)) (fun j => s (ix2 r j)) d * (Named.named (F := Ideal) (φ := .f32) κ "scale" 0x3DD53B95#32 : EReal)) := by
    unfold turned
    pointwise [ropeP, turn]
  exact this

theorem r_at (x0 : Vec Ideal S512x768 .bf16) (x1 x2 : Vec Ideal S512x128 .f32) (r : Fin 512) (d : Fin 128) :
    @Eq EReal (k0_pay5 (F := Ideal) (k0_pay6 x0) (k0_pay7 x1) (k0_pay8 x2) (ix2 r d))
      (rOut (fun j => x0 (ix2 r j)) (fun j => x1 (ix2 r j)) (fun j => x2 (ix2 r j)) d) := by
  unfold rOut turned
  pointwise [k0_pay5, k0_pay6, k0_pay7, k0_pay8]

theorem t1_at (x : Vec Ideal S512x128 .f32) : k0_pay7 x = x := by
  funext y
  obtain ⟨r, n, rfl⟩ : ∃ (r : Fin 512) (n : Fin 128), y = ix2 r n := ⟨y 0, y 1, eq_ix2 y⟩
  pointwise [k0_pay7]

theorem t2_at (x : Vec Ideal S512x128 .f32) : k0_pay8 x = x := by
  funext y
  obtain ⟨r, n, rfl⟩ : ∃ (r : Fin 512) (n : Fin 128), y = ix2 r n := ⟨y 0, y 1, eq_ix2 y⟩
  pointwise [k0_pay8]

theorem val_at (v : FVec Ideal S1024x512 .bf16) (o : ℕ) (ho : o + 128 ≤ 1024) (hs : S1024x512.Slices ![o, 0] S128x512) (r : Fin 512) (d : Fin 128) :
    @Eq EReal (valP (F := Ideal) v o hs (ix3 (0 : Fin 1) d r)) (v (ix2 ⟨o + d.val, by omega⟩ r)) := by
  pointwise [valP]

theorem one_at (r : Fin 512) (d : Fin 16) :
    @Eq EReal (oneP (F := Ideal) (ix3 (0 : Fin 1) d r)) 1 := by
  pointwise [oneP]

/-! ## The blocks -/

variable (e : Env Ideal)

abbrev xr (r : Fin 512) : Fin 768 → EReal := fun j => e.x0 (ix2 r j)
abbrev cr (r : Fin 512) : Fin 128 → EReal := fun j => e.x1 (ix2 r j)
abbrev sr (r : Fin 512) : Fin 128 → EReal := fun j => e.x2 (ix2 r j)
abbrev wq : Fin 384 → Fin 2048 → EReal := fun k n => e.x3 (ix2 k n)
abbrev wk : Fin 256 → Fin 1024 → EReal := fun k n => e.x4 (ix2 k n)
abbrev wv : Fin 1024 → Fin 256 → EReal := fun n k => e.x5 (ix2 n k)
abbrev qg : Fin 384 → EReal := fun j => e.x6 (ix2 0 j)
abbrev kg : Fin 256 → EReal := fun j => e.x7 (ix2 0 j)

def qB : Vec Ideal S512x2048 .bf16 := fun y => qOut (xr e (y 0)) (cr e (y 0)) (sr e (y 0)) (qg e) (wq e) (y 1)
def kB : Vec Ideal S512x1024 .bf16 := fun y => kOut (xr e (y 0)) (kg e) (wk e) (y 1)
def vB : Vec Ideal S1x1152x512 .bf16 := fun y => vOut (xr e (y 2)) (kg e) (wv e) (y 1)
def rB : Vec Ideal S512x128 .bf16 := fun y => rOut (xr e (y 0)) (cr e (y 0)) (sr e (y 0)) (y 1)

theorem nope_piece (o : ℕ) (ho : o + 128 ≤ 2048) (ho' : o % 256 = 0) (hs : S512x2048.Slices ![0, o] S512x128)
    (hb : ∀ a : Fin 2, (![0, o] : Fin 2 → ℕ) a + S512x128.size a ≤ S512x2048.size a) (x : S512x128.Idx) :
    @Eq EReal (nopeP (F := Ideal) (k0_pay9 e.x0 e.x6 e.x3) o hs x) (qB e ((Rect.unit (s := S512x2048) ![0, o] S512x128.size hb).emb x)) := by
  obtain ⟨r, d, rfl⟩ : ∃ (r : Fin 512) (d : Fin 128), x = ix2 r d := ⟨x 0, x 1, eq_ix2 x⟩
  have ei : (Rect.unit (s := S512x2048) ![0, o] S512x128.size hb).emb (ix2 r d) = ix2 r (⟨o + d.val, by omega⟩ : Fin 2048) := by
    funext a
    fin_cases a <;> apply Fin.ext <;> simp [ix2]
  rw [nope_at _ o ho, q_at, ei]
  show _ = qOut (xr e r) (cr e r) (sr e r) (qg e) (wq e) ⟨o + d.val, by omega⟩
  unfold qOut
  exact (if_pos (show (o + d.val) % 256 < 128 by omega)).symm

theorem rope_piece (o : ℕ) (ho : o + 128 ≤ 2048) (ho' : o % 256 = 128) (hs : S512x2048.Slices ![0, o] S512x128)
    (hb : ∀ a : Fin 2, (![0, o] : Fin 2 → ℕ) a + S512x128.size a ≤ S512x2048.size a) (x : S512x128.Idx) :
    @Eq EReal (ropeP (F := Ideal) e.x1 e.x2 (k0_pay9 e.x0 e.x6 e.x3) o hs x) (qB e ((Rect.unit (s := S512x2048) ![0, o] S512x128.size hb).emb x)) := by
  obtain ⟨r, d, rfl⟩ : ∃ (r : Fin 512) (d : Fin 128), x = ix2 r d := ⟨x 0, x 1, eq_ix2 x⟩
  have ei : (Rect.unit (s := S512x2048) ![0, o] S512x128.size hb).emb (ix2 r d) = ix2 r (⟨o + d.val, by omega⟩ : Fin 2048) := by
    funext a
    fin_cases a <;> apply Fin.ext <;> simp [ix2]
  rw [rope_at _ _ _ o ho, ei]
  show _ = qOut (xr e r) (cr e r) (sr e r) (qg e) (wq e) ⟨o + d.val, by omega⟩
  unfold qOut
  refine Eq.trans ?_ (if_neg (show ¬ (o + d.val) % 256 < 128 by omega)).symm
  have hd : (⟨(o + d.val - 128) % 128, Nat.mod_lt _ (by decide)⟩ : Fin 128) = d := Fin.ext (by show (o + d.val - 128) % 128 = d.val; omega)
  have hv : (fun j : Fin 128 => (k0_pay9 (F := Ideal) e.x0 e.x6 e.x3 (ix2 r (⟨o + j.val, by omega⟩ : Fin 2048)) : EReal))
      = fun j => qcol (xr e r) (qg e) (wq e) ⟨(o + d.val) / 256 * 256 + 128 + j.val, by omega⟩ := by
    funext j
    rw [q_at]
    refine congrArg (qcol (xr e r) (qg e) (wq e)) (Fin.ext ?_)
    show o + j.val = (o + d.val) / 256 * 256 + 128 + j.val
    omega
  rw [hv]
  show _ = turned _ (cr e r) (sr e r) ⟨(o + d.val - 128) % 128, _⟩ * scale
  rw [hd]

theorem val_piece (o p : ℕ) (ho : o + 128 ≤ 1152) (ho' : o % 144 = 0) (hp : p = o / 144 * 128) (hs : S1024x512.Slices ![p, 0] S128x512)
    (hb : ∀ a : Fin 3, (![0, o, 0] : Fin 3 → ℕ) a + S1x128x512.size a ≤ S1x1152x512.size a) (x : S1x128x512.Idx) :
    @Eq EReal (valP (F := Ideal) (k0_pay32 (k0_pay29 (k0_pay6 e.x0)) e.x7 e.x5) p hs x) (vB e ((Rect.unit (s := S1x1152x512) ![0, o, 0] S1x128x512.size hb).emb x)) := by
  obtain ⟨d, r, rfl⟩ : ∃ (d : Fin 128) (r : Fin 512), x = ix3 (0 : Fin 1) d r := ⟨x 1, x 2, by
    funext a
    fin_cases a
    · exact Subsingleton.elim (α := Fin 1) _ _
    · rfl
    · rfl⟩
  have ei : (Rect.unit (s := S1x1152x512) ![0, o, 0] S1x128x512.size hb).emb (ix3 (0 : Fin 1) d r) = ix3 (0 : Fin 1) (⟨o + d.val, by omega⟩ : Fin 1152) r := by
    funext a
    fin_cases a <;> apply Fin.ext <;> simp [ix3]
  rw [val_at _ p (by omega), v_at, ei]
  show _ = vOut (xr e r) (kg e) (wv e) ⟨o + d.val, by omega⟩
  unfold vOut
  refine Eq.trans ?_ (dif_pos (show (o + d.val) % 144 < 128 by omega)).symm
  refine Finset.sum_congr rfl fun k _ => ?_
  have en : (⟨p + d.val, by omega⟩ : Fin 1024) = ⟨(o + d.val) / 144 * 128 + (o + d.val) % 144, by omega⟩ := Fin.ext (by show p + d.val = _ ; dsimp only; omega)
  rw [en]

theorem one_piece (o : ℕ) (ho : o + 16 ≤ 1152) (ho' : o % 144 = 128)
    (hb : ∀ a : Fin 3, (![0, o, 0] : Fin 3 → ℕ) a + S1x16x512.size a ≤ S1x1152x512.size a) (x : S1x16x512.Idx) :
    @Eq EReal (oneP (F := Ideal) x) (vB e ((Rect.unit (s := S1x1152x512) ![0, o, 0] S1x16x512.size hb).emb x)) := by
  obtain ⟨d, r, rfl⟩ : ∃ (d : Fin 16) (r : Fin 512), x = ix3 (0 : Fin 1) d r := ⟨x 1, x 2, by
    funext a
    fin_cases a
    · exact Subsingleton.elim (α := Fin 1) _ _
    · rfl
    · rfl⟩
  have ei : (Rect.unit (s := S1x1152x512) ![0, o, 0] S1x16x512.size hb).emb (ix3 (0 : Fin 1) d r) = ix3 (0 : Fin 1) (⟨o + d.val, by omega⟩ : Fin 1152) r := by
    funext a
    fin_cases a <;> apply Fin.ext <;> simp [ix3]
  rw [one_at, ei]
  show _ = vOut (xr e r) (kg e) (wv e) ⟨o + d.val, by omega⟩
  unfold vOut
  refine Eq.symm (dif_neg ?_)
  show ¬ (o + d.val) % 144 < 128
  omega

theorem k_piece (hb : ∀ a : Fin 2, (![0, 0] : Fin 2 → ℕ) a + S512x1024.size a ≤ S512x1024.size a) (x : S512x1024.Idx) :
    @Eq EReal (k0_pay31 (F := Ideal) (k0_pay29 (k0_pay6 e.x0)) e.x7 e.x4 x) (kB e ((Rect.unit (s := S512x1024) ![0, 0] S512x1024.size hb).emb x)) := by
  obtain ⟨r, d, rfl⟩ : ∃ (r : Fin 512) (d : Fin 1024), x = ix2 r d := ⟨x 0, x 1, eq_ix2 x⟩
  have ei : (Rect.unit (s := S512x1024) ![0, 0] S512x1024.size hb).emb (ix2 r d) = ix2 r d := by
    funext a
    fin_cases a <;> apply Fin.ext <;> simp [ix2]
  rw [k_at, ei]
  rfl

theorem r_piece (hb : ∀ a : Fin 2, (![0, 0] : Fin 2 → ℕ) a + S512x128.size a ≤ S512x128.size a) (x : S512x128.Idx) :
    @Eq EReal (k0_pay5 (F := Ideal) (k0_pay6 e.x0) (k0_pay7 e.x1) (k0_pay8 e.x2) x) (rB e ((Rect.unit (s := S512x128) ![0, 0] S512x128.size hb).emb x)) := by
  obtain ⟨r, d, rfl⟩ : ∃ (r : Fin 512) (d : Fin 128), x = ix2 r d := ⟨x 0, x 1, eq_ix2 x⟩
  have ei : (Rect.unit (s := S512x128) ![0, 0] S512x128.size hb).emb (ix2 r d) = ix2 r d := by
    funext a
    fin_cases a <;> apply Fin.ext <;> simp [ix2]
  rw [r_at, ei]
  rfl

variable (c : Dev nD) (i : grid0.Coords) (arg9 : Memref sig .tc .vmem S512x2048 .bf16) (harg9 : arg9.IsWhole) (arg10 : Memref sig .tc .vmem S512x1024 .bf16)
  (harg10 : arg10.IsWhole) (arg11 : Memref sig .tc .vmem S1x1152x512 .bf16) (harg11 : arg11.IsWhole) (arg12 : Memref sig .tc .vmem S512x128 .bf16) (harg12 : arg12.IsWhole)

theorem out_q : out0_A_8 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 = qB e := by
  refine (View.read_writes_junk_eq_canon _ _).trans ?_
  funext y
  have hc := cover0_A_8 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 y
  rw [run_q] at hc ⊢
  rw [rd0_eq, rd1_eq, rd2_eq, rd3_eq, rd6_eq, t1_at, t2_at] at hc ⊢
  rw [← List.append_nil (qPieces _ _ _)]
  refine View.canon_append_of_pieces (qB e) [] _ ?_ y hc
  intro p hp x
  simp only [qPieces, List.mem_cons, List.not_mem_nil, or_false] at hp
  rcases hp with rfl | rfl | rfl | rfl | rfl | rfl | rfl | rfl | rfl | rfl | rfl | rfl | rfl | rfl | rfl | rfl
  · exact rope_piece e 1920 (by decide) (by decide) slices_S512x2048_o0_1920_S512x128 inb_S512x2048_S512x128_0_1920 x
  · exact nope_piece e 1792 (by decide) (by decide) slices_S512x2048_o0_1792_S512x128 inb_S512x2048_S512x128_0_1792 x
  · exact rope_piece e 1664 (by decide) (by decide) slices_S512x2048_o0_1664_S512x128 inb_S512x2048_S512x128_0_1664 x
  · exact nope_piece e 1536 (by decide) (by decide) slices_S512x2048_o0_1536_S512x128 inb_S512x2048_S512x128_0_1536 x
  · exact rope_piece e 1408 (by decide) (by decide) slices_S512x2048_o0_1408_S512x128 inb_S512x2048_S512x128_0_1408 x
  · exact nope_piece e 1280 (by decide) (by decide) slices_S512x2048_o0_1280_S512x128 inb_S512x2048_S512x128_0_1280 x
  · exact rope_piece e 1152 (by decide) (by decide) slices_S512x2048_o0_1152_S512x128 inb_S512x2048_S512x128_0_1152 x
  · exact nope_piece e 1024 (by decide) (by decide) slices_S512x2048_o0_1024_S512x128 inb_S512x2048_S512x128_0_1024 x
  · exact rope_piece e 896 (by decide) (by decide) slices_S512x2048_o0_896_S512x128 inb_S512x2048_S512x128_0_896 x
  · exact nope_piece e 768 (by decide) (by decide) slices_S512x2048_o0_768_S512x128 inb_S512x2048_S512x128_0_768 x
  · exact rope_piece e 640 (by decide) (by decide) slices_S512x2048_o0_640_S512x128 inb_S512x2048_S512x128_0_640 x
  · exact nope_piece e 512 (by decide) (by decide) slices_S512x2048_o0_512_S512x128 inb_S512x2048_S512x128_0_512 x
  · exact rope_piece e 384 (by decide) (by decide) slices_S512x2048_o0_384_S512x128 inb_S512x2048_S512x128_0_384 x
  · exact nope_piece e 256 (by decide) (by decide) slices_S512x2048_o0_256_S512x128 inb_S512x2048_S512x128_0_256 x
  · exact rope_piece e 128 (by decide) (by decide) slices_S512x2048_o0_128_S512x128 inb_S512x2048_S512x128_0_128 x
  · exact nope_piece e 0 (by decide) (by decide) slices_S512x2048_o0_0_S512x128 inb_S512x2048_S512x128_0_0 x

theorem out_k : out0_A_9 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 = kB e := by
  refine (View.read_writes_junk_eq_canon _ _).trans ?_
  funext y
  have hc := cover0_A_9 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 y
  rw [run_k] at hc ⊢
  rw [rd0_eq, rd7_eq, rd4_eq] at hc ⊢
  rw [← List.append_nil (_ :: _)]
  refine View.canon_append_of_pieces (kB e) [] _ ?_ y hc
  intro p hp x
  simp only [List.mem_cons, List.not_mem_nil, or_false] at hp
  subst hp
  exact k_piece e inb_S512x1024_S512x1024_0_0 x

theorem out_v : out0_A_10 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 = vB e := by
  refine (View.read_writes_junk_eq_canon _ _).trans ?_
  funext y
  have hc := cover0_A_10 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 y
  rw [run_v] at hc ⊢
  rw [rd0_eq, rd7_eq, rd5_eq] at hc ⊢
  rw [← List.append_nil (vPieces _)]
  refine View.canon_append_of_pieces (vB e) [] _ ?_ y hc
  intro p hp x
  simp only [vPieces, List.mem_cons, List.not_mem_nil, or_false] at hp
  rcases hp with rfl | rfl | rfl | rfl | rfl | rfl | rfl | rfl | rfl | rfl | rfl | rfl | rfl | rfl | rfl | rfl
  · exact one_piece e 1136 (by decide) (by decide) inb_S1x1152x512_S1x16x512_0_1136_0 x
  · exact val_piece e 1008 896 (by decide) (by decide) (by decide) slices_S1024x512_o896_0_S128x512 inb_S1x1152x512_S1x128x512_0_1008_0 x
  · exact one_piece e 992 (by decide) (by decide) inb_S1x1152x512_S1x16x512_0_992_0 x
  · exact val_piece e 864 768 (by decide) (by decide) (by decide) slices_S1024x512_o768_0_S128x512 inb_S1x1152x512_S1x128x512_0_864_0 x
  · exact one_piece e 848 (by decide) (by decide) inb_S1x1152x512_S1x16x512_0_848_0 x
  · exact val_piece e 720 640 (by decide) (by decide) (by decide) slices_S1024x512_o640_0_S128x512 inb_S1x1152x512_S1x128x512_0_720_0 x
  · exact one_piece e 704 (by decide) (by decide) inb_S1x1152x512_S1x16x512_0_704_0 x
  · exact val_piece e 576 512 (by decide) (by decide) (by decide) slices_S1024x512_o512_0_S128x512 inb_S1x1152x512_S1x128x512_0_576_0 x
  · exact one_piece e 560 (by decide) (by decide) inb_S1x1152x512_S1x16x512_0_560_0 x
  · exact val_piece e 432 384 (by decide) (by decide) (by decide) slices_S1024x512_o384_0_S128x512 inb_S1x1152x512_S1x128x512_0_432_0 x
  · exact one_piece e 416 (by decide) (by decide) inb_S1x1152x512_S1x16x512_0_416_0 x
  · exact val_piece e 288 256 (by decide) (by decide) (by decide) slices_S1024x512_o256_0_S128x512 inb_S1x1152x512_S1x128x512_0_288_0 x
  · exact one_piece e 272 (by decide) (by decide) inb_S1x1152x512_S1x16x512_0_272_0 x
  · exact val_piece e 144 128 (by decide) (by decide) (by decide) slices_S1024x512_o128_0_S128x512 inb_S1x1152x512_S1x128x512_0_144_0 x
  · exact one_piece e 128 (by decide) (by decide) inb_S1x1152x512_S1x16x512_0_128_0 x
  · exact val_piece e 0 0 (by decide) (by decide) (by decide) slices_S1024x512_o0_0_S128x512 inb_S1x1152x512_S1x128x512_0_0_0 x

theorem out_r : out0_A_11 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 = rB e := by
  refine (View.read_writes_junk_eq_canon _ _).trans ?_
  funext y
  have hc := cover0_A_11 (F := Ideal) c i e.arg1 e.harg1 e.arg2 e.harg2 e.arg3 e.harg3 e.arg4 e.harg4 e.arg5 e.harg5 e.arg6 e.harg6 e.arg7 e.harg7 e.arg8 e.harg8 arg9 harg9 arg10 harg10 arg11 harg11 arg12 harg12 e.x0 e.x1 e.x2 e.x3 e.x4 e.x5 e.x6 e.x7 y
  rw [run_r] at hc ⊢
  rw [rd0_eq, rd1_eq, rd2_eq] at hc ⊢
  rw [← List.append_nil (_ :: _)]
  refine View.canon_append_of_pieces (rB e) [] _ ?_ y hc
  intro p hp x
  simp only [List.mem_cons, List.not_mem_nil, or_false] at hp
  subst hp
  exact r_piece e inb_S512x128_S512x128_0_0 x

end Cert.Kernel3Ideal.Prep

end
-- ==== Proof.PrepRef.lean ====
/- The preparation's reference at an index. -/
module

public import proofs.«01_k».proof.Proof.Gen.Reference3Ideal.Read
public import Idealize.ShloMosaic.Lib.Pointwise

@[expose] public section

set_option maxRecDepth 16384

noncomputable section

namespace Cert.Reference3Ideal.Prep

open Cert.Reference3Ideal Cert.Reference3Ideal.Gen Cert.Reference3Ideal.Read Idealize.ShloMosaic Idealize.ShloMosaic.TcCoe
open Idealize.ShloMosaic.Pointwise

variable (x0 : FVec Ideal S4x4096x6848 .f32) (x1 x2 : FVec Ideal S4x4096x32 .f32) (x3 : FVec Ideal S384 .f32) (x4 : FVec Ideal S384x1536 .f32)
  (x5 : FVec Ideal S256 .f32) (x6 : FVec Ideal S256x2048 .f32)

/-! ## One row -/

/-- A row's query latents, normalised and weighted. -/
def qlat (p : Fin 6848 → EReal) (g : Fin 384 → EReal) (k : Fin 384) : EReal :=
  p ⟨k.val, by omega⟩ * Ideal.rsqrt (Ideal.div (∑ j : Fin 384, p ⟨j.val, by omega⟩ * p ⟨j.val, by omega⟩) (Ideal.ofBits .f32 0x43C00000#32) + Ideal.ofBits .f32 0x358637BD#32) * g k

/-- A row's key and value latents, normalised and weighted. -/
def klat (p : Fin 6848 → EReal) (g : Fin 256 → EReal) (k : Fin 256) : EReal :=
  p ⟨384 + k.val, by omega⟩ * Ideal.rsqrt (Ideal.div (∑ j : Fin 256, p ⟨384 + j.val, by omega⟩ * p ⟨384 + j.val, by omega⟩) (Ideal.ofBits .f32 0x43800000#32) + Ideal.ofBits .f32 0x358637BD#32) * g k

/-- A row's query at column `n`. -/
def qrow (p : Fin 6848 → EReal) (g : Fin 384 → EReal) (w : Fin 384 → Fin 1536 → EReal) (n : Fin 1536) : EReal :=
  ∑ k : Fin 384, qlat p g k * w k n

/-- A row's keys and values at column `n`. -/
def kvrow (p : Fin 6848 → EReal) (g : Fin 256 → EReal) (w : Fin 256 → Fin 2048 → EReal) (n : Fin 2048) : EReal :=
  ∑ k : Fin 256, klat p g k * w k n

/-- Entry `d` of head `h` of a row's query: 128 columns as they are, 64 rotated. -/
def qhead (y : Fin 1536 → EReal) (cs sn : Fin 32 → EReal) (h : Fin 8) (d : Fin 192) : EReal :=
  if h0 : d.val < 128 then y ⟨h.val * 192 + d.val, by omega⟩
  else if h1 : d.val - 128 < 32 then
    y ⟨h.val * 192 + (128 + (d.val - 128)), by omega⟩ * cs ⟨d.val - 128, h1⟩ - y ⟨h.val * 192 + (128 + (32 + (d.val - 128))), by omega⟩ * sn ⟨d.val - 128, h1⟩
  else
    y ⟨h.val * 192 + (128 + (32 + (d.val - 128 - 32))), by omega⟩ * cs ⟨d.val - 128 - 32, by omega⟩ + y ⟨h.val * 192 + (128 + (d.val - 128 - 32)), by omega⟩ * sn ⟨d.val - 128 - 32, by omega⟩

/-- Entry `d` of a row's rotated key. -/
def khead (p : Fin 6848 → EReal) (cs sn : Fin 32 → EReal) (d : Fin 64) : EReal :=
  if h1 : d.val < 32 then p ⟨640 + d.val, by omega⟩ * cs ⟨d.val, h1⟩ - p ⟨640 + (32 + d.val), by omega⟩ * sn ⟨d.val, h1⟩
  else p ⟨640 + (32 + (d.val - 32)), by omega⟩ * cs ⟨d.val - 32, by omega⟩ + p ⟨640 + (d.val - 32), by omega⟩ * sn ⟨d.val - 32, by omega⟩

/-- The factor of the queries. -/
def fac : EReal := Ideal.div (Ideal.rsqrt (Ideal.ofBits .f32 0x43400000#32)) (Ideal.log (Ideal.ofBits .f32 0x40000000#32))

/-! ## The reference at an index -/

theorem v16_at (b : Fin 4) (q : Fin 4096) (n : Fin 1536) : @Eq EReal (val_main_v16 (F := Ideal) x0 x3 x4 (ix3 b q n))
    (qrow (fun j => x0 (ix3 b q j)) (fun k => x3 (ix1 k)) (fun k n => x4 (ix2 k n)) n) := by
  unfold qrow qlat
  pointwise [val_main_v16, val_main_v15, val_main_v14, val_main_v13, val_main_v12, val_main_v11, val_main_v10, val_main_v9, val_main_v8, val_main_cst_1, val_main_v7, val_main_v6, val_main_cst_0, val_main_v5, val_main_v4, val_main_cst, val_main_v3, val_main_v0]

theorem v49_at (b : Fin 4) (q : Fin 4096) (n : Fin 2048) : @Eq EReal (val_main_v49 (F := Ideal) x0 x5 x6 (ix3 b q n))
    (kvrow (fun j => x0 (ix3 b q j)) (fun k => x5 (ix1 k)) (fun k n => x6 (ix2 k n)) n) := by
  unfold kvrow klat
  pointwise [val_main_v49, val_main_v48, val_main_v47, val_main_v46, val_main_v45, val_main_v44, val_main_v43, val_main_v42, val_main_v41, val_main_cst_4, val_main_v40, val_main_v39, val_main_cst_3, val_main_v38, val_main_v37, val_main_cst_2, val_main_v36, val_main_v1]

theorem v35_at (b : Fin 4) (q : Fin 4096) (h : Fin 8) (d : Fin 192) : @Eq EReal (val_main_v35 (F := Ideal) x0 x1 x2 x3 x4 (ix4 b q h d))
    (qhead (qrow (fun j => x0 (ix3 b q j)) (fun k => x3 (ix1 k)) (fun k n => x4 (ix2 k n))) (fun j => x1 (ix3 b q j)) (fun j => x2 (ix3 b q j)) h d) := by
  unfold qhead
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, v16_at]

theorem v61_at (b : Fin 4) (q : Fin 4096) (d : Fin 64) : @Eq EReal (val_main_v61 (F := Ideal) x0 x1 x2 (ix3 b q d))
    (khead (fun j => x0 (ix3 b q j)) (fun j => x1 (ix3 b q j)) (fun j => x2 (ix3 b q j)) d) := by
  unfold khead
  pointwise [val_main_v61, val_main_v60, val_main_v59, val_main_v58, val_main_v57, val_main_v56, val_main_v55, val_main_v54, val_main_v53, val_main_v2]

/-- The padding is zero. -/
theorem pad_zero : FloatOps.sitofp (F := Ideal) .f32 (0#32 : BitVec 32) = (0 : EReal) := by
  show (((0#32 : BitVec 32).toInt : ℝ) : EReal) = 0
  simp

/-- The ones are one. -/
theorem one_eq : Ideal.ofBits .f32 0x3F800000#32 = (1 : EReal) := by
  have e : Ideal.ofBits .f32 0x3F800000#32 = ((1 : ℝ) : EReal) := by
    simp [Ideal.ofBits, Ideal.ieee, -EReal.coe_mul]
    try norm_num
  rw [e, EReal.coe_one]

theorem ones_at (i : S_.Idx) : @Eq EReal (val_main_call1_v0 (F := Ideal) i) 1 := by
  have h : val_main_call1_v0 (F := Ideal) i = (fun _ => Ideal.ofBits .f32 0x3F800000#32 : S_.Idx → EReal) i := by
    unfold val_main_call1_v0 val_main_cst_7
    rfl
  rw [h]
  exact one_eq

theorem v74_at (b : Fin 4) (q : Fin 4096) (h : Fin 8) (e : Fin 256) :
    @Eq EReal (val_main_v74 (F := Ideal) x0 x1 x2 x3 x4 (ix2 (⟨4096 * b.val + q.val, by omega⟩ : Fin 16384) (⟨256 * h.val + e.val, by omega⟩ : Fin 2048)))
      (if he : e.val < 192 then
        qhead (qrow (fun j => x0 (ix3 b q j)) (fun k => x3 (ix1 k)) (fun k n => x4 (ix2 k n))) (fun j => x1 (ix3 b q j)) (fun j => x2 (ix3 b q j)) h ⟨e.val, he⟩ * fac
        else 0) := by
  unfold fac
  rw [← pad_zero]
  pointwise [val_main_v74, val_main_v68, val_main_v67, val_main_call0_v0, val_main_c, val_main_v66, val_main_v65, val_main_v64, val_main_v63, val_main_v62, val_main_cst_5, val_main_cst_6, v35_at]

theorem v76_at (b : Fin 4) (q : Fin 4096) (n : Fin 1024) :
    @Eq EReal (val_main_v76 (F := Ideal) x0 x5 x6 (ix2 (⟨4096 * b.val + q.val, by omega⟩ : Fin 16384) n))
      (kvrow (fun j => x0 (ix3 b q j)) (fun k => x5 (ix1 k)) (fun k n => x6 (ix2 k n)) ⟨n.val / 128 * 256 + n.val % 128, by omega⟩) := by
  pointwise [val_main_v76, val_main_v75, val_main_v51, val_main_v50, v49_at]

theorem v78_at (b : Fin 4) (t : Fin 8) (n : Fin 1152) (z : Fin 512) :
    @Eq EReal (val_main_v78 (F := Ideal) x0 x5 x6 (ix3 (⟨8 * b.val + t.val, by omega⟩ : Fin 32) n z))
      (if hn : 8 * b.val + t.val < 32 ∧ n.val / 144 < 8 ∧ n.val % 144 < 128 then
        kvrow (fun j => x0 (ix3 b (⟨(8 * b.val + t.val) % 8 * 512 + z.val, by omega⟩ : Fin 4096) j)) (fun k => x5 (ix1 k)) (fun k n => x6 (ix2 k n)) ⟨n.val / 144 * 256 + (128 + n.val % 144), by omega⟩
        else 1) := by
  pointwise [val_main_v78, val_main_v77, val_main_v71, ones_at, val_main_v70, val_main_v69, val_main_v52, val_main_v50, v49_at]

theorem v79_at (b : Fin 4) (q : Fin 4096) (d : Fin 128) :
    @Eq EReal (val_main_v79 (F := Ideal) x0 x1 x2 (ix2 (⟨4096 * b.val + q.val, by omega⟩ : Fin 16384) d))
      (if hd : d.val < 64 then khead (fun j => x0 (ix3 b q j)) (fun j => x1 (ix3 b q j)) (fun j => x2 (ix3 b q j)) ⟨d.val, hd⟩ else 0) := by
  rw [← pad_zero]
  pointwise [val_main_v79, val_main_v73, val_main_v72, val_main_call2_v0, val_main_c_8, v61_at]

end Cert.Reference3Ideal.Prep

end
-- ==== Proof.PrepEq.lean ====
/- The attention's preparation: the kernel's rows are the reference's. -/
module

public import proofs.«01_k».proof.Proof.PrepBlock
public import proofs.«01_k».proof.Proof.PrepRef
public import proofs.«01_k».proof.Proof.ProjFinal

@[expose] public section

set_option maxRecDepth 16384

noncomputable section

namespace Cert.Kernel3Ideal.Prep

open Idealize.ShloMosaic Cert.Reference3Ideal.Prep

/-! ## What the kernel is given -/

/-- A row given to the kernel: the projection's first 704 columns, the negated second half of the rotary ones, the first half. -/
def Given (p : Fin 6848 → EReal) (x : Fin 768 → EReal) : Prop :=
  ∀ n : Fin 768, x n = if n.val < 704 then p ⟨n.val, by omega⟩ else if n.val < 736 then - p ⟨672 + (n.val - 704), by omega⟩ else p ⟨640 + (n.val - 736), by omega⟩

/-- A row of a table given to the kernel: its 32 entries twice, then zeros. -/
def Twice (t : Fin 32 → EReal) (c : Fin 128 → EReal) : Prop :=
  ∀ d : Fin 128, c d = if d.val < 64 then t ⟨d.val % 32, by omega⟩ else 0

/-- The queries' weight given to the kernel: of each head its 192 columns, the negated second half of the rotary ones, the first half. -/
def Turned (wu : Fin 384 → Fin 1536 → EReal) (w : Fin 384 → Fin 2048 → EReal) : Prop :=
  ∀ (k : Fin 384) (h : Fin 8) (n : Fin 256), w k ⟨256 * h.val + n.val, by omega⟩
    = if h0 : n.val < 192 then wu k ⟨h.val * 192 + n.val, by omega⟩
      else if h1 : n.val - 192 < 32 then - wu k ⟨h.val * 192 + (128 + (32 + (n.val - 192))), by omega⟩
      else wu k ⟨h.val * 192 + (128 + (n.val - 192 - 32)), by omega⟩

/-- The query latents of a row are real numbers. -/
def RealLow (p : Fin 6848 → EReal) : Prop := ∀ k : Fin 384, ∃ r : ℝ, p ⟨k.val, by omega⟩ = r

/-! ## Real numbers -/

theorem coe_sum (n : ℕ) (f : Fin n → ℝ) : ∑ k, ((f k : ℝ) : EReal) = ((∑ k, f k : ℝ) : EReal) := by
  induction (Finset.univ : Finset (Fin n)) using Finset.cons_induction with
  | empty => simp
  | cons a s ha ih => rw [Finset.sum_cons, Finset.sum_cons, ih, EReal.coe_add]

theorem eps_eq : Ideal.ofBits .f32 0x358637BD#32 = ((8796093 / 8796093022208 : ℝ) : EReal) := by
  simp [Ideal.ofBits, Ideal.ieee, -EReal.coe_mul]; norm_num

theorem width_eq : Ideal.ofBits .f32 0x43C00000#32 = ((384 : ℝ) : EReal) := by
  simp [Ideal.ofBits, Ideal.ieee, -EReal.coe_mul]; norm_num

/-- Normalised query latents of real numbers are real numbers. -/
theorem qlat_real (p : Fin 6848 → EReal) (g : Fin 384 → EReal) (hp : RealLow p) (hg : ∀ k, ∃ r : ℝ, g k = r)
    (k : Fin 384) : ∃ r : ℝ, qlat p g k = r := by
  unfold RealLow at hp
  choose pr hp using hp
  choose gr hg using hg
  have h0 : 0 < (∑ j : Fin 384, pr j * pr j) * (1 / 384) + (8796093 / 8796093022208 : ℝ) := by
    have : 0 ≤ ∑ j : Fin 384, pr j * pr j := Finset.sum_nonneg fun j _ => mul_self_nonneg _
    positivity
  refine ⟨pr k * (Real.sqrt ((∑ j : Fin 384, pr j * pr j) * (1 / 384) + (8796093 / 8796093022208 : ℝ)))⁻¹ * gr k, ?_⟩
  unfold qlat
  simp only [hp, hg, ← EReal.coe_mul, coe_sum]
  rw [eps_eq, width_eq, Ideal.div_coe (by norm_num : (384 : ℝ) ≠ 0), ← EReal.coe_mul, ← EReal.coe_add, Ideal.rsqrt_coe, if_neg (not_lt.2 h0.le), if_neg h0.ne',
    ← EReal.coe_mul, ← EReal.coe_mul]

/-- The scale is the reference's factor. -/
theorem scale_eq : fac = scale := by
  have e2 : Ideal.ofBits .f32 0x40000000#32 = ((2 : ℝ) : EReal) := by
    simp [Ideal.ofBits, Ideal.ieee, -EReal.coe_mul]; norm_num
  have e : Ideal.ofBits .f32 0x43400000#32 = ((192 : ℝ) : EReal) := by
    simp [Ideal.ofBits, Ideal.ieee, -EReal.coe_mul]; norm_num
  have hl : Ideal.log ((2 : ℝ) : EReal) = ((Real.log 2 : ℝ) : EReal) := by simp
  have hr : Ideal.rsqrt ((192 : ℝ) : EReal) = (((Real.sqrt 192)⁻¹ : ℝ) : EReal) := by simp
  have h0 : Real.log 2 ≠ 0 := (Real.log_pos one_lt_two).ne'
  rw [fac, scale, e, e2, hl, hr, Ideal.div_coe h0, ← EReal.coe_mul, one_div]

/-! ## The rows -/

variable (p : Fin 6848 → EReal) (x : Fin 768 → EReal)
variable (hx : Given p x)
include hx

theorem x_low (n : Fin 768) (h : n.val < 704) : x n = p ⟨n.val, by omega⟩ := by rw [hx, if_pos h]

theorem qn_eq (g : Fin 384 → EReal) (k : Fin 384) : qn x g k = qlat p g k := by
  have h : ∀ j : Fin 384, x ⟨j.val, by omega⟩ = p ⟨j.val, by omega⟩ := fun j => x_low p x hx ⟨j.val, by omega⟩ (by show j.val < 704; omega)
  unfold qn qlat
  simp only [h]

theorem kn_eq (g : Fin 256 → EReal) (k : Fin 256) : kn x g k = klat p g k := by
  have h : ∀ j : Fin 256, x ⟨384 + j.val, by omega⟩ = p ⟨384 + j.val, by omega⟩ := fun j => x_low p x hx ⟨384 + j.val, by omega⟩ (by show 384 + j.val < 704; omega)
  unfold kn klat
  simp only [h]

theorem kOut_eq (g : Fin 256 → EReal) (w : Fin 256 → Fin 1024 → EReal) (wu : Fin 256 → Fin 2048 → EReal)
    (hw : ∀ k n, w k n = wu k ⟨n.val / 128 * 256 + n.val % 128, by omega⟩) (n : Fin 1024) :
    kOut x g w n = kvrow p g wu ⟨n.val / 128 * 256 + n.val % 128, by omega⟩ := by
  unfold kOut kvrow
  simp only [hw, kn_eq p x hx]

theorem vOut_eq (g : Fin 256 → EReal) (w : Fin 1024 → Fin 256 → EReal) (wu : Fin 256 → Fin 2048 → EReal)
    (hw : ∀ n k, w n k = wu k ⟨n.val / 128 * 256 + (128 + n.val % 128), by omega⟩) (n : Fin 1152) :
    vOut x g w n = if h : n.val % 144 < 128 then kvrow p g wu ⟨n.val / 144 * 256 + (128 + n.val % 144), by omega⟩ else 1 := by
  unfold vOut kvrow
  by_cases h : n.val % 144 < 128
  · rw [dif_pos h, dif_pos h]
    refine Finset.sum_congr rfl fun k _ => ?_
    rw [hw, kn_eq p x hx, mul_comm]
    congr 2
    apply Fin.ext
    show (n.val / 144 * 128 + n.val % 144) / 128 * 256 + (128 + (n.val / 144 * 128 + n.val % 144) % 128) = n.val / 144 * 256 + (128 + n.val % 144)
    omega
  · rw [dif_neg h, dif_neg h]

section turn

variable (c s : Fin 128 → EReal) (cs sn : Fin 32 → EReal)
variable (hc : Twice cs c) (hs : Twice sn s)
include hc hs

omit hx in
/-- The rotation of 128 columns whose last 64 are the first 64 turned. -/
theorem turned_eq (v : Fin 128 → EReal) (y : Fin 64 → EReal)
    (hv : ∀ d : Fin 64, v ⟨d.val, by omega⟩ = y d)
    (h0 : ∀ d : Fin 32, v ⟨64 + d.val, by omega⟩ = - y ⟨32 + d.val, by omega⟩)
    (h1 : ∀ d : Fin 32, v ⟨96 + d.val, by omega⟩ = y ⟨d.val, by omega⟩) (d : Fin 128) :
    turned v c s d = if hd : d.val < 64 then
        (if h1 : d.val < 32 then y ⟨d.val, by omega⟩ * cs ⟨d.val, h1⟩ - y ⟨32 + d.val, by omega⟩ * sn ⟨d.val, h1⟩
          else y ⟨32 + (d.val - 32), by omega⟩ * cs ⟨d.val - 32, by omega⟩ + y ⟨d.val - 32, by omega⟩ * sn ⟨d.val - 32, by omega⟩)
      else 0 := by
  unfold turned
  rw [hc, hs]
  by_cases hd : d.val < 64
  · rw [if_pos hd, if_pos hd, dif_pos hd]
    have e0 : v d = y ⟨d.val, hd⟩ := hv ⟨d.val, hd⟩
    by_cases hd1 : d.val < 32
    · have e1 : v ⟨(d.val + 128 - 64) % 128, Nat.mod_lt _ (by decide)⟩ = - y ⟨32 + d.val, by omega⟩ :=
        (congrArg v (Fin.ext (by show (d.val + 128 - 64) % 128 = 64 + d.val; omega))).trans (h0 ⟨d.val, hd1⟩)
      have e2 : (⟨d.val % 32, Nat.mod_lt _ (by decide)⟩ : Fin 32) = ⟨d.val, hd1⟩ := Fin.ext (by show d.val % 32 = d.val; omega)
      rw [dif_pos hd1, e0, e1, e2, EReal.neg_mul, ← sub_eq_add_neg]
    · have e1 : v ⟨(d.val + 128 - 64) % 128, Nat.mod_lt _ (by decide)⟩ = y ⟨d.val - 32, by omega⟩ :=
        (congrArg v (Fin.ext (by show (d.val + 128 - 64) % 128 = 96 + (d.val - 32); omega))).trans (h1 ⟨d.val - 32, by omega⟩)
      have e2 : (⟨d.val % 32, Nat.mod_lt _ (by decide)⟩ : Fin 32) = ⟨d.val - 32, by omega⟩ := Fin.ext (by show d.val % 32 = d.val - 32; omega)
      have e3 : y ⟨d.val, hd⟩ = y ⟨32 + (d.val - 32), by omega⟩ := congrArg y (Fin.ext (by show d.val = 32 + (d.val - 32); omega))
      rw [dif_neg hd1, e0, e1, e2, e3]
  · rw [if_neg hd, if_neg hd, dif_neg hd, mul_zero, mul_zero, add_zero]

theorem rOut_eq (d : Fin 128) : rOut x c s d = if hd : d.val < 64 then khead p cs sn ⟨d.val, hd⟩ else 0 := by
  unfold rOut
  rw [turned_eq c s cs sn hc hs (fun j => x ⟨640 + j.val, by omega⟩) (fun d => p ⟨640 + d.val, by omega⟩)
    (fun d => x_low p x hx ⟨640 + d.val, by omega⟩ (by show 640 + d.val < 704; omega))
    (fun d => ?_) (fun d => ?_)]
  · rfl
  · show x ⟨640 + (64 + d.val), _⟩ = - p ⟨640 + (32 + d.val), _⟩
    rw [hx, if_neg (by show ¬ 640 + (64 + d.val) < 704; omega), if_pos (by show 640 + (64 + d.val) < 736; omega)]
    congr 2
    apply Fin.ext
    show 672 + (640 + (64 + d.val) - 704) = 640 + (32 + d.val)
    omega
  · show x ⟨640 + (96 + d.val), _⟩ = p ⟨640 + d.val, _⟩
    rw [hx, if_neg (by show ¬ 640 + (96 + d.val) < 704; omega), if_neg (by show ¬ 640 + (96 + d.val) < 736; omega)]
    congr 1
    apply Fin.ext
    show 640 + (640 + (96 + d.val) - 736) = 640 + d.val
    omega

variable (g : Fin 384 → EReal) (w : Fin 384 → Fin 2048 → EReal) (wu : Fin 384 → Fin 1536 → EReal)
variable (hw : Turned wu w) (hp : RealLow p) (hg : ∀ k, ∃ r : ℝ, g k = r) (hwu : ∀ k n, ∃ r : ℝ, wu k n = r)
include hw

omit hc hs in
theorem qcol_low (h : Fin 8) (n : ℕ) (hn : n < 192) (i : Fin 2048) (hi : i.val = 256 * h.val + n) :
    qcol x g w i = qrow p g wu ⟨h.val * 192 + n, by omega⟩ := by
  have ei : i = ⟨256 * h.val + (⟨n, by omega⟩ : Fin 256).val, by show 256 * h.val + n < 2048; omega⟩ := Fin.ext hi
  refine (congrArg (qcol x g w) ei).trans ?_
  unfold qcol qrow
  refine Finset.sum_congr rfl fun k _ => ?_
  rw [hw, qn_eq p x hx, dif_pos (show n < 192 from hn)]

omit hc hs in
theorem qcol_high (h : Fin 8) (n : ℕ) (hn : n < 32) (i : Fin 2048) (hi : i.val = 256 * h.val + (224 + n)) :
    qcol x g w i = qrow p g wu ⟨h.val * 192 + (128 + n), by omega⟩ := by
  have ei : i = ⟨256 * h.val + (⟨224 + n, by omega⟩ : Fin 256).val, by show 256 * h.val + (224 + n) < 2048; omega⟩ := Fin.ext hi
  refine (congrArg (qcol x g w) ei).trans ?_
  unfold qcol qrow
  refine Finset.sum_congr rfl fun k _ => ?_
  rw [hw, qn_eq p x hx, dif_neg (show ¬ 224 + n < 192 by omega), dif_neg (show ¬ 224 + n - 192 < 32 by omega)]
  congr 2
  apply Fin.ext
  show h.val * 192 + (128 + (224 + n - 192 - 32)) = h.val * 192 + (128 + n)
  omega

include hp hg hwu

omit hc hs in
theorem qcol_neg (h : Fin 8) (n : ℕ) (hn : n < 32) (i : Fin 2048) (hi : i.val = 256 * h.val + (192 + n)) :
    qcol x g w i = - qrow p g wu ⟨h.val * 192 + (128 + (32 + n)), by omega⟩ := by
  have ei : i = ⟨256 * h.val + (⟨192 + n, by omega⟩ : Fin 256).val, by show 256 * h.val + (192 + n) < 2048; omega⟩ := Fin.ext hi
  refine (congrArg (qcol x g w) ei).trans ?_
  have hq := qlat_real p g hp hg
  choose qr hq using hq
  choose wr hwu using hwu
  unfold qcol qrow
  refine Eq.trans (Finset.sum_congr rfl fun k _ => ?_) (Cert.Kernel2Ideal.Proj.sum_neg 384 (fun k => qlat p g k)
    (fun k => wu k ⟨h.val * 192 + (128 + (32 + n)), by omega⟩) qr (fun k => wr k _) hq (fun k => hwu k _))
  rw [hw, qn_eq p x hx, dif_neg (show ¬ 192 + n < 192 by omega), dif_pos (show 192 + n - 192 < 32 by omega)]
  congr 3
  apply Fin.ext
  show h.val * 192 + (128 + (32 + (192 + n - 192))) = h.val * 192 + (128 + (32 + n))
  omega

theorem qOut_eq (h : Fin 8) (e : Fin 256) :
    qOut x c s g w ⟨256 * h.val + e.val, by omega⟩ = if he : e.val < 192 then qhead (qrow p g wu) cs sn h ⟨e.val, he⟩ * fac else 0 := by
  rw [scale_eq]
  unfold qOut
  by_cases h0 : e.val < 128
  · rw [if_pos (by show (256 * h.val + e.val) % 256 < 128; omega), dif_pos (by omega : e.val < 192)]
    unfold qhead
    rw [dif_pos (show e.val < 128 from h0)]
    rw [qcol_low p x hx g w wu hw h e.val (by omega) _ rfl]
  · rw [if_neg (by show ¬ (256 * h.val + e.val) % 256 < 128; omega)]
    have ed : (⟨(256 * h.val + e.val - 128) % 128, Nat.mod_lt _ (by decide)⟩ : Fin 128) = ⟨e.val - 128, by omega⟩ :=
      Fin.ext (by show (256 * h.val + e.val - 128) % 128 = e.val - 128; omega)
    have eb : (256 * h.val + e.val) / 256 * 256 = 256 * h.val := by omega
    rw [turned_eq c s cs sn hc hs _ (fun d => qrow p g wu ⟨h.val * 192 + (128 + d.val), by omega⟩)
      (fun d => qcol_low p x hx g w wu hw h (128 + d.val) (by omega) _ (by show (256 * h.val + e.val) / 256 * 256 + 128 + d.val = _; omega))
      (fun d => qcol_neg p x hx g w wu hw hp hg hwu h d.val (by omega) _ (by show (256 * h.val + e.val) / 256 * 256 + 128 + (64 + d.val) = _; omega))
      (fun d => qcol_high p x hx g w wu hw h d.val (by omega) _ (by show (256 * h.val + e.val) / 256 * 256 + 128 + (96 + d.val) = _; omega))]
    rw [ed]
    by_cases h1 : e.val < 192
    · rw [dif_pos h1, dif_pos (show e.val - 128 < 64 by omega)]
      unfold qhead
      rw [dif_neg (show ¬ e.val < 128 from h0)]
    · rw [dif_neg h1, dif_neg (show ¬ e.val - 128 < 64 by omega), zero_mul]

end turn

end Cert.Kernel3Ideal.Prep

end
-- ==== Proof.PrepArray.lean ====
/- The attention's preparation: the four result arrays after the launch, from the arrays the kernel is given. -/
module

public import proofs.«01_k».proof.Proof.PrepBlock
public import proofs.«01_k».proof.Proof.Gen.Kernel3Ideal.Value
public import Idealize.ShloMosaic.Lib.Pipeline.ValueKit

@[expose] public section

set_option maxRecDepth 16384

noncomputable section

namespace Cert.Kernel3Ideal.Prep

open Cert.Kernel3Ideal Cert.Kernel3Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- What the body meets at grid point `t`. -/
def env (t : Fin cfg0.N) : Env Ideal where
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  x0 := iblk m c 0 t
  x1 := iblk m c 1 t
  x2 := iblk m c 2 t
  x3 := iblk m c 3 t
  x4 := iblk m c 4 t
  x5 := iblk m c 5 t
  x6 := iblk m c 6 t
  x7 := iblk m c 7 t

theorem out_q_args (i : grid0.Coords) (arg1 : Memref sig .tc .vmem S512x768 .bf16) (harg1 : arg1.IsWhole) (arg2 : Memref sig .tc .vmem S512x128 .f32) (harg2 : arg2.IsWhole) (arg3 : Memref sig .tc .vmem S512x128 .f32) (harg3 : arg3.IsWhole) (arg4 : Memref sig .tc .vmem S384x2048 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S1x1152x512 .bf16) (harg11 : arg11.IsWhole) (arg12 : Memref sig .tc .vmem S512x128 .bf16) (harg12 : arg12.IsWhole) (x0 : Vec Ideal S512x768 .bf16) (x1 : Vec Ideal S512x128 .f32) (x2 : Vec Ideal S512x128 .f32) (x3 : Vec Ideal S384x2048 .bf16) (x4 : Vec Ideal S256x1024 .bf16) (x5 : Vec Ideal S1024x256 .bf16) (x6 : Vec Ideal S1x384 .f32) (x7 : Vec Ideal S1x256 .f32) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = qB ⟨arg1, harg1, arg2, harg2, arg3, harg3, arg4, harg4, arg5, harg5, arg6, harg6, arg7, harg7, arg8, harg8, x0, x1, x2, x3, x4, x5, x6, x7⟩ :=
  out_q ⟨arg1, harg1, arg2, harg2, arg3, harg3, arg4, harg4, arg5, harg5, arg6, harg6, arg7, harg7, arg8, harg8, x0, x1, x2, x3, x4, x5, x6, x7⟩ c i arg9 harg9 arg10 harg10 arg11 harg11 arg12 harg12

theorem out_k_args (i : grid0.Coords) (arg1 : Memref sig .tc .vmem S512x768 .bf16) (harg1 : arg1.IsWhole) (arg2 : Memref sig .tc .vmem S512x128 .f32) (harg2 : arg2.IsWhole) (arg3 : Memref sig .tc .vmem S512x128 .f32) (harg3 : arg3.IsWhole) (arg4 : Memref sig .tc .vmem S384x2048 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S1x1152x512 .bf16) (harg11 : arg11.IsWhole) (arg12 : Memref sig .tc .vmem S512x128 .bf16) (harg12 : arg12.IsWhole) (x0 : Vec Ideal S512x768 .bf16) (x1 : Vec Ideal S512x128 .f32) (x2 : Vec Ideal S512x128 .f32) (x3 : Vec Ideal S384x2048 .bf16) (x4 : Vec Ideal S256x1024 .bf16) (x5 : Vec Ideal S1024x256 .bf16) (x6 : Vec Ideal S1x384 .f32) (x7 : Vec Ideal S1x256 .f32) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = kB ⟨arg1, harg1, arg2, harg2, arg3, harg3, arg4, harg4, arg5, harg5, arg6, harg6, arg7, harg7, arg8, harg8, x0, x1, x2, x3, x4, x5, x6, x7⟩ :=
  out_k ⟨arg1, harg1, arg2, harg2, arg3, harg3, arg4, harg4, arg5, harg5, arg6, harg6, arg7, harg7, arg8, harg8, x0, x1, x2, x3, x4, x5, x6, x7⟩ c i arg9 harg9 arg10 harg10 arg11 harg11 arg12 harg12

theorem out_v_args (i : grid0.Coords) (arg1 : Memref sig .tc .vmem S512x768 .bf16) (harg1 : arg1.IsWhole) (arg2 : Memref sig .tc .vmem S512x128 .f32) (harg2 : arg2.IsWhole) (arg3 : Memref sig .tc .vmem S512x128 .f32) (harg3 : arg3.IsWhole) (arg4 : Memref sig .tc .vmem S384x2048 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S1x1152x512 .bf16) (harg11 : arg11.IsWhole) (arg12 : Memref sig .tc .vmem S512x128 .bf16) (harg12 : arg12.IsWhole) (x0 : Vec Ideal S512x768 .bf16) (x1 : Vec Ideal S512x128 .f32) (x2 : Vec Ideal S512x128 .f32) (x3 : Vec Ideal S384x2048 .bf16) (x4 : Vec Ideal S256x1024 .bf16) (x5 : Vec Ideal S1024x256 .bf16) (x6 : Vec Ideal S1x384 .f32) (x7 : Vec Ideal S1x256 .f32) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = vB ⟨arg1, harg1, arg2, harg2, arg3, harg3, arg4, harg4, arg5, harg5, arg6, harg6, arg7, harg7, arg8, harg8, x0, x1, x2, x3, x4, x5, x6, x7⟩ :=
  out_v ⟨arg1, harg1, arg2, harg2, arg3, harg3, arg4, harg4, arg5, harg5, arg6, harg6, arg7, harg7, arg8, harg8, x0, x1, x2, x3, x4, x5, x6, x7⟩ c i arg9 harg9 arg10 harg10 arg11 harg11 arg12 harg12

theorem out_r_args (i : grid0.Coords) (arg1 : Memref sig .tc .vmem S512x768 .bf16) (harg1 : arg1.IsWhole) (arg2 : Memref sig .tc .vmem S512x128 .f32) (harg2 : arg2.IsWhole) (arg3 : Memref sig .tc .vmem S512x128 .f32) (harg3 : arg3.IsWhole) (arg4 : Memref sig .tc .vmem S384x2048 .bf16) (harg4 : arg4.IsWhole) (arg5 : Memref sig .tc .vmem S256x1024 .bf16) (harg5 : arg5.IsWhole) (arg6 : Memref sig .tc .vmem S1024x256 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S1x1152x512 .bf16) (harg11 : arg11.IsWhole) (arg12 : Memref sig .tc .vmem S512x128 .bf16) (harg12 : arg12.IsWhole) (x0 : Vec Ideal S512x768 .bf16) (x1 : Vec Ideal S512x128 .f32) (x2 : Vec Ideal S512x128 .f32) (x3 : Vec Ideal S384x2048 .bf16) (x4 : Vec Ideal S256x1024 .bf16) (x5 : Vec Ideal S1024x256 .bf16) (x6 : Vec Ideal S1x384 .f32) (x7 : Vec Ideal S1x256 .f32) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = rB ⟨arg1, harg1, arg2, harg2, arg3, harg3, arg4, harg4, arg5, harg5, arg6, harg6, arg7, harg7, arg8, harg8, x0, x1, x2, x3, x4, x5, x6, x7⟩ :=
  out_r ⟨arg1, harg1, arg2, harg2, arg3, harg3, arg4, harg4, arg5, harg5, arg6, harg6, arg7, harg7, arg8, harg8, x0, x1, x2, x3, x4, x5, x6, x7⟩ c i arg9 harg9 arg10 harg10 arg11 harg11 arg12 harg12

theorem afterQ (t : Fin cfg0.N) : (dats m 0 c).after 8 t = qB (env m c t) := by
  rw [after0_8]
  simp only [outsAt0]
  rw [out_q_args c]
  rfl

theorem afterK (t : Fin cfg0.N) : (dats m 0 c).after 9 t = kB (env m c t) := by
  rw [after0_9]
  simp only [outsAt0]
  rw [out_k_args c]
  rfl

theorem afterV (t : Fin cfg0.N) : (dats m 0 c).after 10 t = vB (env m c t) := by
  rw [after0_10]
  simp only [outsAt0]
  rw [out_v_args c]
  rfl

theorem afterR (t : Fin cfg0.N) : (dats m 0 c).after 11 t = rB (env m c t) := by
  rw [after0_11]
  simp only [outsAt0]
  rw [out_r_args c]
  rfl

/-- The windows' blocks: point `t` is at rows `512 t ..`, its latents being block 8 of the projection's columns. -/
theorem index_all : ∀ t : Fin grid0.N,
    win0_0.index t = ![t.val, 8] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0, 0] ∧ win0_11.index t = ![t.val, 0] := by decide +kernel

/-! ## The arrays the kernel is given, row by row -/

def X (i : Fin 16384) : Fin 768 → EReal := fun j => V m c main_v21 (ix2 i (⟨6144 + j.val, by omega⟩ : Fin 6912))
def C (i : Fin 16384) : Fin 128 → EReal := fun j => V m c main_v2 (ix2 i j)
def S (i : Fin 16384) : Fin 128 → EReal := fun j => V m c main_v5 (ix2 i j)
def WQ : Fin 384 → Fin 2048 → EReal := fun k n => V m c main_v30 (ix2 k n)
def WK : Fin 256 → Fin 1024 → EReal := fun k n => V m c main_v9 (ix2 k n)
def WV : Fin 1024 → Fin 256 → EReal := fun n k => V m c main_v13 (ix2 n k)
def QG : Fin 384 → EReal := fun j => V m c main_v31 (ix2 (0 : Fin 1) j)
def KG : Fin 256 → EReal := fun j => V m c main_v32 (ix2 (0 : Fin 1) j)

variable (t : Fin cfg0.N)

theorem xr_eq (r : Fin 512) (i : Fin 16384) (hi : i.val = t.val * 512 + r.val) : xr (env m c t) r = X m c i := by
  funext j
  show iblk m c 0 t (ix2 r j) = V m c main_v21 (ix2 i (⟨6144 + j.val, by omega⟩ : Fin 6912))
  blk_ext [iblk, index_all, hi]

theorem cr_eq (r : Fin 512) (i : Fin 16384) (hi : i.val = t.val * 512 + r.val) : cr (env m c t) r = C m c i := by
  funext j
  show iblk m c 1 t (ix2 r j) = V m c main_v2 (ix2 i j)
  blk_ext [iblk, index_all, hi]

theorem sr_eq (r : Fin 512) (i : Fin 16384) (hi : i.val = t.val * 512 + r.val) : sr (env m c t) r = S m c i := by
  funext j
  show iblk m c 2 t (ix2 r j) = V m c main_v5 (ix2 i j)
  blk_ext [iblk, index_all, hi]

theorem wq_eq : wq (env m c t) = WQ m c := by
  funext k n
  show iblk m c 3 t (ix2 k n) = V m c main_v30 (ix2 k n)
  blk_ext [iblk, index_all]

theorem wk_eq : wk (env m c t) = WK m c := by
  funext k n
  show iblk m c 4 t (ix2 k n) = V m c main_v9 (ix2 k n)
  blk_ext [iblk, index_all]

theorem wv_eq : wv (env m c t) = WV m c := by
  funext n k
  show iblk m c 5 t (ix2 n k) = V m c main_v13 (ix2 n k)
  blk_ext [iblk, index_all]

theorem qg_eq : qg (env m c t) = QG m c := by
  funext j
  show iblk m c 6 t (ix2 (0 : Fin 1) j) = V m c main_v31 (ix2 (0 : Fin 1) j)
  blk_ext [iblk, index_all]

theorem kg_eq : kg (env m c t) = KG m c := by
  funext j
  show iblk m c 7 t (ix2 (0 : Fin 1) j) = V m c main_v32 (ix2 (0 : Fin 1) j)
  blk_ext [iblk, index_all]

/-! ## The result arrays -/

def resultQ : Vec Ideal S16384x2048 .bf16 := fun i => qOut (X m c (i 0)) (C m c (i 0)) (S m c (i 0)) (QG m c) (WQ m c) (i 1)
def resultK : Vec Ideal S16384x1024 .bf16 := fun i => kOut (X m c (i 0)) (KG m c) (WK m c) (i 1)
def resultV : Vec Ideal S32x1152x512 .bf16 := fun i =>
  vOut (X m c ⟨512 * (i 0).val + (i 2).val, by have h : (i 0).val < 32 := (i 0).isLt; have h' : (i 2).val < 512 := (i 2).isLt; omega⟩) (KG m c) (WV m c) (i 1)
def resultR : Vec Ideal S16384x128 .bf16 := fun i => rOut (X m c (i 0)) (C m c (i 0)) (S m c (i 0)) (i 1)

theorem qB_at (y : S512x2048.Idx) (i : S16384x2048.Idx) (h0 : (i 0).val = t.val * 512 + (y 0).val) (h1 : (i 1).val = (y 1).val) :
    qB (env m c t) y = resultQ m c i := by
  have e1 : i 1 = y 1 := Fin.ext h1
  unfold qB resultQ
  rw [xr_eq m c t (y 0) (i 0) h0, cr_eq m c t (y 0) (i 0) h0, sr_eq m c t (y 0) (i 0) h0, qg_eq, wq_eq, e1]

theorem kB_at (y : S512x1024.Idx) (i : S16384x1024.Idx) (h0 : (i 0).val = t.val * 512 + (y 0).val) (h1 : (i 1).val = (y 1).val) :
    kB (env m c t) y = resultK m c i := by
  have e1 : i 1 = y 1 := Fin.ext h1
  unfold kB resultK
  rw [xr_eq m c t (y 0) (i 0) h0, kg_eq, wk_eq, e1]

theorem vB_at (y : S1x1152x512.Idx) (i : S32x1152x512.Idx) (h0 : (i 0).val = t.val) (h1 : (i 1).val = (y 1).val) (h2 : (i 2).val = (y 2).val) :
    vB (env m c t) y = resultV m c i := by
  have e1 : i 1 = y 1 := Fin.ext h1
  unfold vB resultV
  rw [xr_eq m c t (y 2) ⟨512 * (i 0).val + (i 2).val, by have h : (i 0).val < 32 := (i 0).isLt; have h' : (i 2).val < 512 := (i 2).isLt; omega⟩
    (by show 512 * (i 0).val + (i 2).val = t.val * 512 + (y 2).val; omega), kg_eq, wv_eq, e1]

theorem rB_at (y : S512x128.Idx) (i : S16384x128.Idx) (h0 : (i 0).val = t.val * 512 + (y 0).val) (h1 : (i 1).val = (y 1).val) :
    rB (env m c t) y = resultR m c i := by
  have e1 : i 1 = y 1 := Fin.ext h1
  unfold rB resultR
  rw [xr_eq m c t (y 0) (i 0) h0, cr_eq m c t (y 0) (i 0) h0, sr_eq m c t (y 0) (i 0) h0, e1]

theorem arrQ : (dats m 0 c).arrAt 8 cfg0.N = resultQ m c := by
  refine (dats m 0 c).arrAt_eq_of_covers 8 _ (by decide +kernel) fun t hf y => ?_
  blk_simp [index_all]
  rw [afterQ m c t]
  refine qB_at m c t y _ ?_ ?_
  · blk_simp [index_all]
  · blk_simp [index_all]

theorem arrK : (dats m 0 c).arrAt 9 cfg0.N = resultK m c := by
  refine (dats m 0 c).arrAt_eq_of_covers 9 _ (by decide +kernel) fun t hf y => ?_
  blk_simp [index_all]
  rw [afterK m c t]
  refine kB_at m c t y _ ?_ ?_
  · blk_simp [index_all]
  · blk_simp [index_all]

theorem arrV : (dats m 0 c).arrAt 10 cfg0.N = resultV m c := by
  refine (dats m 0 c).arrAt_eq_of_covers 10 _ (by decide +kernel) fun t hf y => ?_
  blk_simp [index_all]
  rw [afterV m c t]
  refine vB_at m c t y _ ?_ ?_ ?_
  · blk_simp [index_all]
  · blk_simp [index_all]
  · blk_simp [index_all]

theorem arrR : (dats m 0 c).arrAt 11 cfg0.N = resultR m c := by
  refine (dats m 0 c).arrAt_eq_of_covers 11 _ (by decide +kernel) fun t hf y => ?_
  blk_simp [index_all]
  rw [afterR m c t]
  refine rB_at m c t y _ ?_ ?_
  · blk_simp [index_all]
  · blk_simp [index_all]

end Cert.Kernel3Ideal.Prep

end
-- ==== Proof.PrepHost.lean ====
/- The attention's preparation: what the arrays the kernel is given hold, from the projection, the tables and the weights. -/
module

public import proofs.«01_k».proof.Proof.Gen.Kernel3Ideal.Value
public import Idealize.ShloMosaic.Lib.StableHlo.ReadAt
public import Idealize.ShloMosaic.Lib.Pointwise

@[expose] public section

set_option maxRecDepth 16384

noncomputable section

namespace Cert.Kernel3Ideal.Prep

open Cert.Kernel3Ideal Cert.Kernel3Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- The integer zero, made a number. -/
theorem pad_zero : @Eq EReal (FloatOps.sitofp (F := Ideal) .f32 0#32) 0 := by
  show (((0#32 : BitVec 32).toInt : ℝ) : EReal) = 0
  simp

/-- A table of 32 columns, twice over, then zeros. -/
theorem v2_at (b : Fin 4) (q : Fin 4096) (d : Fin 128) :
    @Eq EReal (V m c main_v2 (ix2 (⟨4096 * b.val + q.val, by omega⟩ : Fin 16384) d))
      (if d.val < 64 then m ((c.tc : Thread nD τ).loc main_arg1) (ix3 b q (⟨d.val % 32, Nat.mod_lt _ (by decide)⟩ : Fin 32)) else (0 : EReal)) := by
  unfold V
  after_reads_at
  by_cases h1 : d.val < 64
  · rw [dif_pos h1, if_pos h1]
    by_cases h2 : d.val < 32
    · rw [dif_pos h2]
      after_reads_at
      have e : d.val % 32 = d.val := by omega
      simp only [e]
    · rw [dif_neg h2]
      after_reads_at
      have e : d.val % 32 = d.val - 32 := by omega
      simp only [e]
  · rw [dif_neg h1, if_neg h1]
    exact pad_zero

theorem v5_at (b : Fin 4) (q : Fin 4096) (d : Fin 128) :
    @Eq EReal (V m c main_v5 (ix2 (⟨4096 * b.val + q.val, by omega⟩ : Fin 16384) d))
      (if d.val < 64 then m ((c.tc : Thread nD τ).loc main_arg2) (ix3 b q (⟨d.val % 32, Nat.mod_lt _ (by decide)⟩ : Fin 32)) else (0 : EReal)) := by
  unfold V
  after_reads_at
  by_cases h1 : d.val < 64
  · rw [dif_pos h1, if_pos h1]
    by_cases h2 : d.val < 32
    · rw [dif_pos h2]
      after_reads_at
      have e : d.val % 32 = d.val := by omega
      simp only [e]
    · rw [dif_neg h2]
      after_reads_at
      have e : d.val % 32 = d.val - 32 := by omega
      simp only [e]
  · rw [dif_neg h1, if_neg h1]
    exact pad_zero

/-- The keys' weight: of each head's 256 columns the first 128. -/
theorem v9_at (k : Fin 256) (n : Fin 1024) :
    @Eq EReal (V m c main_v9 (ix2 k n)) (m ((c.tc : Thread nD τ).loc main_arg6) (ix2 k (⟨n.val / 128 * 256 + n.val % 128, by omega⟩ : Fin 2048))) := by
  unfold V
  after_reads_at

/-- The values' weight, turned: of each head's 256 columns the last 128. -/
theorem v13_at (n : Fin 1024) (k : Fin 256) :
    @Eq EReal (V m c main_v13 (ix2 n k)) (m ((c.tc : Thread nD τ).loc main_arg6) (ix2 k (⟨n.val / 128 * 256 + (128 + n.val % 128), by omega⟩ : Fin 2048))) := by
  unfold V
  after_reads_at

theorem v31_at (k : Fin 384) : @Eq EReal (V m c main_v31 (ix2 (0 : Fin 1) k)) (m ((c.tc : Thread nD τ).loc main_arg3) (ix1 k)) := by
  unfold V
  after_reads_at

theorem v32_at (k : Fin 256) : @Eq EReal (V m c main_v32 (ix2 (0 : Fin 1) k)) (m ((c.tc : Thread nD τ).loc main_arg5) (ix1 k)) := by
  unfold V
  after_reads_at

/-- The projection's last 768 columns: its first 704, then the negated second half of the rotary ones, then the first half. -/
theorem v21_at (b : Fin 4) (q : Fin 4096) (n : Fin 768) :
    @Eq EReal (V m c main_v21 (ix2 (⟨4096 * b.val + q.val, by omega⟩ : Fin 16384) (⟨6144 + n.val, by omega⟩ : Fin 6912)))
      (if n.val < 704 then m ((c.tc : Thread nD τ).loc main_arg0) (ix3 b q (⟨n.val, by omega⟩ : Fin 6848))
        else if n.val < 736 then @Neg.neg EReal _ (m ((c.tc : Thread nD τ).loc main_arg0) (ix3 b q (⟨672 + (n.val - 704), by omega⟩ : Fin 6848)))
        else m ((c.tc : Thread nD τ).loc main_arg0) (ix3 b q (⟨640 + (n.val - 736), by omega⟩ : Fin 6848))) := by
  unfold V
  after_reads_at
  have e1 : (4096 * b.val + q.val) / 4096 = b.val := by omega
  have e2 : (4096 * b.val + q.val) % 4096 = q.val := by omega
  simp only [e1, e2, Fin.eta]
  by_cases h1 : n.val < 704
  · rw [dif_pos h1, if_pos h1]
    after_reads_at
  · rw [dif_neg h1, if_neg h1]
    by_cases h2 : n.val < 736
    · rw [dif_pos (show n.val - 704 < 32 by omega), if_pos h2]
      after_reads_at
    · rw [dif_neg (show ¬ n.val - 704 < 32 by omega), if_neg h2]
      after_reads_at
      have e : 640 + (n.val - 704 - 32) = 640 + (n.val - 736) := by omega
      simp only [e]

/-- The queries' weight: of each head its 192 columns, then the negated second half of the rotary ones, then the first half. -/
theorem v30_at (k : Fin 384) (h : Fin 8) (n : Fin 256) :
    @Eq EReal (V m c main_v30 (ix2 k (⟨256 * h.val + n.val, by omega⟩ : Fin 2048)))
      (if h1 : n.val < 192 then m ((c.tc : Thread nD τ).loc main_arg4) (ix2 k (⟨h.val * 192 + n.val, by omega⟩ : Fin 1536))
        else if h2 : n.val - 192 < 32 then @Neg.neg EReal _ (m ((c.tc : Thread nD τ).loc main_arg4) (ix2 k (⟨h.val * 192 + (128 + (32 + (n.val - 192))), by omega⟩ : Fin 1536)))
        else m ((c.tc : Thread nD τ).loc main_arg4) (ix2 k (⟨h.val * 192 + (128 + (n.val - 192 - 32)), by omega⟩ : Fin 1536))) := by
  unfold V
  after_reads_at
  have e1 : (256 * h.val + n.val) / 256 = h.val := by omega
  have e2 : (256 * h.val + n.val) % 256 = n.val := by omega
  simp only [e1, e2, Fin.eta]
  by_cases h1 : n.val < 192
  · rw [dif_pos h1, dif_pos h1]
    after_reads_at
  · rw [dif_neg h1, dif_neg h1]
    after_reads_at

end Cert.Kernel3Ideal.Prep

end
-- ==== Proof.PrepFinal.lean ====
/- The attention's preparation: the kernel's four results are the reference's. -/
module

public import proofs.«01_k».proof.Proof.PrepEq
public import proofs.«01_k».proof.Proof.PrepArray
public import proofs.«01_k».proof.Proof.PrepHost

@[expose] public section

set_option maxRecDepth 16384

noncomputable section

namespace Cert.Kernel3Ideal.Prep

open Cert.Kernel3Ideal Cert.Kernel3Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-! ## The arguments -/

def a0 : FVec Ideal S4x4096x6848 .f32 := m ((c.tc : Thread nD τ).loc main_arg0)
def a1 : FVec Ideal S4x4096x32 .f32 := m ((c.tc : Thread nD τ).loc main_arg1)
def a2 : FVec Ideal S4x4096x32 .f32 := m ((c.tc : Thread nD τ).loc main_arg2)
def a3 : FVec Ideal S384 .f32 := m ((c.tc : Thread nD τ).loc main_arg3)
def a4 : FVec Ideal S384x1536 .f32 := m ((c.tc : Thread nD τ).loc main_arg4)
def a5 : FVec Ideal S256 .f32 := m ((c.tc : Thread nD τ).loc main_arg5)
def a6 : FVec Ideal S256x2048 .f32 := m ((c.tc : Thread nD τ).loc main_arg6)

/-! ## The kernel's rows from the arguments -/

theorem X_at (b : Fin 4) (q : Fin 4096) : Given (fun j => a0 m c (ix3 b q j)) (X m c ⟨4096 * b.val + q.val, by omega⟩) := fun n => v21_at m c b q n

theorem C_at (b : Fin 4) (q : Fin 4096) : Twice (fun j => a1 m c (ix3 b q j)) (C m c ⟨4096 * b.val + q.val, by omega⟩) := fun d => v2_at m c b q d

theorem S_at (b : Fin 4) (q : Fin 4096) : Twice (fun j => a2 m c (ix3 b q j)) (S m c ⟨4096 * b.val + q.val, by omega⟩) := fun d => v5_at m c b q d

theorem WQ_at : Turned (fun k n => a4 m c (ix2 k n)) (WQ m c) := fun k h n => v30_at m c k h n

theorem QG_eq : QG m c = fun k => a3 m c (ix1 k) := funext fun k => v31_at m c k

theorem KG_eq : KG m c = fun k => a5 m c (ix1 k) := funext fun k => v32_at m c k

/-! ## The results -/

theorem K_at (b : Fin 4) (q : Fin 4096) (n : Fin 1024) :
    kOut (X m c ⟨4096 * b.val + q.val, by omega⟩) (KG m c) (WK m c) n
      = Cert.Reference3Ideal.Read.val_main_v76 (F := Ideal) (a0 m c) (a5 m c) (a6 m c) (ix2 (⟨4096 * b.val + q.val, by omega⟩ : Fin 16384) n) := by
  rw [Cert.Reference3Ideal.Prep.v76_at, KG_eq]
  exact kOut_eq _ _ (X_at m c b q) _ _ (fun k n => a6 m c (ix2 k n)) (fun k n => v9_at m c k n) n

theorem R_at (b : Fin 4) (q : Fin 4096) (d : Fin 128) :
    rOut (X m c ⟨4096 * b.val + q.val, by omega⟩) (C m c ⟨4096 * b.val + q.val, by omega⟩) (S m c ⟨4096 * b.val + q.val, by omega⟩) d
      = Cert.Reference3Ideal.Read.val_main_v79 (F := Ideal) (a0 m c) (a1 m c) (a2 m c) (ix2 (⟨4096 * b.val + q.val, by omega⟩ : Fin 16384) d) := by
  rw [Cert.Reference3Ideal.Prep.v79_at]
  exact rOut_eq _ _ (X_at m c b q) _ _ _ _ (C_at m c b q) (S_at m c b q) d

theorem V_at (b : Fin 4) (t : Fin 8) (n : Fin 1152) (z : Fin 512) (i : Fin 16384) (hi : i.val = 512 * (8 * b.val + t.val) + z.val) :
    vOut (X m c i) (KG m c) (WV m c) n
      = Cert.Reference3Ideal.Read.val_main_v78 (F := Ideal) (a0 m c) (a5 m c) (a6 m c) (ix3 (⟨8 * b.val + t.val, by omega⟩ : Fin 32) n z) := by
  have ei : i = ⟨4096 * b.val + (⟨(8 * b.val + t.val) % 8 * 512 + z.val, by omega⟩ : Fin 4096).val, by
      show 4096 * b.val + ((8 * b.val + t.val) % 8 * 512 + z.val) < 16384; omega⟩ := by
    apply Fin.ext
    show i.val = 4096 * b.val + ((8 * b.val + t.val) % 8 * 512 + z.val)
    omega
  rw [Cert.Reference3Ideal.Prep.v78_at, KG_eq, ei]
  refine (vOut_eq _ _ (X_at m c b ⟨(8 * b.val + t.val) % 8 * 512 + z.val, by omega⟩) _ _ (fun k n => a6 m c (ix2 k n)) (fun n k => v13_at m c n k) n).trans ?_
  by_cases h : n.val % 144 < 128
  · rw [dif_pos h, dif_pos ⟨by omega, by omega, h⟩]
  · rw [dif_neg h, dif_neg (fun h' => h h'.2.2)]

theorem Q_at (hp : ∀ (b : Fin 4) (q : Fin 4096) (k : Fin 384), ∃ r : ℝ, @Eq EReal (a0 m c (ix3 b q (⟨k.val, by omega⟩ : Fin 6848))) r)
    (hg : ∀ i, ∃ r : ℝ, @Eq EReal (a3 m c i) r) (hw : ∀ i, ∃ r : ℝ, @Eq EReal (a4 m c i) r)
    (b : Fin 4) (q : Fin 4096) (h : Fin 8) (e : Fin 256) :
    qOut (X m c ⟨4096 * b.val + q.val, by omega⟩) (C m c ⟨4096 * b.val + q.val, by omega⟩) (S m c ⟨4096 * b.val + q.val, by omega⟩) (QG m c) (WQ m c)
        ⟨256 * h.val + e.val, by omega⟩
      = Cert.Reference3Ideal.Read.val_main_v74 (F := Ideal) (a0 m c) (a1 m c) (a2 m c) (a3 m c) (a4 m c)
        (ix2 (⟨4096 * b.val + q.val, by omega⟩ : Fin 16384) (⟨256 * h.val + e.val, by omega⟩ : Fin 2048)) := by
  rw [Cert.Reference3Ideal.Prep.v74_at, QG_eq]
  exact qOut_eq _ _ (X_at m c b q) _ _ _ _ (C_at m c b q) (S_at m c b q) _ _ (fun k n => a4 m c (ix2 k n)) (WQ_at m c)
    (hp b q) (fun k => hg _) (fun k n => hw _) h e

/-! ## Whole arrays -/

theorem row_split (i : Fin 16384) : ∃ (b : Fin 4) (q : Fin 4096), i = ⟨4096 * b.val + q.val, by omega⟩ :=
  ⟨⟨i.val / 4096, by omega⟩, ⟨i.val % 4096, by omega⟩, Fin.ext (by show i.val = 4096 * (i.val / 4096) + i.val % 4096; omega)⟩

theorem resultK_eq : resultK m c = Cert.Reference3Ideal.Read.val_main_v76 (F := Ideal) (a0 m c) (a5 m c) (a6 m c) := by
  funext i
  obtain ⟨n, u, rfl⟩ : ∃ (n : Fin 16384) (u : Fin 1024), i = ix2 n u := ⟨i 0, i 1, by funext a; fin_cases a <;> rfl⟩
  obtain ⟨b, q, rfl⟩ := row_split n
  exact K_at m c b q u

theorem resultR_eq : resultR m c = Cert.Reference3Ideal.Read.val_main_v79 (F := Ideal) (a0 m c) (a1 m c) (a2 m c) := by
  funext i
  obtain ⟨n, u, rfl⟩ : ∃ (n : Fin 16384) (u : Fin 128), i = ix2 n u := ⟨i 0, i 1, by funext a; fin_cases a <;> rfl⟩
  obtain ⟨b, q, rfl⟩ := row_split n
  exact R_at m c b q u

theorem resultV_eq : resultV m c = Cert.Reference3Ideal.Read.val_main_v78 (F := Ideal) (a0 m c) (a5 m c) (a6 m c) := by
  funext i
  obtain ⟨n, u, z, rfl⟩ : ∃ (n : Fin 32) (u : Fin 1152) (z : Fin 512), i = ix3 n u z := ⟨i 0, i 1, i 2, by funext a; fin_cases a <;> rfl⟩
  obtain ⟨b, t, rfl⟩ : ∃ (b : Fin 4) (t : Fin 8), n = ⟨8 * b.val + t.val, by omega⟩ :=
    ⟨⟨n.val / 8, by omega⟩, ⟨n.val % 8, by omega⟩, Fin.ext (by show n.val = 8 * (n.val / 8) + n.val % 8; omega)⟩
  exact V_at m c b t u z _ rfl

theorem resultQ_eq (hp : ∀ (b : Fin 4) (q : Fin 4096) (k : Fin 384), ∃ r : ℝ, @Eq EReal (a0 m c (ix3 b q (⟨k.val, by omega⟩ : Fin 6848))) r)
    (hg : ∀ i, ∃ r : ℝ, @Eq EReal (a3 m c i) r) (hw : ∀ i, ∃ r : ℝ, @Eq EReal (a4 m c i) r) :
    resultQ m c = Cert.Reference3Ideal.Read.val_main_v74 (F := Ideal) (a0 m c) (a1 m c) (a2 m c) (a3 m c) (a4 m c) := by
  funext i
  obtain ⟨n, u, rfl⟩ : ∃ (n : Fin 16384) (u : Fin 2048), i = ix2 n u := ⟨i 0, i 1, by funext a; fin_cases a <;> rfl⟩
  obtain ⟨b, q, rfl⟩ := row_split n
  obtain ⟨h, e, rfl⟩ : ∃ (h : Fin 8) (e : Fin 256), u = ⟨256 * h.val + e.val, by omega⟩ :=
    ⟨⟨u.val / 256, by omega⟩, ⟨u.val % 256, by omega⟩, Fin.ext (by show u.val = 256 * (u.val / 256) + u.val % 256; omega)⟩
  exact Q_at m c hp hg hw b q h e

end Cert.Kernel3Ideal.Prep

end
-- ==== Proof.MergeRef.lean ====
/- The merge's reference at an index. -/
module

public import proofs.«01_k».proof.Proof.Gen.Reference4Ideal.Read
public import Idealize.ShloMosaic.Lib.Pointwise

@[expose] public section

set_option maxRecDepth 16384

noncomputable section

namespace Cert.Reference4Ideal.Merge

open Cert.Reference4Ideal Cert.Reference4Ideal.Gen Cert.Reference4Ideal.Read Idealize.ShloMosaic Idealize.ShloMosaic.TcCoe
open Idealize.ShloMosaic.Pointwise

variable (x0 : FVec Ideal S4x4096x1024 .f32) (x1 x2 : FVec Ideal S16384x1024 .f32) (x3 : FVec Ideal S4x4096x6848 .f32) (x4 : FVec Ideal S1024x1024 .f32)
  (x5 x6 : FVec Ideal S1024 .f32)

/-! ## One row -/

/-- The logistic function as the reference writes it. -/
def sigmoid (x : EReal) : EReal := Ideal.div (Ideal.ofBits .f32 0x3F800000#32) (Ideal.ofBits .f32 0x3F800000#32 + Ideal.exp (-x))

/-- The merged row before its norm. -/
def merged (x om ore : Fin 1024 → EReal) (p : Fin 6848 → EReal) (w : Fin 1024 → Fin 1024 → EReal) (n : Fin 1024) : EReal :=
  Ideal.sqrt (Ideal.sqrt (Ideal.ofBits .f32 0x40000000#32)) * x n
    + ∑ k : Fin 1024, (sigmoid (p ⟨4800 + k.val, by omega⟩) * om k + sigmoid (p ⟨5824 + k.val, by omega⟩) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-! ## The reference at an index -/

theorem v24_at (b : Fin 4) (q : Fin 4096) (n : Fin 1024) :
    @Eq EReal (val_main_v24 (F := Ideal) x0 x1 x2 x3 x4 (ix2 (⟨4096 * b.val + q.val, by omega⟩ : Fin 16384) n))
      (merged (fun j => x0 (ix3 b q j)) (fun j => x1 (ix2 (⟨4096 * b.val + q.val, by omega⟩ : Fin 16384) j)) (fun j => x2 (ix2 (⟨4096 * b.val + q.val, by omega⟩ : Fin 16384) j))
        (fun j => x3 (ix3 b q j)) (fun k n => x4 (ix2 k n)) n) := by
  unfold merged sigmoid
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem v48_at (i : Fin 16384) (n : Fin 1024) :
    @Eq EReal (val_main_v48 (F := Ideal) x0 x1 x2 x3 x4 x5 x6 (ix2 i n))
      (normed (fun j => val_main_v24 (F := Ideal) x0 x1 x2 x3 x4 (ix2 i j)) (fun k => x5 (ix1 k)) (fun k => x6 (ix1 k)) n) := by
  unfold normed mean
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_4, val_main_cst_5, val_main_cst_6, val_main_cst_7, val_main_cst_8]

theorem v49_at (i : Fin 16384) (n : Fin 1024) :
    @Eq EReal (val_main_v49 (F := Ideal) x0 x1 x2 x3 x4 x5 x6 (ix2 i n)) (val_main_v48 (F := Ideal) x0 x1 x2 x3 x4 x5 x6 (ix2 i n)) := by
  pointwise [val_main_v49]

end Cert.Reference4Ideal.Merge

end
-- ==== Proof.MergePieces.lean ====
/- The merge: what the body's stores of its first two outputs are. -/
module

public import proofs.«01_k».proof.Proof.Gen.Kernel4Ideal.Frame
public import Idealize.ShloMosaic.Lib.Pointwise
public import Idealize.ShloMosaic.Lib.WholeRead
public import Idealize.ShloMosaic.Lib.Pipeline.ReadBack
public import Idealize.ShloMosaic.Lib.Pipeline.CanonAppend

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline Idealize.ShloMosaic.Pointwise

variable {F : FTy → Type} [FloatOps F] [Named F]

/-- What one grid point's body is given: the ten input blocks, through the buffers that hold them. -/
structure Env (F : FTy → Type) [FloatOps F] where
  arg1 : Memref sig .tc .vmem S512x1024 .f32
  harg1 : arg1.IsWhole
  arg2 : Memref sig .tc .vmem S512x1024 .bf16
  harg2 : arg2.IsWhole
  arg3 : Memref sig .tc .vmem S512x1024 .bf16
  harg3 : arg3.IsWhole
  arg4 : Memref sig .tc .vmem S512x1024 .bf16
  harg4 : arg4.IsWhole
  arg5 : Memref sig .tc .vmem S512x1024 .bf16
  harg5 : arg5.IsWhole
  arg6 : Memref sig .tc .vmem S1024x1024 .bf16
  harg6 : arg6.IsWhole
  arg7 : Memref sig .tc .vmem S1x1024 .f32
  harg7 : arg7.IsWhole
  arg8 : Memref sig .tc .vmem S1x1024 .f32
  harg8 : arg8.IsWhole
  arg9 : Memref sig .tc .vmem S1024x256 .bf16
  harg9 : arg9.IsWhole
  arg10 : Memref sig .tc .vmem S1x128 .f32
  harg10 : arg10.IsWhole
  x0 : Vec F S512x1024 .f32
  x1 : Vec F S512x1024 .bf16
  x2 : Vec F S512x1024 .bf16
  x3 : Vec F S512x1024 .bf16
  x4 : Vec F S512x1024 .bf16
  x5 : Vec F S1024x1024 .bf16
  x6 : Vec F S1x1024 .f32
  x7 : Vec F S1x1024 .f32
  x8 : Vec F S1024x256 .bf16
  x9 : Vec F S1x128 .f32

variable (e : Env F)

/-! ## The loads: every buffer whole -/

def rd0 : Vec F S512x1024 .f32 := View.readAt (Elt F) e.arg1.view (Rect.unit (s := S512x1024) ![0, 0] S512x1024.size inb_S512x1024_S512x1024_0_0).toLoadRect (e.harg1.unread e.x0)
def rd1 : Vec F S512x1024 .bf16 := View.readAt (Elt F) e.arg2.view (Rect.unit (s := S512x1024) ![0, 0] S512x1024.size inb_S512x1024_S512x1024_0_0).toLoadRect (e.harg2.unread e.x1)
def rd2 : Vec F S512x1024 .bf16 := View.readAt (Elt F) e.arg3.view (Rect.unit (s := S512x1024) ![0, 0] S512x1024.size inb_S512x1024_S512x1024_0_0).toLoadRect (e.harg3.unread e.x2)
def rd3 : Vec F S512x1024 .bf16 := View.readAt (Elt F) e.arg4.view (Rect.unit (s := S512x1024) ![0, 0] S512x1024.size inb_S512x1024_S512x1024_0_0).toLoadRect (e.harg4.unread e.x3)
def rd4 : Vec F S512x1024 .bf16 := View.readAt (Elt F) e.arg5.view (Rect.unit (s := S512x1024) ![0, 0] S512x1024.size inb_S512x1024_S512x1024_0_0).toLoadRect (e.harg5.unread e.x4)
def rd5 : Vec F S1024x1024 .bf16 := View.readAt (Elt F) e.arg6.view (Rect.unit (s := S1024x1024) ![0, 0] S1024x1024.size inb_S1024x1024_S1024x1024_0_0).toLoadRect (e.harg6.unread e.x5)
def rd6 : Vec F S1x1024 .f32 := View.readAt (Elt F) e.arg7.view (Rect.unit (s := S1x1024) ![0, 0] S1x1024.size inb_S1x1024_S1x1024_0_0).toLoadRect (e.harg7.unread e.x6)
def rd7 : Vec F S1x1024 .f32 := View.readAt (Elt F) e.arg8.view (Rect.unit (s := S1x1024) ![0, 0] S1x1024.size inb_S1x1024_S1x1024_0_0).toLoadRect (e.harg8.unread e.x7)

theorem rd0_eq : rd0 e = e.x0 := by
  funext y
  rw [rd0, Memref.IsWhole.readAt_unread]
  congr 1
  funext a
  fin_cases a <;> apply Fin.ext <;> simp

theorem rd1_eq : rd1 e = e.x1 := by
  funext y
  rw [rd1, Memref.IsWhole.readAt_unread]
  congr 1
  funext a
  fin_cases a <;> apply Fin.ext <;> simp

theorem rd2_eq : rd2 e = e.x2 := by
  funext y
  rw [rd2, Memref.IsWhole.readAt_unread]
  congr 1
  funext a
  fin_cases a <;> apply Fin.ext <;> simp

theorem rd3_eq : rd3 e = e.x3 := by
  funext y
  rw [rd3, Memref.IsWhole.readAt_unread]
  congr 1
  funext a
  fin_cases a <;> apply Fin.ext <;> simp

theorem rd4_eq : rd4 e = e.x4 := by
  funext y
  rw [rd4, Memref.IsWhole.readAt_unread]
  congr 1
  funext a
  fin_cases a <;> apply Fin.ext <;> simp

theorem rd5_eq : rd5 e = e.x5 := by
  funext y
  rw [rd5, Memref.IsWhole.readAt_unread]
  congr 1
  funext a
  fin_cases a <;> apply Fin.ext <;> simp

theorem rd6_eq : rd6 e = e.x6 := by
  funext y
  rw [rd6, Memref.IsWhole.readAt_unread]
  congr 1
  funext a
  fin_cases a <;> apply Fin.ext <;> simp

theorem rd7_eq : rd7 e = e.x7 := by
  funext y
  rw [rd7, Memref.IsWhole.readAt_unread]
  congr 1
  funext a
  fin_cases a <;> apply Fin.ext <;> simp

/-! ## The stores -/

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

theorem run_h : (kernelRun0_A c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9).1
    = [⟨Rect.unit (s := S512x1024) ![0, 0] S512x1024.size inb_S512x1024_S512x1024_0_0, k0_pay5 (k0_pay4 (rd3 e) (rd1 e) (rd4 e) (rd2 e) (rd5 e) (rd0 e)) (rd6 e) (rd7 e)⟩] := rfl

theorem run_b : (kernelRun0_A c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9).2.1
    = [⟨Rect.unit (s := S512x1024) ![0, 0] S512x1024.size inb_S512x1024_S512x1024_0_0, k0_pay6 (k0_pay4 (rd3 e) (rd1 e) (rd4 e) (rd2 e) (rd5 e) (rd0 e)) (rd6 e) (rd7 e)⟩] := rfl

end Cert.Kernel4Ideal.Merge

end
-- ==== Proof.MergeBlock.lean ====
/- The merge: what the body leaves in its first two blocks, row by row. -/
module

public import proofs.«01_k».proof.Proof.MergePieces

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline Idealize.ShloMosaic.Pointwise

/-! ## One row -/

/-- A gate: half a hyperbolic tangent, raised by a half. -/
def gate (x : EReal) : EReal := Ideal.ofBits .f32 0x3F000000#32 * Ideal.tanh (Ideal.ofBits .f32 0x3F000000#32 * x) + Ideal.ofBits .f32 0x3F000000#32

/-- The weight of the residual. -/
def alpha : EReal := ((Real.sqrt (Real.sqrt 2) : ℝ) : EReal)

/-- The merged row before its norm: the residual and the gated branches projected. -/
def merged (x gm om gr ore : Fin 1024 → EReal) (w : Fin 1024 → Fin 1024 → EReal) (n : Fin 1024) : EReal :=
  alpha * x n + ∑ k : Fin 1024, (gate (gm k) * om k + gate (gr k) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-! ## The stored values at an index -/

theorem merged_at (x0 : Vec Ideal S512x1024 .f32) (x1 x2 x3 x4 : Vec Ideal S512x1024 .bf16) (x5 : Vec Ideal S1024x1024 .bf16) (r : Fin 512) (n : Fin 1024) :
    @Eq EReal (k0_pay4 (F := Ideal) x3 x1 x4 x2 x5 x0 (ix2 r n))
      (merged (fun j => x0 (ix2 r j)) (fun j => x3 (ix2 r j)) (fun j => x1 (ix2 r j)) (fun j => x4 (ix2 r j)) (fun j => x2 (ix2 r j)) (fun k n => x5 (ix2 k n)) n) := by
  have : @Eq EReal (k0_pay4 (F := Ideal) x3 x1 x4 x2 x5 x0 (ix2 r n))
      ((Named.named (F := Ideal) (φ := .f32) κ "alpha" 0x3F9837F0#32 : EReal) * (x0 (ix2 r n) : EReal)
        + ∑ k : Fin 1024, (gate (x3 (ix2 r k)) * (x1 (ix2 r k) : EReal) + gate (x4 (ix2 r k)) * (x2 (ix2 r k) : EReal)) * (x5 (ix2 k n) : EReal)) := by
    unfold gate
    pointwise [k0_pay4]
  exact this

theorem normed_at (y : FVec Ideal S512x1024 .f32) (x6 x7 : Vec Ideal S1x1024 .f32) (r : Fin 512) (n : Fin 1024) :
    @Eq EReal (k0_pay5 (F := Ideal) y x6 x7 (ix2 r n)) (normed (fun j => y (ix2 r j)) (fun j => x6 (ix2 0 j)) (fun j => x7 (ix2 0 j)) n) := by
  unfold normed mean
  pointwise [k0_pay5]

theorem bf_at (y : FVec Ideal S512x1024 .f32) (x6 x7 : Vec Ideal S1x1024 .f32) (r : Fin 512) (n : Fin 1024) :
    @Eq EReal (k0_pay6 (F := Ideal) y x6 x7 (ix2 r n)) (k0_pay5 (F := Ideal) y x6 x7 (ix2 r n)) := by
  pointwise [k0_pay6]

/-! ## The blocks -/

variable (e : Env Ideal)

/-- The block's merged rows. -/
def yr (r : Fin 512) : Fin 1024 → EReal :=
  merged (fun j => e.x0 (ix2 r j)) (fun j => e.x3 (ix2 r j)) (fun j => e.x1 (ix2 r j)) (fun j => e.x4 (ix2 r j)) (fun j => e.x2 (ix2 r j)) (fun k n => e.x5 (ix2 k n))
abbrev gr : Fin 1024 → EReal := fun j => e.x6 (ix2 0 j)
abbrev br : Fin 1024 → EReal := fun j => e.x7 (ix2 0 j)

def hB : Vec Ideal S512x1024 .f32 := fun y => normed (yr e (y 0)) (gr e) (br e) (y 1)
def bB : Vec Ideal S512x1024 .bf16 := fun y => normed (yr e (y 0)) (gr e) (br e) (y 1)

theorem h_at (r : Fin 512) (n : Fin 1024) :
    @Eq EReal (k0_pay5 (F := Ideal) (k0_pay4 e.x3 e.x1 e.x4 e.x2 e.x5 e.x0) e.x6 e.x7 (ix2 r n)) (normed (yr e r) (gr e) (br e) n) := by
  rw [normed_at]
  have hv : (fun j : Fin 1024 => (k0_pay4 (F := Ideal) e.x3 e.x1 e.x4 e.x2 e.x5 e.x0 (ix2 r j) : EReal)) = yr e r := funext fun j => merged_at _ _ _ _ _ _ r j
  rw [hv]

theorem h_piece (hb : ∀ a : Fin 2, (![0, 0] : Fin 2 → ℕ) a + S512x1024.size a ≤ S512x1024.size a) (x : S512x1024.Idx) :
    @Eq EReal (k0_pay5 (F := Ideal) (k0_pay4 e.x3 e.x1 e.x4 e.x2 e.x5 e.x0) e.x6 e.x7 x) (hB e ((Rect.unit (s := S512x1024) ![0, 0] S512x1024.size hb).emb x)) := by
  obtain ⟨r, d, rfl⟩ : ∃ (r : Fin 512) (d : Fin 1024), x = ix2 r d := ⟨x 0, x 1, eq_ix2 x⟩
  have ei : (Rect.unit (s := S512x1024) ![0, 0] S512x1024.size hb).emb (ix2 r d) = ix2 r d := by
    funext a
    fin_cases a <;> apply Fin.ext <;> simp [ix2]
  rw [h_at, ei]
  rfl

theorem b_piece (hb : ∀ a : Fin 2, (![0, 0] : Fin 2 → ℕ) a + S512x1024.size a ≤ S512x1024.size a) (x : S512x1024.Idx) :
    @Eq EReal (k0_pay6 (F := Ideal) (k0_pay4 e.x3 e.x1 e.x4 e.x2 e.x5 e.x0) e.x6 e.x7 x) (bB e ((Rect.unit (s := S512x1024) ![0, 0] S512x1024.size hb).emb x)) := by
  obtain ⟨r, d, rfl⟩ : ∃ (r : Fin 512) (d : Fin 1024), x = ix2 r d := ⟨x 0, x 1, eq_ix2 x⟩
  have ei : (Rect.unit (s := S512x1024) ![0, 0] S512x1024.size hb).emb (ix2 r d) = ix2 r d := by
    funext a
    fin_cases a <;> apply Fin.ext <;> simp [ix2]
  rw [bf_at, h_at, ei]
  rfl

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

theorem out_h : out0_A_10 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 = hB e := by
  refine (View.read_writes_junk_eq_canon _ _).trans ?_
  funext y
  have hc := cover0_A_10 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 y
  rw [run_h] at hc ⊢
  rw [rd0_eq, rd1_eq, rd2_eq, rd3_eq, rd4_eq, rd5_eq, rd6_eq, rd7_eq] at hc ⊢
  rw [← List.append_nil (_ :: _)]
  refine View.canon_append_of_pieces (hB e) [] _ ?_ y hc
  intro p hp x
  simp only [List.mem_cons, List.not_mem_nil, or_false] at hp
  subst hp
  exact h_piece e inb_S512x1024_S512x1024_0_0 x

theorem out_b : out0_A_11 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 = bB e := by
  refine (View.read_writes_junk_eq_canon _ _).trans ?_
  funext y
  have hc := cover0_A_11 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 y
  rw [run_b] at hc ⊢
  rw [rd0_eq, rd1_eq, rd2_eq, rd3_eq, rd4_eq, rd5_eq, rd6_eq, rd7_eq] at hc ⊢
  rw [← List.append_nil (_ :: _)]
  refine View.canon_append_of_pieces (bB e) [] _ ?_ y hc
  intro p hp x
  simp only [List.mem_cons, List.not_mem_nil, or_false] at hp
  subst hp
  exact b_piece e inb_S512x1024_S512x1024_0_0 x

end Cert.Kernel4Ideal.Merge

end
-- ==== Proof.MergeArray.lean ====
/- The merge: the two result arrays after the launch, from the arrays the kernel is given. -/
module

public import proofs.«01_k».proof.Proof.MergeBlock
public import proofs.«01_k».proof.Proof.Gen.Kernel4Ideal.Value
public import Idealize.ShloMosaic.Lib.Pipeline.ValueKit

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- What the body meets at grid point `t`. -/
def env (t : Fin cfg0.N) : Env Ideal where
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  x0 := iblk m c 0 t
  x1 := iblk m c 1 t
  x2 := iblk m c 2 t
  x3 := X0_3 m c t
  x4 := X0_4 m c t
  x5 := iblk m c 5 t
  x6 := iblk m c 6 t
  x7 := iblk m c 7 t
  x8 := iblk m c 8 t
  x9 := iblk m c 9 t

theorem out_h_args (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1x1024 .f32) (x7 : Vec Ideal S1x1024 .f32) (x8 : Vec Ideal S1024x256 .bf16) (x9 : Vec Ideal S1x128 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = hB ⟨arg1, harg1, arg2, harg2, arg3, harg3, arg4, harg4, arg5, harg5, arg6, harg6, arg7, harg7, arg8, harg8, arg9, harg9, arg10, harg10, x0, x1, x2, x3, x4, x5, x6, x7, x8, x9⟩ :=
  out_h ⟨arg1, harg1, arg2, harg2, arg3, harg3, arg4, harg4, arg5, harg5, arg6, harg6, arg7, harg7, arg8, harg8, arg9, harg9, arg10, harg10, x0, x1, x2, x3, x4, x5, x6, x7, x8, x9⟩ c i arg11 harg11 arg12 harg12 arg13 harg13 arg14 harg14 arg15 harg15

theorem out_b_args (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1x1024 .f32) (x7 : Vec Ideal S1x1024 .f32) (x8 : Vec Ideal S1024x256 .bf16) (x9 : Vec Ideal S1x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = bB ⟨arg1, harg1, arg2, harg2, arg3, harg3, arg4, harg4, arg5, harg5, arg6, harg6, arg7, harg7, arg8, harg8, arg9, harg9, arg10, harg10, x0, x1, x2, x3, x4, x5, x6, x7, x8, x9⟩ :=
  out_b ⟨arg1, harg1, arg2, harg2, arg3, harg3, arg4, harg4, arg5, harg5, arg6, harg6, arg7, harg7, arg8, harg8, arg9, harg9, arg10, harg10, x0, x1, x2, x3, x4, x5, x6, x7, x8, x9⟩ c i arg11 harg11 arg12 harg12 arg13 harg13 arg14 harg14 arg15 harg15

theorem after_h (t : Fin cfg0.N) : (dats m 0 c).after 10 t = hB (env m c t) := by
  rw [after0_10]
  simp only [outsAt0]
  rw [out_h_args c]
  rfl

theorem after_b (t : Fin cfg0.N) : (dats m 0 c).after 11 t = bB (env m c t) := by
  rw [after0_11]
  simp only [outsAt0]
  rw [out_b_args c]
  rfl

/-- The windows' blocks: point `t` is at rows `512 t ..`, its gates being blocks 4 and 5 of the projection's columns. -/
theorem index_all : ∀ t : Fin grid0.N,
    win0_0.index t = ![t.val, 0] ∧ win0_1.index t = ![t.val, 0] ∧ win0_2.index t = ![t.val, 0] ∧ win0_3.index t = ![t.val, 4]
    ∧ win0_4.index t = ![t.val, 5] ∧ win0_5.index t = ![0, 0] ∧ win0_6.index t = ![0, 0] ∧ win0_7.index t = ![0, 0]
    ∧ win0_10.index t = ![t.val, 0] ∧ win0_11.index t = ![t.val, 0] := by decide +kernel

/-! ## The arrays the kernel is given, row by row -/

def X (i : Fin 16384) : Fin 1024 → EReal := fun j => V m c main_v0 (ix2 i j)
def OM (i : Fin 16384) : Fin 1024 → EReal := fun j => V m c main_v1 (ix2 i j)
def OR (i : Fin 16384) : Fin 1024 → EReal := fun j => V m c main_v2 (ix2 i j)
def GM (i : Fin 16384) : Fin 1024 → EReal := fun j => V m c main_v10 (ix2 i (⟨4096 + j.val, by omega⟩ : Fin 6912))
def GR (i : Fin 16384) : Fin 1024 → EReal := fun j => V m c main_v10 (ix2 i (⟨5120 + j.val, by omega⟩ : Fin 6912))
def W : Fin 1024 → Fin 1024 → EReal := fun k n => V m c main_v11 (ix2 k n)
def G : Fin 1024 → EReal := fun j => V m c main_v12 (ix2 (0 : Fin 1) j)
def B : Fin 1024 → EReal := fun j => V m c main_v13 (ix2 (0 : Fin 1) j)

variable (t : Fin cfg0.N)

theorem x_eq (r : Fin 512) (i : Fin 16384) (hi : i.val = t.val * 512 + r.val) : (fun j => (env m c t).x0 (ix2 r j) : Fin 1024 → EReal) = X m c i := by
  funext j
  show iblk m c 0 t (ix2 r j) = V m c main_v0 (ix2 i j)
  blk_ext [iblk, index_all, hi]

theorem om_eq (r : Fin 512) (i : Fin 16384) (hi : i.val = t.val * 512 + r.val) : (fun j => (env m c t).x1 (ix2 r j) : Fin 1024 → EReal) = OM m c i := by
  funext j
  show iblk m c 1 t (ix2 r j) = V m c main_v1 (ix2 i j)
  blk_ext [iblk, index_all, hi]

theorem or_eq (r : Fin 512) (i : Fin 16384) (hi : i.val = t.val * 512 + r.val) : (fun j => (env m c t).x2 (ix2 r j) : Fin 1024 → EReal) = OR m c i := by
  funext j
  show iblk m c 2 t (ix2 r j) = V m c main_v2 (ix2 i j)
  blk_ext [iblk, index_all, hi]

theorem gm_eq (r : Fin 512) (i : Fin 16384) (hi : i.val = t.val * 512 + r.val) : (fun j => (env m c t).x3 (ix2 r j) : Fin 1024 → EReal) = GM m c i := by
  funext j
  show X0_3 m c t (ix2 r j) = V m c main_v10 (ix2 i (⟨4096 + j.val, by omega⟩ : Fin 6912))
  unfold X0_3 Window.fill
  rw [dif_pos (moved0_3 t _)]
  blk_ext [iblk, index_all, hi]

theorem gr_eq (r : Fin 512) (i : Fin 16384) (hi : i.val = t.val * 512 + r.val) : (fun j => (env m c t).x4 (ix2 r j) : Fin 1024 → EReal) = GR m c i := by
  funext j
  show X0_4 m c t (ix2 r j) = V m c main_v10 (ix2 i (⟨5120 + j.val, by omega⟩ : Fin 6912))
  unfold X0_4 Window.fill
  rw [dif_pos (moved0_4 t _)]
  blk_ext [iblk, index_all, hi]

theorem w_eq : (fun k n => (env m c t).x5 (ix2 k n) : Fin 1024 → Fin 1024 → EReal) = W m c := by
  funext k n
  show iblk m c 5 t (ix2 k n) = V m c main_v11 (ix2 k n)
  blk_ext [iblk, index_all]

theorem g_eq : gr (env m c t) = G m c := by
  funext j
  show iblk m c 6 t (ix2 (0 : Fin 1) j) = V m c main_v12 (ix2 (0 : Fin 1) j)
  blk_ext [iblk, index_all]

theorem b_eq : br (env m c t) = B m c := by
  funext j
  show iblk m c 7 t (ix2 (0 : Fin 1) j) = V m c main_v13 (ix2 (0 : Fin 1) j)
  blk_ext [iblk, index_all]

/-! ## The result arrays -/

/-- Row `i` merged. -/
def Y (i : Fin 16384) : Fin 1024 → EReal := merged (X m c i) (GM m c i) (OM m c i) (GR m c i) (OR m c i) (W m c)

theorem y_eq (r : Fin 512) (i : Fin 16384) (hi : i.val = t.val * 512 + r.val) : yr (env m c t) r = Y m c i := by
  unfold yr Y
  rw [x_eq m c t r i hi, om_eq m c t r i hi, or_eq m c t r i hi, gm_eq m c t r i hi, gr_eq m c t r i hi, w_eq]

def resultH : Vec Ideal S16384x1024 .f32 := fun i => normed (Y m c (i 0)) (G m c) (B m c) (i 1)
def resultB : Vec Ideal S16384x1024 .bf16 := fun i => normed (Y m c (i 0)) (G m c) (B m c) (i 1)

theorem hB_at (y : S512x1024.Idx) (i : S16384x1024.Idx) (h0 : (i 0).val = t.val * 512 + (y 0).val) (h1 : (i 1).val = (y 1).val) :
    hB (env m c t) y = resultH m c i := by
  have e1 : i 1 = y 1 := Fin.ext h1
  unfold hB resultH
  rw [y_eq m c t (y 0) (i 0) h0, g_eq, b_eq, e1]

theorem bB_at (y : S512x1024.Idx) (i : S16384x1024.Idx) (h0 : (i 0).val = t.val * 512 + (y 0).val) (h1 : (i 1).val = (y 1).val) :
    bB (env m c t) y = resultB m c i := by
  have e1 : i 1 = y 1 := Fin.ext h1
  unfold bB resultB
  rw [y_eq m c t (y 0) (i 0) h0, g_eq, b_eq, e1]

theorem arrH : (dats m 0 c).arrAt 10 cfg0.N = resultH m c := by
  refine (dats m 0 c).arrAt_eq_of_covers 10 _ (by decide +kernel) fun t hf y => ?_
  blk_simp [index_all]
  rw [after_h m c t]
  refine hB_at m c t y _ ?_ ?_
  · blk_simp [index_all]
  · blk_simp [index_all]

theorem arrB : (dats m 0 c).arrAt 11 cfg0.N = resultB m c := by
  refine (dats m 0 c).arrAt_eq_of_covers 11 _ (by decide +kernel) fun t hf y => ?_
  blk_simp [index_all]
  rw [after_b m c t]
  refine bB_at m c t y _ ?_ ?_
  · blk_simp [index_all]
  · blk_simp [index_all]

end Cert.Kernel4Ideal.Merge

end
-- ==== Proof.MergeHost.lean ====
/- The merge: what the arrays the kernel is given hold, from the arguments. -/
module

public import proofs.«01_k».proof.Proof.Gen.Kernel4Ideal.Value
public import Idealize.ShloMosaic.Lib.StableHlo.ReadAt
public import Idealize.ShloMosaic.Lib.Pointwise

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

theorem v0_at (b : Fin 4) (q : Fin 4096) (n : Fin 1024) :
    @Eq EReal (V m c main_v0 (ix2 (⟨4096 * b.val + q.val, by omega⟩ : Fin 16384) n)) (m ((c.tc : Thread nD τ).loc main_arg0) (ix3 b q n)) := by
  unfold V
  after_reads_at

theorem v1_at (i : Fin 16384) (n : Fin 1024) : @Eq EReal (V m c main_v1 (ix2 i n)) (m ((c.tc : Thread nD τ).loc main_arg1) (ix2 i n)) := by
  unfold V
  after_reads_at

theorem v2_at (i : Fin 16384) (n : Fin 1024) : @Eq EReal (V m c main_v2 (ix2 i n)) (m ((c.tc : Thread nD τ).loc main_arg2) (ix2 i n)) := by
  unfold V
  after_reads_at

/-- The projection's first 6144 columns: those after the latents'. -/
theorem v10_at (b : Fin 4) (q : Fin 4096) (n : Fin 6912) (hn : n.val < 6144) :
    @Eq EReal (V m c main_v10 (ix2 (⟨4096 * b.val + q.val, by omega⟩ : Fin 16384) n))
      (m ((c.tc : Thread nD τ).loc main_arg3) (ix3 b q (⟨704 + n.val, by omega⟩ : Fin 6848))) := by
  unfold V
  after_reads_at
  have e1 : (4096 * b.val + q.val) / 4096 = b.val := by omega
  have e2 : (4096 * b.val + q.val) % 4096 = q.val := by omega
  simp only [e1, e2, Fin.eta]
  rw [dif_pos hn]
  after_reads_at

theorem v11_at (k n : Fin 1024) : @Eq EReal (V m c main_v11 (ix2 k n)) (m ((c.tc : Thread nD τ).loc main_arg4) (ix2 k n)) := by
  unfold V
  after_reads_at

theorem v12_at (k : Fin 1024) : @Eq EReal (V m c main_v12 (ix2 (0 : Fin 1) k)) (m ((c.tc : Thread nD τ).loc main_arg5) (ix1 k)) := by
  unfold V
  after_reads_at

theorem v13_at (k : Fin 1024) : @Eq EReal (V m c main_v13 (ix2 (0 : Fin 1) k)) (m ((c.tc : Thread nD τ).loc main_arg6) (ix1 k)) := by
  unfold V
  after_reads_at

end Cert.Kernel4Ideal.Merge

end
-- ==== Proof.MergeFinal.lean ====
/- The merge: the kernel's two results are the reference's. -/
module

public import proofs.«01_k».proof.Proof.MergeRef
public import proofs.«01_k».proof.Proof.MergeArray
public import proofs.«01_k».proof.Proof.MergeHost

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline Idealize.ShloMosaic.Pointwise

/-! ## The constants and the gate -/

theorem half_eq : Ideal.ofBits .f32 0x3F000000#32 = ((1 / 2 : ℝ) : EReal) := by
  simp [Ideal.ofBits, Ideal.ieee, -EReal.coe_mul]
  try norm_num

theorem one_eq : Ideal.ofBits .f32 0x3F800000#32 = ((1 : ℝ) : EReal) := by
  simp [Ideal.ofBits, Ideal.ieee, -EReal.coe_mul]
  try norm_num

theorem two_eq : Ideal.ofBits .f32 0x40000000#32 = ((2 : ℝ) : EReal) := by
  simp [Ideal.ofBits, Ideal.ieee, -EReal.coe_mul]
  try norm_num

/-- The weight of the residual is the square root of two's square root. -/
theorem alpha_eq : Ideal.sqrt (Ideal.sqrt (Ideal.ofBits .f32 0x40000000#32)) = alpha := by
  rw [two_eq]
  have h1 : Ideal.sqrt ((2 : ℝ) : EReal) = ((Real.sqrt 2 : ℝ) : EReal) := if_neg (by norm_num)
  have h2 : Ideal.sqrt ((Real.sqrt 2 : ℝ) : EReal) = ((Real.sqrt (Real.sqrt 2) : ℝ) : EReal) := if_neg (not_lt.mpr (Real.sqrt_nonneg 2))
  rw [h1, h2]
  rfl

/-- On the reals the gate is the logistic function. -/
theorem half_tanh (r : ℝ) : 1 / 2 * Real.tanh (1 / 2 * r) + 1 / 2 = 1 * (1 / (1 + Real.exp (-r))) := by
  rw [Real.tanh_eq_sinh_div_cosh, Real.sinh_eq, Real.cosh_eq]
  have hp : 0 < Real.exp (1 / 2 * r) := Real.exp_pos _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]
    congr 1
    ring
  rw [e1, e2]
  generalize Real.exp (1 / 2 * r) = u at hp
  have h2 : u * u + 1 ≠ 0 := by positivity
  field_simp
  ring

theorem gate_eq (x : EReal) : gate x = Cert.Reference4Ideal.Merge.sigmoid x := by
  unfold gate Cert.Reference4Ideal.Merge.sigmoid
  rw [half_eq, one_eq]
  induction x using EReal.rec with
  | bot =>
    have h1 : ((1 / 2 : ℝ) : EReal) * ⊥ = ⊥ := EReal.coe_mul_bot_of_pos (by norm_num)
    rw [h1, EReal.neg_bot]
    have h2 : Ideal.exp ⊤ = ⊤ := rfl
    have h3 : Ideal.tanh ⊥ = ((-1 : ℝ) : EReal) := by simp
    rw [h2, h3, EReal.coe_add_top, ← EReal.coe_mul, ← EReal.coe_add]
    have h4 : Ideal.div ((1 : ℝ) : EReal) ⊤ = 0 := by simp [Ideal.div]
    rw [h4]
    norm_num
  | top =>
    have h1 : ((1 / 2 : ℝ) : EReal) * ⊤ = ⊤ := EReal.coe_mul_top_of_pos (by norm_num)
    rw [h1, EReal.neg_top]
    have h2 : Ideal.exp ⊥ = ((0 : ℝ) : EReal) := rfl
    have h3 : Ideal.tanh ⊤ = ((1 : ℝ) : EReal) := by simp
    rw [h2, h3, ← EReal.coe_add, Ideal.div_coe (by norm_num), ← EReal.coe_mul, ← EReal.coe_add, ← EReal.coe_mul]
    norm_num
  | coe r =>
    have h2 : Ideal.exp ((-r : ℝ) : EReal) = ((Real.exp (-r) : ℝ) : EReal) := rfl
    have h3 : Ideal.tanh ((1 / 2 * r : ℝ) : EReal) = ((Real.tanh (1 / 2 * r) : ℝ) : EReal) := rfl
    have hp : (1 + Real.exp (-r)) ≠ 0 := by positivity
    rw [← EReal.coe_mul, h3, ← EReal.coe_neg, h2, ← EReal.coe_add, Ideal.div_coe hp, ← EReal.coe_mul, ← EReal.coe_add, ← EReal.coe_mul, half_tanh]

variable (m : (ℓ : Loc nD τ sig) → Buf (Elt Ideal) ℓ) (c : Dev nD)

/-! ## The arguments -/

def a0 : FVec Ideal S4x4096x1024 .f32 := m ((c.tc : Thread nD τ).loc main_arg0)
def a1 : FVec Ideal S16384x1024 .f32 := m ((c.tc : Thread nD τ).loc main_arg1)
def a2 : FVec Ideal S16384x1024 .f32 := m ((c.tc : Thread nD τ).loc main_arg2)
def a3 : FVec Ideal S4x4096x6848 .f32 := m ((c.tc : Thread nD τ).loc main_arg3)
def a4 : FVec Ideal S1024x1024 .f32 := m ((c.tc : Thread nD τ).loc main_arg4)
def a5 : FVec Ideal S1024 .f32 := m ((c.tc : Thread nD τ).loc main_arg5)
def a6 : FVec Ideal S1024 .f32 := m ((c.tc : Thread nD τ).loc main_arg6)

/-! ## The kernel's rows from the arguments -/

theorem X_at (b : Fin 4) (q : Fin 4096) : X m c ⟨4096 * b.val + q.val, by omega⟩ = fun j => a0 m c (ix3 b q j) := funext fun j => v0_at m c b q j

theorem OM_at (i : Fin 16384) : OM m c i = fun j => a1 m c (ix2 i j) := funext fun j => v1_at m c i j

theorem OR_at (i : Fin 16384) : OR m c i = fun j => a2 m c (ix2 i j) := funext fun j => v2_at m c i j

theorem GM_at (b : Fin 4) (q : Fin 4096) (k : Fin 1024) :
    GM m c ⟨4096 * b.val + q.val, by omega⟩ k = a3 m c (ix3 b q (⟨4800 + k.val, by omega⟩ : Fin 6848)) := by
  refine (v10_at m c b q ⟨4096 + k.val, by omega⟩ (by show 4096 + k.val < 6144; omega)).trans ?_
  refine congrArg (fun n : Fin 6848 => a3 m c (ix3 b q n)) (Fin.ext ?_)
  show 704 + (4096 + k.val) = 4800 + k.val
  omega

theorem GR_at (b : Fin 4) (q : Fin 4096) (k : Fin 1024) :
    GR m c ⟨4096 * b.val + q.val, by omega⟩ k = a3 m c (ix3 b q (⟨5824 + k.val, by omega⟩ : Fin 6848)) := by
  refine (v10_at m c b q ⟨5120 + k.val, by omega⟩ (by show 5120 + k.val < 6144; omega)).trans ?_
  refine congrArg (fun n : Fin 6848 => a3 m c (ix3 b q n)) (Fin.ext ?_)
  show 704 + (5120 + k.val) = 5824 + k.val
  omega

theorem W_eq : W m c = fun k n => a4 m c (ix2 k n) := funext fun k => funext fun n => v11_at m c k n

theorem G_eq : G m c = fun k => a5 m c (ix1 k) := funext fun k => v12_at m c k

theorem B_eq : B m c = fun k => a6 m c (ix1 k) := funext fun k => v13_at m c k

/-! ## The results -/

theorem row_split (i : Fin 16384) : ∃ (b : Fin 4) (q : Fin 4096), i = ⟨4096 * b.val + q.val, by omega⟩ :=
  ⟨⟨i.val / 4096, by omega⟩, ⟨i.val % 4096, by omega⟩, Fin.ext (by show i.val = 4096 * (i.val / 4096) + i.val % 4096; omega)⟩

/-- A merged row is the reference's. -/
theorem Y_eq (i : Fin 16384) :
    Y m c i = fun j => Cert.Reference4Ideal.Read.val_main_v24 (F := Ideal) (a0 m c) (a1 m c) (a2 m c) (a3 m c) (a4 m c) (ix2 i j) := by
  obtain ⟨b, q, rfl⟩ := row_split i
  funext n
  rw [Cert.Reference4Ideal.Merge.v24_at]
  unfold Y merged Cert.Reference4Ideal.Merge.merged
  rw [alpha_eq, X_at, OM_at, OR_at, W_eq]
  refine congrArg _ (Finset.sum_congr rfl fun k _ => ?_)
  rw [GM_at, GR_at, gate_eq, gate_eq]

theorem H_at (i : Fin 16384) (n : Fin 1024) :
    normed (Y m c i) (G m c) (B m c) n
      = Cert.Reference4Ideal.Read.val_main_v48 (F := Ideal) (a0 m c) (a1 m c) (a2 m c) (a3 m c) (a4 m c) (a5 m c) (a6 m c) (ix2 i n) := by
  rw [Cert.Reference4Ideal.Merge.v48_at, Y_eq, G_eq, B_eq]
  rfl

theorem resultH_eq : resultH m c = Cert.Reference4Ideal.Read.val_main_v48 (F := Ideal) (a0 m c) (a1 m c) (a2 m c) (a3 m c) (a4 m c) (a5 m c) (a6 m c) := by
  funext i
  obtain ⟨n, u, rfl⟩ : ∃ (n : Fin 16384) (u : Fin 1024), i = ix2 n u := ⟨i 0, i 1, by funext a; fin_cases a <;> rfl⟩
  exact H_at m c n u

theorem resultB_eq : resultB m c = Cert.Reference4Ideal.Read.val_main_v49 (F := Ideal) (a0 m c) (a1 m c) (a2 m c) (a3 m c) (a4 m c) (a5 m c) (a6 m c) := by
  funext i
  obtain ⟨n, u, rfl⟩ : ∃ (n : Fin 16384) (u : Fin 1024), i = ix2 n u := ⟨i 0, i 1, by funext a; fin_cases a <;> rfl⟩
  exact (H_at m c n u).trans (Cert.Reference4Ideal.Merge.v49_at _ _ _ _ _ _ _ n u).symm

end Cert.Kernel4Ideal.Merge

end
-- ==== Proof.RopeBlock.lean ====
/- The rope tables: what the body leaves in a block of each table, and the result arrays after the launch. -/
module

public import proofs.«01_k».proof.Proof.Gen.Kernel5Ideal.Value
public import Idealize.ShloMosaic.Lib.Pointwise
public import Idealize.ShloMosaic.Lib.Pipeline.ReadBack
public import Idealize.ShloMosaic.Lib.Pipeline.CanonAppend
public import Idealize.ShloMosaic.Lib.Pipeline.ValueKit

@[expose] public section

set_option maxRecDepth 16384

noncomputable section

namespace Cert.Kernel5Ideal.Rope

open Cert.Kernel5Ideal Cert.Kernel5Ideal.Gen Idealize.ShloMosaic Idealize.ShloMosaic.TcCoe Idealize.SL.Sem
open Idealize.ShloMosaic.Pipeline Idealize.ShloMosaic.Pointwise

/-- The angle at a row holding position `p` and a lane of frequency `f`. -/
def ang (p : BitVec 32) (f : EReal) : EReal := @HMul.hMul EReal EReal EReal _ (FloatOps.sitofp (F := Ideal) .f32 p) f

/-- The retention table of cosines, at lane `l` of a row at position `p`: 64 cosines, twice. -/
def rowRc (p : BitVec 32) (f : Fin 128 → EReal) (l : Fin 128) : EReal :=
  if h : l.val < 64 then Ideal.cos (ang p (f l)) else Ideal.cos (ang p (f ⟨l.val - 64, by omega⟩))

/-- The retention table of sines: 64 sines negated, then as they are. -/
def rowRs (p : BitVec 32) (f : Fin 128 → EReal) (l : Fin 128) : EReal :=
  if h : l.val < 64 then 0 - Ideal.sin (ang p (f l)) else Ideal.sin (ang p (f ⟨l.val - 64, by omega⟩))

/-- The latent attention's table of cosines: the 32 cosines of the frequencies 64 lanes on, twice, then zeros. -/
def rowMc (p : BitVec 32) (f : Fin 128 → EReal) (l : Fin 128) : EReal :=
  if h : l.val < 32 then Ideal.cos (ang p (f ⟨l.val + 64, by omega⟩))
  else if h : l.val < 64 then Ideal.cos (ang p (f ⟨l.val + 32, by omega⟩)) else 0

/-- The latent attention's table of sines: the 32 sines of the frequencies 64 lanes on, twice, then zeros. -/
def rowMs (p : BitVec 32) (f : Fin 128 → EReal) (l : Fin 128) : EReal :=
  if h : l.val < 32 then Ideal.sin (ang p (f ⟨l.val + 64, by omega⟩))
  else if h : l.val < 64 then Ideal.sin (ang p (f ⟨l.val + 32, by omega⟩)) else 0

variable (p : Vec Ideal S8x128 .i32) (f : Vec Ideal S1x128 .f32)

/-- The position of a block's row. -/
def posOf (r : Fin 1024) : BitVec 32 := p (ix2 (⟨r.val / 128, by omega⟩ : Fin 8) (⟨r.val % 128, by omega⟩ : Fin 128))

/-- The lanes' frequencies. -/
def freqOf (l : Fin 128) : EReal := f (ix2 (0 : Fin 1) l)

theorem posOf_eq (r : Fin 1024) (j : Fin 8) (s : Fin 128) (h : r.val = 128 * j.val + s.val) : posOf p r = p (ix2 j s) := by
  have e1 : (⟨r.val / 128, by omega⟩ : Fin 8) = j := Fin.ext (by show r.val / 128 = j.val; omega)
  have e2 : (⟨r.val % 128, by omega⟩ : Fin 128) = s := Fin.ext (by show r.val % 128 = s.val; omega)
  unfold posOf
  rw [e1, e2]

theorem pay4_at (r : Fin 1024) (l : Fin 128) : @Eq EReal (k0_pay4 (F := Ideal) p f (ix2 r l)) (ang (posOf p r) (freqOf f l)) := by
  pointwise [k0_pay4]
  unfold freqOf
  by_cases h0 : r.val < 128
  · rw [dif_pos h0]
    exact congrArg (fun q => ang q (f (ix2 (0 : Fin 1) l))) (posOf_eq p r 0 ⟨r.val, h0⟩ (by show r.val = 128 * 0 + (r.val); omega)).symm
  rw [dif_neg h0]
  by_cases h1 : r.val - 128 < 128
  · rw [dif_pos h1]
    exact congrArg (fun q => ang q (f (ix2 (0 : Fin 1) l))) (posOf_eq p r 1 ⟨r.val - 128, h1⟩ (by show r.val = 128 * 1 + (r.val - 128); omega)).symm
  rw [dif_neg h1]
  by_cases h2 : r.val - 128 - 128 < 128
  · rw [dif_pos h2]
    exact congrArg (fun q => ang q (f (ix2 (0 : Fin 1) l))) (posOf_eq p r 2 ⟨r.val - 128 - 128, h2⟩ (by show r.val = 128 * 2 + (r.val - 128 - 128); omega)).symm
  rw [dif_neg h2]
  by_cases h3 : r.val - 128 - 128 - 128 < 128
  · rw [dif_pos h3]
    exact congrArg (fun q => ang q (f (ix2 (0 : Fin 1) l))) (posOf_eq p r 3 ⟨r.val - 128 - 128 - 128, h3⟩ (by show r.val = 128 * 3 + (r.val - 128 - 128 - 128); omega)).symm
  rw [dif_neg h3]
  by_cases h4 : r.val - 128 - 128 - 128 - 128 < 128
  · rw [dif_pos h4]
    exact congrArg (fun q => ang q (f (ix2 (0 : Fin 1) l))) (posOf_eq p r 4 ⟨r.val - 128 - 128 - 128 - 128, h4⟩ (by show r.val = 128 * 4 + (r.val - 128 - 128 - 128 - 128); omega)).symm
  rw [dif_neg h4]
  by_cases h5 : r.val - 128 - 128 - 128 - 128 - 128 < 128
  · rw [dif_pos h5]
    exact congrArg (fun q => ang q (f (ix2 (0 : Fin 1) l))) (posOf_eq p r 5 ⟨r.val - 128 - 128 - 128 - 128 - 128, h5⟩ (by show r.val = 128 * 5 + (r.val - 128 - 128 - 128 - 128 - 128); omega)).symm
  rw [dif_neg h5]
  by_cases h6 : r.val - 128 - 128 - 128 - 128 - 128 - 128 < 128
  · rw [dif_pos h6]
    exact congrArg (fun q => ang q (f (ix2 (0 : Fin 1) l))) (posOf_eq p r 6 ⟨r.val - 128 - 128 - 128 - 128 - 128 - 128, h6⟩ (by show r.val = 128 * 6 + (r.val - 128 - 128 - 128 - 128 - 128 - 128); omega)).symm
  rw [dif_neg h6]
  exact congrArg (fun q => ang q (f (ix2 (0 : Fin 1) l))) (posOf_eq p r 7 ⟨r.val - 128 - 128 - 128 - 128 - 128 - 128 - 128, by omega⟩ (by show r.val = 128 * 7 + (r.val - 128 - 128 - 128 - 128 - 128 - 128 - 128); omega)).symm

theorem lt64 : ∀ l : Fin 128, IntOp.cmpi .slt (BitVec.ofNat 32 l.val) 64#32 = if l.val < 64 then 1#1 else 0#1 := by decide +kernel
theorem lt32 : ∀ l : Fin 128, IntOp.cmpi .slt (BitVec.ofNat 32 l.val) 32#32 = if l.val < 32 then 1#1 else 0#1 := by decide +kernel

theorem sel {α : Type} (P : Prop) [Decidable P] (a b : α) : Scalar.select (if P then 1#1 else 0#1) a b = if P then a else b := by
  by_cases h : P <;> simp [h, Scalar.select]

theorem pay9_at (r : Fin 1024) (l : Fin 128) : @Eq EReal (k0_pay9 (F := Ideal) p f (ix2 r l)) (rowRc (posOf p r) (freqOf f) l) := by
  pointwise [k0_pay9, k0_pay7, k0_pay5]
  rw [lt64, sel, pay4_at, pay4_at]
  unfold rowRc
  by_cases h : l.val < 64
  · rw [if_pos h, dif_pos h]
  · rw [if_neg h, dif_neg h]
    congr 3
    apply Fin.ext
    dsimp only
    omega

theorem ld_p : View.ld p r0_0 = p := by
  funext y
  show p _ = p _
  congr 1
  funext a
  fin_cases a <;> apply Fin.ext <;> simp

theorem ld_f : View.ld f r0_1 = f := by
  funext y
  show f _ = f _
  congr 1
  funext a
  fin_cases a <;> apply Fin.ext <;> simp

theorem pay1_at (r : Fin 1024) (l : Fin 128) :
    @Eq EReal (k0_pay1 (F := Ideal) (k0_pay11 p f) (k0_pay10 p f) (k0_pay12 p f) (ix2 r l)) (rowRs (posOf p r) (freqOf f) l) := by
  pointwise [k0_pay1, k0_pay10, k0_pay11, k0_pay12, k0_pay8, k0_pay6]
  rw [ld_p, ld_f, lt64, sel, pay4_at, pay4_at]
  unfold rowRs
  by_cases h : l.val < 64
  · rw [if_pos h, dif_pos h]
  · rw [if_neg h, dif_neg h]
    congr 3
    apply Fin.ext
    dsimp only
    omega

theorem pay2_at (r : Fin 1024) (l : Fin 128) :
    @Eq EReal (k0_pay2 (F := Ideal) (k0_pay5 p f) (k0_pay10 p f) (k0_pay7 p f) (ix2 r l)) (rowMc (posOf p r) (freqOf f) l) := by
  pointwise [k0_pay2, k0_pay10, k0_pay7, k0_pay5]
  rw [lt32, lt64, sel, sel, pay4_at, pay4_at]
  unfold rowMc
  by_cases h : l.val < 32
  · rw [if_pos h, dif_pos h]
    congr 3
    apply Fin.ext
    dsimp only
    omega
  · rw [if_neg h, dif_neg h]
    by_cases h' : l.val < 64
    · rw [if_pos h', dif_pos h']
      congr 3
      apply Fin.ext
      dsimp only
      omega
    · rw [if_neg h', dif_neg h']

theorem pay3_at (r : Fin 1024) (l : Fin 128) :
    @Eq EReal (k0_pay3 (F := Ideal) (k0_pay11 p f) (k0_pay10 p f) (k0_pay12 p f) (ix2 r l)) (rowMs (posOf p r) (freqOf f) l) := by
  pointwise [k0_pay3, k0_pay10, k0_pay11, k0_pay12, k0_pay8, k0_pay6]
  rw [ld_p, ld_f, lt32, lt64, sel, sel, pay4_at, pay4_at]
  unfold rowMs
  by_cases h : l.val < 32
  · rw [if_pos h, dif_pos h]
    congr 3
    apply Fin.ext
    dsimp only
    omega
  · rw [if_neg h, dif_neg h]
    by_cases h' : l.val < 64
    · rw [if_pos h', dif_pos h']
      congr 3
      apply Fin.ext
      dsimp only
      omega
    · rw [if_neg h', dif_neg h']

/-! ## The blocks -/

/-- A block of a table, from its rows. -/
def blockT (row : BitVec 32 → (Fin 128 → EReal) → Fin 128 → EReal) : Vec Ideal S1024x128 .f32 := fun y => row (posOf p (y 0)) (freqOf f) (y 1)

theorem canon_eq (row : BitVec 32 → (Fin 128 → EReal) → Fin 128 → EReal) (w : Vec Ideal S1024x128 .f32)
    (h : ∀ (r : Fin 1024) (l : Fin 128), @Eq EReal (w (ix2 r l)) (row (posOf p r) (freqOf f) l)) :
    View.canon [⟨r0_2, w⟩] = blockT p f row := by
  funext y
  rw [← List.append_nil (_ :: _)]
  refine View.canon_append_of_pieces (blockT p f row) [] _ ?_ y (cover0_2 _ y)
  intro q hq x
  simp only [List.mem_cons, List.not_mem_nil, or_false] at hq
  subst hq
  obtain ⟨r, l, rfl⟩ : ∃ (r : Fin 1024) (l : Fin 128), x = ix2 r l := ⟨x 0, x 1, eq_ix2 x⟩
  have ei : r0_2.emb (ix2 r l) = ix2 r l := by
    funext a
    fin_cases a <;> apply Fin.ext <;> simp [ix2]
  rw [ei]
  exact h r l

theorem out2_eq : out0_2 p f = blockT p f rowRc := by
  unfold out0_2
  rw [ld_p, ld_f]
  exact canon_eq p f _ _ (pay9_at p f)

theorem out3_eq : out0_3 p f = blockT p f rowRs := by
  unfold out0_3
  exact canon_eq p f _ _ (pay1_at p f)

theorem out4_eq : out0_4 p f = blockT p f rowMc := by
  unfold out0_4
  rw [ld_p, ld_f]
  exact canon_eq p f _ _ (pay2_at p f)

theorem out5_eq : out0_5 p f = blockT p f rowMs := by
  unfold out0_5
  exact canon_eq p f _ _ (pay3_at p f)

/-! ## The result arrays -/

variable (m : (ℓ : Loc nD τ sig) → Buf (Elt Ideal) ℓ) (c : Dev nD)

theorem index_all : ∀ t : Fin grid0.N,
    win0_0.index t = ![t.val, 0] ∧ win0_1.index t = ![0, 0] ∧ win0_2.index t = ![t.val, 0] ∧ win0_3.index t = ![t.val, 0]
      ∧ win0_4.index t = ![t.val, 0] ∧ win0_5.index t = ![t.val, 0] := by decide +kernel

theorem p_at (t : Fin cfg0.N) (j : Fin 8) (s : Fin 128) (i : Fin 128) (hi : i.val = t.val * 8 + j.val) :
    iblk m c 0 t (ix2 j s) = V m c main_v0 (ix2 i s) := by
  blk_ext [iblk, index_all, hi]

theorem f_at (t : Fin cfg0.N) (l : Fin 128) : iblk m c 1 t (ix2 (0 : Fin 1) l) = V m c main_v19 (ix2 (0 : Fin 1) l) := by
  blk_ext [iblk, index_all]

/-- A table, from its rows: row `i` is at position `i` of the positions laid end to end. -/
def table (row : BitVec 32 → (Fin 128 → EReal) → Fin 128 → EReal) : Vec Ideal S16384x128 .f32 := fun i =>
  row (V m c main_v0 (ix2 (⟨(i 0).val / 128, by have h : (i 0).val < 16384 := (i 0).isLt; omega⟩ : Fin 128) (⟨(i 0).val % 128, by omega⟩ : Fin 128)))
    (fun l => V m c main_v19 (ix2 (0 : Fin 1) l)) (i 1)

theorem block_at (row : BitVec 32 → (Fin 128 → EReal) → Fin 128 → EReal) (t : Fin cfg0.N) (y : S1024x128.Idx) (i : S16384x128.Idx)
    (h0 : (i 0).val = t.val * 1024 + (y 0).val) (h1 : (i 1).val = (y 1).val) :
    @Eq EReal (blockT (iblk m c 0 t) (iblk m c 1 t) row y) (table m c row i) := by
  have e1 : i 1 = y 1 := Fin.ext h1
  have hy : (y 0).val < 1024 := (y 0).isLt
  have hf : freqOf (iblk m c 1 t) = fun l => V m c main_v19 (ix2 (0 : Fin 1) l) := by
    funext l
    exact f_at m c t l
  have hp : posOf (iblk m c 0 t) (y 0) = V m c main_v0 (ix2 (⟨(i 0).val / 128, by have h : (i 0).val < 16384 := (i 0).isLt; omega⟩ : Fin 128) (⟨(i 0).val % 128, by omega⟩ : Fin 128)) := by
    unfold posOf
    rw [p_at m c t _ _ (⟨(i 0).val / 128, by have h : (i 0).val < 16384 := (i 0).isLt; omega⟩ : Fin 128) (by show (i 0).val / 128 = t.val * 8 + (y 0).val / 128; omega)]
    congr 2
    apply Fin.ext
    show (y 0).val % 128 = (i 0).val % 128
    omega
  unfold blockT table
  rw [hf, hp, e1]

theorem arr2 : (dats m 0 c).arrAt 2 cfg0.N = table m c rowRc := by
  refine (dats m 0 c).arrAt_eq_of_covers 2 _ (by decide +kernel) fun t hf y => ?_
  blk_simp [index_all]
  rw [after0_2 m c t, out2_eq]
  refine block_at m c _ t y _ ?_ ?_ <;> blk_simp [index_all]

theorem arr3 : (dats m 0 c).arrAt 3 cfg0.N = table m c rowRs := by
  refine (dats m 0 c).arrAt_eq_of_covers 3 _ (by decide +kernel) fun t hf y => ?_
  blk_simp [index_all]
  rw [after0_3 m c t, out3_eq]
  refine block_at m c _ t y _ ?_ ?_ <;> blk_simp [index_all]

theorem arr4 : (dats m 0 c).arrAt 4 cfg0.N = table m c rowMc := by
  refine (dats m 0 c).arrAt_eq_of_covers 4 _ (by decide +kernel) fun t hf y => ?_
  blk_simp [index_all]
  rw [after0_4 m c t, out4_eq]
  refine block_at m c _ t y _ ?_ ?_ <;> blk_simp [index_all]

theorem arr5 : (dats m 0 c).arrAt 5 cfg0.N = table m c rowMs := by
  refine (dats m 0 c).arrAt_eq_of_covers 5 _ (by decide +kernel) fun t hf y => ?_
  blk_simp [index_all]
  rw [after0_5 m c t, out5_eq]
  refine block_at m c _ t y _ ?_ ?_ <;> blk_simp [index_all]

end Cert.Kernel5Ideal.Rope

end
-- ==== Proof.RopeRef.lean ====
/- The rope tables: the reference at an index. -/
module

public import proofs.«01_k».proof.Proof.Gen.Reference5Ideal.Read
public import Idealize.ShloMosaic.Lib.Pointwise

@[expose] public section

set_option maxRecDepth 16384

noncomputable section

namespace Cert.Reference5Ideal.Rope

open Cert.Reference5Ideal Cert.Reference5Ideal.Gen Cert.Reference5Ideal.Read Idealize.ShloMosaic Idealize.ShloMosaic.TcCoe
open Idealize.ShloMosaic.Pointwise

/-! ## The frequencies -/

/-- Frequency `j` of the retention: ten thousand to the minus `j / 63`, the last one's power being exactly one. -/
def retF (j : Fin 64) : EReal :=
  Ideal.div 1 (Ideal.pow (Ideal.ofBits .f32 0x461C4000#32)
    (if j.val < 63 then Ideal.div (FloatOps.sitofp (F := Ideal) .f32 (BitVec.ofNat 32 j.val)) (Ideal.ofBits .f32 0x427C0000#32) else 1))

/-- Frequency `j` of the latent attention: ten thousand to the minus `2 j / 64`. -/
def mlaF (j : Fin 32) : EReal :=
  Ideal.div 1 (Ideal.pow (Ideal.ofBits .f32 0x461C4000#32)
    (Ideal.div (@HMul.hMul EReal EReal EReal _ (Ideal.ofBits .f32 0x40000000#32) (FloatOps.sitofp (F := Ideal) .f32 (BitVec.ofNat 32 j.val))) (Ideal.ofBits .f32 0x42800000#32)))

theorem v4_at (j : Fin 64) : @Eq EReal (val_main_v4 (F := Ideal) (ix1 j)) (retF j) := by
  unfold retF
  pointwise [val_main_v4, val_main_v3, val_main_v2, val_main_v1, val_main_v0, val_main_call0_v15, val_main_call0_v14, val_main_call0_v11, val_main_call0_v9, val_main_call0_v6, val_main_call0_v10, val_main_call0_v8, val_main_call0_v4, val_main_call0_v5, val_main_call0_v13, val_main_call0_v16, val_main_call0_v7, val_main_call0_v12, val_main_call0_v0, val_main_call0_v1, val_main_call0_cst_1, val_main_call0_cst_0, val_main_cst, val_main_cst_0, val_main_cst_1, val_main_cst_2]
  simp only [id_eq]
  by_cases h : j.val < 63
  · rw [dif_pos h, if_pos h]
    pointwise
    rw [zero_mul, zero_add]
  · rw [dif_neg h, if_neg h]
    pointwise

theorem v23_at (j : Fin 32) : @Eq EReal (val_main_v23 (F := Ideal) (ix1 j)) (mlaF j) := by
  unfold mlaF
  pointwise [val_main_v23, val_main_v22, val_main_v21, val_main_v20, val_main_v19, val_main_v18, val_main_v17, val_main_v16, val_main_v15, val_main_v14, val_main_v13, val_main_cst_7, val_main_cst_6, val_main_cst_5, val_main_cst_4, val_main_cst_3]

/-! ## The tables -/

/-- The angle of a frequency at a position. -/
def turn (p : BitVec 32) (f : EReal) : EReal := @HMul.hMul EReal EReal EReal _ (FloatOps.sitofp (F := Ideal) .f32 p) f

variable (x0 : (⟨S4x4096, .i32⟩ : BufTy).Contents (Elt Ideal))

theorem v32_at (b : Fin 4) (q : Fin 4096) (l : Fin 128) : @Eq EReal (val_main_v32 (F := Ideal) x0 (ix3 b q l))
    (if h : l.val < 64 then Ideal.cos (turn (x0 (ix2 b q)) (retF ⟨l.val, h⟩)) else Ideal.cos (turn (x0 (ix2 b q)) (retF ⟨l.val - 64, by omega⟩))) := by
  pointwise [val_main_v32, val_main_v11, val_main_v10, val_main_v9, val_main_v8, val_main_v7, val_main_v6, val_main_v5]
  simp only [v4_at]
  rfl

theorem v34_at (b : Fin 4) (q : Fin 4096) (l : Fin 128) : @Eq EReal (val_main_v34 (F := Ideal) x0 (ix3 b q l))
    (if h : l.val < 64 then - Ideal.sin (turn (x0 (ix2 b q)) (retF ⟨l.val, h⟩)) else Ideal.sin (turn (x0 (ix2 b q)) (retF ⟨l.val - 64, by omega⟩))) := by
  pointwise [val_main_v34, val_main_v33, val_main_v12, val_main_v10, val_main_v9, val_main_v8, val_main_v7, val_main_v6, val_main_v5]
  simp only [v4_at]
  rfl

/-- The integer zero as a number. -/
theorem zero_eq : @Eq EReal (FloatOps.sitofp (F := Ideal) .f32 0#32) 0 := by
  show ((((0#32 : BitVec 32).toInt : ℤ) : ℝ) : EReal) = 0
  simp

theorem v36_at (b : Fin 4) (q : Fin 4096) (l : Fin 128) : @Eq EReal (val_main_v36 (F := Ideal) x0 (ix3 b q l))
    (if h : l.val < 64 then
      if h' : l.val < 32 then Ideal.cos (turn (x0 (ix2 b q)) (mlaF ⟨l.val, h'⟩)) else Ideal.cos (turn (x0 (ix2 b q)) (mlaF ⟨l.val - 32, by omega⟩))
    else 0) := by
  pointwise [val_main_v36, val_main_call1_v0, val_main_c, val_main_v35, val_main_v30, val_main_v29, val_main_v28, val_main_v27, val_main_v26, val_main_v25, val_main_v24]
  simp only [v23_at, zero_eq]
  rfl

theorem v38_at (b : Fin 4) (q : Fin 4096) (l : Fin 128) : @Eq EReal (val_main_v38 (F := Ideal) x0 (ix3 b q l))
    (if h : l.val < 64 then
      if h' : l.val < 32 then Ideal.sin (turn (x0 (ix2 b q)) (mlaF ⟨l.val, h'⟩)) else Ideal.sin (turn (x0 (ix2 b q)) (mlaF ⟨l.val - 32, by omega⟩))
    else 0) := by
  pointwise [val_main_v38, val_main_call2_v0, val_main_c_8, val_main_v37, val_main_v31, val_main_v29, val_main_v28, val_main_v27, val_main_v26, val_main_v25, val_main_v24]
  simp only [v23_at, zero_eq]
  rfl

theorem v39_at (b : Fin 4) (q : Fin 4096) (l : Fin 128) : @Eq EReal (val_main_v39 (F := Ideal) x0 (ix2 (⟨4096 * b.val + q.val, by omega⟩ : Fin 16384) l))
    (val_main_v32 (F := Ideal) x0 (ix3 b q l)) := by
  pointwise [val_main_v39]

theorem v40_at (b : Fin 4) (q : Fin 4096) (l : Fin 128) : @Eq EReal (val_main_v40 (F := Ideal) x0 (ix2 (⟨4096 * b.val + q.val, by omega⟩ : Fin 16384) l))
    (val_main_v34 (F := Ideal) x0 (ix3 b q l)) := by
  pointwise [val_main_v40]

theorem v41_at (b : Fin 4) (q : Fin 4096) (l : Fin 128) : @Eq EReal (val_main_v41 (F := Ideal) x0 (ix2 (⟨4096 * b.val + q.val, by omega⟩ : Fin 16384) l))
    (val_main_v36 (F := Ideal) x0 (ix3 b q l)) := by
  pointwise [val_main_v41]

theorem v42_at (b : Fin 4) (q : Fin 4096) (l : Fin 128) : @Eq EReal (val_main_v42 (F := Ideal) x0 (ix2 (⟨4096 * b.val + q.val, by omega⟩ : Fin 16384) l))
    (val_main_v38 (F := Ideal) x0 (ix3 b q l)) := by
  pointwise [val_main_v42]

end Cert.Reference5Ideal.Rope

end
-- ==== Proof.RopeHost.lean ====
/- The rope tables: what the arrays the kernel is given hold, from the positions. -/
module

public import proofs.«01_k».proof.Proof.Gen.Kernel5Ideal.Value
public import proofs.«01_k».proof.Proof.RopeRef
public import Idealize.ShloMosaic.Lib.StableHlo.ReadAt
public import Idealize.ShloMosaic.Lib.Pointwise

@[expose] public section

set_option maxRecDepth 16384

noncomputable section

namespace Cert.Kernel5Ideal.Rope

open Cert.Kernel5Ideal Cert.Kernel5Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- The positions, 128 to a row. -/
theorem v0_at (b : Fin 4) (q : Fin 4096) (i s : Fin 128) (h : i.val * 128 + s.val = 4096 * b.val + q.val) :
    V m c main_v0 (ix2 i s) = m ((c.tc : Thread nD τ).loc main_arg0) (ix2 b q) := by
  unfold V
  after_reads_at
  have e1 : (⟨i.val / 32, by omega⟩ : Fin 4) = b := Fin.ext (by show i.val / 32 = b.val; omega)
  have e2 : (⟨i.val % 32 * 128 + s.val, by omega⟩ : Fin 4096) = q := Fin.ext (by show i.val % 32 * 128 + s.val = q.val; omega)
  rw [e1, e2]

/-- The lanes' frequencies: 64 of the retention … -/
theorem v19_lo (l : Fin 128) (h : l.val < 64) : @Eq EReal (V m c main_v19 (ix2 (0 : Fin 1) l)) (Cert.Reference5Ideal.Rope.retF ⟨l.val, h⟩) := by
  unfold V Cert.Reference5Ideal.Rope.retF
  after_reads_at
  rw [dif_pos h]
  after_reads_at
  by_cases h' : l.val < 63
  · rw [dif_pos h', if_pos h']
    after_reads_at
    simp only [id_eq]
    pointwise
    rw [zero_mul, zero_add]
  · rw [dif_neg h', if_neg h']
    after_reads_at
    simp only [id_eq]
    pointwise

/-- … then 32 of the latent attention. -/
theorem v19_mid (j : Fin 32) : @Eq EReal (V m c main_v19 (ix2 (0 : Fin 1) (⟨64 + j.val, by omega⟩ : Fin 128))) (Cert.Reference5Ideal.Rope.mlaF j) := by
  unfold V Cert.Reference5Ideal.Rope.mlaF
  after_reads_at
  after_reads_at

end Cert.Kernel5Ideal.Rope

end
-- ==== Proof.RopeFinal.lean ====
/- The rope tables: the kernel's result arrays are the reference's. -/
module

public import proofs.«01_k».proof.Proof.RopeBlock
public import proofs.«01_k».proof.Proof.RopeHost

@[expose] public section

set_option maxRecDepth 16384

noncomputable section

namespace Cert.Kernel5Ideal.Rope

open Cert.Kernel5Ideal Cert.Kernel5Ideal.Gen Idealize.ShloMosaic Idealize.ShloMosaic.TcCoe Idealize.SL.Sem
open Idealize.ShloMosaic.Pointwise
open Cert.Reference5Ideal.Rope (retF mlaF turn)

variable (m : (ℓ : Loc nD τ sig) → Buf (Elt Ideal) ℓ) (c : Dev nD)

/-- The lanes' frequencies. -/
def lanes (l : Fin 128) : EReal := V m c main_v19 (ix2 (0 : Fin 1) l)

theorem lanes_ret (l : Fin 128) (j : Fin 64) (h : l.val = j.val) : lanes m c l = retF j := by
  have hl : l.val < 64 := by omega
  have e : (⟨l.val, hl⟩ : Fin 64) = j := Fin.ext h
  exact (v19_lo m c l hl).trans (congrArg retF e)

theorem lanes_mla (l : Fin 128) (j : Fin 32) (h : l.val = 64 + j.val) : lanes m c l = mlaF j := by
  have e : (⟨64 + j.val, by omega⟩ : Fin 128) = l := Fin.ext h.symm
  rw [← e]
  exact v19_mid m c j

/-- A table at a row, from the row's position. -/
theorem table_at (row : BitVec 32 → (Fin 128 → EReal) → Fin 128 → EReal) (b : Fin 4) (q : Fin 4096) (l : Fin 128) :
    @Eq EReal (table m c row (ix2 (⟨4096 * b.val + q.val, by omega⟩ : Fin 16384) l)) (row (m ((c.tc : Thread nD τ).loc main_arg0) (ix2 b q)) (lanes m c) l) := by
  unfold table
  exact congrArg (fun p => row p (lanes m c) l) (v0_at m c b q _ _ (by show (4096 * b.val + q.val) / 128 * 128 + (4096 * b.val + q.val) % 128 = _; omega))

theorem rowRc_eq (p : BitVec 32) (l : Fin 128) :
    rowRc p (lanes m c) l = if h : l.val < 64 then Ideal.cos (turn p (retF ⟨l.val, h⟩)) else Ideal.cos (turn p (retF ⟨l.val - 64, by omega⟩)) := by
  unfold rowRc
  by_cases h : l.val < 64
  · rw [dif_pos h, dif_pos h, lanes_ret m c l ⟨l.val, h⟩ rfl]; rfl
  · rw [dif_neg h, dif_neg h, lanes_ret m c _ ⟨l.val - 64, by omega⟩ rfl]; rfl

theorem rowRs_eq (p : BitVec 32) (l : Fin 128) :
    rowRs p (lanes m c) l = if h : l.val < 64 then - Ideal.sin (turn p (retF ⟨l.val, h⟩)) else Ideal.sin (turn p (retF ⟨l.val - 64, by omega⟩)) := by
  unfold rowRs
  by_cases h : l.val < 64
  · rw [dif_pos h, dif_pos h, lanes_ret m c l ⟨l.val, h⟩ rfl, zero_sub]; rfl
  · rw [dif_neg h, dif_neg h, lanes_ret m c _ ⟨l.val - 64, by omega⟩ rfl]; rfl

theorem rowMc_eq (p : BitVec 32) (l : Fin 128) :
    rowMc p (lanes m c) l = if h : l.val < 64 then
      if h' : l.val < 32 then Ideal.cos (turn p (mlaF ⟨l.val, h'⟩)) else Ideal.cos (turn p (mlaF ⟨l.val - 32, by omega⟩)) else 0 := by
  unfold rowMc
  by_cases h' : l.val < 32
  · rw [dif_pos h', dif_pos (show l.val < 64 by omega), dif_pos h', lanes_mla m c _ ⟨l.val, h'⟩ (by show l.val + 64 = 64 + l.val; omega)]; rfl
  · rw [dif_neg h']
    by_cases h : l.val < 64
    · rw [dif_pos h, dif_pos h, dif_neg h', lanes_mla m c _ ⟨l.val - 32, by omega⟩ (by show l.val + 32 = 64 + (l.val - 32); omega)]; rfl
    · rw [dif_neg h, dif_neg h]

theorem rowMs_eq (p : BitVec 32) (l : Fin 128) :
    rowMs p (lanes m c) l = if h : l.val < 64 then
      if h' : l.val < 32 then Ideal.sin (turn p (mlaF ⟨l.val, h'⟩)) else Ideal.sin (turn p (mlaF ⟨l.val - 32, by omega⟩)) else 0 := by
  unfold rowMs
  by_cases h' : l.val < 32
  · rw [dif_pos h', dif_pos (show l.val < 64 by omega), dif_pos h', lanes_mla m c _ ⟨l.val, h'⟩ (by show l.val + 64 = 64 + l.val; omega)]; rfl
  · rw [dif_neg h']
    by_cases h : l.val < 64
    · rw [dif_pos h, dif_pos h, dif_neg h', lanes_mla m c _ ⟨l.val - 32, by omega⟩ (by show l.val + 32 = 64 + (l.val - 32); omega)]; rfl
    · rw [dif_neg h, dif_neg h]

/-- Two tables alike at every position and lane are alike. -/
theorem table_ext (x y : Vec Ideal S16384x128 .f32)
    (h : ∀ (b : Fin 4) (q : Fin 4096) (l : Fin 128), @Eq EReal (x (ix2 (⟨4096 * b.val + q.val, by omega⟩ : Fin 16384) l)) (y (ix2 (⟨4096 * b.val + q.val, by omega⟩ : Fin 16384) l))) :
    x = y := by
  funext i
  have h0 : (i 0).val < 16384 := (i 0).isLt
  obtain ⟨b, hb⟩ : ∃ b : Fin 4, b.val = (i 0).val / 4096 := ⟨⟨(i 0).val / 4096, by omega⟩, rfl⟩
  obtain ⟨q, hq⟩ : ∃ q : Fin 4096, q.val = (i 0).val % 4096 := ⟨⟨(i 0).val % 4096, by omega⟩, rfl⟩
  have hi : i = ix2 (⟨4096 * b.val + q.val, by omega⟩ : Fin 16384) (i 1 : Fin 128) := by
    funext a
    fin_cases a <;> apply Fin.ext
    · show (i 0).val = 4096 * b.val + q.val
      omega
    · rfl
  rw [hi]
  exact h b q (i 1)

theorem rc_eq : table m c rowRc = Cert.Reference5Ideal.Read.val_main_v39 (F := Ideal) (m ((c.tc : Thread nD τ).loc main_arg0)) :=
  table_ext _ _ fun b q l => by
    rw [Cert.Reference5Ideal.Rope.v39_at, Cert.Reference5Ideal.Rope.v32_at, table_at]
    exact rowRc_eq m c _ l

theorem rs_eq : table m c rowRs = Cert.Reference5Ideal.Read.val_main_v40 (F := Ideal) (m ((c.tc : Thread nD τ).loc main_arg0)) :=
  table_ext _ _ fun b q l => by
    rw [Cert.Reference5Ideal.Rope.v40_at, Cert.Reference5Ideal.Rope.v34_at, table_at]
    exact rowRs_eq m c _ l

theorem mc_eq : table m c rowMc = Cert.Reference5Ideal.Read.val_main_v41 (F := Ideal) (m ((c.tc : Thread nD τ).loc main_arg0)) :=
  table_ext _ _ fun b q l => by
    rw [Cert.Reference5Ideal.Rope.v41_at, Cert.Reference5Ideal.Rope.v36_at, table_at]
    exact rowMc_eq m c _ l

theorem ms_eq : table m c rowMs = Cert.Reference5Ideal.Read.val_main_v42 (F := Ideal) (m ((c.tc : Thread nD τ).loc main_arg0)) :=
  table_ext _ _ fun b q l => by
    rw [Cert.Reference5Ideal.Rope.v42_at, Cert.Reference5Ideal.Rope.v38_at, table_at]
    exact rowMs_eq m c _ l

end Cert.Kernel5Ideal.Rope

end
-- ==== Proof.GatePre.lean ====
/- What the gates' precondition says: the norm's weight and bias and the routing weights are real numbers. -/
module

public import proofs.«01_k».proof.Pre_finite6
public import proofs.«01_k».proof.Proof.Pre
public import Idealize.ShloMosaic.Lib.Pointwise

@[expose] public section

set_option maxRecDepth 16384

noncomputable section

namespace Cert.Pre_finite6

open Idealize.ShloMosaic Idealize.ShloMosaic.Pointwise

instance facts : Facts where
  bcast_S_S1024 := by decide
  reducesTo_S1024_S_d0 := by decide
  h_S_ := by decide
  bcast_S_S1024x32 := by decide
  reducesTo_S1024x32_S_d0_1 := by decide

theorem real_of (a0 : FVec Ideal S4x4096x1024 .f32) (a1 a2 : FVec Ideal S16384x1024 .f32) (a3 : FVec Ideal S4x4096x6848 .f32) (a4 : FVec Ideal S1024x1024 .f32)
    (a5 a6 : FVec Ideal S1024 .f32) (a7 : FVec Ideal S1024x32 .f32) (a8 : FVec Ideal S32 .f32) (h : fn (F := Ideal) a0 a1 a2 a3 a4 a5 a6 a7 a8 = fun _ => 1#1) :
    (∀ i, ∃ r : ℝ, @Eq EReal (a5 i) r) ∧ (∀ i, ∃ r : ℝ, @Eq EReal (a6 i) r) ∧ (∀ i, ∃ r : ℝ, @Eq EReal (a7 i) r) := by
  have e := congrFun h (fun k => k.elim0 : S_.Idx)
  unfold fn at e
  dsimp only at e
  obtain ⟨e01, e2⟩ := Cert.Pre_finite.and_one _ _ e
  obtain ⟨e0, e1⟩ := Cert.Pre_finite.and_one _ _ e01
  exact ⟨Cert.Pre_finite.real_of_all a5 Facts.bcast_S_S1024 Facts.reducesTo_S1024_S_d0 Facts.h_S_ (fun k => k.elim0) e0,
    Cert.Pre_finite.real_of_all a6 Facts.bcast_S_S1024 Facts.reducesTo_S1024_S_d0 Facts.h_S_ (fun k => k.elim0) e1,
    Cert.Pre_finite.real_of_all a7 Facts.bcast_S_S1024x32 Facts.reducesTo_S1024x32_S_d0_1 Facts.h_S_ (fun k => k.elim0) e2⟩

end Cert.Pre_finite6

end
-- ==== Proof.RoutePre.lean ====
/- What the routing's precondition says: the norm's weight and bias, the routing weights and their bias are real numbers. -/
module

public import proofs.«01_k».proof.Pre_finite7
public import proofs.«01_k».proof.Proof.Pre
public import Idealize.ShloMosaic.Lib.Pointwise

@[expose] public section

set_option maxRecDepth 16384

noncomputable section

namespace Cert.Pre_finite7

open Idealize.ShloMosaic Idealize.ShloMosaic.Pointwise

instance facts : Facts where
  bcast_S_S1024 := by decide
  reducesTo_S1024_S_d0 := by decide
  h_S_ := by decide
  bcast_S_S1024x32 := by decide
  reducesTo_S1024x32_S_d0_1 := by decide
  bcast_S_S32 := by decide
  reducesTo_S32_S_d0 := by decide

theorem real_of (a0 : FVec Ideal S4x4096x1024 .f32) (a1 a2 : FVec Ideal S16384x1024 .f32) (a3 : FVec Ideal S4x4096x6848 .f32) (a4 : FVec Ideal S1024x1024 .f32)
    (a5 a6 : FVec Ideal S1024 .f32) (a7 : FVec Ideal S1024x32 .f32) (a8 : FVec Ideal S32 .f32) (h : fn (F := Ideal) a0 a1 a2 a3 a4 a5 a6 a7 a8 = fun _ => 1#1) :
    (∀ i, ∃ r : ℝ, @Eq EReal (a5 i) r) ∧ (∀ i, ∃ r : ℝ, @Eq EReal (a6 i) r) ∧ (∀ i, ∃ r : ℝ, @Eq EReal (a7 i) r) ∧ (∀ i, ∃ r : ℝ, @Eq EReal (a8 i) r) := by
  have e := congrFun h (fun k => k.elim0 : S_.Idx)
  unfold fn at e
  dsimp only at e
  obtain ⟨e012, e3⟩ := Cert.Pre_finite.and_one _ _ e
  obtain ⟨e01, e2⟩ := Cert.Pre_finite.and_one _ _ e012
  obtain ⟨e0, e1⟩ := Cert.Pre_finite.and_one _ _ e01
  exact ⟨Cert.Pre_finite.real_of_all a5 Facts.bcast_S_S1024 Facts.reducesTo_S1024_S_d0 Facts.h_S_ (fun k => k.elim0) e0,
    Cert.Pre_finite.real_of_all a6 Facts.bcast_S_S1024 Facts.reducesTo_S1024_S_d0 Facts.h_S_ (fun k => k.elim0) e1,
    Cert.Pre_finite.real_of_all a7 Facts.bcast_S_S1024x32 Facts.reducesTo_S1024x32_S_d0_1 Facts.h_S_ (fun k => k.elim0) e2,
    Cert.Pre_finite.real_of_all a8 Facts.bcast_S_S32 Facts.reducesTo_S32_S_d0 Facts.h_S_ (fun k => k.elim0) e3⟩

end Cert.Pre_finite7

end
-- ==== Proof.GateTop.lean ====
/- Selection: four times the largest of a row is taken and struck out; what is taken is the value of that rank. -/
module

public import Idealize.ShloMosaic.Lib.Pointwise

@[expose] public section

noncomputable section

namespace Cert.Gate

/-- Expert `f` is ahead of expert `e`: its logit is larger, or equal and its number smaller. -/
def ahead (L : Fin 32 → EReal) (f e : Fin 32) : Prop := L e < L f ∨ (L f = L e ∧ f < e)

/-- How many experts are ahead. -/
def rank (L : Fin 32 → EReal) (e : Fin 32) : ℕ := by
  classical exact (Finset.univ.filter fun f => ahead L f e).card

theorem ahead_trans {L : Fin 32 → EReal} {a b c : Fin 32} (h : ahead L a b) (k : ahead L b c) : ahead L a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem ahead_irrefl (L : Fin 32 → EReal) (a : Fin 32) : ¬ahead L a a := by
  rintro (h | ⟨-, h⟩)
  · exact lt_irrefl _ h
  · exact lt_irrefl _ h

theorem ahead_total (L : Fin 32 → EReal) {a b : Fin 32} (h : a ≠ b) : ahead L a b ∨ ahead L b a := by
  rcases lt_trichotomy (L a) (L b) with k | k | k
  · exact .inr (.inl k)
  · rcases lt_or_gt_of_ne h with n | n
    · exact .inl (.inr ⟨k, n⟩)
    · exact .inr (.inr ⟨k.symm, n⟩)
  · exact .inl (.inl k)

theorem rank_lt {L : Fin 32 → EReal} {a b : Fin 32} (h : ahead L a b) : rank L a < rank L b := by
  classical
  unfold rank
  refine Finset.card_lt_card ⟨fun f hf => ?_, fun hs => ?_⟩
  · simp only [Finset.mem_filter, Finset.mem_univ, true_and] at hf ⊢
    exact ahead_trans hf h
  · have := hs (Finset.mem_filter.2 ⟨Finset.mem_univ a, h⟩)
    exact ahead_irrefl L a (Finset.mem_filter.1 this).2

theorem rank_lt_32 (L : Fin 32 → EReal) (e : Fin 32) : rank L e < 32 := by
  classical
  unfold rank
  have : (Finset.univ.filter fun f => ahead L f e).card < (Finset.univ : Finset (Fin 32)).card :=
    Finset.card_lt_card ⟨Finset.filter_subset _ _, fun hs => ahead_irrefl L e (Finset.mem_filter.1 (hs (Finset.mem_univ e))).2⟩
  simpa using this

theorem rank_inj (L : Fin 32 → EReal) {a b : Fin 32} (h : rank L a = rank L b) : a = b := by
  by_contra n
  rcases ahead_total L n with k | k
  · exact absurd (rank_lt k) (by omega)
  · exact absurd (rank_lt k) (by omega)

/-- Every rank below 32 is some expert's. -/
theorem exists_rank (L : Fin 32 → EReal) (k : ℕ) (hk : k < 32) : ∃ e, rank L e = k := by
  have hi : Function.Injective (fun e => (⟨rank L e, rank_lt_32 L e⟩ : Fin 32)) := fun a b h => rank_inj L (congrArg Fin.val h)
  obtain ⟨e, he⟩ := (Finite.injective_iff_surjective.1 hi) ⟨k, hk⟩
  exact ⟨e, congrArg Fin.val he⟩

/-- The row with the experts of rank below `k` struck out, and nothing beyond the experts. -/
def left (L : Fin 32 → EReal) (k : ℕ) (l : Fin 128) : EReal :=
  if h : l.val < 32 then (if k ≤ rank L ⟨l.val, h⟩ then L ⟨l.val, h⟩ else ⊥) else ⊥

/-- The value of rank `k`. -/
def top (L : Fin 32 → EReal) (k : ℕ) : EReal := ∑ e : Fin 32, if rank L e = k then L e else 0

theorem top_eq {L : Fin 32 → EReal} {k : ℕ} {e : Fin 32} (h : rank L e = k) : top L k = L e := by
  unfold top
  rw [Finset.sum_eq_single e, if_pos h]
  · intro b _ hb
    exact if_neg fun hk => hb (rank_inj L (hk.trans h.symm))
  · intro hn
    exact absurd (Finset.mem_univ e) hn

theorem left_le {L : Fin 32 → EReal} {k : ℕ} {e : Fin 32} (h : rank L e = k) (l : Fin 128) : left L k l ≤ L e := by
  unfold left
  by_cases hl : l.val < 32
  · rw [dif_pos hl]
    by_cases hr : k ≤ rank L ⟨l.val, hl⟩
    · rw [if_pos hr]
      by_contra hn
      have := rank_lt (L := L) (a := ⟨l.val, hl⟩) (b := e) (.inl (not_le.1 hn))
      omega
    · rw [if_neg hr]
      exact bot_le
  · rw [dif_neg hl]
    exact bot_le

theorem left_self {L : Fin 32 → EReal} {k : ℕ} {e : Fin 32} (h : rank L e = k) : left L k ⟨e.val, by omega⟩ = L e := by
  unfold left
  rw [dif_pos e.isLt, if_pos h.ge]

/-- The largest value left is the value of rank `k`. -/
theorem max_left (L : Fin 32 → EReal) (k : ℕ) (hk : k < 32) (m : EReal) (hle : ∀ l, left L k l ≤ m) (hex : ∃ l, left L k l = m) : m = top L k := by
  obtain ⟨e, he⟩ := exists_rank L k hk
  rw [top_eq he]
  obtain ⟨l, rfl⟩ := hex
  exact le_antisymm (left_le he l) (left_self he ▸ hle _)

/-- Striking out the first lane that holds the largest value leaves what the next rank leaves. -/
theorem strike (L : Fin 32 → EReal) (k : ℕ) (hk : k < 32) (f : Fin 128 → Prop) (hf : ∀ l, f l → left L k l = top L k)
    (hm : ∀ l, left L k l = top L k → (∀ l', left L k l' = top L k → l ≤ l') → f l) (hu : ∀ l l', f l → left L k l' = top L k → l ≤ l') (l : Fin 128) :
    (open scoped Classical in if f l then ⊥ else left L k l) = left L (k + 1) l := by
  classical
  obtain ⟨e, he⟩ := exists_rank L k hk
  rw [top_eq he] at hf hm hu
  have hb : ∀ l, left L (k + 1) l ≤ left L k l := by
    intro l
    unfold left
    by_cases hl : l.val < 32
    · rw [dif_pos hl, dif_pos hl]
      by_cases hr : k + 1 ≤ rank L ⟨l.val, hl⟩
      · rw [if_pos hr, if_pos (by omega)]
      · rw [if_neg hr]
        exact bot_le
    · rw [dif_neg hl]
      exact bot_le
  by_cases hL : L e = ⊥
  · have h0 : left L k l = ⊥ := le_bot_iff.1 (hL ▸ left_le he l)
    have h1 : left L (k + 1) l = ⊥ := le_bot_iff.1 (h0 ▸ hb l)
    rw [h0, h1]
    exact ite_self _
  · -- the expert of rank `k` is the first lane
    have hfirst : ∀ l', left L k l' = L e → (⟨e.val, by omega⟩ : Fin 128) ≤ l' := by
      intro l' hl'
      unfold left at hl'
      by_cases hl : l'.val < 32
      · rw [dif_pos hl] at hl'
        by_cases hr : k ≤ rank L ⟨l'.val, hl⟩
        · rw [if_pos hr] at hl'
          by_contra hn
          have := rank_lt (L := L) (a := ⟨l'.val, hl⟩) (b := e) (.inr ⟨hl', by
            rw [not_le] at hn
            exact hn⟩)
          omega
        · rw [if_neg hr] at hl'
          exact absurd hl'.symm hL
      · rw [dif_neg hl] at hl'
        exact absurd hl'.symm hL
    have hfe : f ⟨e.val, by omega⟩ := hm _ (left_self he) hfirst
    by_cases hl : l.val < 32
    · by_cases hle : (⟨l.val, hl⟩ : Fin 32) = e
      · subst hle
        rw [if_pos hfe]
        unfold left
        rw [dif_pos hl, if_neg (by omega)]
      · have hnf : ¬f l := fun h => hle (Fin.ext (le_antisymm (hu l ⟨e.val, by omega⟩ h (left_self he)) (hfirst l (hf l h))))
        rw [if_neg hnf]
        unfold left
        rw [dif_pos hl, dif_pos hl]
        have hne : rank L ⟨l.val, hl⟩ ≠ k := fun h => hle (rank_inj L (h.trans he.symm))
        by_cases hr : k ≤ rank L ⟨l.val, hl⟩
        · rw [if_pos hr, if_pos (by omega)]
        · rw [if_neg hr, if_neg (by omega)]
    · have h0 : left L k l = ⊥ := by
        unfold left
        rw [dif_neg hl]
      have h1 : left L (k + 1) l = ⊥ := by
        unfold left
        rw [dif_neg hl]
      rw [h0, h1]
      exact ite_self _

end Cert.Gate

end
-- ==== Proof.GateStep.lean ====
/- Selection: one round as the body writes it strikes out what `left` strikes out. -/
module

public import proofs.«01_k».proof.Proof.GateTop
public import Idealize.ShloMosaic.Lib.Pointwise

@[expose] public section

set_option maxRecDepth 16384

noncomputable section

namespace Cert.Gate

open Idealize.ShloMosaic

/-- A lane's number. -/
def lane (l : Fin 128) : EReal := FloatOps.sitofp (F := Ideal) .f32 (BitVec.ofNat 32 l.val)

theorem toInt_lane : ∀ l : Fin 128, (BitVec.ofNat 32 l.val).toInt = (l.val : ℤ) := by decide +kernel

theorem lane_eq (l : Fin 128) : lane l = ((l.val : ℝ) : EReal) := by
  show (((BitVec.ofNat 32 l.val).toInt : ℝ) : EReal) = _
  rw [toInt_lane]
  norm_num

theorem lane_le {a b : Fin 128} : lane a ≤ lane b ↔ a ≤ b := by
  rw [lane_eq, lane_eq, EReal.coe_le_coe_iff, Nat.cast_le]
  rfl

theorem lane_inj {a b : Fin 128} (h : lane a = lane b) : a = b := le_antisymm (lane_le.1 h.le) (lane_le.1 h.ge)

theorem ninf_eq : Ideal.ofBits .f32 0xFF800000#32 = ⊥ := by simp [Ideal.ofBits, Ideal.ieee]

theorem inf_eq : Ideal.ofBits .f32 0x7F800000#32 = ⊤ := by simp [Ideal.ofBits, Ideal.ieee]

theorem c128_eq : Ideal.ofBits .f32 0x43000000#32 = ((128 : ℝ) : EReal) := by
  simp [Ideal.ofBits, Ideal.ieee, -EReal.coe_mul]
  try norm_num

/-- A row's largest value. -/
def mx (w : Fin 128 → EReal) : EReal := Finset.fold max (Ideal.ofBits .f32 0xFF800000#32) w Finset.univ

open scoped Classical in
/-- The first lane that holds it. -/
def fst (w : Fin 128 → EReal) (m : EReal) : EReal :=
  Finset.fold min (Ideal.ofBits .f32 0x7F800000#32) (fun x => if w x = m then lane x else Ideal.ofBits .f32 0x43000000#32) Finset.univ

theorem mx_eq (w : Fin 128 → EReal) : mx w = Finset.univ.sup w := by
  unfold mx
  rw [ninf_eq]
  rfl

theorem mx_left (L : Fin 32 → EReal) (k : ℕ) (hk : k < 32) : mx (left L k) = top L k := by
  rw [mx_eq]
  refine max_left L k hk _ (fun l => Finset.le_sup (Finset.mem_univ l)) ?_
  obtain ⟨l, -, hl⟩ := Finset.exists_mem_eq_sup (Finset.univ : Finset (Fin 128)) Finset.univ_nonempty (left L k)
  exact ⟨l, hl.symm⟩

theorem lane_lt (l : Fin 128) : lane l < ((128 : ℝ) : EReal) := by
  rw [lane_eq, EReal.coe_lt_coe_iff]
  have : (l.val : ℝ) < (128 : ℕ) := Nat.cast_lt.2 l.isLt
  exact_mod_cast this

open scoped Classical in
/-- One round: the first lane of the largest value struck out. -/
theorem step_left (L : Fin 32 → EReal) (k : ℕ) (hk : k < 32) (l : Fin 128) :
    (if lane l = fst (left L k) (top L k) then ⊥ else left L k l) = left L (k + 1) l := by
  have hfst : fst (left L k) (top L k) = Finset.univ.inf (fun x => if left L k x = top L k then lane x else ((128 : ℝ) : EReal)) := by
    unfold fst
    rw [inf_eq, c128_eq]
    rfl
  rw [hfst]
  obtain ⟨x, -, hx⟩ := Finset.exists_mem_eq_inf (Finset.univ : Finset (Fin 128)) Finset.univ_nonempty
    (fun x => if left L k x = top L k then lane x else ((128 : ℝ) : EReal))
  have hle : ∀ y, left L k y = top L k →
      Finset.univ.inf (fun x => if left L k x = top L k then lane x else ((128 : ℝ) : EReal)) ≤ lane y := by
    intro y hy
    refine (Finset.inf_le (Finset.mem_univ y)).trans ?_
    rw [if_pos hy]
  obtain ⟨e, he⟩ := exists_rank L k hk
  have hxt : left L k x = top L k := by
    by_contra hn
    have h := hle ⟨e.val, by omega⟩ ((left_self he).trans (top_eq he).symm)
    rw [hx, if_neg hn] at h
    exact absurd (lane_lt _) (not_lt.2 h)
  rw [if_pos hxt] at hx
  rw [hx] at hle ⊢
  refine Eq.trans ?_ (strike L k hk (fun l => lane l = lane x) (fun l h => (lane_inj h) ▸ hxt) (fun l h h' => ?_) (fun l l' h h' => ?_) l)
  · congr
  · exact le_antisymm (lane_le.2 (h' x hxt)) (hle l h)
  · exact lane_le.1 (h.le.trans (hle l' h'))

/-- The first row: the logits, and nothing beyond the experts. -/
theorem left_zero (L : Fin 32 → EReal) (l : Fin 128) : left L 0 l = if h : l.val < 32 then L ⟨l.val, h⟩ else ⊥ := by
  unfold left
  by_cases h : l.val < 32
  · rw [dif_pos h, dif_pos h, if_pos (Nat.zero_le _)]
  · rw [dif_neg h, dif_neg h]

theorem top_le (L : Fin 32 → EReal) (k : ℕ) (hk : k < 32) : top L k ≤ top L 0 := by
  obtain ⟨e, he⟩ := exists_rank L k hk
  obtain ⟨f, hf⟩ := exists_rank L 0 (by omega)
  rw [top_eq he, top_eq hf]
  have := left_le hf ⟨e.val, by omega⟩
  rwa [left_zero, dif_pos e.isLt] at this

end Cert.Gate

end
-- ==== Proof.GateRef.lean ====
/- The gates' reference at an index. -/
module

public import proofs.«01_k».proof.Proof.GateStep
public import proofs.«01_k».proof.Proof.Gen.Reference6Ideal.Read
public import Idealize.ShloMosaic.Lib.Pointwise

@[expose] public section

set_option maxRecDepth 16384

noncomputable section

namespace Cert.Reference6Ideal.Merge

open Cert.Reference6Ideal Cert.Reference6Ideal.Gen Cert.Reference6Ideal.Read Idealize.ShloMosaic Idealize.ShloMosaic.TcCoe
open Idealize.ShloMosaic.Pointwise

variable (x0 : FVec Ideal S4x4096x1024 .f32) (x1 x2 : FVec Ideal S16384x1024 .f32) (x3 : FVec Ideal S4x4096x6848 .f32) (x4 : FVec Ideal S1024x1024 .f32)
  (x5 x6 : FVec Ideal S1024 .f32)

/-! ## One row -/

/-- The logistic function as the reference writes it. -/
def sigmoid (x : EReal) : EReal := Ideal.div (Ideal.ofBits .f32 0x3F800000#32) (Ideal.ofBits .f32 0x3F800000#32 + Ideal.exp (-x))

/-- The merged row before its norm. -/
def merged (x om ore : Fin 1024 → EReal) (p : Fin 6848 → EReal) (w : Fin 1024 → Fin 1024 → EReal) (n : Fin 1024) : EReal :=
  Ideal.sqrt (Ideal.sqrt (Ideal.ofBits .f32 0x40000000#32)) * x n
    + ∑ k : Fin 1024, (sigmoid (p ⟨4800 + k.val, by omega⟩) * om k + sigmoid (p ⟨5824 + k.val, by omega⟩) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-! ## The reference at an index -/

theorem v24_at (b : Fin 4) (q : Fin 4096) (n : Fin 1024) :
    @Eq EReal (val_main_v24 (F := Ideal) x0 x1 x2 x3 x4 (ix2 (⟨4096 * b.val + q.val, by omega⟩ : Fin 16384) n))
      (merged (fun j => x0 (ix3 b q j)) (fun j => x1 (ix2 (⟨4096 * b.val + q.val, by omega⟩ : Fin 16384) j)) (fun j => x2 (ix2 (⟨4096 * b.val + q.val, by omega⟩ : Fin 16384) j))
        (fun j => x3 (ix3 b q j)) (fun k n => x4 (ix2 k n)) n) := by
  unfold merged sigmoid
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem v48_at (i : Fin 16384) (n : Fin 1024) :
    @Eq EReal (val_main_v48 (F := Ideal) x0 x1 x2 x3 x4 x5 x6 (ix2 i n))
      (normed (fun j => val_main_v24 (F := Ideal) x0 x1 x2 x3 x4 (ix2 i j)) (fun k => x5 (ix1 k)) (fun k => x6 (ix1 k)) n) := by
  unfold normed mean
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_4, val_main_cst_5, val_main_cst_6, val_main_cst_7, val_main_cst_8]

variable (x7 : FVec Ideal S1024x32 .f32) (x8 : FVec Ideal S32 .f32)

/-- A row's logits. -/
def logits (h : Fin 1024 → EReal) (w : Fin 1024 → Fin 32 → EReal) (b : Fin 32 → EReal) (e : Fin 32) : EReal := (∑ k : Fin 1024, h k * w k e) + b e

/-- Row `i`'s logits. -/
def row (i : Fin 16384) : Fin 32 → EReal :=
  logits (fun j => val_main_v48 (F := Ideal) x0 x1 x2 x3 x4 x5 x6 (ix2 i j)) (fun k e => x7 (ix2 k e)) (fun e => x8 (ix1 e))

theorem v53_at (i : Fin 16384) (e : Fin 32) :
    @Eq EReal (val_main_v53 (F := Ideal) x0 x1 x2 x3 x4 x5 x6 x7 x8 (ix2 i e)) (row x0 x1 x2 x3 x4 x5 x6 x7 x8 i e) := by
  unfold row logits
  pointwise [val_main_v53, val_main_v52, val_main_v51, val_main_v50]

theorem slt32 : ∀ x e : Fin 32, IntOp.cmpi .slt (BitVec.ofNat 32 x.val) (BitVec.ofNat 32 e.val) = BitVec.ofBool (decide (x < e)) := by decide +kernel

open scoped Classical in
theorem ahead_sel (L : Fin 32 → EReal) (x e : Fin 32) :
    Scalar.select (IntOp.ori (BitVec.ofBool (decide (L e < L x))) (IntOp.andi (BitVec.ofBool (decide (L x = L e))) (BitVec.ofBool (decide (x < e))))) (1 : EReal) 0
      = if Cert.Gate.ahead L x e then 1 else 0 := by
  unfold Cert.Gate.ahead
  by_cases h1 : L e < L x <;> by_cases h2 : L x = L e <;> by_cases h3 : x < e <;> simp [h1, h2, h3, Scalar.select, IntOp.ori, IntOp.andi]

theorem v75_at (i : Fin 16384) (e : Fin 32) :
    @Eq EReal (val_main_v75 (F := Ideal) x0 x1 x2 x3 x4 x5 x6 x7 x8 (ix2 i e)) (((Cert.Gate.rank (row x0 x1 x2 x3 x4 x5 x6 x7 x8 i) e : ℕ) : ℝ) : EReal) := by
  classical
  have h : @Eq EReal (val_main_v75 (F := Ideal) x0 x1 x2 x3 x4 x5 x6 x7 x8 (ix2 i e))
      (∑ x : Fin 32, if Cert.Gate.ahead (row x0 x1 x2 x3 x4 x5 x6 x7 x8 i) x e then (1 : EReal) else 0) := by
    pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_cst_9, val_main_cst_10, val_main_cst_11, val_main_call0_v0, val_main_call0_v1]
    refine Finset.sum_congr rfl fun x _ => ?_
    rw [v53_at, v53_at, slt32]
    refine Eq.trans ?_ (ahead_sel _ x e)
    congr
  rw [h, Finset.sum_ite, Finset.sum_const_zero, add_zero, Finset.sum_const, nsmul_one, EReal.coe_natCast]
  unfold Cert.Gate.rank
  congr

theorem num4 (k : Fin 4) : FloatOps.sitofp (F := Ideal) .f32 (BitVec.ofNat 32 k.val) = (((k.val : ℕ) : ℝ) : EReal) :=
  Cert.Gate.lane_eq ⟨k.val, by omega⟩

theorem v84_at (i : Fin 16384) (k : Fin 4) :
    @Eq EReal (val_main_v84 (F := Ideal) x0 x1 x2 x3 x4 x5 x6 x7 x8 (ix2 i k)) (Cert.Gate.top (row x0 x1 x2 x3 x4 x5 x6 x7 x8 i) k.val) := by
  pointwise [val_main_v84, val_main_v83, val_main_v82, val_main_v81, val_main_v80, val_main_v79, val_main_v78, val_main_v77, val_main_v76, val_main_cst_12, val_main_cst_13, val_main_call1_v0, val_main_call1_v1]
  unfold Cert.Gate.top
  refine Finset.sum_congr rfl fun x _ => ?_
  rw [v53_at, v75_at, num4]
  by_cases hk : Cert.Gate.rank (row x0 x1 x2 x3 x4 x5 x6 x7 x8 i) x = k.val
  · rw [if_pos hk, if_pos (by rw [hk])]
  · rw [if_neg hk, if_neg (by intro e; rw [EReal.coe_eq_coe_iff] at e; exact hk (Nat.cast_injective e))]

theorem v87_at (i : Fin 16384) :
    @Eq EReal (val_main_v87 (F := Ideal) x0 x1 x2 x3 x4 x5 x6 x7 x8 (ix1 i)) (Cert.Gate.top (row x0 x1 x2 x3 x4 x5 x6 x7 x8 i) 0) := by
  pointwise [val_main_v87, val_main_v86, val_main_v85, val_main_cst_14, val_main_cst_15]
  rw [Cert.Gate.ninf_eq, max_eq_right bot_le]
  refine le_antisymm ?_ ?_
  · rw [Finset.fold_max_le]
    refine ⟨bot_le, fun x _ => ?_⟩
    rw [v84_at]
    exact Cert.Gate.top_le _ x.val (by omega)
  · rw [Finset.le_fold_max]
    exact Or.inr ⟨0, Finset.mem_univ _, le_of_eq (v84_at x0 x1 x2 x3 x4 x5 x6 x7 x8 i 0).symm⟩

theorem v91_at (i : Fin 16384) (k : Fin 4) :
    @Eq EReal (val_main_v91 (F := Ideal) x0 x1 x2 x3 x4 x5 x6 x7 x8 (ix2 i k))
      (Ideal.exp (Cert.Gate.top (row x0 x1 x2 x3 x4 x5 x6 x7 x8 i) k.val - Cert.Gate.top (row x0 x1 x2 x3 x4 x5 x6 x7 x8 i) 0)) := by
  have h : @Eq EReal (val_main_v91 (F := Ideal) x0 x1 x2 x3 x4 x5 x6 x7 x8 (ix2 i k))
      (Ideal.exp ((val_main_v84 (F := Ideal) x0 x1 x2 x3 x4 x5 x6 x7 x8 (ix2 i k) : EReal) - (val_main_v87 (F := Ideal) x0 x1 x2 x3 x4 x5 x6 x7 x8 (ix1 i) : EReal))) := by
    pointwise [val_main_v91, val_main_v90, val_main_v89, val_main_v88]
  rw [h, v84_at, v87_at]

theorem v92_at (i : Fin 16384) :
    @Eq EReal (val_main_v92 (F := Ideal) x0 x1 x2 x3 x4 x5 x6 x7 x8 (ix1 i)) (∑ k : Fin 4, (val_main_v91 (F := Ideal) x0 x1 x2 x3 x4 x5 x6 x7 x8 (ix2 i k) : EReal)) := by
  pointwise [val_main_v92, val_main_cst_16]

theorem v95_at (i : Fin 16384) (k : Fin 4) :
    @Eq EReal (val_main_v95 (F := Ideal) x0 x1 x2 x3 x4 x5 x6 x7 x8 (ix2 i k))
      (Ideal.div (val_main_v91 (F := Ideal) x0 x1 x2 x3 x4 x5 x6 x7 x8 (ix2 i k)) (val_main_v92 (F := Ideal) x0 x1 x2 x3 x4 x5 x6 x7 x8 (ix1 i))) := by
  pointwise [val_main_v95, val_main_v94, val_main_v93]

theorem zero_at : FloatOps.sitofp (F := Ideal) .f32 (0#32 : BitVec 32) = (0 : EReal) := by
  show (((0#32 : BitVec 32).toInt : ℝ) : EReal) = 0
  simp

theorem v96_at (i : Fin 16384) (l : Fin 128) :
    @Eq EReal (val_main_v96 (F := Ideal) x0 x1 x2 x3 x4 x5 x6 x7 x8 (ix2 i l)) (if h : l.val < 4 then val_main_v95 (F := Ideal) x0 x1 x2 x3 x4 x5 x6 x7 x8 (ix2 i ⟨l.val, h⟩) else 0) := by
  rw [← zero_at]
  pointwise [val_main_v96, val_main_call2_v0, val_main_c]

/-- A row's gates. -/
def gates (L : Fin 32 → EReal) (l : Fin 128) : EReal :=
  if l.val < 4 then
    Ideal.div (Ideal.exp (Cert.Gate.top L l.val - Cert.Gate.top L 0)) (∑ k : Fin 4, Ideal.exp (Cert.Gate.top L k.val - Cert.Gate.top L 0))
  else 0

theorem gates_at (i : Fin 16384) (l : Fin 128) :
    @Eq EReal (val_main_v96 (F := Ideal) x0 x1 x2 x3 x4 x5 x6 x7 x8 (ix2 i l)) (gates (row x0 x1 x2 x3 x4 x5 x6 x7 x8 i) l) := by
  rw [v96_at]
  unfold gates
  by_cases h : l.val < 4
  · rw [dif_pos h, if_pos h, v95_at, v92_at, v91_at]
    simp only [v91_at]
  · rw [dif_neg h, if_neg h]

end Cert.Reference6Ideal.Merge

end
-- ==== Proof.GatePieces.lean ====
/- The gates: what the body's store of them is. -/
module

public import proofs.«01_k».proof.Proof.Gen.Kernel6Ideal.Frame
public import Idealize.ShloMosaic.Lib.Pointwise
public import Idealize.ShloMosaic.Lib.WholeRead
public import Idealize.ShloMosaic.Lib.Pipeline.ReadBack
public import Idealize.ShloMosaic.Lib.Pipeline.CanonAppend

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise

variable {F : FTy → Type} [FloatOps F] [Named F]

/-- What one grid point's body is given: the ten input blocks, through the buffers that hold them. -/
structure Env (F : FTy → Type) [FloatOps F] where
  arg1 : Memref sig .tc .vmem S512x1024 .f32
  harg1 : arg1.IsWhole
  arg2 : Memref sig .tc .vmem S512x1024 .bf16
  harg2 : arg2.IsWhole
  arg3 : Memref sig .tc .vmem S512x1024 .bf16
  harg3 : arg3.IsWhole
  arg4 : Memref sig .tc .vmem S512x1024 .bf16
  harg4 : arg4.IsWhole
  arg5 : Memref sig .tc .vmem S512x1024 .bf16
  harg5 : arg5.IsWhole
  arg6 : Memref sig .tc .vmem S1024x1024 .bf16
  harg6 : arg6.IsWhole
  arg7 : Memref sig .tc .vmem S1x1024 .f32
  harg7 : arg7.IsWhole
  arg8 : Memref sig .tc .vmem S1x1024 .f32
  harg8 : arg8.IsWhole
  arg9 : Memref sig .tc .vmem S1024x256 .bf16
  harg9 : arg9.IsWhole
  arg10 : Memref sig .tc .vmem S1x128 .f32
  harg10 : arg10.IsWhole
  x0 : Vec F S512x1024 .f32
  x1 : Vec F S512x1024 .bf16
  x2 : Vec F S512x1024 .bf16
  x3 : Vec F S512x1024 .bf16
  x4 : Vec F S512x1024 .bf16
  x5 : Vec F S1024x1024 .bf16
  x6 : Vec F S1x1024 .f32
  x7 : Vec F S1x1024 .f32
  x8 : Vec F S1024x256 .bf16
  x9 : Vec F S1x128 .f32

variable (e : Env F)

/-! ## The loads: every buffer whole -/

def rd0 : Vec F S512x1024 .f32 := View.readAt (Elt F) e.arg1.view (Rect.unit (s := S512x1024) ![0, 0] S512x1024.size inb_S512x1024_S512x1024_0_0).toLoadRect (e.harg1.unread e.x0)
def rd1 : Vec F S512x1024 .bf16 := View.readAt (Elt F) e.arg2.view (Rect.unit (s := S512x1024) ![0, 0] S512x1024.size inb_S512x1024_S512x1024_0_0).toLoadRect (e.harg2.unread e.x1)
def rd2 : Vec F S512x1024 .bf16 := View.readAt (Elt F) e.arg3.view (Rect.unit (s := S512x1024) ![0, 0] S512x1024.size inb_S512x1024_S512x1024_0_0).toLoadRect (e.harg3.unread e.x2)
def rd3 : Vec F S512x1024 .bf16 := View.readAt (Elt F) e.arg4.view (Rect.unit (s := S512x1024) ![0, 0] S512x1024.size inb_S512x1024_S512x1024_0_0).toLoadRect (e.harg4.unread e.x3)
def rd4 : Vec F S512x1024 .bf16 := View.readAt (Elt F) e.arg5.view (Rect.unit (s := S512x1024) ![0, 0] S512x1024.size inb_S512x1024_S512x1024_0_0).toLoadRect (e.harg5.unread e.x4)
def rd5 : Vec F S1024x1024 .bf16 := View.readAt (Elt F) e.arg6.view (Rect.unit (s := S1024x1024) ![0, 0] S1024x1024.size inb_S1024x1024_S1024x1024_0_0).toLoadRect (e.harg6.unread e.x5)
def rd6 : Vec F S1x1024 .f32 := View.readAt (Elt F) e.arg7.view (Rect.unit (s := S1x1024) ![0, 0] S1x1024.size inb_S1x1024_S1x1024_0_0).toLoadRect (e.harg7.unread e.x6)
def rd7 : Vec F S1x1024 .f32 := View.readAt (Elt F) e.arg8.view (Rect.unit (s := S1x1024) ![0, 0] S1x1024.size inb_S1x1024_S1x1024_0_0).toLoadRect (e.harg8.unread e.x7)

def rd8 : Vec F S1024x256 .bf16 := View.readAt (Elt F) e.arg9.view (Rect.unit (s := S1024x256) ![0, 0] S1024x256.size inb_S1024x256_S1024x256_0_0).toLoadRect (e.harg9.unread e.x8)
/-- The weights' first half again. -/
def rd8h : Vec F S1024x128 .bf16 := View.readAt (Elt F) e.arg9.view (Rect.unit (s := S1024x256) ![0, 0] S1024x128.size inb_S1024x256_S1024x128_0_0).toLoadRect (e.harg9.unread e.x8)
def rd9 : Vec F S1x128 .f32 := View.readAt (Elt F) e.arg10.view (Rect.unit (s := S1x128) ![0, 0] S1x128.size inb_S1x128_S1x128_0_0).toLoadRect (e.harg10.unread e.x9)

theorem rd0_eq : rd0 e = e.x0 := by
  funext y
  rw [rd0, Memref.IsWhole.readAt_unread]
  congr 1
  funext a
  fin_cases a <;> apply Fin.ext <;> simp

theorem rd1_eq : rd1 e = e.x1 := by
  funext y
  rw [rd1, Memref.IsWhole.readAt_unread]
  congr 1
  funext a
  fin_cases a <;> apply Fin.ext <;> simp

theorem rd2_eq : rd2 e = e.x2 := by
  funext y
  rw [rd2, Memref.IsWhole.readAt_unread]
  congr 1
  funext a
  fin_cases a <;> apply Fin.ext <;> simp

theorem rd3_eq : rd3 e = e.x3 := by
  funext y
  rw [rd3, Memref.IsWhole.readAt_unread]
  congr 1
  funext a
  fin_cases a <;> apply Fin.ext <;> simp

theorem rd4_eq : rd4 e = e.x4 := by
  funext y
  rw [rd4, Memref.IsWhole.readAt_unread]
  congr 1
  funext a
  fin_cases a <;> apply Fin.ext <;> simp

theorem rd5_eq : rd5 e = e.x5 := by
  funext y
  rw [rd5, Memref.IsWhole.readAt_unread]
  congr 1
  funext a
  fin_cases a <;> apply Fin.ext <;> simp

theorem rd6_eq : rd6 e = e.x6 := by
  funext y
  rw [rd6, Memref.IsWhole.readAt_unread]
  congr 1
  funext a
  fin_cases a <;> apply Fin.ext <;> simp

theorem rd7_eq : rd7 e = e.x7 := by
  funext y
  rw [rd7, Memref.IsWhole.readAt_unread]
  congr 1
  funext a
  fin_cases a <;> apply Fin.ext <;> simp

theorem rd8_eq : rd8 e = e.x8 := by
  funext y
  rw [rd8, Memref.IsWhole.readAt_unread]
  congr 1
  funext a
  fin_cases a <;> apply Fin.ext <;> simp

theorem rd8h_at (k : Fin 1024) (l : Fin 128) : rd8h e (ix2 k l) = e.x8 (ix2 k (⟨l.val, by omega⟩ : Fin 256)) := by
  rw [rd8h, Memref.IsWhole.readAt_unread]
  congr 1
  funext a
  fin_cases a <;> apply Fin.ext <;> simp [ix2]

theorem rd9_eq : rd9 e = e.x9 := by
  funext y
  rw [rd9, Memref.IsWhole.readAt_unread]
  congr 1
  funext a
  fin_cases a <;> apply Fin.ext <;> simp

/-! ## The stores -/

/-- The lanes' numbers. -/
def lanes : IVec S512x128 32 := iota .tc S512x128 32 [1] iota_S512x128_d1_w32

/-- The stored gates, from the logits' two parts and the bias. -/
def stored (p q : FVec F S512x128 .f32) (b : Vec F S1x128 .f32) : FVec F S512x128 .f32 :=
  let d := k0_pay32 (k0_pay13 p q b) (k0_pay17 p q b) (k0_pay20 p q b) (k0_pay21 p q b) (k0_pay23 p q b)
  k0_pay2 lanes (k0_pay31 (k0_pay13 p q b) (k0_pay20 p q b) (k0_pay23 p q b)) d
    (k0_pay42 lanes (k0_pay29 (k0_pay13 p q b) (k0_pay17 p q b)) (k0_pay30 (k0_pay13 p q b) (k0_pay21 p q b)) d
      (k0_pay39 lanes (k0_pay28 (k0_pay13 p q b)) d))

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

theorem run_g : (kernelRun0_A c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9).2.2.2.1
    = [⟨Rect.unit (s := S512x128) ![0, 0] S512x128.size inb_S512x128_S512x128_0_0,
        stored (k0_pay9 (k0_pay4 (rd3 e) (rd1 e) (rd4 e) (rd2 e) (rd5 e) (rd0 e)) (rd6 e) (rd7 e) (rd8 e))
          (k0_pay10 (k0_pay4 (rd3 e) (rd1 e) (rd4 e) (rd2 e) (rd5 e) (rd0 e)) (rd6 e) (rd7 e) (rd8 e) (rd8h e)) (rd9 e)⟩] := rfl

end Cert.Kernel6Ideal.Merge

end
-- ==== Proof.GateRound.lean ====
/- The gates: what the body stores, row by row, from the logits' parts and the bias. -/
module

public import proofs.«01_k».proof.Proof.GatePieces
public import proofs.«01_k».proof.Proof.GateStep

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise
open Cert.Gate (left top mx fst lane ninf_eq mx_left step_left)

theorem sel {α : Type} (P : Prop) [Decidable P] (a b : α) : Scalar.select (if P then 1#1 else 0#1) a b = if P then a else b := by
  by_cases h : P <;> simp [h, Scalar.select]

theorem lt32 : ∀ l : Fin 128, IntOp.cmpi .slt (BitVec.ofNat 32 l.val) 32#32 = if l.val < 32 then 1#1 else 0#1 := by decide +kernel

theorem eq0 : ∀ l : Fin 128, IntOp.cmpi .eq (BitVec.ofNat 32 l.val) 0#32 = if l.val = 0 then 1#1 else 0#1 := by decide +kernel
theorem eq1 : ∀ l : Fin 128, IntOp.cmpi .eq (BitVec.ofNat 32 l.val) 1#32 = if l.val = 1 then 1#1 else 0#1 := by decide +kernel
theorem eq2 : ∀ l : Fin 128, IntOp.cmpi .eq (BitVec.ofNat 32 l.val) 2#32 = if l.val = 2 then 1#1 else 0#1 := by decide +kernel
theorem eq3 : ∀ l : Fin 128, IntOp.cmpi .eq (BitVec.ofNat 32 l.val) 3#32 = if l.val = 3 then 1#1 else 0#1 := by decide +kernel

variable (p q : FVec Ideal S512x128 .f32) (b : Vec Ideal S1x128 .f32)

/-- The row's logits. -/
def logit (r : Fin 512) (e : Fin 32) : EReal :=
  (p (ix2 r (⟨e.val, by omega⟩ : Fin 128)) : EReal) + (q (ix2 r (⟨e.val, by omega⟩ : Fin 128)) : EReal) + (b (ix2 0 (⟨e.val, by omega⟩ : Fin 128)) : EReal)

theorem pay12_at (r : Fin 512) (l : Fin 128) : @Eq EReal (k0_pay12 (F := Ideal) p q b (ix2 r l)) (left (logit p q b r) 0 l) := by
  rw [Cert.Gate.left_zero]
  pointwise [k0_pay12]
  rw [lt32, sel, ninf_eq]
  by_cases h : l.val < 32
  · rw [if_pos h, dif_pos h]
    rfl
  · rw [if_neg h, dif_neg h]

theorem pay13_at (r : Fin 512) : @Eq EReal (k0_pay13 (F := Ideal) p q b (ix2 r 0)) (top (logit p q b r) 0) := by
  rw [← mx_left _ 0 (by omega)]
  unfold mx
  pointwise [k0_pay13]
  simp only [pay12_at]

open scoped Classical in
theorem pay14_at (r : Fin 512) : @Eq EReal (k0_pay14 (F := Ideal) p q b (ix2 r 0)) (fst (left (logit p q b r) 0) (top (logit p q b r) 0)) := by
  unfold fst lane
  pointwise [k0_pay14, k0_pay11]
  simp only [pay12_at, pay13_at]

open scoped Classical in
theorem pay16_at (r : Fin 512) (l : Fin 128) : @Eq EReal (k0_pay16 (F := Ideal) p q b (ix2 r l)) (left (logit p q b r) 1 l) := by
  rw [← step_left _ 0 (by omega)]
  unfold lane
  pointwise [k0_pay16, k0_pay15, k0_pay11]
  rw [pay14_at, pay12_at, ninf_eq]

theorem pay17_at (r : Fin 512) : @Eq EReal (k0_pay17 (F := Ideal) p q b (ix2 r 0)) (top (logit p q b r) 1) := by
  rw [← mx_left _ 1 (by omega)]
  unfold mx
  pointwise [k0_pay17]
  simp only [pay16_at]

open scoped Classical in
theorem pay18_at (r : Fin 512) : @Eq EReal (k0_pay18 (F := Ideal) p q b (ix2 r 0)) (fst (left (logit p q b r) 1) (top (logit p q b r) 1)) := by
  unfold fst lane
  pointwise [k0_pay18, k0_pay11]
  simp only [pay16_at, pay17_at]

open scoped Classical in
theorem pay20_at (r : Fin 512) (l : Fin 128) : @Eq EReal (k0_pay20 (F := Ideal) p q b (ix2 r l)) (left (logit p q b r) 2 l) := by
  rw [← step_left _ 1 (by omega)]
  unfold lane
  pointwise [k0_pay20, k0_pay19, k0_pay11]
  rw [pay18_at, pay16_at, ninf_eq]

theorem pay21_at (r : Fin 512) : @Eq EReal (k0_pay21 (F := Ideal) p q b (ix2 r 0)) (top (logit p q b r) 2) := by
  rw [← mx_left _ 2 (by omega)]
  unfold mx
  pointwise [k0_pay21]
  simp only [pay20_at]

open scoped Classical in
theorem pay22_at (r : Fin 512) : @Eq EReal (k0_pay22 (F := Ideal) p q b (ix2 r 0)) (fst (left (logit p q b r) 2) (top (logit p q b r) 2)) := by
  unfold fst lane
  pointwise [k0_pay22, k0_pay11]
  simp only [pay20_at, pay21_at]

open scoped Classical in
theorem pay24_at (r : Fin 512) (l : Fin 128) :
    @Eq EReal (k0_pay24 (F := Ideal) (k0_pay20 p q b) (k0_pay23 p q b) (ix2 r l)) (left (logit p q b r) 3 l) := by
  rw [← step_left _ 2 (by omega)]
  unfold lane
  pointwise [k0_pay24, k0_pay23, k0_pay11]
  rw [pay22_at, pay20_at, ninf_eq]

theorem pay25_at (r : Fin 512) : @Eq EReal (k0_pay25 (F := Ideal) (k0_pay20 p q b) (k0_pay23 p q b) (ix2 r 0)) (top (logit p q b r) 3) := by
  rw [← mx_left _ 3 (by omega)]
  unfold mx
  pointwise [k0_pay25]
  simp only [pay24_at]

/-- A row's gates: the softmax of the four largest logits in its first four columns, zeros after them. -/
def gates (L : Fin 32 → EReal) (l : Fin 128) : EReal :=
  if l.val < 4 then
    Ideal.div (Ideal.exp (top L l.val - top L 0))
      (Ideal.exp (top L 0 - top L 0) + Ideal.exp (top L 1 - top L 0) + Ideal.exp (top L 2 - top L 0) + Ideal.exp (top L 3 - top L 0))
  else 0

theorem stored_at (r : Fin 512) (l : Fin 128) : @Eq EReal (stored (F := Ideal) p q b (ix2 r l)) (gates (logit p q b r) l) := by
  unfold gates
  pointwise [stored, k0_pay2, k0_pay42, k0_pay39, k0_pay32, k0_pay31, k0_pay30, k0_pay29, k0_pay28, lanes]
  rw [eq0, eq1, eq2, eq3, sel, sel, sel, sel, pay13_at, pay17_at, pay21_at, pay25_at]
  by_cases h3 : l.val = 3
  · rw [if_pos h3, if_pos (by omega), h3]
  rw [if_neg h3]
  by_cases h2 : l.val = 2
  · rw [if_pos h2, if_pos (by omega), h2]
  rw [if_neg h2]
  by_cases h1 : l.val = 1
  · rw [if_pos h1, if_pos (by omega), h1]
  rw [if_neg h1]
  by_cases h0 : l.val = 0
  · rw [if_pos h0, if_pos (by omega), h0]
  rw [if_neg h0, if_neg (by omega)]

end Cert.Kernel6Ideal.Merge

end
-- ==== Proof.GateBlock.lean ====
/- The gates: what the body leaves in the gates' block, row by row. -/
module

public import proofs.«01_k».proof.Proof.GateRound

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise

/-! ## One row -/

/-- A gate: half a hyperbolic tangent, raised by a half. -/
def gate (x : EReal) : EReal := Ideal.ofBits .f32 0x3F000000#32 * Ideal.tanh (Ideal.ofBits .f32 0x3F000000#32 * x) + Ideal.ofBits .f32 0x3F000000#32

/-- The weight of the residual. -/
def alpha : EReal := ((Real.sqrt (Real.sqrt 2) : ℝ) : EReal)

/-- The merged row before its norm: the residual and the gated branches projected. -/
def merged (x gm om gr ore : Fin 1024 → EReal) (w : Fin 1024 → Fin 1024 → EReal) (n : Fin 1024) : EReal :=
  alpha * x n + ∑ k : Fin 1024, (gate (gm k) * om k + gate (gr k) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-- A row's logits: its product with the weights' first half, with their second half and what the row's first half leaves, and the bias. -/
def logits (h : Fin 1024 → EReal) (w : Fin 1024 → Fin 256 → EReal) (b : Fin 128 → EReal) (e : Fin 32) : EReal :=
  (∑ k : Fin 1024, h k * w k ⟨e.val, by omega⟩)
    + ((∑ k : Fin 1024, h k * w k ⟨128 + e.val, by omega⟩) + ∑ k : Fin 1024, (h k - h k) * w k ⟨e.val, by omega⟩)
    + b ⟨e.val, by omega⟩

/-! ## The stored values at an index -/

theorem merged_at (x0 : Vec Ideal S512x1024 .f32) (x1 x2 x3 x4 : Vec Ideal S512x1024 .bf16) (x5 : Vec Ideal S1024x1024 .bf16) (r : Fin 512) (n : Fin 1024) :
    @Eq EReal (k0_pay4 (F := Ideal) x3 x1 x4 x2 x5 x0 (ix2 r n))
      (merged (fun j => x0 (ix2 r j)) (fun j => x3 (ix2 r j)) (fun j => x1 (ix2 r j)) (fun j => x4 (ix2 r j)) (fun j => x2 (ix2 r j)) (fun k n => x5 (ix2 k n)) n) := by
  have : @Eq EReal (k0_pay4 (F := Ideal) x3 x1 x4 x2 x5 x0 (ix2 r n))
      ((Named.named (F := Ideal) (φ := .f32) κ "alpha" 0x3F9837F0#32 : EReal) * (x0 (ix2 r n) : EReal)
        + ∑ k : Fin 1024, (gate (x3 (ix2 r k)) * (x1 (ix2 r k) : EReal) + gate (x4 (ix2 r k)) * (x2 (ix2 r k) : EReal)) * (x5 (ix2 k n) : EReal)) := by
    unfold gate
    pointwise [k0_pay4]
  exact this

theorem normed_at (y : FVec Ideal S512x1024 .f32) (x6 x7 : Vec Ideal S1x1024 .f32) (r : Fin 512) (n : Fin 1024) :
    @Eq EReal (k0_pay5 (F := Ideal) y x6 x7 (ix2 r n)) (normed (fun j => y (ix2 r j)) (fun j => x6 (ix2 0 j)) (fun j => x7 (ix2 0 j)) n) := by
  unfold normed mean
  pointwise [k0_pay5]

theorem high_at (y : FVec Ideal S512x1024 .f32) (x6 x7 : Vec Ideal S1x1024 .f32) (x8 : Vec Ideal S1024x256 .bf16) (r : Fin 512) (l : Fin 128) :
    @Eq EReal (k0_pay9 (F := Ideal) y x6 x7 x8 (ix2 r l)) (∑ k : Fin 1024, (k0_pay5 (F := Ideal) y x6 x7 (ix2 r k) : EReal) * (x8 (ix2 k (⟨l.val, by omega⟩ : Fin 256)) : EReal)) := by
  pointwise [k0_pay9, k0_pay8, k0_pay7]

theorem low_at (y : FVec Ideal S512x1024 .f32) (x6 x7 : Vec Ideal S1x1024 .f32) (x8 : Vec Ideal S1024x256 .bf16) (x8h : Vec Ideal S1024x128 .bf16) (r : Fin 512) (l : Fin 128) :
    @Eq EReal (k0_pay10 (F := Ideal) y x6 x7 x8 x8h (ix2 r l))
      ((∑ k : Fin 1024, (k0_pay5 (F := Ideal) y x6 x7 (ix2 r k) : EReal) * (x8 (ix2 k (⟨128 + l.val, by omega⟩ : Fin 256)) : EReal))
        + ∑ k : Fin 1024, ((k0_pay5 (F := Ideal) y x6 x7 (ix2 r k) : EReal) - (k0_pay5 (F := Ideal) y x6 x7 (ix2 r k) : EReal)) * (x8h (ix2 k l) : EReal)) := by
  pointwise [k0_pay10, k0_pay8, k0_pay7]

/-! ## The blocks -/

variable (e : Env Ideal)

/-- The block's merged rows. -/
def yr (r : Fin 512) : Fin 1024 → EReal :=
  merged (fun j => e.x0 (ix2 r j)) (fun j => e.x3 (ix2 r j)) (fun j => e.x1 (ix2 r j)) (fun j => e.x4 (ix2 r j)) (fun j => e.x2 (ix2 r j)) (fun k n => e.x5 (ix2 k n))
abbrev gr : Fin 1024 → EReal := fun j => e.x6 (ix2 0 j)
abbrev br : Fin 1024 → EReal := fun j => e.x7 (ix2 0 j)

theorem h_at (r : Fin 512) (n : Fin 1024) :
    @Eq EReal (k0_pay5 (F := Ideal) (k0_pay4 e.x3 e.x1 e.x4 e.x2 e.x5 e.x0) e.x6 e.x7 (ix2 r n)) (normed (yr e r) (gr e) (br e) n) := by
  rw [normed_at]
  have hv : (fun j : Fin 1024 => (k0_pay4 (F := Ideal) e.x3 e.x1 e.x4 e.x2 e.x5 e.x0 (ix2 r j) : EReal)) = yr e r := funext fun j => merged_at _ _ _ _ _ _ r j
  rw [hv]

abbrev wr : Fin 1024 → Fin 256 → EReal := fun k l => e.x8 (ix2 k l)
abbrev cr : Fin 128 → EReal := fun l => e.x9 (ix2 0 l)

theorem logit_eq (r : Fin 512) :
    logit (k0_pay9 (F := Ideal) (k0_pay4 e.x3 e.x1 e.x4 e.x2 e.x5 e.x0) e.x6 e.x7 e.x8) (k0_pay10 (F := Ideal) (k0_pay4 e.x3 e.x1 e.x4 e.x2 e.x5 e.x0) e.x6 e.x7 e.x8 (rd8h e)) e.x9 r
      = logits (normed (yr e r) (gr e) (br e)) (wr e) (cr e) := by
  funext f
  unfold logit logits
  rw [high_at, low_at]
  simp only [h_at, rd8h_at]

def gB : Vec Ideal S512x128 .f32 := fun y => gates (logits (normed (yr e (y 0)) (gr e) (br e)) (wr e) (cr e)) (y 1)

theorem g_piece (hb : ∀ a : Fin 2, (![0, 0] : Fin 2 → ℕ) a + S512x128.size a ≤ S512x128.size a) (x : S512x128.Idx) :
    @Eq EReal (stored (F := Ideal) (k0_pay9 (k0_pay4 e.x3 e.x1 e.x4 e.x2 e.x5 e.x0) e.x6 e.x7 e.x8) (k0_pay10 (k0_pay4 e.x3 e.x1 e.x4 e.x2 e.x5 e.x0) e.x6 e.x7 e.x8 (rd8h e)) e.x9 x)
      (gB e ((Rect.unit (s := S512x128) ![0, 0] S512x128.size hb).emb x)) := by
  obtain ⟨r, d, rfl⟩ : ∃ (r : Fin 512) (d : Fin 128), x = ix2 r d := ⟨x 0, x 1, eq_ix2 x⟩
  have ei : (Rect.unit (s := S512x128) ![0, 0] S512x128.size hb).emb (ix2 r d) = ix2 r d := by
    funext a
    fin_cases a <;> apply Fin.ext <;> simp [ix2]
  rw [stored_at, ei, logit_eq]
  rfl

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

theorem out_g : out0_A_13 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 = gB e := by
  refine (View.read_writes_junk_eq_canon _ _).trans ?_
  funext y
  have hc := cover0_A_13 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 y
  rw [run_g] at hc ⊢
  rw [rd0_eq, rd1_eq, rd2_eq, rd3_eq, rd4_eq, rd5_eq, rd6_eq, rd7_eq, rd8_eq, rd9_eq] at hc ⊢
  rw [← List.append_nil (_ :: _)]
  refine View.canon_append_of_pieces (gB e) [] _ ?_ y hc
  intro p hp x
  simp only [List.mem_cons, List.not_mem_nil, or_false] at hp
  subst hp
  exact g_piece e inb_S512x128_S512x128_0_0 x

end Cert.Kernel6Ideal.Merge

end
-- ==== Proof.GateArray.lean ====
/- The gates: the result array after the launch, from the arrays the kernel is given. -/
module

public import proofs.«01_k».proof.Proof.GateBlock
public import proofs.«01_k».proof.Proof.Gen.Kernel6Ideal.Value
public import Idealize.ShloMosaic.Lib.Pipeline.ValueKit

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- What the body meets at grid point `t`. -/
def env (t : Fin cfg0.N) : Env Ideal where
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  x0 := iblk m c 0 t
  x1 := iblk m c 1 t
  x2 := iblk m c 2 t
  x3 := X0_3 m c t
  x4 := X0_4 m c t
  x5 := iblk m c 5 t
  x6 := iblk m c 6 t
  x7 := iblk m c 7 t
  x8 := iblk m c 8 t
  x9 := iblk m c 9 t

theorem out_g_args (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1x1024 .f32) (x7 : Vec Ideal S1x1024 .f32) (x8 : Vec Ideal S1024x256 .bf16) (x9 : Vec Ideal S1x128 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = gB ⟨arg1, harg1, arg2, harg2, arg3, harg3, arg4, harg4, arg5, harg5, arg6, harg6, arg7, harg7, arg8, harg8, arg9, harg9, arg10, harg10, x0, x1, x2, x3, x4, x5, x6, x7, x8, x9⟩ :=
  out_g ⟨arg1, harg1, arg2, harg2, arg3, harg3, arg4, harg4, arg5, harg5, arg6, harg6, arg7, harg7, arg8, harg8, arg9, harg9, arg10, harg10, x0, x1, x2, x3, x4, x5, x6, x7, x8, x9⟩ c i arg11 harg11 arg12 harg12 arg13 harg13 arg14 harg14 arg15 harg15

theorem after_g (t : Fin cfg0.N) : (dats m 0 c).after 13 t = gB (env m c t) := by
  rw [after0_13]
  simp only [outsAt0]
  rw [out_g_args c]
  rfl

/-- The windows' blocks: point `t` is at rows `512 t ..`, its gates being blocks 4 and 5 of the projection's columns. -/
theorem index_all : ∀ t : Fin grid0.N,
    win0_0.index t = ![t.val, 0] ∧ win0_1.index t = ![t.val, 0] ∧ win0_2.index t = ![t.val, 0] ∧ win0_3.index t = ![t.val, 4]
    ∧ win0_4.index t = ![t.val, 5] ∧ win0_5.index t = ![0, 0] ∧ win0_6.index t = ![0, 0] ∧ win0_7.index t = ![0, 0]
    ∧ win0_8.index t = ![0, 0] ∧ win0_9.index t = ![0, 0] ∧ win0_13.index t = ![t.val, 0] := by decide +kernel

/-! ## The arrays the kernel is given, row by row -/

def X (i : Fin 16384) : Fin 1024 → EReal := fun j => V m c main_v0 (ix2 i j)
def OM (i : Fin 16384) : Fin 1024 → EReal := fun j => V m c main_v1 (ix2 i j)
def OR (i : Fin 16384) : Fin 1024 → EReal := fun j => V m c main_v2 (ix2 i j)
def GM (i : Fin 16384) : Fin 1024 → EReal := fun j => V m c main_v10 (ix2 i (⟨4096 + j.val, by omega⟩ : Fin 6912))
def GR (i : Fin 16384) : Fin 1024 → EReal := fun j => V m c main_v10 (ix2 i (⟨5120 + j.val, by omega⟩ : Fin 6912))
def W : Fin 1024 → Fin 1024 → EReal := fun k n => V m c main_v11 (ix2 k n)
def G : Fin 1024 → EReal := fun j => V m c main_v12 (ix2 (0 : Fin 1) j)
def B : Fin 1024 → EReal := fun j => V m c main_v13 (ix2 (0 : Fin 1) j)
def R : Fin 1024 → Fin 256 → EReal := fun k l => V m c main_v21 (ix2 k l)
def C : Fin 128 → EReal := fun l => V m c main_v26 (ix2 (0 : Fin 1) l)

variable (t : Fin cfg0.N)

theorem x_eq (r : Fin 512) (i : Fin 16384) (hi : i.val = t.val * 512 + r.val) : (fun j => (env m c t).x0 (ix2 r j) : Fin 1024 → EReal) = X m c i := by
  funext j
  show iblk m c 0 t (ix2 r j) = V m c main_v0 (ix2 i j)
  blk_ext [iblk, index_all, hi]

theorem om_eq (r : Fin 512) (i : Fin 16384) (hi : i.val = t.val * 512 + r.val) : (fun j => (env m c t).x1 (ix2 r j) : Fin 1024 → EReal) = OM m c i := by
  funext j
  show iblk m c 1 t (ix2 r j) = V m c main_v1 (ix2 i j)
  blk_ext [iblk, index_all, hi]

theorem or_eq (r : Fin 512) (i : Fin 16384) (hi : i.val = t.val * 512 + r.val) : (fun j => (env m c t).x2 (ix2 r j) : Fin 1024 → EReal) = OR m c i := by
  funext j
  show iblk m c 2 t (ix2 r j) = V m c main_v2 (ix2 i j)
  blk_ext [iblk, index_all, hi]

theorem gm_eq (r : Fin 512) (i : Fin 16384) (hi : i.val = t.val * 512 + r.val) : (fun j => (env m c t).x3 (ix2 r j) : Fin 1024 → EReal) = GM m c i := by
  funext j
  show X0_3 m c t (ix2 r j) = V m c main_v10 (ix2 i (⟨4096 + j.val, by omega⟩ : Fin 6912))
  unfold X0_3 Window.fill
  rw [dif_pos (moved0_3 t _)]
  blk_ext [iblk, index_all, hi]

theorem gr_eq (r : Fin 512) (i : Fin 16384) (hi : i.val = t.val * 512 + r.val) : (fun j => (env m c t).x4 (ix2 r j) : Fin 1024 → EReal) = GR m c i := by
  funext j
  show X0_4 m c t (ix2 r j) = V m c main_v10 (ix2 i (⟨5120 + j.val, by omega⟩ : Fin 6912))
  unfold X0_4 Window.fill
  rw [dif_pos (moved0_4 t _)]
  blk_ext [iblk, index_all, hi]

theorem w_eq : (fun k n => (env m c t).x5 (ix2 k n) : Fin 1024 → Fin 1024 → EReal) = W m c := by
  funext k n
  show iblk m c 5 t (ix2 k n) = V m c main_v11 (ix2 k n)
  blk_ext [iblk, index_all]

theorem g_eq : gr (env m c t) = G m c := by
  funext j
  show iblk m c 6 t (ix2 (0 : Fin 1) j) = V m c main_v12 (ix2 (0 : Fin 1) j)
  blk_ext [iblk, index_all]

theorem b_eq : br (env m c t) = B m c := by
  funext j
  show iblk m c 7 t (ix2 (0 : Fin 1) j) = V m c main_v13 (ix2 (0 : Fin 1) j)
  blk_ext [iblk, index_all]

theorem r_eq : wr (env m c t) = R m c := by
  funext k l
  show iblk m c 8 t (ix2 k l) = V m c main_v21 (ix2 k l)
  blk_ext [iblk, index_all]

theorem c_eq : cr (env m c t) = C m c := by
  funext j
  show iblk m c 9 t (ix2 (0 : Fin 1) j) = V m c main_v26 (ix2 (0 : Fin 1) j)
  blk_ext [iblk, index_all]

/-! ## The result array -/

/-- Row `i` merged. -/
def Y (i : Fin 16384) : Fin 1024 → EReal := merged (X m c i) (GM m c i) (OM m c i) (GR m c i) (OR m c i) (W m c)

theorem y_eq (r : Fin 512) (i : Fin 16384) (hi : i.val = t.val * 512 + r.val) : yr (env m c t) r = Y m c i := by
  unfold yr Y
  rw [x_eq m c t r i hi, om_eq m c t r i hi, or_eq m c t r i hi, gm_eq m c t r i hi, gr_eq m c t r i hi, w_eq]

def resultG : Vec Ideal S16384x128 .f32 := fun i => gates (logits (normed (Y m c (i 0)) (G m c) (B m c)) (R m c) (C m c)) (i 1)

theorem gB_at (y : S512x128.Idx) (i : S16384x128.Idx) (h0 : (i 0).val = t.val * 512 + (y 0).val) (h1 : (i 1).val = (y 1).val) :
    gB (env m c t) y = resultG m c i := by
  have e1 : i 1 = y 1 := Fin.ext h1
  unfold gB resultG
  rw [y_eq m c t (y 0) (i 0) h0, g_eq, b_eq, r_eq, c_eq, e1]

theorem arrG : (dats m 0 c).arrAt 13 cfg0.N = resultG m c := by
  refine (dats m 0 c).arrAt_eq_of_covers 13 _ (by decide +kernel) fun t hf y => ?_
  blk_simp [index_all]
  rw [after_g m c t]
  refine gB_at m c t y _ ?_ ?_
  · blk_simp [index_all]
  · blk_simp [index_all]

end Cert.Kernel6Ideal.Merge

end
-- ==== Proof.GateScatter.lean ====
/- An update written into an array at its origin, read where it was written. -/
module

public import Idealize.ShloMosaic.Lib.StableHlo.ReadAt
public import Idealize.ShloMosaic.Lib.Pointwise

@[expose] public section

noncomputable section

namespace Cert.Gate

open Idealize.ShloMosaic

/-- A fold whose step `k` sets the value at `i`, and whose other steps leave it. -/
theorem fold_at {n : ℕ} {ι α : Type} (step : (ι → α) → Fin n → ι → α) (v : α) (x : ι → α) (i : ι) (k : Fin n) (hk : ∀ r, step r k i = v)
    (hu : ∀ r k', k' ≠ k → step r k' i = r i) (l : List (Fin n)) (hl : k ∈ l) : List.foldl step x l i = v := by
  induction l using List.reverseRecOn with
  | nil => simp at hl
  | append_singleton l a ih =>
    rw [List.foldl_append]
    simp only [List.foldl_cons, List.foldl_nil]
    by_cases ha : a = k
    · rw [ha, hk]
    · rw [hu _ _ ha]
      rcases List.mem_append.1 hl with h | h
      · exact ih h
      · exact absurd (List.mem_singleton.1 h).symm ha

theorem scatter_at {s si u : Shape} {α : Type} (d : ScatterDims s si u) (idx : IVec si 32) (h0 : ∀ k, idx k = 0#32) (x : s.Idx → α) (upd : u.Idx → α)
    (i : s.Idx) (j : u.Idx) (hj : ∀ a, d.window j a = (i a).val) (hu : ∀ j', (∀ a, d.window j' a = (i a).val) → j' = j) :
    Host.scatter d (fun _ b => b) x idx upd i = upd j := by
  have hs : ∀ j' a, d.start j' idx a = 0 := by
    intro j' a
    unfold ScatterDims.start
    by_cases ha : a ∈ d.scatterDimsToOperandDims
    · rw [dif_pos ha, h0]
      rfl
    · rw [dif_neg ha]
  have hr : ∀ j', d.resultIdx? j' idx = some i ↔ ∀ a, d.window j' a = (i a).val := by
    intro j'
    unfold ScatterDims.resultIdx?
    constructor
    · intro h a
      by_cases hc : ∀ a, 0 ≤ d.start j' idx a + ↑(d.window j' a) ∧ d.start j' idx a + ↑(d.window j' a) < ↑(s.size a)
      · rw [dif_pos hc] at h
        have := congrArg Fin.val (congrFun (Option.some.inj h) a)
        simp only [hs] at this
        omega
      · rw [dif_neg hc] at h
        cases h
    · intro h
      have hc : ∀ a, 0 ≤ d.start j' idx a + ↑(d.window j' a) ∧ d.start j' idx a + ↑(d.window j' a) < ↑(s.size a) := by
        intro a
        rw [hs, h a]
        have := (i a).isLt
        omega
      rw [dif_pos hc]
      refine congrArg some (funext fun a => Fin.ext ?_)
      simp only [hs, h a]
      omega
  unfold Host.scatter
  refine fold_at _ (upd j) x i (u.rowMajor j) (fun r => ?_) (fun r k' hk' => ?_) _ (List.mem_finRange _)
  · have h := (hr j).2 hj
    simp only [Equiv.symm_apply_apply, h, if_true]
  · rcases hg : d.resultIdx? (u.rowMajor.symm k') idx with _ | e
    · simp only [hg]
    · simp only [hg]
      refine if_neg fun hi => hk' ?_
      subst hi
      rw [← hu _ ((hr _).1 hg), Equiv.apply_symm_apply]

end Cert.Gate

end
-- ==== Proof.GateHost.lean ====
/- The gates: what the arrays the kernel is given hold, from the arguments. -/
module

public import proofs.«01_k».proof.Proof.Gen.Kernel6Ideal.Value
public import proofs.«01_k».proof.Proof.GateScatter
public import Idealize.ShloMosaic.Lib.StableHlo.ReadAt
public import Idealize.ShloMosaic.Lib.Pointwise

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

theorem v0_at (b : Fin 4) (q : Fin 4096) (n : Fin 1024) :
    @Eq EReal (V m c main_v0 (ix2 (⟨4096 * b.val + q.val, by omega⟩ : Fin 16384) n)) (m ((c.tc : Thread nD τ).loc main_arg0) (ix3 b q n)) := by
  unfold V
  after_reads_at

theorem v1_at (i : Fin 16384) (n : Fin 1024) : @Eq EReal (V m c main_v1 (ix2 i n)) (m ((c.tc : Thread nD τ).loc main_arg1) (ix2 i n)) := by
  unfold V
  after_reads_at

theorem v2_at (i : Fin 16384) (n : Fin 1024) : @Eq EReal (V m c main_v2 (ix2 i n)) (m ((c.tc : Thread nD τ).loc main_arg2) (ix2 i n)) := by
  unfold V
  after_reads_at

/-- The projection's first 6144 columns: those after the latents'. -/
theorem v10_at (b : Fin 4) (q : Fin 4096) (n : Fin 6912) (hn : n.val < 6144) :
    @Eq EReal (V m c main_v10 (ix2 (⟨4096 * b.val + q.val, by omega⟩ : Fin 16384) n))
      (m ((c.tc : Thread nD τ).loc main_arg3) (ix3 b q (⟨704 + n.val, by omega⟩ : Fin 6848))) := by
  unfold V
  after_reads_at
  have e1 : (4096 * b.val + q.val) / 4096 = b.val := by omega
  have e2 : (4096 * b.val + q.val) % 4096 = q.val := by omega
  simp only [e1, e2, Fin.eta]
  rw [dif_pos hn]
  after_reads_at

theorem v11_at (k n : Fin 1024) : @Eq EReal (V m c main_v11 (ix2 k n)) (m ((c.tc : Thread nD τ).loc main_arg4) (ix2 k n)) := by
  unfold V
  after_reads_at

theorem v12_at (k : Fin 1024) : @Eq EReal (V m c main_v12 (ix2 (0 : Fin 1) k)) (m ((c.tc : Thread nD τ).loc main_arg5) (ix1 k)) := by
  unfold V
  after_reads_at

theorem v13_at (k : Fin 1024) : @Eq EReal (V m c main_v13 (ix2 (0 : Fin 1) k)) (m ((c.tc : Thread nD τ).loc main_arg6) (ix1 k)) := by
  unfold V
  after_reads_at

/-- The router's weight, padded to 128 columns. -/
theorem wpad_at (x : S1024x128.Idx → EReal) (z : IVec S1 32) (hz : ∀ k, z k = 0#32) (w : S1024x32.Idx → EReal) (k : Fin 1024) (l : Fin 32) :
    Host.scatter scatter_S1024x128_S1_S1024x32_01_n_1_0 (fun _ b => b) x z w (ix2 k (⟨l.val, by omega⟩ : Fin 128)) = w (ix2 k l) := by
  refine Cert.Gate.scatter_at _ _ hz _ _ _ (ix2 k l) ?_ ?_
  · intro a
    fin_cases a <;> rfl
  · intro j hj
    funext a
    apply Fin.ext
    have h0 := hj 0
    have h1 := hj 1
    fin_cases a
    · exact h0
    · exact h1

/-- The bias, padded to 128 columns. -/
theorem bpad_at (x : S1x128.Idx → EReal) (z : IVec S2 32) (hz : ∀ k, z k = 0#32) (w : S32.Idx → EReal) (l : Fin 32) :
    Host.scatter scatter_S1x128_S2_S32_0_0_01_0 (fun _ b => b) x z w (ix2 (0 : Fin 1) (⟨l.val, by omega⟩ : Fin 128)) = w (ix1 l) := by
  refine Cert.Gate.scatter_at _ _ hz _ _ _ (ix1 l) ?_ ?_
  · intro a
    fin_cases a <;> rfl
  · intro j hj
    funext a
    apply Fin.ext
    have h1 := hj 1
    fin_cases a
    exact h1

/-- The high part is the weight. -/
theorem v21_pad_at (k : Fin 1024) (l : Fin 128) :
    @Eq EReal (V m c main_v21 (ix2 k (⟨l.val, by omega⟩ : Fin 256))) (V m c main_v17 (ix2 k l)) := by
  unfold V
  after_reads_at
  done

theorem v17_at (k : Fin 1024) (l : Fin 32) :
    @Eq EReal (V m c main_v17 (ix2 k (⟨l.val, by omega⟩ : Fin 128))) (m ((c.tc : Thread nD τ).loc main_arg7) (ix2 k l)) := by
  unfold V
  after_reads_at
  exact wpad_at _ _ (fun k => rfl) _ k l

theorem v21_at (k : Fin 1024) (l : Fin 32) :
    @Eq EReal (V m c main_v21 (ix2 k (⟨l.val, by omega⟩ : Fin 256))) (m ((c.tc : Thread nD τ).loc main_arg7) (ix2 k l)) :=
  (v21_pad_at m c k ⟨l.val, by omega⟩).trans (v17_at m c k l)

/-- The low part is what the weight's difference with itself leaves. -/
theorem v21_low_at (k : Fin 1024) (l : Fin 32) (a : EReal) (ha : a = m ((c.tc : Thread nD τ).loc main_arg7) (ix2 k l)) :
    @Eq EReal (V m c main_v21 (ix2 k (⟨128 + l.val, by omega⟩ : Fin 256))) (a - a) := by
  unfold V
  after_reads_at
  have h := wpad_at (broadcastInDim S1024x128 ![] bcast_S_S1024x128 (constant (F := Ideal) S_ FTy.f32 0#32))
    (broadcastInDim S1 ![] bcast_S_S1 (constantI S_ 32 0#32)) (fun k => rfl) (m (c, Proc.tc.devRef main_arg7)) k l
  refine Eq.trans (congrArg₂ (fun a b : EReal => a - b) h h) ?_
  rw [ha]

theorem v26_at (l : Fin 32) :
    @Eq EReal (V m c main_v26 (ix2 (0 : Fin 1) (⟨l.val, by omega⟩ : Fin 128))) (m ((c.tc : Thread nD τ).loc main_arg8) (ix1 l)) := by
  unfold V
  after_reads_at
  refine bpad_at _ _ (fun k => ?_) _ l
  obtain ⟨q, rfl⟩ : ∃ q : Fin 2, k = ix1 q := ⟨k 0, by funext a; fin_cases a; rfl⟩
  fin_cases q
  · after_reads_at
  · after_reads_at

end Cert.Kernel6Ideal.Merge

end
-- ==== Proof.GateReal.lean ====
/- A normalised row is real when its weight and bias are, whatever the row holds; so the halves its product is
   split into leave nothing out. -/
module

public import proofs.«01_k».proof.Proof.GateBlock

@[expose] public section

set_option maxRecDepth 16384

noncomputable section

namespace Cert.Kernel6Ideal.Merge

open Idealize.ShloMosaic

theorem eps_pos : ∃ r : ℝ, 0 < r ∧ Ideal.ofBits .f32 0x3727C5AC#32 = (r : EReal) := by
  refine ⟨10995116 / 1099511627776, by norm_num, ?_⟩
  simp [Ideal.ofBits, Ideal.ieee, -EReal.coe_mul]
  norm_num

theorem width_eq : Ideal.ofBits .f32 0x44800000#32 = ((1024 : ℝ) : EReal) := by
  simp [Ideal.ofBits, Ideal.ieee, -EReal.coe_mul]
  try norm_num

theorem coe_sum' (n : ℕ) (f : Fin n → ℝ) : ∑ k, ((f k * f k : ℝ) : EReal) = ((∑ k, f k * f k : ℝ) : EReal) := by
  induction (Finset.univ : Finset (Fin n)) using Finset.cons_induction with
  | empty => simp
  | cons a s ha ih => rw [Finset.sum_cons, Finset.sum_cons, ih, EReal.coe_add]

/-- A square is never negative. -/
theorem sq_nonneg' (x : EReal) : 0 ≤ x * x := by
  induction x using EReal.rec with
  | bot => simp
  | top => simp
  | coe r => rw [← EReal.coe_mul]; exact_mod_cast mul_self_nonneg r

/-- A deviation times its scale is real: where a deviation is infinite, the scale is zero. -/
theorem scaled_real (d : Fin 1024 → EReal) (n : Fin 1024) :
    ∃ r : ℝ, d n * Ideal.rsqrt (mean (fun k => d k * d k) + Ideal.ofBits .f32 0x3727C5AC#32) = (r : EReal) := by
  obtain ⟨ε, hε, he⟩ := eps_pos
  unfold mean
  rw [he, width_eq, Ideal.div_coe (by norm_num : (1024 : ℝ) ≠ 0)]
  by_cases h : ∀ k, ∃ r : ℝ, d k = (r : EReal)
  · choose f hf using h
    have e : ∑ k : Fin 1024, d k * d k = ((∑ k : Fin 1024, f k * f k : ℝ) : EReal) := by
      rw [← coe_sum']
      exact Finset.sum_congr rfl fun k _ => by rw [hf, EReal.coe_mul]
    have h0 : 0 < (∑ k : Fin 1024, f k * f k) * (1 / 1024) + ε := by
      have : 0 ≤ ∑ k : Fin 1024, f k * f k := Finset.sum_nonneg fun k _ => mul_self_nonneg (f k)
      positivity
    rw [e, ← EReal.coe_mul, ← EReal.coe_add, hf, Ideal.rsqrt_coe, if_neg (not_lt.2 h0.le), if_neg h0.ne']
    exact ⟨_, (EReal.coe_mul _ _).symm⟩
  · have hx : ∃ k, d k * d k = ⊤ := by
      obtain ⟨k, hk⟩ := not_forall.mp h
      replace hk := not_exists.mp hk
      refine ⟨k, ?_⟩
      generalize d k = x at hk
      induction x using EReal.rec with
      | bot => simp
      | top => simp
      | coe r => exact absurd rfl (hk r)
    obtain ⟨k, hk⟩ := hx
    have e : ∑ k : Fin 1024, d k * d k = ⊤ := by
      refine top_le_iff.mp ?_
      rw [← hk]
      exact Finset.single_le_sum (f := fun k => d k * d k) (fun j _ => sq_nonneg' (d j)) (Finset.mem_univ k)
    have z : Ideal.rsqrt ⊤ = 0 := by simp
    rw [e, EReal.top_mul_coe_of_pos (by norm_num), EReal.top_add_coe, z, mul_zero]
    exact ⟨0, rfl⟩

theorem normed_real (y g b : Fin 1024 → EReal) (hg : ∀ k, ∃ r : ℝ, g k = (r : EReal)) (hb : ∀ k, ∃ r : ℝ, b k = (r : EReal)) (n : Fin 1024) :
    ∃ r : ℝ, normed y g b n = (r : EReal) := by
  obtain ⟨u, hu⟩ := scaled_real (fun k => y k - mean y) n
  obtain ⟨v, hv⟩ := hg n
  obtain ⟨w, hw⟩ := hb n
  refine ⟨u * v + w, ?_⟩
  unfold normed
  rw [hu, hv, hw, ← EReal.coe_mul, ← EReal.coe_add]

theorem sub_real {x : EReal} (h : ∃ r : ℝ, x = (r : EReal)) : x - x = 0 := by
  obtain ⟨r, rfl⟩ := h
  rw [← EReal.coe_sub, sub_self, EReal.coe_zero]

/-- The split product is the plain one. -/
theorem logits_eq (h : Fin 1024 → EReal) (hh : ∀ k, ∃ r : ℝ, h k = (r : EReal)) (w : Fin 1024 → Fin 256 → EReal) (b : Fin 128 → EReal)
    (e : Fin 32) (hw : ∀ k, w k ⟨128 + e.val, by omega⟩ = 0) :
    logits h w b e = (∑ k : Fin 1024, h k * w k ⟨e.val, by omega⟩) + b ⟨e.val, by omega⟩ := by
  unfold logits
  simp only [hw, mul_zero, fun k => sub_real (hh k), zero_mul, Finset.sum_const_zero, add_zero]

end Cert.Kernel6Ideal.Merge

end
-- ==== Proof.GateFinal.lean ====
/- The gates: the kernel's result is the reference's. -/
module

public import proofs.«01_k».proof.Proof.GateRef
public import proofs.«01_k».proof.Proof.GateArray
public import proofs.«01_k».proof.Proof.GateHost
public import proofs.«01_k».proof.Proof.GateReal

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Idealize.ShloMosaic.Pipeline Idealize.ShloMosaic.Pointwise

/-! ## The constants and the gate -/

theorem half_eq : Ideal.ofBits .f32 0x3F000000#32 = ((1 / 2 : ℝ) : EReal) := by
  simp [Ideal.ofBits, Ideal.ieee, -EReal.coe_mul]
  try norm_num

theorem one_eq : Ideal.ofBits .f32 0x3F800000#32 = ((1 : ℝ) : EReal) := by
  simp [Ideal.ofBits, Ideal.ieee, -EReal.coe_mul]
  try norm_num

theorem two_eq : Ideal.ofBits .f32 0x40000000#32 = ((2 : ℝ) : EReal) := by
  simp [Ideal.ofBits, Ideal.ieee, -EReal.coe_mul]
  try norm_num

/-- The weight of the residual is the square root of two's square root. -/
theorem alpha_eq : Ideal.sqrt (Ideal.sqrt (Ideal.ofBits .f32 0x40000000#32)) = alpha := by
  rw [two_eq]
  have h1 : Ideal.sqrt ((2 : ℝ) : EReal) = ((Real.sqrt 2 : ℝ) : EReal) := if_neg (by norm_num)
  have h2 : Ideal.sqrt ((Real.sqrt 2 : ℝ) : EReal) = ((Real.sqrt (Real.sqrt 2) : ℝ) : EReal) := if_neg (not_lt.mpr (Real.sqrt_nonneg 2))
  rw [h1, h2]
  rfl

/-- On the reals the gate is the logistic function. -/
theorem half_tanh (r : ℝ) : 1 / 2 * Real.tanh (1 / 2 * r) + 1 / 2 = 1 * (1 / (1 + Real.exp (-r))) := by
  rw [Real.tanh_eq_sinh_div_cosh, Real.sinh_eq, Real.cosh_eq]
  have hp : 0 < Real.exp (1 / 2 * r) := Real.exp_pos _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]
    congr 1
    ring
  rw [e1, e2]
  generalize Real.exp (1 / 2 * r) = u at hp
  have h2 : u * u + 1 ≠ 0 := by positivity
  field_simp
  ring

theorem gate_eq (x : EReal) : gate x = Cert.Reference6Ideal.Merge.sigmoid x := by
  unfold gate Cert.Reference6Ideal.Merge.sigmoid
  rw [half_eq, one_eq]
  induction x using EReal.rec with
  | bot =>
    have h1 : ((1 / 2 : ℝ) : EReal) * ⊥ = ⊥ := EReal.coe_mul_bot_of_pos (by norm_num)
    rw [h1, EReal.neg_bot]
    have h2 : Ideal.exp ⊤ = ⊤ := rfl
    have h3 : Ideal.tanh ⊥ = ((-1 : ℝ) : EReal) := by simp
    rw [h2, h3, EReal.coe_add_top, ← EReal.coe_mul, ← EReal.coe_add]
    have h4 : Ideal.div ((1 : ℝ) : EReal) ⊤ = 0 := by simp [Ideal.div]
    rw [h4]
    norm_num
  | top =>
    have h1 : ((1 / 2 : ℝ) : EReal) * ⊤ = ⊤ := EReal.coe_mul_top_of_pos (by norm_num)
    rw [h1, EReal.neg_top]
    have h2 : Ideal.exp ⊥ = ((0 : ℝ) : EReal) := rfl
    have h3 : Ideal.tanh ⊤ = ((1 : ℝ) : EReal) := by simp
    rw [h2, h3, ← EReal.coe_add, Ideal.div_coe (by norm_num), ← EReal.coe_mul, ← EReal.coe_add, ← EReal.coe_mul]
    norm_num
  | coe r =>
    have h2 : Ideal.exp ((-r : ℝ) : EReal) = ((Real.exp (-r) : ℝ) : EReal) := rfl
    have h3 : Ideal.tanh ((1 / 2 * r : ℝ) : EReal) = ((Real.tanh (1 / 2 * r) : ℝ) : EReal) := rfl
    have hp : (1 + Real.exp (-r)) ≠ 0 := by positivity
    rw [← EReal.coe_mul, h3, ← EReal.coe_neg, h2, ← EReal.coe_add, Ideal.div_coe hp, ← EReal.coe_mul, ← EReal.coe_add, ← EReal.coe_mul, half_tanh]

variable (m : (ℓ : Loc nD τ sig) → Buf (Elt Ideal) ℓ) (c : Dev nD)

/-! ## The arguments -/

def a0 : FVec Ideal S4x4096x1024 .f32 := m ((c.tc : Thread nD τ).loc main_arg0)
def a1 : FVec Ideal S16384x1024 .f32 := m ((c.tc : Thread nD τ).loc main_arg1)
def a2 : FVec Ideal S16384x1024 .f32 := m ((c.tc : Thread nD τ).loc main_arg2)
def a3 : FVec Ideal S4x4096x6848 .f32 := m ((c.tc : Thread nD τ).loc main_arg3)
def a4 : FVec Ideal S1024x1024 .f32 := m ((c.tc : Thread nD τ).loc main_arg4)
def a5 : FVec Ideal S1024 .f32 := m ((c.tc : Thread nD τ).loc main_arg5)
def a6 : FVec Ideal S1024 .f32 := m ((c.tc : Thread nD τ).loc main_arg6)
def a7 : FVec Ideal S1024x32 .f32 := m ((c.tc : Thread nD τ).loc main_arg7)
def a8 : FVec Ideal S32 .f32 := m ((c.tc : Thread nD τ).loc main_arg8)

/-! ## The kernel's rows from the arguments -/

theorem X_at (b : Fin 4) (q : Fin 4096) : X m c ⟨4096 * b.val + q.val, by omega⟩ = fun j => a0 m c (ix3 b q j) := funext fun j => v0_at m c b q j

theorem OM_at (i : Fin 16384) : OM m c i = fun j => a1 m c (ix2 i j) := funext fun j => v1_at m c i j

theorem OR_at (i : Fin 16384) : OR m c i = fun j => a2 m c (ix2 i j) := funext fun j => v2_at m c i j

theorem GM_at (b : Fin 4) (q : Fin 4096) (k : Fin 1024) :
    GM m c ⟨4096 * b.val + q.val, by omega⟩ k = a3 m c (ix3 b q (⟨4800 + k.val, by omega⟩ : Fin 6848)) := by
  refine (v10_at m c b q ⟨4096 + k.val, by omega⟩ (by show 4096 + k.val < 6144; omega)).trans ?_
  refine congrArg (fun n : Fin 6848 => a3 m c (ix3 b q n)) (Fin.ext ?_)
  show 704 + (4096 + k.val) = 4800 + k.val
  omega

theorem GR_at (b : Fin 4) (q : Fin 4096) (k : Fin 1024) :
    GR m c ⟨4096 * b.val + q.val, by omega⟩ k = a3 m c (ix3 b q (⟨5824 + k.val, by omega⟩ : Fin 6848)) := by
  refine (v10_at m c b q ⟨5120 + k.val, by omega⟩ (by show 5120 + k.val < 6144; omega)).trans ?_
  refine congrArg (fun n : Fin 6848 => a3 m c (ix3 b q n)) (Fin.ext ?_)
  show 704 + (5120 + k.val) = 5824 + k.val
  omega

theorem W_eq : W m c = fun k n => a4 m c (ix2 k n) := funext fun k => funext fun n => v11_at m c k n

theorem G_eq : G m c = fun k => a5 m c (ix1 k) := funext fun k => v12_at m c k

theorem B_eq : B m c = fun k => a6 m c (ix1 k) := funext fun k => v13_at m c k

/-! ## The results -/

theorem row_split (i : Fin 16384) : ∃ (b : Fin 4) (q : Fin 4096), i = ⟨4096 * b.val + q.val, by omega⟩ :=
  ⟨⟨i.val / 4096, by omega⟩, ⟨i.val % 4096, by omega⟩, Fin.ext (by show i.val = 4096 * (i.val / 4096) + i.val % 4096; omega)⟩

/-- A merged row is the reference's. -/
theorem Y_eq (i : Fin 16384) :
    Y m c i = fun j => Cert.Reference6Ideal.Read.val_main_v24 (F := Ideal) (a0 m c) (a1 m c) (a2 m c) (a3 m c) (a4 m c) (ix2 i j) := by
  obtain ⟨b, q, rfl⟩ := row_split i
  funext n
  rw [Cert.Reference6Ideal.Merge.v24_at]
  unfold Y merged Cert.Reference6Ideal.Merge.merged
  rw [alpha_eq, X_at, OM_at, OR_at, W_eq]
  refine congrArg _ (Finset.sum_congr rfl fun k _ => ?_)
  rw [GM_at, GR_at, gate_eq, gate_eq]

theorem H_at (i : Fin 16384) (n : Fin 1024) :
    normed (Y m c i) (G m c) (B m c) n
      = Cert.Reference6Ideal.Read.val_main_v48 (F := Ideal) (a0 m c) (a1 m c) (a2 m c) (a3 m c) (a4 m c) (a5 m c) (a6 m c) (ix2 i n) := by
  rw [Cert.Reference6Ideal.Merge.v48_at, Y_eq, G_eq, B_eq]
  rfl

/-- The sum over the four gates, one by one. -/
theorem gates_sum (L : Fin 32 → EReal) (l : Fin 128) : gates L l = Cert.Reference6Ideal.Merge.gates L l := by
  unfold gates Cert.Reference6Ideal.Merge.gates
  rw [Fin.sum_univ_four]
  rfl

/-- A row's logits are the reference's. -/
theorem logits_row (h5 : ∀ i, ∃ r : ℝ, @Eq EReal (a5 m c i) r) (h6 : ∀ i, ∃ r : ℝ, @Eq EReal (a6 m c i) r) (h7 : ∀ i, ∃ r : ℝ, @Eq EReal (a7 m c i) r) (i : Fin 16384) :
    logits (normed (Y m c i) (G m c) (B m c)) (R m c) (C m c)
      = Cert.Reference6Ideal.Merge.row (a0 m c) (a1 m c) (a2 m c) (a3 m c) (a4 m c) (a5 m c) (a6 m c) (a7 m c) (a8 m c) i := by
  funext e
  have hg : ∀ k, ∃ r : ℝ, G m c k = (r : EReal) := fun k => by rw [G_eq]; exact h5 (ix1 k)
  have hb : ∀ k, ∃ r : ℝ, B m c k = (r : EReal) := fun k => by rw [B_eq]; exact h6 (ix1 k)
  have hw : ∀ k, R m c k ⟨128 + e.val, by omega⟩ = 0 := fun k => (v21_low_at m c k e (a7 m c (ix2 k e)) rfl).trans (sub_real (h7 (ix2 k e)))
  rw [logits_eq _ (normed_real _ _ _ hg hb) _ _ _ hw]
  unfold Cert.Reference6Ideal.Merge.row Cert.Reference6Ideal.Merge.logits
  refine congrArg₂ (· + ·) (Finset.sum_congr rfl fun k _ => ?_) (v26_at m c e)
  rw [H_at]
  exact congrArg _ (v21_at m c k e)

theorem resultG_eq (h5 : ∀ i, ∃ r : ℝ, @Eq EReal (a5 m c i) r) (h6 : ∀ i, ∃ r : ℝ, @Eq EReal (a6 m c i) r) (h7 : ∀ i, ∃ r : ℝ, @Eq EReal (a7 m c i) r) :
    resultG m c = Cert.Reference6Ideal.Read.val_main_v96 (F := Ideal) (a0 m c) (a1 m c) (a2 m c) (a3 m c) (a4 m c) (a5 m c) (a6 m c) (a7 m c) (a8 m c) := by
  funext i
  obtain ⟨n, u, rfl⟩ : ∃ (n : Fin 16384) (u : Fin 128), i = ix2 n u := ⟨i 0, i 1, by funext a; fin_cases a <;> rfl⟩
  refine Eq.trans ?_ (Cert.Reference6Ideal.Merge.gates_at _ _ _ _ _ _ _ _ _ n u).symm
  show gates (logits (normed (Y m c n) (G m c) (B m c)) (R m c) (C m c)) u = _
  rw [logits_row m c h5 h6 h7, gates_sum]

end Cert.Kernel6Ideal.Merge

end
-- ==== Proof.GatePick.lean ====
/- Which lane the kernel strikes in a round: with every logit above minus infinity, the expert of the round's rank. -/
module

public import proofs.«01_k».proof.Proof.GateStep

@[expose] public section

noncomputable section

namespace Cert.Gate

open Idealize.ShloMosaic

/-- The lane is the expert of rank `k`. -/
def Pick (L : Fin 32 → EReal) (k : ℕ) (l : Fin 128) : Prop := ∃ h : l.val < 32, rank L ⟨l.val, h⟩ = k

theorem fst_eq (L : Fin 32 → EReal) (hL : ∀ e, ⊥ < L e) {k : ℕ} {e : Fin 32} (h : rank L e = k) :
    fst (left L k) (top L k) = lane ⟨e.val, by omega⟩ := by
  classical
  have key : ∀ l : Fin 128, left L k l = top L k → lane ⟨e.val, by omega⟩ ≤ lane l := by
    intro l hl
    rw [top_eq h] at hl
    unfold left at hl
    by_cases h32 : l.val < 32
    · rw [dif_pos h32] at hl
      by_cases hk : k ≤ rank L ⟨l.val, h32⟩
      · rw [if_pos hk] at hl
        rw [lane_eq, lane_eq, EReal.coe_le_coe_iff, Nat.cast_le]
        by_cases ee : (⟨l.val, h32⟩ : Fin 32) = e
        · rw [← ee]
        · rcases ahead_total L ee with a | a
          · have := rank_lt a
            omega
          · rcases a with a | ⟨_, a⟩
            · rw [hl] at a
              exact absurd a (lt_irrefl _)
            · exact le_of_lt a
      · rw [if_neg hk] at hl
        exact absurd hl.symm (hL e).ne'
    · rw [dif_neg h32] at hl
      exact absurd hl.symm (hL e).ne'
  unfold fst
  refine le_antisymm ?_ ?_
  · rw [Finset.fold_min_le]
    refine Or.inr ⟨⟨e.val, by omega⟩, Finset.mem_univ _, ?_⟩
    rw [if_pos ((left_self h).trans (top_eq h).symm)]
  · rw [Finset.le_fold_min]
    refine ⟨?_, fun l _ => ?_⟩
    · rw [inf_eq]
      exact le_top
    · split_ifs with hl
      · exact key l hl
      · rw [c128_eq, lane_eq, EReal.coe_le_coe_iff]
        have : e.val ≤ 128 := by omega
        exact_mod_cast this

theorem pick_iff (L : Fin 32 → EReal) (hL : ∀ e, ⊥ < L e) (k : ℕ) (hk : k < 32) (l : Fin 128) :
    lane l = fst (left L k) (top L k) ↔ Pick L k l := by
  obtain ⟨e, he⟩ := exists_rank L k hk
  rw [fst_eq L hL he]
  constructor
  · intro h
    have hl := lane_inj h
    subst hl
    exact ⟨e.isLt, he⟩
  · rintro ⟨h, hr⟩
    have := rank_inj L (hr.trans he.symm)
    rw [← this]

/-- A sum over the experts taking the one of rank `k`. -/
def at_ (L : Fin 32 → EReal) (k : ℕ) (f : Fin 32 → EReal) : EReal := ∑ e : Fin 32, if rank L e = k then f e else 0

theorem at_eq {L : Fin 32 → EReal} {k : ℕ} {e : Fin 32} (h : rank L e = k) (f : Fin 32 → EReal) : at_ L k f = f e := by
  unfold at_
  rw [Finset.sum_eq_single e]
  · rw [if_pos h]
  · intro b _ hb
    rw [if_neg fun hr => hb (rank_inj L (hr.trans h.symm))]
  · intro hn
    exact absurd (Finset.mem_univ e) hn

open scoped Classical in
/-- A sum over the lanes taking the picked one. -/
theorem sum_pick (L : Fin 32 → EReal) (k : ℕ) (hk : k < 32) (f : Fin 128 → EReal) :
    (∑ l : Fin 128, if Pick L k l then f l else 0) = at_ L k (fun e => f ⟨e.val, by omega⟩) := by
  obtain ⟨e, he⟩ := exists_rank L k hk
  rw [at_eq he, Finset.sum_eq_single ⟨e.val, by omega⟩]
  · rw [if_pos ⟨e.isLt, he⟩]
  · intro b _ hb
    rw [if_neg]
    rintro ⟨h, hr⟩
    have := rank_inj L (hr.trans he.symm)
    subst this
    exact hb rfl
  · intro hn
    exact absurd (Finset.mem_univ _) hn

theorem first_eq (L : Fin 32 → EReal) (hL : ∀ e, ⊥ < L e) (k : ℕ) (hk : k < 32) :
    fst (left L k) (top L k) = at_ L k (fun e => lane ⟨e.val, by omega⟩) := by
  obtain ⟨e, he⟩ := exists_rank L k hk
  rw [fst_eq L hL he, at_eq he]

/-- A sum over the lanes of which only the experts' count. -/
theorem sum_lanes (f : Fin 128 → EReal) (h : ∀ l, 32 ≤ l.val → f l = 0) : ∑ l : Fin 128, f l = ∑ e : Fin 32, f ⟨e.val, by omega⟩ := by
  have := Fin.sum_univ_add (a := 32) (b := 96) f
  rw [this]
  have z : ∑ i : Fin 96, f (Fin.natAdd 32 i) = 0 := Finset.sum_eq_zero fun i _ => h _ (by simp)
  rw [z, add_zero]
  rfl

end Cert.Gate

end
-- ==== Proof.RouteTile.lean ====
/- A tile's routing from its rows of logits: who is chosen, the counts, the slots, the integers the call gives. -/
module

public import proofs.«01_k».proof.Proof.GatePick

@[expose] public section

noncomputable section

namespace Cert.Gate

open Idealize.ShloMosaic

/-- An extended real as an integer word. -/
def word (x : EReal) : BitVec 32 := FloatOps.fptosi (F := Ideal) (φ := .f32) 32 x

variable (Ls : Fin 512 → Fin 32 → EReal)

/-- One where the expert is among the row's four. -/
def chosen (L : Fin 32 → EReal) (e : Fin 32) : EReal := if rank L e < 4 then 1 else 0

/-- The tile's rows with the expert. -/
def countE (e : Fin 32) : EReal := ∑ r : Fin 512, chosen (Ls r) e

/-- The count rounded up to eight. -/
def runE (e : Fin 32) : EReal :=
  Ideal.liftRound Int.floor (Ideal.div (countE Ls e + Ideal.ofBits .f32 0x40E00000#32) (Ideal.ofBits .f32 0x41000000#32)) * Ideal.ofBits .f32 0x41000000#32

/-- The rows before with the expert. -/
def beforeE (r : Fin 512) (e : Fin 32) : EReal := ∑ c : Fin 512, if c < r then chosen (Ls c) e else 0

/-- Where the expert's run starts. -/
def startE (e : Fin 32) : EReal := ∑ x : Fin 32, if x < e then runE Ls x else 0

/-- The slot of row `r` with the expert. -/
def slotE (r : Fin 512) (e : Fin 32) : EReal := beforeE Ls r e + startE Ls e

/-- A row's integers: its four experts, their four slots, zeros. -/
def routeE (r : Fin 512) (l : Fin 128) : BitVec 32 :=
  if l.val < 4 then word (at_ (Ls r) l.val fun e => lane ⟨e.val, by omega⟩)
  else if l.val < 8 then word (at_ (Ls r) (l.val - 4) fun e => slotE Ls r e)
  else 0#32

/-- The counts as integers, zeros after the experts. -/
def cntE (l : Fin 128) : BitVec 32 := word (if h : l.val < 32 then countE Ls ⟨l.val, h⟩ else 0)

end Cert.Gate

end
-- ==== Proof.RouteRef.lean ====
/- The routing's reference at an index. -/
module

public import proofs.«01_k».proof.Proof.RouteTile
public import proofs.«01_k».proof.Proof.Gen.Reference7Ideal.Read
public import Idealize.ShloMosaic.Lib.Pointwise

@[expose] public section

set_option maxRecDepth 16384

noncomputable section

namespace Cert.Reference7Ideal.Merge

open Cert.Reference7Ideal Cert.Reference7Ideal.Gen Cert.Reference7Ideal.Read Idealize.ShloMosaic Idealize.ShloMosaic.TcCoe
open Idealize.ShloMosaic.Pointwise

variable (x0 : FVec Ideal S4x4096x1024 .f32) (x1 x2 : FVec Ideal S16384x1024 .f32) (x3 : FVec Ideal S4x4096x6848 .f32) (x4 : FVec Ideal S1024x1024 .f32)
  (x5 x6 : FVec Ideal S1024 .f32)

/-! ## One row -/

/-- The logistic function as the reference writes it. -/
def sigmoid (x : EReal) : EReal := Ideal.div (Ideal.ofBits .f32 0x3F800000#32) (Ideal.ofBits .f32 0x3F800000#32 + Ideal.exp (-x))

/-- The merged row before its norm. -/
def merged (x om ore : Fin 1024 → EReal) (p : Fin 6848 → EReal) (w : Fin 1024 → Fin 1024 → EReal) (n : Fin 1024) : EReal :=
  Ideal.sqrt (Ideal.sqrt (Ideal.ofBits .f32 0x40000000#32)) * x n
    + ∑ k : Fin 1024, (sigmoid (p ⟨4800 + k.val, by omega⟩) * om k + sigmoid (p ⟨5824 + k.val, by omega⟩) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-! ## The reference at an index -/

theorem v24_at (b : Fin 4) (q : Fin 4096) (n : Fin 1024) :
    @Eq EReal (val_main_v24 (F := Ideal) x0 x1 x2 x3 x4 (ix2 (⟨4096 * b.val + q.val, by omega⟩ : Fin 16384) n))
      (merged (fun j => x0 (ix3 b q j)) (fun j => x1 (ix2 (⟨4096 * b.val + q.val, by omega⟩ : Fin 16384) j)) (fun j => x2 (ix2 (⟨4096 * b.val + q.val, by omega⟩ : Fin 16384) j))
        (fun j => x3 (ix3 b q j)) (fun k n => x4 (ix2 k n)) n) := by
  unfold merged sigmoid
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem v48_at (i : Fin 16384) (n : Fin 1024) :
    @Eq EReal (val_main_v48 (F := Ideal) x0 x1 x2 x3 x4 x5 x6 (ix2 i n))
      (normed (fun j => val_main_v24 (F := Ideal) x0 x1 x2 x3 x4 (ix2 i j)) (fun k => x5 (ix1 k)) (fun k => x6 (ix1 k)) n) := by
  unfold normed mean
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_4, val_main_cst_5, val_main_cst_6, val_main_cst_7, val_main_cst_8]

variable (x7 : FVec Ideal S1024x32 .f32) (x8 : FVec Ideal S32 .f32)

/-- A row's logits. -/
def logits (h : Fin 1024 → EReal) (w : Fin 1024 → Fin 32 → EReal) (b : Fin 32 → EReal) (e : Fin 32) : EReal := (∑ k : Fin 1024, h k * w k e) + b e

/-- Row `i`'s logits. -/
def row (i : Fin 16384) : Fin 32 → EReal :=
  logits (fun j => val_main_v48 (F := Ideal) x0 x1 x2 x3 x4 x5 x6 (ix2 i j)) (fun k e => x7 (ix2 k e)) (fun e => x8 (ix1 e))

theorem v53_at (i : Fin 16384) (e : Fin 32) :
    @Eq EReal (val_main_v53 (F := Ideal) x0 x1 x2 x3 x4 x5 x6 x7 x8 (ix2 i e)) (row x0 x1 x2 x3 x4 x5 x6 x7 x8 i e) := by
  unfold row logits
  pointwise [val_main_v53, val_main_v52, val_main_v51, val_main_v50]

theorem slt32 : ∀ x e : Fin 32, IntOp.cmpi .slt (BitVec.ofNat 32 x.val) (BitVec.ofNat 32 e.val) = BitVec.ofBool (decide (x < e)) := by decide +kernel

open scoped Classical in
theorem ahead_sel (L : Fin 32 → EReal) (x e : Fin 32) :
    Scalar.select (IntOp.ori (BitVec.ofBool (decide (L e < L x))) (IntOp.andi (BitVec.ofBool (decide (L x = L e))) (BitVec.ofBool (decide (x < e))))) (1 : EReal) 0
      = if Cert.Gate.ahead L x e then 1 else 0 := by
  unfold Cert.Gate.ahead
  by_cases h1 : L e < L x <;> by_cases h2 : L x = L e <;> by_cases h3 : x < e <;> simp [h1, h2, h3, Scalar.select, IntOp.ori, IntOp.andi]

theorem v75_at (i : Fin 16384) (e : Fin 32) :
    @Eq EReal (val_main_v75 (F := Ideal) x0 x1 x2 x3 x4 x5 x6 x7 x8 (ix2 i e)) (((Cert.Gate.rank (row x0 x1 x2 x3 x4 x5 x6 x7 x8 i) e : ℕ) : ℝ) : EReal) := by
  classical
  have h : @Eq EReal (val_main_v75 (F := Ideal) x0 x1 x2 x3 x4 x5 x6 x7 x8 (ix2 i e))
      (∑ x : Fin 32, if Cert.Gate.ahead (row x0 x1 x2 x3 x4 x5 x6 x7 x8 i) x e then (1 : EReal) else 0) := by
    pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_cst_9, val_main_cst_10, val_main_cst_11, val_main_call0_v0, val_main_call0_v1]
    refine Finset.sum_congr rfl fun x _ => ?_
    rw [v53_at, v53_at, slt32]
    refine Eq.trans ?_ (ahead_sel _ x e)
    congr
  rw [h, Finset.sum_ite, Finset.sum_const_zero, add_zero, Finset.sum_const, nsmul_one, EReal.coe_natCast]
  unfold Cert.Gate.rank
  congr

theorem num4 (k : Fin 4) : FloatOps.sitofp (F := Ideal) .f32 (BitVec.ofNat 32 k.val) = (((k.val : ℕ) : ℝ) : EReal) :=
  Cert.Gate.lane_eq ⟨k.val, by omega⟩

open Cert.Gate (chosen countE runE beforeE startE slotE routeE cntE word at_ lane)

theorem zero_at : FloatOps.sitofp (F := Ideal) .f32 (0#32 : BitVec 32) = (0 : EReal) := by
  show (((0#32 : BitVec 32).toInt : ℝ) : EReal) = 0
  simp

theorem four_eq : Ideal.ofBits .f32 0x40800000#32 = ((4 : ℝ) : EReal) := by
  simp [Ideal.ofBits, Ideal.ieee, -EReal.coe_mul]
  try norm_num

theorem cast_iff (a b : ℕ) : (((a : ℕ) : ℝ) : EReal) = (((b : ℕ) : ℝ) : EReal) ↔ a = b := by
  rw [EReal.coe_eq_coe_iff]
  exact Nat.cast_inj

/-- Tile `t`'s rows of logits. -/
def tile (t : Fin 32) (r : Fin 512) : Fin 32 → EReal := row x0 x1 x2 x3 x4 x5 x6 x7 x8 ⟨t.val * 512 + r.val, by omega⟩

theorem v78_at (i : Fin 16384) (e : Fin 32) :
    @Eq EReal (val_main_v78 (F := Ideal) x0 x1 x2 x3 x4 x5 x6 x7 x8 (ix2 i e)) (chosen (row x0 x1 x2 x3 x4 x5 x6 x7 x8 i) e) := by
  unfold chosen
  pointwise [val_main_v78, val_main_v77, val_main_v76, val_main_cst_12, val_main_cst_13, val_main_cst_14, val_main_call1_v0, val_main_call1_v1]
  rw [v75_at, four_eq]
  refine if_congr ?_ rfl rfl
  rw [EReal.coe_lt_coe_iff]
  exact Nat.cast_lt_ofNat

theorem v79_at (t : Fin 32) (r : Fin 512) (e : Fin 32) :
    @Eq EReal (val_main_v79 (F := Ideal) x0 x1 x2 x3 x4 x5 x6 x7 x8 (ix3 t r e)) (chosen (tile x0 x1 x2 x3 x4 x5 x6 x7 x8 t r) e) := by
  pointwise [val_main_v79]
  exact v78_at x0 x1 x2 x3 x4 x5 x6 x7 x8 _ e

theorem v80_at (t : Fin 32) (e : Fin 32) :
    @Eq EReal (val_main_v80 (F := Ideal) x0 x1 x2 x3 x4 x5 x6 x7 x8 (ix2 t e)) (countE (tile x0 x1 x2 x3 x4 x5 x6 x7 x8 t) e) := by
  unfold countE
  pointwise [val_main_v80, val_main_cst_15]
  exact Finset.sum_congr rfl fun r _ => v79_at x0 x1 x2 x3 x4 x5 x6 x7 x8 t r e

theorem v81_at (t : Fin 32) (l : Fin 128) :
    @Eq EReal (val_main_v81 (F := Ideal) x0 x1 x2 x3 x4 x5 x6 x7 x8 (ix2 t l)) (if h : l.val < 32 then countE (tile x0 x1 x2 x3 x4 x5 x6 x7 x8 t) ⟨l.val, h⟩ else 0) := by
  pointwise [val_main_v81, val_main_call2_v0, val_main_c]
  by_cases h : l.val < 32
  · rw [dif_pos h, dif_pos h, v80_at]
  · rw [dif_neg h, dif_neg h, zero_at]

/-- The counts. -/
theorem v85_at (t : Fin 32) (z : Fin 8) (l : Fin 128) :
    val_main_v85 (F := Ideal) x0 x1 x2 x3 x4 x5 x6 x7 x8 (ix2 (⟨8 * t.val + z.val, by omega⟩ : Fin 256) l) = cntE (tile x0 x1 x2 x3 x4 x5 x6 x7 x8 t) l := by
  pointwise [val_main_v85, val_main_v84, val_main_v83, val_main_v82]
  unfold cntE word
  rw [v81_at]

theorem v92_at (t : Fin 32) (e : Fin 32) :
    @Eq EReal (val_main_v92 (F := Ideal) x0 x1 x2 x3 x4 x5 x6 x7 x8 (ix2 t e)) (runE (tile x0 x1 x2 x3 x4 x5 x6 x7 x8 t) e) := by
  unfold runE
  pointwise [val_main_v92, val_main_v91, val_main_v90, val_main_v89, val_main_v88, val_main_v87, val_main_v86, val_main_cst_16, val_main_cst_17, val_main_cst_18]
  rw [v80_at]

theorem selB {α : Type} (P : Prop) [Decidable P] (a b : α) : Scalar.select (BitVec.ofBool (decide P)) a b = if P then a else b := by
  by_cases h : P <;> simp [h, Scalar.select]

theorem slt512 : ∀ x : Fin 512, ∀ e : Fin 512, IntOp.cmpi .slt (BitVec.ofNat 32 x.val) (BitVec.ofNat 32 e.val) = BitVec.ofBool (decide (x < e)) := by
  intro x e
  have h : ∀ y : Fin 512, (BitVec.ofNat 32 y.val).toInt = (y.val : ℤ) := by decide +kernel
  show BitVec.ofBool (decide ((BitVec.ofNat 32 x.val).toInt < (BitVec.ofNat 32 e.val).toInt)) = _
  rw [h, h]
  refine congrArg BitVec.ofBool ?_
  exact decide_eq_decide.mpr (Nat.cast_lt (α := ℤ))

theorem v100_at (t : Fin 32) (e : Fin 32) :
    @Eq EReal (val_main_v100 (F := Ideal) x0 x1 x2 x3 x4 x5 x6 x7 x8 (ix2 t e)) (startE (tile x0 x1 x2 x3 x4 x5 x6 x7 x8 t) e) := by
  unfold startE
  pointwise [val_main_v100, val_main_v99, val_main_v98, val_main_v97, val_main_v96, val_main_v95, val_main_v94, val_main_v93, val_main_v54, val_main_cst_19, val_main_cst_20, val_main_call3_v0, val_main_call3_v1, val_main_call3_v2]
  refine Finset.sum_congr rfl fun x _ => ?_
  rw [slt32, selB, v92_at]

theorem v109_at (t : Fin 32) (r : Fin 512) (e : Fin 32) :
    @Eq EReal (val_main_v109 (F := Ideal) x0 x1 x2 x3 x4 x5 x6 x7 x8 (ix3 t r e)) (beforeE (tile x0 x1 x2 x3 x4 x5 x6 x7 x8 t) r e) := by
  unfold beforeE
  pointwise [val_main_v109, val_main_v108, val_main_v107, val_main_v106, val_main_v105, val_main_v104, val_main_v103, val_main_v102, val_main_v101, val_main_cst_21, val_main_cst_22, val_main_call4_v0, val_main_call4_v1, val_main_call4_v2]
  refine Finset.sum_congr rfl fun x _ => ?_
  rw [slt512, selB, v79_at]

theorem v113_at (t : Fin 32) (r : Fin 512) (e : Fin 32) :
    @Eq EReal (val_main_v113 (F := Ideal) x0 x1 x2 x3 x4 x5 x6 x7 x8 (ix2 (⟨t.val * 512 + r.val, by omega⟩ : Fin 16384) e)) (slotE (tile x0 x1 x2 x3 x4 x5 x6 x7 x8 t) r e) := by
  have ht : ∀ h, (⟨(t.val * 512 + r.val) / 512, h⟩ : Fin 32) = t := fun h => Fin.ext (by show (t.val * 512 + r.val) / 512 = t.val; omega)
  have hr : ∀ h, (⟨(t.val * 512 + r.val) % 512, h⟩ : Fin 512) = r := fun h => Fin.ext (by show (t.val * 512 + r.val) % 512 = r.val; omega)
  unfold slotE
  pointwise [val_main_v113, val_main_v112, val_main_v111, val_main_v110]
  rw [← v109_at, ← v100_at]

theorem v123_at (i : Fin 16384) (k : Fin 4) :
    @Eq EReal (val_main_v123 (F := Ideal) x0 x1 x2 x3 x4 x5 x6 x7 x8 (ix2 i k)) (at_ (row x0 x1 x2 x3 x4 x5 x6 x7 x8 i) k.val fun e => lane ⟨e.val, by omega⟩) := by
  unfold at_ lane
  pointwise [val_main_v123, val_main_v122, val_main_v121, val_main_v120, val_main_v119, val_main_v118, val_main_v117, val_main_v116, val_main_v115, val_main_v114, val_main_cst_23, val_main_cst_24, val_main_call5_v0, val_main_call5_v1]
  refine Finset.sum_congr rfl fun x _ => ?_
  rw [v75_at, num4]
  exact if_congr (cast_iff _ _) rfl rfl

theorem v126_at (i : Fin 16384) (k : Fin 4) :
    @Eq EReal (val_main_v126 (F := Ideal) x0 x1 x2 x3 x4 x5 x6 x7 x8 (ix2 i k))
      (at_ (row x0 x1 x2 x3 x4 x5 x6 x7 x8 i) k.val fun e => val_main_v113 (F := Ideal) x0 x1 x2 x3 x4 x5 x6 x7 x8 (ix2 i e)) := by
  unfold at_
  pointwise [val_main_v126, val_main_v125, val_main_v124, val_main_v119, val_main_v118, val_main_v117, val_main_v116, val_main_v115, val_main_v114, val_main_cst_25, val_main_cst_26, val_main_call6_v0, val_main_call6_v1]
  refine Finset.sum_congr rfl fun x _ => ?_
  rw [v75_at, num4]
  exact if_congr (cast_iff _ _) rfl rfl

theorem v128_at (i : Fin 16384) (k : Fin 8) :
    val_main_v128 (F := Ideal) x0 x1 x2 x3 x4 x5 x6 x7 x8 (ix2 i k)
      = word (if h : k.val < 4 then val_main_v123 (F := Ideal) x0 x1 x2 x3 x4 x5 x6 x7 x8 (ix2 i (⟨k.val, h⟩ : Fin 4))
        else val_main_v126 (F := Ideal) x0 x1 x2 x3 x4 x5 x6 x7 x8 (ix2 i (⟨k.val - 4, by omega⟩ : Fin 4))) := by
  unfold word
  pointwise [val_main_v128, val_main_v127]

theorem v129_at (i : Fin 16384) (l : Fin 128) :
    val_main_v129 (F := Ideal) x0 x1 x2 x3 x4 x5 x6 x7 x8 (ix2 i l) = if h : l.val < 8 then val_main_v128 (F := Ideal) x0 x1 x2 x3 x4 x5 x6 x7 x8 (ix2 i (⟨l.val, h⟩ : Fin 8)) else 0#32 := by
  pointwise [val_main_v129, val_main_call7_v0, val_main_c_27]
  rfl

/-- The expert numbers and slots. -/
theorem route_at (t : Fin 32) (r : Fin 512) (l : Fin 128) :
    val_main_v129 (F := Ideal) x0 x1 x2 x3 x4 x5 x6 x7 x8 (ix2 (⟨t.val * 512 + r.val, by omega⟩ : Fin 16384) l) = routeE (tile x0 x1 x2 x3 x4 x5 x6 x7 x8 t) r l := by
  rw [v129_at]
  unfold routeE
  by_cases h8 : l.val < 8
  · rw [dif_pos h8, v128_at]
    by_cases h4 : l.val < 4
    · rw [if_pos h4, dif_pos h4, v123_at]
      rfl
    · rw [if_neg h4, if_pos h8, dif_neg h4, v126_at]
      simp only [v113_at]
      rfl
  · rw [dif_neg h8, if_neg (by omega), if_neg h8]

end Cert.Reference7Ideal.Merge

end
-- ==== Proof.RoutePieces.lean ====
/- The expert numbers, slots and counts: what the body's store of them is. -/
module

public import proofs.«01_k».proof.Proof.Gen.Kernel7Ideal.Frame
public import Idealize.ShloMosaic.Lib.Pointwise
public import Idealize.ShloMosaic.Lib.WholeRead
public import Idealize.ShloMosaic.Lib.Pipeline.ReadBack
public import Idealize.ShloMosaic.Lib.Pipeline.CanonAppend

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise

variable {F : FTy → Type} [FloatOps F] [Named F]

/-- What one grid point's body is given: the ten input blocks, through the buffers that hold them. -/
structure Env (F : FTy → Type) [FloatOps F] where
  arg1 : Memref sig .tc .vmem S512x1024 .f32
  harg1 : arg1.IsWhole
  arg2 : Memref sig .tc .vmem S512x1024 .bf16
  harg2 : arg2.IsWhole
  arg3 : Memref sig .tc .vmem S512x1024 .bf16
  harg3 : arg3.IsWhole
  arg4 : Memref sig .tc .vmem S512x1024 .bf16
  harg4 : arg4.IsWhole
  arg5 : Memref sig .tc .vmem S512x1024 .bf16
  harg5 : arg5.IsWhole
  arg6 : Memref sig .tc .vmem S1024x1024 .bf16
  harg6 : arg6.IsWhole
  arg7 : Memref sig .tc .vmem S1x1024 .f32
  harg7 : arg7.IsWhole
  arg8 : Memref sig .tc .vmem S1x1024 .f32
  harg8 : arg8.IsWhole
  arg9 : Memref sig .tc .vmem S1024x256 .bf16
  harg9 : arg9.IsWhole
  arg10 : Memref sig .tc .vmem S1x128 .f32
  harg10 : arg10.IsWhole
  x0 : Vec F S512x1024 .f32
  x1 : Vec F S512x1024 .bf16
  x2 : Vec F S512x1024 .bf16
  x3 : Vec F S512x1024 .bf16
  x4 : Vec F S512x1024 .bf16
  x5 : Vec F S1024x1024 .bf16
  x6 : Vec F S1x1024 .f32
  x7 : Vec F S1x1024 .f32
  x8 : Vec F S1024x256 .bf16
  x9 : Vec F S1x128 .f32

variable (e : Env F)

/-! ## The loads: every buffer whole -/

def rd0 : Vec F S512x1024 .f32 := View.readAt (Elt F) e.arg1.view (Rect.unit (s := S512x1024) ![0, 0] S512x1024.size inb_S512x1024_S512x1024_0_0).toLoadRect (e.harg1.unread e.x0)
def rd1 : Vec F S512x1024 .bf16 := View.readAt (Elt F) e.arg2.view (Rect.unit (s := S512x1024) ![0, 0] S512x1024.size inb_S512x1024_S512x1024_0_0).toLoadRect (e.harg2.unread e.x1)
def rd2 : Vec F S512x1024 .bf16 := View.readAt (Elt F) e.arg3.view (Rect.unit (s := S512x1024) ![0, 0] S512x1024.size inb_S512x1024_S512x1024_0_0).toLoadRect (e.harg3.unread e.x2)
def rd3 : Vec F S512x1024 .bf16 := View.readAt (Elt F) e.arg4.view (Rect.unit (s := S512x1024) ![0, 0] S512x1024.size inb_S512x1024_S512x1024_0_0).toLoadRect (e.harg4.unread e.x3)
def rd4 : Vec F S512x1024 .bf16 := View.readAt (Elt F) e.arg5.view (Rect.unit (s := S512x1024) ![0, 0] S512x1024.size inb_S512x1024_S512x1024_0_0).toLoadRect (e.harg5.unread e.x4)
def rd5 : Vec F S1024x1024 .bf16 := View.readAt (Elt F) e.arg6.view (Rect.unit (s := S1024x1024) ![0, 0] S1024x1024.size inb_S1024x1024_S1024x1024_0_0).toLoadRect (e.harg6.unread e.x5)
def rd6 : Vec F S1x1024 .f32 := View.readAt (Elt F) e.arg7.view (Rect.unit (s := S1x1024) ![0, 0] S1x1024.size inb_S1x1024_S1x1024_0_0).toLoadRect (e.harg7.unread e.x6)
def rd7 : Vec F S1x1024 .f32 := View.readAt (Elt F) e.arg8.view (Rect.unit (s := S1x1024) ![0, 0] S1x1024.size inb_S1x1024_S1x1024_0_0).toLoadRect (e.harg8.unread e.x7)

def rd8 : Vec F S1024x256 .bf16 := View.readAt (Elt F) e.arg9.view (Rect.unit (s := S1024x256) ![0, 0] S1024x256.size inb_S1024x256_S1024x256_0_0).toLoadRect (e.harg9.unread e.x8)
/-- The weights' first half again. -/
def rd8h : Vec F S1024x128 .bf16 := View.readAt (Elt F) e.arg9.view (Rect.unit (s := S1024x256) ![0, 0] S1024x128.size inb_S1024x256_S1024x128_0_0).toLoadRect (e.harg9.unread e.x8)
def rd9 : Vec F S1x128 .f32 := View.readAt (Elt F) e.arg10.view (Rect.unit (s := S1x128) ![0, 0] S1x128.size inb_S1x128_S1x128_0_0).toLoadRect (e.harg10.unread e.x9)

theorem rd0_eq : rd0 e = e.x0 := by
  funext y
  rw [rd0, Memref.IsWhole.readAt_unread]
  congr 1
  funext a
  fin_cases a <;> apply Fin.ext <;> simp

theorem rd1_eq : rd1 e = e.x1 := by
  funext y
  rw [rd1, Memref.IsWhole.readAt_unread]
  congr 1
  funext a
  fin_cases a <;> apply Fin.ext <;> simp

theorem rd2_eq : rd2 e = e.x2 := by
  funext y
  rw [rd2, Memref.IsWhole.readAt_unread]
  congr 1
  funext a
  fin_cases a <;> apply Fin.ext <;> simp

theorem rd3_eq : rd3 e = e.x3 := by
  funext y
  rw [rd3, Memref.IsWhole.readAt_unread]
  congr 1
  funext a
  fin_cases a <;> apply Fin.ext <;> simp

theorem rd4_eq : rd4 e = e.x4 := by
  funext y
  rw [rd4, Memref.IsWhole.readAt_unread]
  congr 1
  funext a
  fin_cases a <;> apply Fin.ext <;> simp

theorem rd5_eq : rd5 e = e.x5 := by
  funext y
  rw [rd5, Memref.IsWhole.readAt_unread]
  congr 1
  funext a
  fin_cases a <;> apply Fin.ext <;> simp

theorem rd6_eq : rd6 e = e.x6 := by
  funext y
  rw [rd6, Memref.IsWhole.readAt_unread]
  congr 1
  funext a
  fin_cases a <;> apply Fin.ext <;> simp

theorem rd7_eq : rd7 e = e.x7 := by
  funext y
  rw [rd7, Memref.IsWhole.readAt_unread]
  congr 1
  funext a
  fin_cases a <;> apply Fin.ext <;> simp

theorem rd8_eq : rd8 e = e.x8 := by
  funext y
  rw [rd8, Memref.IsWhole.readAt_unread]
  congr 1
  funext a
  fin_cases a <;> apply Fin.ext <;> simp

theorem rd8h_at (k : Fin 1024) (l : Fin 128) : rd8h e (ix2 k l) = e.x8 (ix2 k (⟨l.val, by omega⟩ : Fin 256)) := by
  rw [rd8h, Memref.IsWhole.readAt_unread]
  congr 1
  funext a
  fin_cases a <;> apply Fin.ext <;> simp [ix2]

theorem rd9_eq : rd9 e = e.x9 := by
  funext y
  rw [rd9, Memref.IsWhole.readAt_unread]
  congr 1
  funext a
  fin_cases a <;> apply Fin.ext <;> simp

/-! ## The stores -/

/-- The lanes' numbers. -/
def lanes : IVec S512x128 32 := iota .tc S512x128 32 [1] iota_S512x128_d1_w32

/-- The tokens before a row with each expert, from the logits' two parts and the bias. -/
def before (p q : FVec F S512x128 .f32) (b : Vec F S1x128 .f32) : FVec F S512x128 .f32 := k0_pay34 k0_pay11 (k0_pay15 p q b) (k0_pay19 p q b) (k0_pay20 p q b) (k0_pay23 p q b)

/-- The block's counts. -/
def count (p q : FVec F S512x128 .f32) (b : Vec F S1x128 .f32) : FVec F S1x128 .f32 := k0_pay35 k0_pay11 (k0_pay15 p q b) (k0_pay19 p q b) (k0_pay20 p q b) (k0_pay23 p q b)

/-- The counts with seven added. -/
def countUp (p q : FVec F S512x128 .f32) (b : Vec F S1x128 .f32) : FVec F S1x128 .f32 := k0_pay36 k0_pay11 (k0_pay15 p q b) (k0_pay19 p q b) (k0_pay20 p q b) (k0_pay23 p q b)

/-- An eighth. -/
def eighth : F .f32 := Scalar.ofBits .f32 0x3E000000#32

/-- The slots. -/
def slots (p q : FVec F S512x128 .f32) (b : Vec F S1x128 .f32) : FVec F S512x128 .f32 := k0_pay37 (before p q b) (countUp p q b) eighth

/-- The stored expert numbers and slots. -/
def stored (p q : FVec F S512x128 .f32) (b : Vec F S1x128 .f32) : IVec S512x128 32 :=
  k0_pay1 lanes
    (k0_pay41 lanes (k0_pay18 p q b) (k0_pay22 p q b) (k0_pay23 p q b) (slots p q b)
      (k0_pay38 lanes (k0_pay14 p q b) (k0_pay15 p q b) (before p q b) (countUp p q b) eighth)
      (k0_pay40 (k0_pay19 p q b) (before p q b) (countUp p q b) eighth))
    (k0_pay43 (k0_pay27 k0_pay11 (k0_pay20 p q b) (k0_pay23 p q b)) (slots p q b))
    (k0_pay44 lanes) (k0_pay45 (k0_pay26 k0_pay11 (k0_pay20 p q b) (k0_pay23 p q b)))

/-- The stored counts. -/
def storedC (p q : FVec F S512x128 .f32) (b : Vec F S1x128 .f32) : IVec S8x128 32 := k0_pay3 (count p q b)

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

theorem run_i : (kernelRun0_A c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9).2.2.1
    = [⟨Rect.unit (s := S512x128) ![0, 0] S512x128.size inb_S512x128_S512x128_0_0,
        stored (k0_pay9 (k0_pay4 (rd3 e) (rd1 e) (rd4 e) (rd2 e) (rd5 e) (rd0 e)) (rd6 e) (rd7 e) (rd8 e))
          (k0_pay10 (k0_pay4 (rd3 e) (rd1 e) (rd4 e) (rd2 e) (rd5 e) (rd0 e)) (rd6 e) (rd7 e) (rd8 e) (rd8h e)) (rd9 e)⟩] := rfl

theorem run_c : (kernelRun0_A c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9).2.2.2.2.1
    = [⟨Rect.unit (s := S8x128) ![0, 0] S8x128.size inb_S8x128_S8x128_0_0,
        storedC (k0_pay9 (k0_pay4 (rd3 e) (rd1 e) (rd4 e) (rd2 e) (rd5 e) (rd0 e)) (rd6 e) (rd7 e) (rd8 e))
          (k0_pay10 (k0_pay4 (rd3 e) (rd1 e) (rd4 e) (rd2 e) (rd5 e) (rd0 e)) (rd6 e) (rd7 e) (rd8 e) (rd8h e)) (rd9 e)⟩] := rfl

end Cert.Kernel7Ideal.Merge

end
-- ==== Proof.RouteRound.lean ====
/- The expert numbers, slots and counts: what the body stores, row by row, from the logits' parts and the bias. -/
module

public import proofs.«01_k».proof.Proof.RoutePieces
public import proofs.«01_k».proof.Proof.RouteTile

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise
open Cert.Gate (left top mx fst lane ninf_eq mx_left step_left Pick pick_iff first_eq at_ sum_pick sum_lanes word chosen countE runE beforeE startE slotE routeE cntE rank)

theorem sel {α : Type} (P : Prop) [Decidable P] (a b : α) : Scalar.select (if P then 1#1 else 0#1) a b = if P then a else b := by
  by_cases h : P <;> simp [h, Scalar.select]

theorem lt32 : ∀ l : Fin 128, IntOp.cmpi .slt (BitVec.ofNat 32 l.val) 32#32 = if l.val < 32 then 1#1 else 0#1 := by decide +kernel

theorem eq0 : ∀ l : Fin 128, IntOp.cmpi .eq (BitVec.ofNat 32 l.val) 0#32 = if l.val = 0 then 1#1 else 0#1 := by decide +kernel
theorem eq1 : ∀ l : Fin 128, IntOp.cmpi .eq (BitVec.ofNat 32 l.val) 1#32 = if l.val = 1 then 1#1 else 0#1 := by decide +kernel
theorem eq2 : ∀ l : Fin 128, IntOp.cmpi .eq (BitVec.ofNat 32 l.val) 2#32 = if l.val = 2 then 1#1 else 0#1 := by decide +kernel
theorem eq4 : ∀ l : Fin 128, IntOp.cmpi .eq (BitVec.ofNat 32 l.val) 4#32 = if l.val = 4 then 1#1 else 0#1 := by decide +kernel
theorem eq5 : ∀ l : Fin 128, IntOp.cmpi .eq (BitVec.ofNat 32 l.val) 5#32 = if l.val = 5 then 1#1 else 0#1 := by decide +kernel
theorem eq6 : ∀ l : Fin 128, IntOp.cmpi .eq (BitVec.ofNat 32 l.val) 6#32 = if l.val = 6 then 1#1 else 0#1 := by decide +kernel
theorem eq7 : ∀ l : Fin 128, IntOp.cmpi .eq (BitVec.ofNat 32 l.val) 7#32 = if l.val = 7 then 1#1 else 0#1 := by decide +kernel
theorem eq3 : ∀ l : Fin 128, IntOp.cmpi .eq (BitVec.ofNat 32 l.val) 3#32 = if l.val = 3 then 1#1 else 0#1 := by decide +kernel

variable (p q : FVec Ideal S512x128 .f32) (b : Vec Ideal S1x128 .f32)

/-- The row's logits. -/
def logit (r : Fin 512) (e : Fin 32) : EReal :=
  (p (ix2 r (⟨e.val, by omega⟩ : Fin 128)) : EReal) + (q (ix2 r (⟨e.val, by omega⟩ : Fin 128)) : EReal) + (b (ix2 0 (⟨e.val, by omega⟩ : Fin 128)) : EReal)

theorem pay12_at (r : Fin 512) (l : Fin 128) : @Eq EReal (k0_pay12 (F := Ideal) p q b (ix2 r l)) (left (logit p q b r) 0 l) := by
  rw [Cert.Gate.left_zero]
  pointwise [k0_pay12]
  rw [lt32, sel, ninf_eq]
  by_cases h : l.val < 32
  · rw [if_pos h, dif_pos h]
    rfl
  · rw [if_neg h, dif_neg h]

theorem pay13_at (r : Fin 512) : @Eq EReal (k0_pay13 (F := Ideal) p q b (ix2 r 0)) (top (logit p q b r) 0) := by
  rw [← mx_left _ 0 (by omega)]
  unfold mx
  pointwise [k0_pay13]
  simp only [pay12_at]

open scoped Classical in
theorem pay14_at (r : Fin 512) : @Eq EReal (k0_pay14 (F := Ideal) p q b (ix2 r 0)) (fst (left (logit p q b r) 0) (top (logit p q b r) 0)) := by
  unfold fst lane
  pointwise [k0_pay14, k0_pay11]
  simp only [pay12_at, pay13_at]

open scoped Classical in
theorem pay16_at (r : Fin 512) (l : Fin 128) : @Eq EReal (k0_pay16 (F := Ideal) p q b (ix2 r l)) (left (logit p q b r) 1 l) := by
  rw [← step_left _ 0 (by omega)]
  unfold lane
  pointwise [k0_pay16, k0_pay15, k0_pay11]
  rw [pay14_at, pay12_at, ninf_eq]

theorem pay17_at (r : Fin 512) : @Eq EReal (k0_pay17 (F := Ideal) p q b (ix2 r 0)) (top (logit p q b r) 1) := by
  rw [← mx_left _ 1 (by omega)]
  unfold mx
  pointwise [k0_pay17]
  simp only [pay16_at]

open scoped Classical in
theorem pay18_at (r : Fin 512) : @Eq EReal (k0_pay18 (F := Ideal) p q b (ix2 r 0)) (fst (left (logit p q b r) 1) (top (logit p q b r) 1)) := by
  unfold fst lane
  pointwise [k0_pay18, k0_pay11]
  simp only [pay16_at, pay17_at]

open scoped Classical in
theorem pay20_at (r : Fin 512) (l : Fin 128) : @Eq EReal (k0_pay20 (F := Ideal) p q b (ix2 r l)) (left (logit p q b r) 2 l) := by
  rw [← step_left _ 1 (by omega)]
  unfold lane
  pointwise [k0_pay20, k0_pay19, k0_pay11]
  rw [pay18_at, pay16_at, ninf_eq]

theorem pay21_at (r : Fin 512) : @Eq EReal (k0_pay21 (F := Ideal) p q b (ix2 r 0)) (top (logit p q b r) 2) := by
  rw [← mx_left _ 2 (by omega)]
  unfold mx
  pointwise [k0_pay21]
  simp only [pay20_at]

open scoped Classical in
theorem pay22_at (r : Fin 512) : @Eq EReal (k0_pay22 (F := Ideal) p q b (ix2 r 0)) (fst (left (logit p q b r) 2) (top (logit p q b r) 2)) := by
  unfold fst lane
  pointwise [k0_pay22, k0_pay11]
  simp only [pay20_at, pay21_at]

open scoped Classical in
theorem pay24_at (r : Fin 512) (l : Fin 128) :
    @Eq EReal (k0_pay24 (F := Ideal) (k0_pay20 p q b) (k0_pay23 p q b) (ix2 r l)) (left (logit p q b r) 3 l) := by
  rw [← step_left _ 2 (by omega)]
  unfold lane
  pointwise [k0_pay24, k0_pay23, k0_pay11]
  rw [pay22_at, pay20_at, ninf_eq]

theorem pay25_at (r : Fin 512) : @Eq EReal (k0_pay25 (F := Ideal) (k0_pay20 p q b) (k0_pay23 p q b) (ix2 r 0)) (top (logit p q b r) 3) := by
  rw [← mx_left _ 3 (by omega)]
  unfold mx
  pointwise [k0_pay25]
  simp only [pay24_at]

open scoped Classical in
theorem pay26_at (r : Fin 512) : @Eq EReal (k0_pay26 (F := Ideal) k0_pay11 (k0_pay20 p q b) (k0_pay23 p q b) (ix2 r 0)) (fst (left (logit p q b r) 3) (top (logit p q b r) 3)) := by
  unfold fst lane
  pointwise [k0_pay26, k0_pay11]
  simp only [pay24_at, pay25_at]

/-! ## The picked lanes -/

theorem pay15_bit (r : Fin 512) (l : Fin 128) : k0_pay15 (F := Ideal) p q b (ix2 r l) = BitVec.ofBool (decide (lane l = (k0_pay14 (F := Ideal) p q b (ix2 r 0) : EReal))) := by
  unfold lane
  pointwise [k0_pay15, k0_pay11]

theorem pay19_bit (r : Fin 512) (l : Fin 128) : k0_pay19 (F := Ideal) p q b (ix2 r l) = BitVec.ofBool (decide (lane l = (k0_pay18 (F := Ideal) p q b (ix2 r 0) : EReal))) := by
  unfold lane
  pointwise [k0_pay19, k0_pay11]

theorem pay23_bit (r : Fin 512) (l : Fin 128) : k0_pay23 (F := Ideal) p q b (ix2 r l) = BitVec.ofBool (decide (lane l = (k0_pay22 (F := Ideal) p q b (ix2 r 0) : EReal))) := by
  unfold lane
  pointwise [k0_pay23, k0_pay11]

theorem pay27_bit (r : Fin 512) (l : Fin 128) :
    k0_pay27 (F := Ideal) k0_pay11 (k0_pay20 p q b) (k0_pay23 p q b) (ix2 r l)
      = BitVec.ofBool (decide (lane l = (k0_pay26 (F := Ideal) k0_pay11 (k0_pay20 p q b) (k0_pay23 p q b) (ix2 r 0) : EReal))) := by
  unfold lane
  pointwise [k0_pay27, k0_pay11]

open scoped Classical in
theorem pick_sel (L : Fin 32 → EReal) (hL : ∀ e, ⊥ < L e) (k : ℕ) (hk : k < 32) (l : Fin 128) (w : BitVec 1) (y : EReal)
    (hw : w = BitVec.ofBool (decide (lane l = y))) (hy : y = fst (left L k) (top L k)) (a z : EReal) :
    Scalar.select w a z = if Pick L k l then a else z := by
  subst hw
  rw [hy]
  by_cases h : Pick L k l
  · rw [if_pos h]
    simp [(pick_iff L hL k hk l).mpr h, Scalar.select]
  · rw [if_neg h]
    simp [mt (pick_iff L hL k hk l).mp h, Scalar.select]

variable (hL : ∀ r e, ⊥ < logit p q b r e)

open scoped Classical in
include hL in
theorem sel0 (r : Fin 512) (l : Fin 128) (a z : EReal) : Scalar.select (k0_pay15 (F := Ideal) p q b (ix2 r l)) a z = if Pick (logit p q b r) 0 l then a else z :=
  pick_sel _ (hL r) 0 (by omega) l _ _ (pay15_bit p q b r l) (pay14_at p q b r) a z

open scoped Classical in
include hL in
theorem sel1 (r : Fin 512) (l : Fin 128) (a z : EReal) : Scalar.select (k0_pay19 (F := Ideal) p q b (ix2 r l)) a z = if Pick (logit p q b r) 1 l then a else z :=
  pick_sel _ (hL r) 1 (by omega) l _ _ (pay19_bit p q b r l) (pay18_at p q b r) a z

open scoped Classical in
include hL in
theorem sel2 (r : Fin 512) (l : Fin 128) (a z : EReal) : Scalar.select (k0_pay23 (F := Ideal) p q b (ix2 r l)) a z = if Pick (logit p q b r) 2 l then a else z :=
  pick_sel _ (hL r) 2 (by omega) l _ _ (pay23_bit p q b r l) (pay22_at p q b r) a z

open scoped Classical in
include hL in
theorem sel3 (r : Fin 512) (l : Fin 128) (a z : EReal) :
    Scalar.select (k0_pay27 (F := Ideal) k0_pay11 (k0_pay20 p q b) (k0_pay23 p q b) (ix2 r l)) a z = if Pick (logit p q b r) 3 l then a else z :=
  pick_sel _ (hL r) 3 (by omega) l _ _ (pay27_bit p q b r l) (pay26_at p q b r) a z

/-! ## The counts and the slots -/

theorem mark_at (v84 : FVec Ideal S512x128 .f32) (a b' d : IVec S512x128 1) (v112 : FVec Ideal S512x128 .f32) (r : Fin 512) (l : Fin 128) :
    @Eq EReal (k0_pay33 (F := Ideal) v84 a b' v112 d (ix2 r l))
      (Scalar.select (k0_pay27 (F := Ideal) v84 v112 d (ix2 r l)) 1 (Scalar.select (d (ix2 r l)) 1 (Scalar.select (b' (ix2 r l)) 1 (Scalar.select (a (ix2 r l)) 1 0)))) := by
  pointwise [k0_pay33]

/-- The row's four experts are marked. -/
theorem chosen_at (hL : ∀ r e, ⊥ < logit p q b r e) (r : Fin 512) (l : Fin 128) :
    @Eq EReal (k0_pay33 (F := Ideal) k0_pay11 (k0_pay15 p q b) (k0_pay19 p q b) (k0_pay20 p q b) (k0_pay23 p q b) (ix2 r l))
      (if h : l.val < 32 then chosen (logit p q b r) ⟨l.val, h⟩ else 0) := by
  classical
  rw [mark_at, sel3 p q b hL, sel2 p q b hL, sel1 p q b hL, sel0 p q b hL]
  by_cases h : l.val < 32
  · have hP : ∀ k, Pick (logit p q b r) k l ↔ rank (logit p q b r) ⟨l.val, h⟩ = k := fun k => ⟨fun ⟨_, e⟩ => e, fun e => ⟨h, e⟩⟩
    rw [dif_pos h]
    unfold chosen
    simp only [hP]
    generalize rank (logit p q b r) ⟨l.val, h⟩ = n
    split_ifs <;> first | rfl | (exfalso; omega)
  · have hP : ∀ k, ¬ Pick (logit p q b r) k l := fun k ⟨h', _⟩ => h h'
    rw [dif_neg h]
    simp only [hP, if_false]

include hL in
theorem count_at (l : Fin 128) : @Eq EReal (count (F := Ideal) p q b (ix2 0 l)) (if h : l.val < 32 then countE (logit p q b) ⟨l.val, h⟩ else 0) := by
  unfold count countE
  pointwise [k0_pay35]
  simp only [chosen_at p q b hL]
  by_cases h : l.val < 32
  · simp only [dif_pos h]
  · simp only [dif_neg h, Finset.sum_const_zero]

include hL in
/-- The stored counts. -/
theorem storedC_at (z : Fin 8) (l : Fin 128) : storedC (F := Ideal) p q b (ix2 z l) = cntE (logit p q b) l := by
  unfold storedC cntE word
  rw [← count_at p q b hL]
  pointwise [k0_pay3]

theorem countUp_at (l : Fin 128) : @Eq EReal (countUp (F := Ideal) p q b (ix2 0 l)) ((count (F := Ideal) p q b (ix2 0 l) : EReal) + Ideal.ofBits .f32 0x40E00000#32) := by
  unfold countUp count
  pointwise [k0_pay36]

theorem eighth_eq : Ideal.ofBits .f32 0x3E000000#32 = ((1 / 8 : ℝ) : EReal) := by
  simp [Ideal.ofBits, Ideal.ieee, -EReal.coe_mul]
  try norm_num

theorem eight_eq : Ideal.ofBits .f32 0x41000000#32 = ((8 : ℝ) : EReal) := by
  simp [Ideal.ofBits, Ideal.ieee, -EReal.coe_mul]
  try norm_num

theorem seven_eq : Ideal.ofBits .f32 0x40E00000#32 = ((7 : ℝ) : EReal) := by
  simp [Ideal.ofBits, Ideal.ieee, -EReal.coe_mul]
  try norm_num

include hL in
/-- A lane's count rounded up to eight. -/
theorem run_at (l : Fin 128) :
    Ideal.liftRound Int.floor ((countUp (F := Ideal) p q b (ix2 0 l) : EReal) * Ideal.ofBits .f32 0x3E000000#32) * Ideal.ofBits .f32 0x41000000#32
      = if h : l.val < 32 then runE (logit p q b) ⟨l.val, h⟩ else 0 := by
  rw [countUp_at, count_at p q b hL]
  by_cases h : l.val < 32
  · rw [dif_pos h, dif_pos h]
    unfold runE
    rw [eight_eq, eighth_eq, Ideal.div_coe (by norm_num)]
  · rw [dif_neg h, dif_neg h, zero_add, seven_eq, eighth_eq, ← EReal.coe_mul]
    have hf : Ideal.liftRound Int.floor ((7 * (1 / 8) : ℝ) : EReal) = (((⌊(7 * (1 / 8) : ℝ)⌋ : ℤ) : ℝ) : EReal) := rfl
    have hz : ⌊(7 * (1 / 8) : ℝ)⌋ = 0 := by rw [Int.floor_eq_zero_iff]; constructor <;> norm_num
    rw [hf, hz]
    simp

theorem tri_at (C : FVec Ideal S512x128 .f32) (v84 : FVec Ideal S512x128 .f32) (a b' d : IVec S512x128 1) (v112 : FVec Ideal S512x128 .f32)
    (hC : k0_pay33 (F := Ideal) v84 a b' v112 d = C) (r : Fin 512) (l : Fin 128) :
    @Eq EReal (k0_pay34 (F := Ideal) v84 a b' v112 d (ix2 r l)) (∑ x : Fin 512, Scalar.select (IntOp.cmpi .sgt (BitVec.ofNat 32 r.val) (BitVec.ofNat 32 x.val)) (C (ix2 x l) : EReal) 0) := by
  unfold k0_pay34
  rw [hC]
  pointwise []

theorem selB {α : Type} (P : Prop) [Decidable P] (a b : α) : Scalar.select (BitVec.ofBool (decide P)) a b = if P then a else b := by
  by_cases h : P <;> simp [h, Scalar.select]

theorem sgt512 (r x : Fin 512) : IntOp.cmpi .sgt (BitVec.ofNat 32 r.val) (BitVec.ofNat 32 x.val) = BitVec.ofBool (decide (x < r)) := by
  have h : ∀ y : Fin 512, (BitVec.ofNat 32 y.val).toInt = (y.val : ℤ) := by decide +kernel
  show BitVec.ofBool (decide ((BitVec.ofNat 32 x.val).toInt < (BitVec.ofNat 32 r.val).toInt)) = _
  rw [h, h]
  refine congrArg BitVec.ofBool ?_
  exact decide_eq_decide.mpr (Nat.cast_lt (α := ℤ))

theorem slt128 (x l : ℕ) (hx : x < 128) (hl : l < 128) : IntOp.cmpi .slt (BitVec.ofNat 32 x) (BitVec.ofNat 32 l) = BitVec.ofBool (decide (x < l)) := by
  have h : ∀ y : Fin 128, (BitVec.ofNat 32 y.val).toInt = (y.val : ℤ) := by decide +kernel
  have h1 := h ⟨x, hx⟩
  have h2 := h ⟨l, hl⟩
  show BitVec.ofBool (decide ((BitVec.ofNat 32 x).toInt < (BitVec.ofNat 32 l).toInt)) = _
  rw [h1, h2]
  refine congrArg BitVec.ofBool ?_
  exact decide_eq_decide.mpr (Nat.cast_lt (α := ℤ))

include hL in
theorem before_at (r : Fin 512) (e : Fin 32) : @Eq EReal (before (F := Ideal) p q b (ix2 r (⟨e.val, by omega⟩ : Fin 128))) (beforeE (logit p q b) r e) := by
  unfold before beforeE
  rw [tri_at _ _ _ _ _ _ rfl]
  refine Finset.sum_congr rfl fun x _ => ?_
  rw [sgt512, selB, chosen_at p q b hL, dif_pos e.isLt]

theorem slots_raw (u : FVec Ideal S512x128 .f32) (v : FVec Ideal S1x128 .f32) (r : Fin 512) (l : Fin 128) :
    @Eq EReal (k0_pay37 (F := Ideal) u v eighth (ix2 r l))
      ((u (ix2 r l) : EReal) + ∑ x : Fin 128, Scalar.select (IntOp.cmpi .slt (BitVec.ofNat 32 x.val) (BitVec.ofNat 32 l.val))
          (Ideal.liftRound Int.floor ((v (ix2 0 x) : EReal) * Ideal.ofBits .f32 0x3E000000#32) * Ideal.ofBits .f32 0x41000000#32) 0) := by
  unfold eighth
  pointwise [k0_pay37]

include hL in
/-- The slot of a row with an expert. -/
theorem slots_at (r : Fin 512) (e : Fin 32) :
    @Eq EReal (k0_pay37 (F := Ideal) (before p q b) (countUp p q b) eighth (ix2 r (⟨e.val, by omega⟩ : Fin 128))) (slotE (logit p q b) r e) := by
  rw [slots_raw, before_at p q b hL]
  unfold slotE startE
  refine congrArg _ ?_
  simp only [run_at p q b hL]
  rw [sum_lanes]
  · refine Finset.sum_congr rfl fun x _ => ?_
    rw [dif_pos x.isLt]
    show Scalar.select (IntOp.cmpi .slt (BitVec.ofNat 32 x.val) (BitVec.ofNat 32 e.val)) (runE (logit p q b) x) 0 = _
    rw [slt128 x.val e.val (by omega) (by omega), selB]
    exact if_congr Iff.rfl rfl rfl
  · intro l hl
    rw [dif_neg (by omega), slt128 l.val e.val (by omega) (by omega), selB, ite_self]

open scoped Classical in
include hL in
/-- The picked lane's slot. -/
theorem slot_sum (k : ℕ) (hk : k < 32) (r : Fin 512) :
    (∑ x : Fin 128, if Pick (logit p q b r) k x then (k0_pay37 (F := Ideal) (before p q b) (countUp p q b) eighth (ix2 r x) : EReal) else 0)
      = at_ (logit p q b r) k fun e => slotE (logit p q b) r e := by
  refine (sum_pick _ k hk fun x => (k0_pay37 (F := Ideal) (before p q b) (countUp p q b) eighth (ix2 r x) : EReal)).trans ?_
  exact congrArg _ (funext fun e => slots_at p q b hL r e)

end Cert.Kernel7Ideal.Merge

end
-- ==== Proof.RouteStored.lean ====
/- The stored expert numbers and slots, row by row. -/
module

public import proofs.«01_k».proof.Proof.RouteRound

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise
open Cert.Gate (left top mx fst lane ninf_eq mx_left step_left Pick pick_iff first_eq at_ sum_pick sum_lanes word chosen countE runE beforeE startE slotE routeE cntE rank)

variable (p q : FVec Ideal S512x128 .f32) (b : Vec Ideal S1x128 .f32) (hL : ∀ r e, ⊥ < logit p q b r e)

/-- The lanes' order: the experts first, then the slots. -/
theorem order {α : Type} [OfNat α 0] (A B : ℕ → α) (n : ℕ) :
    (if n = 7 then B 3 else if n = 3 then A 3 else if n = 6 then B 2 else if n = 2 then A 2 else if n = 5 then B 1 else if n = 1 then A 1 else if n = 4 then B 0 else if n = 0 then A 0 else 0)
      = if n < 4 then A n else if n < 8 then B (n - 4) else 0 := by
  by_cases h8 : n < 8
  · interval_cases n <;> simp
  · simp [show ¬ n < 8 by omega, show ¬ n < 4 by omega, show n ≠ 7 by omega, show n ≠ 6 by omega, show n ≠ 5 by omega, show n ≠ 4 by omega,
      show n ≠ 3 by omega, show n ≠ 2 by omega, show n ≠ 1 by omega, show n ≠ 0 by omega]

theorem stored_raw (r : Fin 512) (l : Fin 128) : stored (F := Ideal) p q b (ix2 r l)
    = if l.val = 7 then word (∑ x : Fin 128, Scalar.select (k0_pay27 (F := Ideal) k0_pay11 (k0_pay20 p q b) (k0_pay23 p q b) (ix2 r x)) (k0_pay37 (F := Ideal) (before p q b) (countUp p q b) eighth (ix2 r x) : EReal) 0)
      else if l.val = 3 then word (k0_pay26 (F := Ideal) k0_pay11 (k0_pay20 p q b) (k0_pay23 p q b) (ix2 r 0))
      else if l.val = 6 then word (∑ x : Fin 128, Scalar.select (k0_pay23 (F := Ideal) p q b (ix2 r x)) (k0_pay37 (F := Ideal) (before p q b) (countUp p q b) eighth (ix2 r x) : EReal) 0)
      else if l.val = 2 then word (k0_pay22 (F := Ideal) p q b (ix2 r 0))
      else if l.val = 5 then word (∑ x : Fin 128, Scalar.select (k0_pay19 (F := Ideal) p q b (ix2 r x)) (k0_pay37 (F := Ideal) (before p q b) (countUp p q b) eighth (ix2 r x) : EReal) 0)
      else if l.val = 1 then word (k0_pay18 (F := Ideal) p q b (ix2 r 0))
      else if l.val = 4 then word (∑ x : Fin 128, Scalar.select (k0_pay15 (F := Ideal) p q b (ix2 r x)) (k0_pay37 (F := Ideal) (before p q b) (countUp p q b) eighth (ix2 r x) : EReal) 0)
      else if l.val = 0 then word (k0_pay14 (F := Ideal) p q b (ix2 r 0)) else 0#32 := by
  pointwise [stored, k0_pay1, k0_pay41, k0_pay38, k0_pay40, k0_pay43, k0_pay44, k0_pay45, lanes]
  rw [eq0, eq1, eq2, eq3, eq4, eq5, eq6, eq7]
  simp only [sel]
  rfl

include hL in
/-- The stored expert numbers and slots. -/
theorem stored_at (r : Fin 512) (l : Fin 128) : stored (F := Ideal) p q b (ix2 r l) = routeE (logit p q b) r l := by
  classical
  rw [stored_raw, pay26_at, pay22_at, pay18_at, pay14_at]
  simp only [sel3 p q b hL, sel2 p q b hL, sel1 p q b hL, sel0 p q b hL]
  rw [slot_sum p q b hL 3 (by omega), slot_sum p q b hL 2 (by omega), slot_sum p q b hL 1 (by omega), slot_sum p q b hL 0 (by omega),
    first_eq _ (hL r) 3 (by omega), first_eq _ (hL r) 2 (by omega), first_eq _ (hL r) 1 (by omega), first_eq _ (hL r) 0 (by omega)]
  unfold routeE
  generalize hA : (fun k : ℕ => word (at_ (logit p q b r) k fun e => lane ⟨e.val, by omega⟩)) = A
  generalize hB : (fun k : ℕ => word (at_ (logit p q b r) k fun e => slotE (logit p q b) r e)) = B
  have hA' : ∀ k : ℕ, word (at_ (logit p q b r) k fun e => lane ⟨e.val, by omega⟩) = A k := fun k => congrFun hA k
  have hB' : ∀ k : ℕ, word (at_ (logit p q b r) k fun e => slotE (logit p q b) r e) = B k := fun k => congrFun hB k
  simp only [hA', hB']
  clear hA hB hA' hB' hL
  generalize l.val = n
  exact order A B n

end Cert.Kernel7Ideal.Merge

end
-- ==== Proof.RouteBlock.lean ====
/- The expert numbers, slots and counts: what the body leaves in their blocks, row by row. -/
module

public import proofs.«01_k».proof.Proof.RouteStored

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise

/-! ## One row -/

/-- A gate: half a hyperbolic tangent, raised by a half. -/
def gate (x : EReal) : EReal := Ideal.ofBits .f32 0x3F000000#32 * Ideal.tanh (Ideal.ofBits .f32 0x3F000000#32 * x) + Ideal.ofBits .f32 0x3F000000#32

/-- The weight of the residual. -/
def alpha : EReal := ((Real.sqrt (Real.sqrt 2) : ℝ) : EReal)

/-- The merged row before its norm: the residual and the gated branches projected. -/
def merged (x gm om gr ore : Fin 1024 → EReal) (w : Fin 1024 → Fin 1024 → EReal) (n : Fin 1024) : EReal :=
  alpha * x n + ∑ k : Fin 1024, (gate (gm k) * om k + gate (gr k) * ore k) * w k n

/-- A row's mean. -/
def mean (y : Fin 1024 → EReal) : EReal := Ideal.div (∑ k : Fin 1024, y k) (Ideal.ofBits .f32 0x44800000#32)

/-- A row normalised, weighted and shifted. -/
def normed (y g b : Fin 1024 → EReal) (n : Fin 1024) : EReal :=
  (y n - mean y) * Ideal.rsqrt (mean (fun k => (y k - mean y) * (y k - mean y)) + Ideal.ofBits .f32 0x3727C5AC#32) * g n + b n

/-- A row's logits: its product with the weights' first half, with their second half and what the row's first half leaves, and the bias. -/
def logits (h : Fin 1024 → EReal) (w : Fin 1024 → Fin 256 → EReal) (b : Fin 128 → EReal) (e : Fin 32) : EReal :=
  (∑ k : Fin 1024, h k * w k ⟨e.val, by omega⟩)
    + ((∑ k : Fin 1024, h k * w k ⟨128 + e.val, by omega⟩) + ∑ k : Fin 1024, (h k - h k) * w k ⟨e.val, by omega⟩)
    + b ⟨e.val, by omega⟩

/-! ## The stored values at an index -/

theorem merged_at (x0 : Vec Ideal S512x1024 .f32) (x1 x2 x3 x4 : Vec Ideal S512x1024 .bf16) (x5 : Vec Ideal S1024x1024 .bf16) (r : Fin 512) (n : Fin 1024) :
    @Eq EReal (k0_pay4 (F := Ideal) x3 x1 x4 x2 x5 x0 (ix2 r n))
      (merged (fun j => x0 (ix2 r j)) (fun j => x3 (ix2 r j)) (fun j => x1 (ix2 r j)) (fun j => x4 (ix2 r j)) (fun j => x2 (ix2 r j)) (fun k n => x5 (ix2 k n)) n) := by
  have : @Eq EReal (k0_pay4 (F := Ideal) x3 x1 x4 x2 x5 x0 (ix2 r n))
      ((Named.named (F := Ideal) (φ := .f32) κ "alpha" 0x3F9837F0#32 : EReal) * (x0 (ix2 r n) : EReal)
        + ∑ k : Fin 1024, (gate (x3 (ix2 r k)) * (x1 (ix2 r k) : EReal) + gate (x4 (ix2 r k)) * (x2 (ix2 r k) : EReal)) * (x5 (ix2 k n) : EReal)) := by
    unfold gate
    pointwise [k0_pay4]
  exact this

theorem normed_at (y : FVec Ideal S512x1024 .f32) (x6 x7 : Vec Ideal S1x1024 .f32) (r : Fin 512) (n : Fin 1024) :
    @Eq EReal (k0_pay5 (F := Ideal) y x6 x7 (ix2 r n)) (normed (fun j => y (ix2 r j)) (fun j => x6 (ix2 0 j)) (fun j => x7 (ix2 0 j)) n) := by
  unfold normed mean
  pointwise [k0_pay5]

theorem high_at (y : FVec Ideal S512x1024 .f32) (x6 x7 : Vec Ideal S1x1024 .f32) (x8 : Vec Ideal S1024x256 .bf16) (r : Fin 512) (l : Fin 128) :
    @Eq EReal (k0_pay9 (F := Ideal) y x6 x7 x8 (ix2 r l)) (∑ k : Fin 1024, (k0_pay5 (F := Ideal) y x6 x7 (ix2 r k) : EReal) * (x8 (ix2 k (⟨l.val, by omega⟩ : Fin 256)) : EReal)) := by
  pointwise [k0_pay9, k0_pay8, k0_pay7]

theorem low_at (y : FVec Ideal S512x1024 .f32) (x6 x7 : Vec Ideal S1x1024 .f32) (x8 : Vec Ideal S1024x256 .bf16) (x8h : Vec Ideal S1024x128 .bf16) (r : Fin 512) (l : Fin 128) :
    @Eq EReal (k0_pay10 (F := Ideal) y x6 x7 x8 x8h (ix2 r l))
      ((∑ k : Fin 1024, (k0_pay5 (F := Ideal) y x6 x7 (ix2 r k) : EReal) * (x8 (ix2 k (⟨128 + l.val, by omega⟩ : Fin 256)) : EReal))
        + ∑ k : Fin 1024, ((k0_pay5 (F := Ideal) y x6 x7 (ix2 r k) : EReal) - (k0_pay5 (F := Ideal) y x6 x7 (ix2 r k) : EReal)) * (x8h (ix2 k l) : EReal)) := by
  pointwise [k0_pay10, k0_pay8, k0_pay7]

/-! ## The blocks -/

variable (e : Env Ideal)

/-- The block's merged rows. -/
def yr (r : Fin 512) : Fin 1024 → EReal :=
  merged (fun j => e.x0 (ix2 r j)) (fun j => e.x3 (ix2 r j)) (fun j => e.x1 (ix2 r j)) (fun j => e.x4 (ix2 r j)) (fun j => e.x2 (ix2 r j)) (fun k n => e.x5 (ix2 k n))
abbrev gr : Fin 1024 → EReal := fun j => e.x6 (ix2 0 j)
abbrev br : Fin 1024 → EReal := fun j => e.x7 (ix2 0 j)

theorem h_at (r : Fin 512) (n : Fin 1024) :
    @Eq EReal (k0_pay5 (F := Ideal) (k0_pay4 e.x3 e.x1 e.x4 e.x2 e.x5 e.x0) e.x6 e.x7 (ix2 r n)) (normed (yr e r) (gr e) (br e) n) := by
  rw [normed_at]
  have hv : (fun j : Fin 1024 => (k0_pay4 (F := Ideal) e.x3 e.x1 e.x4 e.x2 e.x5 e.x0 (ix2 r j) : EReal)) = yr e r := funext fun j => merged_at _ _ _ _ _ _ r j
  rw [hv]

abbrev wr : Fin 1024 → Fin 256 → EReal := fun k l => e.x8 (ix2 k l)
abbrev cr : Fin 128 → EReal := fun l => e.x9 (ix2 0 l)

theorem logit_eq (r : Fin 512) :
    logit (k0_pay9 (F := Ideal) (k0_pay4 e.x3 e.x1 e.x4 e.x2 e.x5 e.x0) e.x6 e.x7 e.x8) (k0_pay10 (F := Ideal) (k0_pay4 e.x3 e.x1 e.x4 e.x2 e.x5 e.x0) e.x6 e.x7 e.x8 (rd8h e)) e.x9 r
      = logits (normed (yr e r) (gr e) (br e)) (wr e) (cr e) := by
  funext f
  unfold logit logits
  rw [high_at, low_at]
  simp only [h_at, rd8h_at]

/-- The block's logits. -/
def lB (r : Fin 512) : Fin 32 → EReal := logits (normed (yr e r) (gr e) (br e)) (wr e) (cr e)

theorem logit_all :
    logit (k0_pay9 (F := Ideal) (k0_pay4 e.x3 e.x1 e.x4 e.x2 e.x5 e.x0) e.x6 e.x7 e.x8) (k0_pay10 (F := Ideal) (k0_pay4 e.x3 e.x1 e.x4 e.x2 e.x5 e.x0) e.x6 e.x7 e.x8 (rd8h e)) e.x9 = lB e :=
  funext fun r => logit_eq e r

def iB : Vec Ideal S512x128 .i32 := fun y => Cert.Gate.routeE (lB e) (y 0) (y 1)

def cB : Vec Ideal S8x128 .i32 := fun y => Cert.Gate.cntE (lB e) (y 1)

variable (hL : ∀ r f, ⊥ < lB e r f)

include hL in
theorem i_piece (hb : ∀ a : Fin 2, (![0, 0] : Fin 2 → ℕ) a + S512x128.size a ≤ S512x128.size a) (x : S512x128.Idx) :
    stored (F := Ideal) (k0_pay9 (k0_pay4 e.x3 e.x1 e.x4 e.x2 e.x5 e.x0) e.x6 e.x7 e.x8) (k0_pay10 (k0_pay4 e.x3 e.x1 e.x4 e.x2 e.x5 e.x0) e.x6 e.x7 e.x8 (rd8h e)) e.x9 x
      = iB e ((Rect.unit (s := S512x128) ![0, 0] S512x128.size hb).emb x) := by
  obtain ⟨r, d, rfl⟩ : ∃ (r : Fin 512) (d : Fin 128), x = ix2 r d := ⟨x 0, x 1, eq_ix2 x⟩
  have ei : (Rect.unit (s := S512x128) ![0, 0] S512x128.size hb).emb (ix2 r d) = ix2 r d := by
    funext a
    fin_cases a <;> apply Fin.ext <;> simp [ix2]
  rw [stored_at _ _ _ (by rw [logit_all]; exact hL), ei, logit_all]
  rfl

include hL in
theorem c_piece (hb : ∀ a : Fin 2, (![0, 0] : Fin 2 → ℕ) a + S8x128.size a ≤ S8x128.size a) (x : S8x128.Idx) :
    storedC (F := Ideal) (k0_pay9 (k0_pay4 e.x3 e.x1 e.x4 e.x2 e.x5 e.x0) e.x6 e.x7 e.x8) (k0_pay10 (k0_pay4 e.x3 e.x1 e.x4 e.x2 e.x5 e.x0) e.x6 e.x7 e.x8 (rd8h e)) e.x9 x
      = cB e ((Rect.unit (s := S8x128) ![0, 0] S8x128.size hb).emb x) := by
  obtain ⟨r, d, rfl⟩ : ∃ (r : Fin 8) (d : Fin 128), x = ix2 r d := ⟨x 0, x 1, eq_ix2 x⟩
  have ei : (Rect.unit (s := S8x128) ![0, 0] S8x128.size hb).emb (ix2 r d) = ix2 r d := by
    funext a
    fin_cases a <;> apply Fin.ext <;> simp [ix2]
  rw [storedC_at _ _ _ (by rw [logit_all]; exact hL), ei, logit_all]
  rfl

variable (c : Dev nD) (i : grid0.Coords) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole)

include hL in
theorem out_i : out0_A_12 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 = iB e := by
  refine (View.read_writes_junk_eq_canon _ _).trans ?_
  funext y
  have hc := cover0_A_12 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 y
  rw [run_i] at hc ⊢
  rw [rd0_eq, rd1_eq, rd2_eq, rd3_eq, rd4_eq, rd5_eq, rd6_eq, rd7_eq, rd8_eq, rd9_eq] at hc ⊢
  rw [← List.append_nil (_ :: _)]
  refine View.canon_append_of_pieces (iB e) [] _ ?_ y hc
  intro p hp x
  simp only [List.mem_cons, List.not_mem_nil, or_false] at hp
  subst hp
  exact i_piece e hL inb_S512x128_S512x128_0_0 x

include hL in
theorem out_c : out0_A_14 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 = cB e := by
  refine (View.read_writes_junk_eq_canon _ _).trans ?_
  funext y
  have hc := cover0_A_14 (F := Ideal) c i e.arg1 e.harg1 e.arg2 e.harg2 e.arg3 e.harg3 e.arg4 e.harg4 e.arg5 e.harg5 e.arg6 e.harg6 e.arg7 e.harg7 e.arg8 e.harg8 e.arg9 e.harg9 e.arg10 e.harg10 arg11 harg11 arg12 harg12 arg13 harg13 arg14 harg14 arg15 harg15 e.x0 e.x1 e.x2 e.x3 e.x4 e.x5 e.x6 e.x7 e.x8 e.x9 y
  rw [run_c] at hc ⊢
  rw [rd0_eq, rd1_eq, rd2_eq, rd3_eq, rd4_eq, rd5_eq, rd6_eq, rd7_eq, rd8_eq, rd9_eq] at hc ⊢
  rw [← List.append_nil (_ :: _)]
  refine View.canon_append_of_pieces (cB e) [] _ ?_ y hc
  intro p hp x
  simp only [List.mem_cons, List.not_mem_nil, or_false] at hp
  subst hp
  exact c_piece e hL inb_S8x128_S8x128_0_0 x

end Cert.Kernel7Ideal.Merge

end
-- ==== Proof.RouteArray.lean ====
/- The expert numbers, slots and counts: the result arrays after the launch, from the arrays the kernel is given. -/
module

public import proofs.«01_k».proof.Proof.RouteBlock
public import proofs.«01_k».proof.Proof.Gen.Kernel7Ideal.Value
public import Idealize.ShloMosaic.Lib.Pipeline.ValueKit

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

/-- What the body meets at grid point `t`. -/
def env (t : Fin cfg0.N) : Env Ideal where
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  x0 := iblk m c 0 t
  x1 := iblk m c 1 t
  x2 := iblk m c 2 t
  x3 := X0_3 m c t
  x4 := X0_4 m c t
  x5 := iblk m c 5 t
  x6 := iblk m c 6 t
  x7 := iblk m c 7 t
  x8 := iblk m c 8 t
  x9 := iblk m c 9 t

theorem out_i_args (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1x1024 .f32) (x7 : Vec Ideal S1x1024 .f32) (x8 : Vec Ideal S1024x256 .bf16) (x9 : Vec Ideal S1x128 .f32) (hL : ∀ r f, ⊥ < lB ⟨arg1, harg1, arg2, harg2, arg3, harg3, arg4, harg4, arg5, harg5, arg6, harg6, arg7, harg7, arg8, harg8, arg9, harg9, arg10, harg10, x0, x1, x2, x3, x4, x5, x6, x7, x8, x9⟩ r f) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = iB ⟨arg1, harg1, arg2, harg2, arg3, harg3, arg4, harg4, arg5, harg5, arg6, harg6, arg7, harg7, arg8, harg8, arg9, harg9, arg10, harg10, x0, x1, x2, x3, x4, x5, x6, x7, x8, x9⟩ :=
  out_i ⟨arg1, harg1, arg2, harg2, arg3, harg3, arg4, harg4, arg5, harg5, arg6, harg6, arg7, harg7, arg8, harg8, arg9, harg9, arg10, harg10, x0, x1, x2, x3, x4, x5, x6, x7, x8, x9⟩ hL c i arg11 harg11 arg12 harg12 arg13 harg13 arg14 harg14 arg15 harg15

theorem after_i (t : Fin cfg0.N) (hL : ∀ r f, ⊥ < lB (env m c t) r f) : (dats m 0 c).after 12 t = iB (env m c t) := by
  rw [after0_12]
  simp only [outsAt0]
  refine (out_i_args c _ _ _ _ _ _ _ _ _ _ _ _ _ _ _ _ _ _ _ _ _ _ _ _ _ _ _ _ _ _ _ _ _ _ _ _ _ _ _ _ _ ?_).trans rfl
  exact hL

theorem out_c_args (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x256 .bf16) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x128 .i32) (harg13 : arg13.IsWhole) (arg14 : Memref sig .tc .vmem S512x128 .f32) (harg14 : arg14.IsWhole) (arg15 : Memref sig .tc .vmem S8x128 .i32) (harg15 : arg15.IsWhole) (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1x1024 .f32) (x7 : Vec Ideal S1x1024 .f32) (x8 : Vec Ideal S1024x256 .bf16) (x9 : Vec Ideal S1x128 .f32) (hL : ∀ r f, ⊥ < lB ⟨arg1, harg1, arg2, harg2, arg3, harg3, arg4, harg4, arg5, harg5, arg6, harg6, arg7, harg7, arg8, harg8, arg9, harg9, arg10, harg10, x0, x1, x2, x3, x4, x5, x6, x7, x8, x9⟩ r f) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = cB ⟨arg1, harg1, arg2, harg2, arg3, harg3, arg4, harg4, arg5, harg5, arg6, harg6, arg7, harg7, arg8, harg8, arg9, harg9, arg10, harg10, x0, x1, x2, x3, x4, x5, x6, x7, x8, x9⟩ :=
  out_c ⟨arg1, harg1, arg2, harg2, arg3, harg3, arg4, harg4, arg5, harg5, arg6, harg6, arg7, harg7, arg8, harg8, arg9, harg9, arg10, harg10, x0, x1, x2, x3, x4, x5, x6, x7, x8, x9⟩ hL c i arg11 harg11 arg12 harg12 arg13 harg13 arg14 harg14 arg15 harg15

theorem after_c (t : Fin cfg0.N) (hL : ∀ r f, ⊥ < lB (env m c t) r f) : (dats m 0 c).after 14 t = cB (env m c t) := by
  rw [after0_14]
  simp only [outsAt0]
  refine (out_c_args c _ _ _ _ _ _ _ _ _ _ _ _ _ _ _ _ _ _ _ _ _ _ _ _ _ _ _ _ _ _ _ _ _ _ _ _ _ _ _ _ _ ?_).trans rfl
  exact hL

/-- The windows' blocks: point `t` is at rows `512 t ..`, its gates being blocks 4 and 5 of the projection's columns. -/
theorem index_all : ∀ t : Fin grid0.N,
    win0_0.index t = ![t.val, 0] ∧ win0_1.index t = ![t.val, 0] ∧ win0_2.index t = ![t.val, 0] ∧ win0_3.index t = ![t.val, 4]
    ∧ win0_4.index t = ![t.val, 5] ∧ win0_5.index t = ![0, 0] ∧ win0_6.index t = ![0, 0] ∧ win0_7.index t = ![0, 0]
    ∧ win0_8.index t = ![0, 0] ∧ win0_9.index t = ![0, 0] ∧ win0_12.index t = ![t.val, 0] ∧ win0_14.index t = ![t.val, 0] := by decide +kernel

/-! ## The arrays the kernel is given, row by row -/

def X (i : Fin 16384) : Fin 1024 → EReal := fun j => V m c main_v0 (ix2 i j)
def OM (i : Fin 16384) : Fin 1024 → EReal := fun j => V m c main_v1 (ix2 i j)
def OR (i : Fin 16384) : Fin 1024 → EReal := fun j => V m c main_v2 (ix2 i j)
def GM (i : Fin 16384) : Fin 1024 → EReal := fun j => V m c main_v10 (ix2 i (⟨4096 + j.val, by omega⟩ : Fin 6912))
def GR (i : Fin 16384) : Fin 1024 → EReal := fun j => V m c main_v10 (ix2 i (⟨5120 + j.val, by omega⟩ : Fin 6912))
def W : Fin 1024 → Fin 1024 → EReal := fun k n => V m c main_v11 (ix2 k n)
def G : Fin 1024 → EReal := fun j => V m c main_v12 (ix2 (0 : Fin 1) j)
def B : Fin 1024 → EReal := fun j => V m c main_v13 (ix2 (0 : Fin 1) j)
def R : Fin 1024 → Fin 256 → EReal := fun k l => V m c main_v21 (ix2 k l)
def C : Fin 128 → EReal := fun l => V m c main_v26 (ix2 (0 : Fin 1) l)

variable (t : Fin cfg0.N)

theorem x_eq (r : Fin 512) (i : Fin 16384) (hi : i.val = t.val * 512 + r.val) : (fun j => (env m c t).x0 (ix2 r j) : Fin 1024 → EReal) = X m c i := by
  funext j
  show iblk m c 0 t (ix2 r j) = V m c main_v0 (ix2 i j)
  blk_ext [iblk, index_all, hi]

theorem om_eq (r : Fin 512) (i : Fin 16384) (hi : i.val = t.val * 512 + r.val) : (fun j => (env m c t).x1 (ix2 r j) : Fin 1024 → EReal) = OM m c i := by
  funext j
  show iblk m c 1 t (ix2 r j) = V m c main_v1 (ix2 i j)
  blk_ext [iblk, index_all, hi]

theorem or_eq (r : Fin 512) (i : Fin 16384) (hi : i.val = t.val * 512 + r.val) : (fun j => (env m c t).x2 (ix2 r j) : Fin 1024 → EReal) = OR m c i := by
  funext j
  show iblk m c 2 t (ix2 r j) = V m c main_v2 (ix2 i j)
  blk_ext [iblk, index_all, hi]

theorem gm_eq (r : Fin 512) (i : Fin 16384) (hi : i.val = t.val * 512 + r.val) : (fun j => (env m c t).x3 (ix2 r j) : Fin 1024 → EReal) = GM m c i := by
  funext j
  show X0_3 m c t (ix2 r j) = V m c main_v10 (ix2 i (⟨4096 + j.val, by omega⟩ : Fin 6912))
  unfold X0_3 Window.fill
  rw [dif_pos (moved0_3 t _)]
  blk_ext [iblk, index_all, hi]

theorem gr_eq (r : Fin 512) (i : Fin 16384) (hi : i.val = t.val * 512 + r.val) : (fun j => (env m c t).x4 (ix2 r j) : Fin 1024 → EReal) = GR m c i := by
  funext j
  show X0_4 m c t (ix2 r j) = V m c main_v10 (ix2 i (⟨5120 + j.val, by omega⟩ : Fin 6912))
  unfold X0_4 Window.fill
  rw [dif_pos (moved0_4 t _)]
  blk_ext [iblk, index_all, hi]

theorem w_eq : (fun k n => (env m c t).x5 (ix2 k n) : Fin 1024 → Fin 1024 → EReal) = W m c := by
  funext k n
  show iblk m c 5 t (ix2 k n) = V m c main_v11 (ix2 k n)
  blk_ext [iblk, index_all]

theorem g_eq : gr (env m c t) = G m c := by
  funext j
  show iblk m c 6 t (ix2 (0 : Fin 1) j) = V m c main_v12 (ix2 (0 : Fin 1) j)
  blk_ext [iblk, index_all]

theorem b_eq : br (env m c t) = B m c := by
  funext j
  show iblk m c 7 t (ix2 (0 : Fin 1) j) = V m c main_v13 (ix2 (0 : Fin 1) j)
  blk_ext [iblk, index_all]

theorem r_eq : wr (env m c t) = R m c := by
  funext k l
  show iblk m c 8 t (ix2 k l) = V m c main_v21 (ix2 k l)
  blk_ext [iblk, index_all]

theorem c_eq : cr (env m c t) = C m c := by
  funext j
  show iblk m c 9 t (ix2 (0 : Fin 1) j) = V m c main_v26 (ix2 (0 : Fin 1) j)
  blk_ext [iblk, index_all]

/-! ## The result array -/

/-- Row `i` merged. -/
def Y (i : Fin 16384) : Fin 1024 → EReal := merged (X m c i) (GM m c i) (OM m c i) (GR m c i) (OR m c i) (W m c)

theorem y_eq (r : Fin 512) (i : Fin 16384) (hi : i.val = t.val * 512 + r.val) : yr (env m c t) r = Y m c i := by
  unfold yr Y
  rw [x_eq m c t r i hi, om_eq m c t r i hi, or_eq m c t r i hi, gm_eq m c t r i hi, gr_eq m c t r i hi, w_eq]

/-- Row `i`'s logits. -/
def L (i : Fin 16384) : Fin 32 → EReal := logits (normed (Y m c i) (G m c) (B m c)) (R m c) (C m c)

theorem lB_eq : lB (env m c t) = fun r => L m c ⟨t.val * 512 + r.val, by have := t.isLt; have hN : cfg0.N = 32 := rfl; omega⟩ := by
  funext r
  have hi : t.val * 512 + r.val < 16384 := by have := t.isLt; have hN : cfg0.N = 32 := rfl; omega
  unfold lB L
  rw [y_eq m c t r ⟨t.val * 512 + r.val, hi⟩ rfl, g_eq, b_eq, r_eq, c_eq]

/-- The logits of the rows of tile `t`. -/
def T (t : ℕ) (ht : t < 32) (r : Fin 512) : Fin 32 → EReal := L m c ⟨t * 512 + r.val, by omega⟩

def resultI : Vec Ideal S16384x128 .i32 := fun i =>
  have h : (i 0).val < 16384 := (i 0).isLt
  Cert.Gate.routeE (T m c ((i 0).val / 512) (by omega)) ⟨(i 0).val % 512, by omega⟩ (i 1)

def resultC : Vec Ideal S256x128 .i32 := fun i =>
  have h : (i 0).val < 256 := (i 0).isLt
  Cert.Gate.cntE (T m c ((i 0).val / 8) (by omega)) (i 1)

theorem lB_T (u : ℕ) (hu : u < 32) (h : u = t.val) : lB (env m c t) = T m c u hu := by
  subst h
  exact lB_eq m c t

theorem iB_at (y : S512x128.Idx) (i : S16384x128.Idx) (h0 : (i 0).val = t.val * 512 + (y 0).val) (h1 : (i 1).val = (y 1).val) :
    iB (env m c t) y = resultI m c i := by
  have e1 : i 1 = y 1 := Fin.ext h1
  have hy : (y 0).val < 512 := (y 0).isLt
  have hi : (i 0).val < 16384 := (i 0).isLt
  unfold iB resultI
  rw [lB_T m c t ((i 0).val / 512) (by omega) (by omega), e1]
  exact congrArg (fun r => Cert.Gate.routeE _ r (y 1)) (Fin.ext (by show (y 0).val = (i 0).val % 512; omega))

theorem cB_at (y : S8x128.Idx) (i : S256x128.Idx) (h0 : (i 0).val = t.val * 8 + (y 0).val) (h1 : (i 1).val = (y 1).val) :
    cB (env m c t) y = resultC m c i := by
  have e1 : i 1 = y 1 := Fin.ext h1
  have hy : (y 0).val < 8 := (y 0).isLt
  have hi : (i 0).val < 256 := (i 0).isLt
  unfold cB resultC
  rw [lB_T m c t ((i 0).val / 8) (by omega) (by omega), e1]

variable (hL : ∀ i f, ⊥ < L m c i f)

include hL in
theorem lB_pos (t : Fin cfg0.N) (r : Fin 512) (f : Fin 32) : ⊥ < lB (env m c t) r f := by
  rw [lB_eq]
  exact hL _ f

include hL in
theorem arrI : (dats m 0 c).arrAt 12 cfg0.N = resultI m c := by
  refine (dats m 0 c).arrAt_eq_of_covers 12 _ (by decide +kernel) fun t hf y => ?_
  blk_simp [index_all]
  rw [after_i m c t (lB_pos m c hL t)]
  refine iB_at m c t y _ ?_ ?_
  · blk_simp [index_all]
  · blk_simp [index_all]

include hL in
theorem arrC : (dats m 0 c).arrAt 14 cfg0.N = resultC m c := by
  refine (dats m 0 c).arrAt_eq_of_covers 14 _ (by decide +kernel) fun t hf y => ?_
  blk_simp [index_all]
  rw [after_c m c t (lB_pos m c hL t)]
  refine cB_at m c t y _ ?_ ?_
  · blk_simp [index_all]
  · blk_simp [index_all]

end Cert.Kernel7Ideal.Merge

end
-- ==== Proof.RouteHost.lean ====
/- The gates: what the arrays the kernel is given hold, from the arguments. -/
module

public import proofs.«01_k».proof.Proof.Gen.Kernel7Ideal.Value
public import proofs.«01_k».proof.Proof.GateScatter
public import Idealize.ShloMosaic.Lib.StableHlo.ReadAt
public import Idealize.ShloMosaic.Lib.Pointwise

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise

variable (m : (ℓ : Loc nD τ sig) → Buf (Elt Ideal) ℓ) (c : Dev nD)

theorem v0_at (b : Fin 4) (q : Fin 4096) (n : Fin 1024) :
    @Eq EReal (V m c main_v0 (ix2 (⟨4096 * b.val + q.val, by omega⟩ : Fin 16384) n)) (m ((c.tc : Thread nD τ).loc main_arg0) (ix3 b q n)) := by
  unfold V
  after_reads_at

theorem v1_at (i : Fin 16384) (n : Fin 1024) : @Eq EReal (V m c main_v1 (ix2 i n)) (m ((c.tc : Thread nD τ).loc main_arg1) (ix2 i n)) := by
  unfold V
  after_reads_at

theorem v2_at (i : Fin 16384) (n : Fin 1024) : @Eq EReal (V m c main_v2 (ix2 i n)) (m ((c.tc : Thread nD τ).loc main_arg2) (ix2 i n)) := by
  unfold V
  after_reads_at

/-- The projection's first 6144 columns: those after the latents'. -/
theorem v10_at (b : Fin 4) (q : Fin 4096) (n : Fin 6912) (hn : n.val < 6144) :
    @Eq EReal (V m c main_v10 (ix2 (⟨4096 * b.val + q.val, by omega⟩ : Fin 16384) n))
      (m ((c.tc : Thread nD τ).loc main_arg3) (ix3 b q (⟨704 + n.val, by omega⟩ : Fin 6848))) := by
  unfold V
  after_reads_at
  have e1 : (4096 * b.val + q.val) / 4096 = b.val := by omega
  have e2 : (4096 * b.val + q.val) % 4096 = q.val := by omega
  simp only [e1, e2, Fin.eta]
  rw [dif_pos hn]
  after_reads_at

theorem v11_at (k n : Fin 1024) : @Eq EReal (V m c main_v11 (ix2 k n)) (m ((c.tc : Thread nD τ).loc main_arg4) (ix2 k n)) := by
  unfold V
  after_reads_at

theorem v12_at (k : Fin 1024) : @Eq EReal (V m c main_v12 (ix2 (0 : Fin 1) k)) (m ((c.tc : Thread nD τ).loc main_arg5) (ix1 k)) := by
  unfold V
  after_reads_at

theorem v13_at (k : Fin 1024) : @Eq EReal (V m c main_v13 (ix2 (0 : Fin 1) k)) (m ((c.tc : Thread nD τ).loc main_arg6) (ix1 k)) := by
  unfold V
  after_reads_at

/-- The router's weight, padded to 128 columns. -/
theorem wpad_at (x : S1024x128.Idx → EReal) (z : IVec S1 32) (hz : ∀ k, z k = 0#32) (w : S1024x32.Idx → EReal) (k : Fin 1024) (l : Fin 32) :
    Host.scatter scatter_S1024x128_S1_S1024x32_01_n_1_0 (fun _ b => b) x z w (ix2 k (⟨l.val, by omega⟩ : Fin 128)) = w (ix2 k l) := by
  refine Cert.Gate.scatter_at _ _ hz _ _ _ (ix2 k l) ?_ ?_
  · intro a
    fin_cases a <;> rfl
  · intro j hj
    funext a
    apply Fin.ext
    have h0 := hj 0
    have h1 := hj 1
    fin_cases a
    · exact h0
    · exact h1

/-- The bias, padded to 128 columns. -/
theorem bpad_at (x : S1x128.Idx → EReal) (z : IVec S2 32) (hz : ∀ k, z k = 0#32) (w : S32.Idx → EReal) (l : Fin 32) :
    Host.scatter scatter_S1x128_S2_S32_0_0_01_0 (fun _ b => b) x z w (ix2 (0 : Fin 1) (⟨l.val, by omega⟩ : Fin 128)) = w (ix1 l) := by
  refine Cert.Gate.scatter_at _ _ hz _ _ _ (ix1 l) ?_ ?_
  · intro a
    fin_cases a <;> rfl
  · intro j hj
    funext a
    apply Fin.ext
    have h1 := hj 1
    fin_cases a
    exact h1

/-- The high part is the weight. -/
theorem v21_pad_at (k : Fin 1024) (l : Fin 128) :
    @Eq EReal (V m c main_v21 (ix2 k (⟨l.val, by omega⟩ : Fin 256))) (V m c main_v17 (ix2 k l)) := by
  unfold V
  after_reads_at
  done

theorem v17_at (k : Fin 1024) (l : Fin 32) :
    @Eq EReal (V m c main_v17 (ix2 k (⟨l.val, by omega⟩ : Fin 128))) (m ((c.tc : Thread nD τ).loc main_arg7) (ix2 k l)) := by
  unfold V
  after_reads_at
  exact wpad_at _ _ (fun k => rfl) _ k l

theorem v21_at (k : Fin 1024) (l : Fin 32) :
    @Eq EReal (V m c main_v21 (ix2 k (⟨l.val, by omega⟩ : Fin 256))) (m ((c.tc : Thread nD τ).loc main_arg7) (ix2 k l)) :=
  (v21_pad_at m c k ⟨l.val, by omega⟩).trans (v17_at m c k l)

/-- The low part is what the weight's difference with itself leaves. -/
theorem v21_low_at (k : Fin 1024) (l : Fin 32) (a : EReal) (ha : a = m ((c.tc : Thread nD τ).loc main_arg7) (ix2 k l)) :
    @Eq EReal (V m c main_v21 (ix2 k (⟨128 + l.val, by omega⟩ : Fin 256))) (a - a) := by
  unfold V
  after_reads_at
  have h := wpad_at (broadcastInDim S1024x128 ![] bcast_S_S1024x128 (constant (F := Ideal) S_ FTy.f32 0#32))
    (broadcastInDim S1 ![] bcast_S_S1 (constantI S_ 32 0#32)) (fun k => rfl) (m (c, Proc.tc.devRef main_arg7)) k l
  refine Eq.trans (congrArg₂ (fun a b : EReal => a - b) h h) ?_
  rw [ha]

theorem v26_at (l : Fin 32) :
    @Eq EReal (V m c main_v26 (ix2 (0 : Fin 1) (⟨l.val, by omega⟩ : Fin 128))) (m ((c.tc : Thread nD τ).loc main_arg8) (ix1 l)) := by
  unfold V
  after_reads_at
  refine bpad_at _ _ (fun k => ?_) _ l
  obtain ⟨q, rfl⟩ : ∃ q : Fin 2, k = ix1 q := ⟨k 0, by funext a; fin_cases a; rfl⟩
  fin_cases q
  · after_reads_at
  · after_reads_at

end Cert.Kernel7Ideal.Merge

end
-- ==== Proof.RouteReal.lean ====
/- A normalised row is real when its weight and bias are, whatever the row holds; so the halves its product is
   split into leave nothing out. -/
module

public import proofs.«01_k».proof.Proof.RouteBlock

@[expose] public section

set_option maxRecDepth 16384

noncomputable section

namespace Cert.Kernel7Ideal.Merge

open Idealize.ShloMosaic

theorem eps_pos : ∃ r : ℝ, 0 < r ∧ Ideal.ofBits .f32 0x3727C5AC#32 = (r : EReal) := by
  refine ⟨10995116 / 1099511627776, by norm_num, ?_⟩
  simp [Ideal.ofBits, Ideal.ieee, -EReal.coe_mul]
  norm_num

theorem width_eq : Ideal.ofBits .f32 0x44800000#32 = ((1024 : ℝ) : EReal) := by
  simp [Ideal.ofBits, Ideal.ieee, -EReal.coe_mul]
  try norm_num

theorem coe_sum' (n : ℕ) (f : Fin n → ℝ) : ∑ k, ((f k * f k : ℝ) : EReal) = ((∑ k, f k * f k : ℝ) : EReal) := by
  induction (Finset.univ : Finset (Fin n)) using Finset.cons_induction with
  | empty => simp
  | cons a s ha ih => rw [Finset.sum_cons, Finset.sum_cons, ih, EReal.coe_add]

/-- A square is never negative. -/
theorem sq_nonneg' (x : EReal) : 0 ≤ x * x := by
  induction x using EReal.rec with
  | bot => simp
  | top => simp
  | coe r => rw [← EReal.coe_mul]; exact_mod_cast mul_self_nonneg r

/-- A deviation times its scale is real: where a deviation is infinite, the scale is zero. -/
theorem scaled_real (d : Fin 1024 → EReal) (n : Fin 1024) :
    ∃ r : ℝ, d n * Ideal.rsqrt (mean (fun k => d k * d k) + Ideal.ofBits .f32 0x3727C5AC#32) = (r : EReal) := by
  obtain ⟨ε, hε, he⟩ := eps_pos
  unfold mean
  rw [he, width_eq, Ideal.div_coe (by norm_num : (1024 : ℝ) ≠ 0)]
  by_cases h : ∀ k, ∃ r : ℝ, d k = (r : EReal)
  · choose f hf using h
    have e : ∑ k : Fin 1024, d k * d k = ((∑ k : Fin 1024, f k * f k : ℝ) : EReal) := by
      rw [← coe_sum']
      exact Finset.sum_congr rfl fun k _ => by rw [hf, EReal.coe_mul]
    have h0 : 0 < (∑ k : Fin 1024, f k * f k) * (1 / 1024) + ε := by
      have : 0 ≤ ∑ k : Fin 1024, f k * f k := Finset.sum_nonneg fun k _ => mul_self_nonneg (f k)
      positivity
    rw [e, ← EReal.coe_mul, ← EReal.coe_add, hf, Ideal.rsqrt_coe, if_neg (not_lt.2 h0.le), if_neg h0.ne']
    exact ⟨_, (EReal.coe_mul _ _).symm⟩
  · have hx : ∃ k, d k * d k = ⊤ := by
      obtain ⟨k, hk⟩ := not_forall.mp h
      replace hk := not_exists.mp hk
      refine ⟨k, ?_⟩
      generalize d k = x at hk
      induction x using EReal.rec with
      | bot => simp
      | top => simp
      | coe r => exact absurd rfl (hk r)
    obtain ⟨k, hk⟩ := hx
    have e : ∑ k : Fin 1024, d k * d k = ⊤ := by
      refine top_le_iff.mp ?_
      rw [← hk]
      exact Finset.single_le_sum (f := fun k => d k * d k) (fun j _ => sq_nonneg' (d j)) (Finset.mem_univ k)
    have z : Ideal.rsqrt ⊤ = 0 := by simp
    rw [e, EReal.top_mul_coe_of_pos (by norm_num), EReal.top_add_coe, z, mul_zero]
    exact ⟨0, rfl⟩

theorem normed_real (y g b : Fin 1024 → EReal) (hg : ∀ k, ∃ r : ℝ, g k = (r : EReal)) (hb : ∀ k, ∃ r : ℝ, b k = (r : EReal)) (n : Fin 1024) :
    ∃ r : ℝ, normed y g b n = (r : EReal) := by
  obtain ⟨u, hu⟩ := scaled_real (fun k => y k - mean y) n
  obtain ⟨v, hv⟩ := hg n
  obtain ⟨w, hw⟩ := hb n
  refine ⟨u * v + w, ?_⟩
  unfold normed
  rw [hu, hv, hw, ← EReal.coe_mul, ← EReal.coe_add]

theorem sub_real {x : EReal} (h : ∃ r : ℝ, x = (r : EReal)) : x - x = 0 := by
  obtain ⟨r, rfl⟩ := h
  rw [← EReal.coe_sub, sub_self, EReal.coe_zero]

/-- The split product is the plain one. -/
theorem logits_eq (h : Fin 1024 → EReal) (hh : ∀ k, ∃ r : ℝ, h k = (r : EReal)) (w : Fin 1024 → Fin 256 → EReal) (b : Fin 128 → EReal)
    (e : Fin 32) (hw : ∀ k, w k ⟨128 + e.val, by omega⟩ = 0) :
    logits h w b e = (∑ k : Fin 1024, h k * w k ⟨e.val, by omega⟩) + b ⟨e.val, by omega⟩ := by
  unfold logits
  simp only [hw, mul_zero, fun k => sub_real (hh k), zero_mul, Finset.sum_const_zero, add_zero]

end Cert.Kernel7Ideal.Merge

end
-- ==== Proof.RouteFinal.lean ====
/- The expert numbers, slots and counts: the kernel's results are the reference's. -/
module

public import proofs.«01_k».proof.Proof.RouteRef
public import proofs.«01_k».proof.Proof.RouteArray
public import proofs.«01_k».proof.Proof.RouteHost
public import proofs.«01_k».proof.Proof.RouteReal

@[expose] public section

set_option maxRecDepth 16384

noncomputable section

namespace Cert.Kernel7Ideal.Merge

open Cert.Kernel7Ideal Cert.Kernel7Ideal.Gen Idealize.ShloMosaic Idealize.ShloMosaic.TcCoe Idealize.SL.Sem
open Idealize.ShloMosaic.Pipeline Idealize.ShloMosaic.Pointwise

/-! ## The constants and the gate -/

theorem half_eq : Ideal.ofBits .f32 0x3F000000#32 = ((1 / 2 : ℝ) : EReal) := by
  simp [Ideal.ofBits, Ideal.ieee, -EReal.coe_mul]
  try norm_num

theorem one_eq : Ideal.ofBits .f32 0x3F800000#32 = ((1 : ℝ) : EReal) := by
  simp [Ideal.ofBits, Ideal.ieee, -EReal.coe_mul]
  try norm_num

theorem two_eq : Ideal.ofBits .f32 0x40000000#32 = ((2 : ℝ) : EReal) := by
  simp [Ideal.ofBits, Ideal.ieee, -EReal.coe_mul]
  try norm_num

/-- The weight of the residual is the square root of two's square root. -/
theorem alpha_eq : Ideal.sqrt (Ideal.sqrt (Ideal.ofBits .f32 0x40000000#32)) = alpha := by
  rw [two_eq]
  have h1 : Ideal.sqrt ((2 : ℝ) : EReal) = ((Real.sqrt 2 : ℝ) : EReal) := if_neg (by norm_num)
  have h2 : Ideal.sqrt ((Real.sqrt 2 : ℝ) : EReal) = ((Real.sqrt (Real.sqrt 2) : ℝ) : EReal) := if_neg (not_lt.mpr (Real.sqrt_nonneg 2))
  rw [h1, h2]
  rfl

/-- On the reals the gate is the logistic function. -/
theorem half_tanh (r : ℝ) : 1 / 2 * Real.tanh (1 / 2 * r) + 1 / 2 = 1 * (1 / (1 + Real.exp (-r))) := by
  rw [Real.tanh_eq_sinh_div_cosh, Real.sinh_eq, Real.cosh_eq]
  have hp : 0 < Real.exp (1 / 2 * r) := Real.exp_pos _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]
    congr 1
    ring
  rw [e1, e2]
  generalize Real.exp (1 / 2 * r) = u at hp
  have h2 : u * u + 1 ≠ 0 := by positivity
  field_simp
  ring

theorem gate_eq (x : EReal) : gate x = Cert.Reference7Ideal.Merge.sigmoid x := by
  unfold gate Cert.Reference7Ideal.Merge.sigmoid
  rw [half_eq, one_eq]
  induction x using EReal.rec with
  | bot =>
    have h1 : ((1 / 2 : ℝ) : EReal) * ⊥ = ⊥ := EReal.coe_mul_bot_of_pos (by norm_num)
    rw [h1, EReal.neg_bot]
    have h2 : Ideal.exp ⊤ = ⊤ := rfl
    have h3 : Ideal.tanh ⊥ = ((-1 : ℝ) : EReal) := by simp
    rw [h2, h3, EReal.coe_add_top, ← EReal.coe_mul, ← EReal.coe_add]
    have h4 : Ideal.div ((1 : ℝ) : EReal) ⊤ = 0 := by simp [Ideal.div]
    rw [h4]
    norm_num
  | top =>
    have h1 : ((1 / 2 : ℝ) : EReal) * ⊤ = ⊤ := EReal.coe_mul_top_of_pos (by norm_num)
    rw [h1, EReal.neg_top]
    have h2 : Ideal.exp ⊥ = ((0 : ℝ) : EReal) := rfl
    have h3 : Ideal.tanh ⊤ = ((1 : ℝ) : EReal) := by simp
    rw [h2, h3, ← EReal.coe_add, Ideal.div_coe (by norm_num), ← EReal.coe_mul, ← EReal.coe_add, ← EReal.coe_mul]
    norm_num
  | coe r =>
    have h2 : Ideal.exp ((-r : ℝ) : EReal) = ((Real.exp (-r) : ℝ) : EReal) := rfl
    have h3 : Ideal.tanh ((1 / 2 * r : ℝ) : EReal) = ((Real.tanh (1 / 2 * r) : ℝ) : EReal) := rfl
    have hp : (1 + Real.exp (-r)) ≠ 0 := by positivity
    rw [← EReal.coe_mul, h3, ← EReal.coe_neg, h2, ← EReal.coe_add, Ideal.div_coe hp, ← EReal.coe_mul, ← EReal.coe_add, ← EReal.coe_mul, half_tanh]

variable (m : (ℓ : Loc nD τ sig) → Buf (Elt Ideal) ℓ) (c : Dev nD)

/-! ## The arguments -/

def a0 : FVec Ideal S4x4096x1024 .f32 := m ((c.tc : Thread nD τ).loc main_arg0)
def a1 : FVec Ideal S16384x1024 .f32 := m ((c.tc : Thread nD τ).loc main_arg1)
def a2 : FVec Ideal S16384x1024 .f32 := m ((c.tc : Thread nD τ).loc main_arg2)
def a3 : FVec Ideal S4x4096x6848 .f32 := m ((c.tc : Thread nD τ).loc main_arg3)
def a4 : FVec Ideal S1024x1024 .f32 := m ((c.tc : Thread nD τ).loc main_arg4)
def a5 : FVec Ideal S1024 .f32 := m ((c.tc : Thread nD τ).loc main_arg5)
def a6 : FVec Ideal S1024 .f32 := m ((c.tc : Thread nD τ).loc main_arg6)
def a7 : FVec Ideal S1024x32 .f32 := m ((c.tc : Thread nD τ).loc main_arg7)
def a8 : FVec Ideal S32 .f32 := m ((c.tc : Thread nD τ).loc main_arg8)

/-! ## The kernel's rows from the arguments -/

theorem X_at (b : Fin 4) (q : Fin 4096) : X m c ⟨4096 * b.val + q.val, by omega⟩ = fun j => a0 m c (ix3 b q j) := funext fun j => v0_at m c b q j

theorem OM_at (i : Fin 16384) : OM m c i = fun j => a1 m c (ix2 i j) := funext fun j => v1_at m c i j

theorem OR_at (i : Fin 16384) : OR m c i = fun j => a2 m c (ix2 i j) := funext fun j => v2_at m c i j

theorem GM_at (b : Fin 4) (q : Fin 4096) (k : Fin 1024) :
    GM m c ⟨4096 * b.val + q.val, by omega⟩ k = a3 m c (ix3 b q (⟨4800 + k.val, by omega⟩ : Fin 6848)) := by
  refine (v10_at m c b q ⟨4096 + k.val, by omega⟩ (by show 4096 + k.val < 6144; omega)).trans ?_
  refine congrArg (fun n : Fin 6848 => a3 m c (ix3 b q n)) (Fin.ext ?_)
  show 704 + (4096 + k.val) = 4800 + k.val
  omega

theorem GR_at (b : Fin 4) (q : Fin 4096) (k : Fin 1024) :
    GR m c ⟨4096 * b.val + q.val, by omega⟩ k = a3 m c (ix3 b q (⟨5824 + k.val, by omega⟩ : Fin 6848)) := by
  refine (v10_at m c b q ⟨5120 + k.val, by omega⟩ (by show 5120 + k.val < 6144; omega)).trans ?_
  refine congrArg (fun n : Fin 6848 => a3 m c (ix3 b q n)) (Fin.ext ?_)
  show 704 + (5120 + k.val) = 5824 + k.val
  omega

theorem W_eq : W m c = fun k n => a4 m c (ix2 k n) := funext fun k => funext fun n => v11_at m c k n

theorem G_eq : G m c = fun k => a5 m c (ix1 k) := funext fun k => v12_at m c k

theorem B_eq : B m c = fun k => a6 m c (ix1 k) := funext fun k => v13_at m c k

/-! ## The results -/

theorem row_split (i : Fin 16384) : ∃ (b : Fin 4) (q : Fin 4096), i = ⟨4096 * b.val + q.val, by omega⟩ :=
  ⟨⟨i.val / 4096, by omega⟩, ⟨i.val % 4096, by omega⟩, Fin.ext (by show i.val = 4096 * (i.val / 4096) + i.val % 4096; omega)⟩

/-- A merged row is the reference's. -/
theorem Y_eq (i : Fin 16384) :
    Y m c i = fun j => Cert.Reference7Ideal.Read.val_main_v24 (F := Ideal) (a0 m c) (a1 m c) (a2 m c) (a3 m c) (a4 m c) (ix2 i j) := by
  obtain ⟨b, q, rfl⟩ := row_split i
  funext n
  rw [Cert.Reference7Ideal.Merge.v24_at]
  unfold Y merged Cert.Reference7Ideal.Merge.merged
  rw [alpha_eq, X_at, OM_at, OR_at, W_eq]
  refine congrArg _ (Finset.sum_congr rfl fun k _ => ?_)
  rw [GM_at, GR_at, gate_eq, gate_eq]

theorem H_at (i : Fin 16384) (n : Fin 1024) :
    normed (Y m c i) (G m c) (B m c) n
      = Cert.Reference7Ideal.Read.val_main_v48 (F := Ideal) (a0 m c) (a1 m c) (a2 m c) (a3 m c) (a4 m c) (a5 m c) (a6 m c) (ix2 i n) := by
  rw [Cert.Reference7Ideal.Merge.v48_at, Y_eq, G_eq, B_eq]
  rfl

/-- A row's logits are the reference's. -/
theorem logits_row (h5 : ∀ i, ∃ r : ℝ, @Eq EReal (a5 m c i) r) (h6 : ∀ i, ∃ r : ℝ, @Eq EReal (a6 m c i) r) (h7 : ∀ i, ∃ r : ℝ, @Eq EReal (a7 m c i) r) (i : Fin 16384) :
    logits (normed (Y m c i) (G m c) (B m c)) (R m c) (C m c)
      = Cert.Reference7Ideal.Merge.row (a0 m c) (a1 m c) (a2 m c) (a3 m c) (a4 m c) (a5 m c) (a6 m c) (a7 m c) (a8 m c) i := by
  funext e
  have hg : ∀ k, ∃ r : ℝ, G m c k = (r : EReal) := fun k => by rw [G_eq]; exact h5 (ix1 k)
  have hb : ∀ k, ∃ r : ℝ, B m c k = (r : EReal) := fun k => by rw [B_eq]; exact h6 (ix1 k)
  have hw : ∀ k, R m c k ⟨128 + e.val, by omega⟩ = 0 := fun k => (v21_low_at m c k e (a7 m c (ix2 k e)) rfl).trans (sub_real (h7 (ix2 k e)))
  rw [logits_eq _ (normed_real _ _ _ hg hb) _ _ _ hw]
  unfold Cert.Reference7Ideal.Merge.row Cert.Reference7Ideal.Merge.logits
  refine congrArg₂ (· + ·) (Finset.sum_congr rfl fun k _ => ?_) (v26_at m c e)
  rw [H_at]
  exact congrArg _ (v21_at m c k e)

theorem sum_real {n : ℕ} (f : Fin n → EReal) (hf : ∀ k, ∃ r : ℝ, f k = (r : EReal)) : ∃ r : ℝ, ∑ k, f k = (r : EReal) := by
  induction (Finset.univ : Finset (Fin n)) using Finset.cons_induction with
  | empty => exact ⟨0, by simp⟩
  | cons a s ha ih =>
    obtain ⟨x, hx⟩ := ih
    obtain ⟨y, hy⟩ := hf a
    exact ⟨y + x, by rw [Finset.sum_cons, hx, hy, EReal.coe_add]⟩

/-- A row's logits are above minus infinity. -/
theorem L_pos (h5 : ∀ i, ∃ r : ℝ, @Eq EReal (a5 m c i) r) (h6 : ∀ i, ∃ r : ℝ, @Eq EReal (a6 m c i) r) (h7 : ∀ i, ∃ r : ℝ, @Eq EReal (a7 m c i) r)
    (h8 : ∀ i, ∃ r : ℝ, @Eq EReal (a8 m c i) r) (i : Fin 16384) (f : Fin 32) : ⊥ < L m c i f := by
  have hg : ∀ k, ∃ r : ℝ, G m c k = (r : EReal) := fun k => by rw [G_eq]; exact h5 (ix1 k)
  have hb : ∀ k, ∃ r : ℝ, B m c k = (r : EReal) := fun k => by rw [B_eq]; exact h6 (ix1 k)
  have hw : ∀ k, R m c k ⟨128 + f.val, by omega⟩ = 0 := fun k => (v21_low_at m c k f (a7 m c (ix2 k f)) rfl).trans (sub_real (h7 (ix2 k f)))
  have hr : ∀ k, ∃ r : ℝ, R m c k ⟨f.val, by omega⟩ = (r : EReal) := fun k => by
    obtain ⟨r, h⟩ := h7 (ix2 k f)
    exact ⟨r, (v21_at m c k f).trans h⟩
  have hc : ∃ r : ℝ, C m c ⟨f.val, by omega⟩ = (r : EReal) := by
    obtain ⟨r, h⟩ := h8 (ix1 f)
    exact ⟨r, (v26_at m c f).trans h⟩
  unfold L
  have hn := normed_real (Y m c i) (G m c) (B m c) hg hb
  rw [logits_eq _ hn _ _ _ hw]
  obtain ⟨s, hs⟩ := sum_real (fun k => normed (Y m c i) (G m c) (B m c) k * R m c k ⟨f.val, by omega⟩) fun k => by
    obtain ⟨u, hu⟩ := hn k
    obtain ⟨v, hv⟩ := hr k
    exact ⟨u * v, by rw [hu, hv, EReal.coe_mul]⟩
  obtain ⟨d, hd⟩ := hc
  rw [hs, hd, ← EReal.coe_add]
  exact EReal.bot_lt_coe _

/-- A tile's logits are the reference's. -/
theorem T_eq (h5 : ∀ i, ∃ r : ℝ, @Eq EReal (a5 m c i) r) (h6 : ∀ i, ∃ r : ℝ, @Eq EReal (a6 m c i) r) (h7 : ∀ i, ∃ r : ℝ, @Eq EReal (a7 m c i) r) (t : ℕ) (ht : t < 32) :
    T m c t ht = Cert.Reference7Ideal.Merge.tile (a0 m c) (a1 m c) (a2 m c) (a3 m c) (a4 m c) (a5 m c) (a6 m c) (a7 m c) (a8 m c) ⟨t, ht⟩ :=
  funext fun r => logits_row m c h5 h6 h7 _

theorem resultI_eq (h5 : ∀ i, ∃ r : ℝ, @Eq EReal (a5 m c i) r) (h6 : ∀ i, ∃ r : ℝ, @Eq EReal (a6 m c i) r) (h7 : ∀ i, ∃ r : ℝ, @Eq EReal (a7 m c i) r) :
    resultI m c = Cert.Reference7Ideal.Read.val_main_v129 (F := Ideal) (a0 m c) (a1 m c) (a2 m c) (a3 m c) (a4 m c) (a5 m c) (a6 m c) (a7 m c) (a8 m c) := by
  funext i
  obtain ⟨n, u, rfl⟩ : ∃ (n : Fin 16384) (u : Fin 128), i = ix2 n u := ⟨i 0, i 1, by funext a; fin_cases a <;> rfl⟩
  have hn := n.isLt
  have e : n = ⟨n.val / 512 * 512 + n.val % 512, by omega⟩ := Fin.ext (by show n.val = n.val / 512 * 512 + n.val % 512; omega)
  have key := Cert.Reference7Ideal.Merge.route_at (a0 m c) (a1 m c) (a2 m c) (a3 m c) (a4 m c) (a5 m c) (a6 m c) (a7 m c) (a8 m c) ⟨n.val / 512, by omega⟩ ⟨n.val % 512, by omega⟩ u
  refine Eq.trans ?_ (key.symm.trans (congrArg (fun n' : Fin 16384 => Cert.Reference7Ideal.Read.val_main_v129 (F := Ideal) (a0 m c) (a1 m c) (a2 m c) (a3 m c) (a4 m c) (a5 m c) (a6 m c) (a7 m c) (a8 m c) (ix2 n' u)) e.symm))
  exact congrArg (fun T' => Cert.Gate.routeE T' (⟨n.val % 512, by omega⟩ : Fin 512) u) (T_eq m c h5 h6 h7 (n.val / 512) (by omega))

theorem resultC_eq (h5 : ∀ i, ∃ r : ℝ, @Eq EReal (a5 m c i) r) (h6 : ∀ i, ∃ r : ℝ, @Eq EReal (a6 m c i) r) (h7 : ∀ i, ∃ r : ℝ, @Eq EReal (a7 m c i) r) :
    resultC m c = Cert.Reference7Ideal.Read.val_main_v85 (F := Ideal) (a0 m c) (a1 m c) (a2 m c) (a3 m c) (a4 m c) (a5 m c) (a6 m c) (a7 m c) (a8 m c) := by
  funext i
  obtain ⟨n, u, rfl⟩ : ∃ (n : Fin 256) (u : Fin 128), i = ix2 n u := ⟨i 0, i 1, by funext a; fin_cases a <;> rfl⟩
  have hn := n.isLt
  have e : n = ⟨8 * (n.val / 8) + n.val % 8, by omega⟩ := Fin.ext (by show n.val = 8 * (n.val / 8) + n.val % 8; omega)
  have key := Cert.Reference7Ideal.Merge.v85_at (a0 m c) (a1 m c) (a2 m c) (a3 m c) (a4 m c) (a5 m c) (a6 m c) (a7 m c) (a8 m c) ⟨n.val / 8, by omega⟩ ⟨n.val % 8, by omega⟩ u
  refine Eq.trans ?_ (key.symm.trans (congrArg (fun n' : Fin 256 => Cert.Reference7Ideal.Read.val_main_v85 (F := Ideal) (a0 m c) (a1 m c) (a2 m c) (a3 m c) (a4 m c) (a5 m c) (a6 m c) (a7 m c) (a8 m c) (ix2 n' u)) e.symm))
  exact congrArg (fun T' => Cert.Gate.cntE T' u) (T_eq m c h5 h6 h7 (n.val / 8) (by omega))

end Cert.Kernel7Ideal.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Pre
public import proofs.«01_k».proof.Proof.Final
public import proofs.«01_k».proof.Proof.ProjPre
public import proofs.«01_k».proof.Proof.ProjFinal
public import proofs.«01_k».proof.Proof.PrepPre
public import proofs.«01_k».proof.Proof.PrepFinal
public import proofs.«01_k».proof.Proof.MergeFinal
public import proofs.«01_k».proof.Proof.RopeFinal
public import proofs.«01_k».proof.Proof.GatePre
public import proofs.«01_k».proof.Proof.RoutePre
public import proofs.«01_k».proof.Proof.GateFinal
public import proofs.«01_k».proof.Proof.RouteFinal
public import Idealize.ShloMosaic.Adequacy
public import Idealize.ShloMosaic.Init

@[expose] public section

noncomputable section

namespace Cert.Proof

open Idealize.ShloMosaic Idealize.SL.Sem Cert.Kernel

/-- Both programs run, and from equal arguments their results are equal: the causal attention. -/
theorem attention : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hreal := fun c => Cert.Pre_finite.real_of _ _ _ _ (hpre c)
  choose hq hn hp using hreal
  choose qr hq using hq
  choose nr hn using hn
  choose pr hp using hp
  refine ⟨fun c => Cert.KernelIdeal.Tiles.result m c, ?_, ?_⟩
  · refine (θ_run (Cert.KernelIdeal.defs (F := Ideal)) _ _).mono (fun r h c => ?_) (Cert.KernelIdeal.Value.run_blocks (F := Ideal) m g)
    obtain ⟨hv, ha⟩ := h c
    exact ⟨hv.trans (Cert.KernelIdeal.Tiles.arrAt_eq m c (Cert.KernelIdeal.Tiles.sm_ne_top m c (qr c) (nr c) (pr c) (hq c) (hn c) (hp c))), ha⟩
  · refine (θ_run (Cert.ReferenceIdeal.defs (F := Ideal)) _ _).mono (fun r h c => ?_) (Cert.ReferenceIdeal.Value.run (F := Ideal) m' g')
    obtain ⟨hv, ha⟩ := h c
    refine ⟨hv.trans ?_, ha⟩
    beta_reduce
    rw [Cert.KernelIdeal.Tiles.result_eq m c (qr c) (nr c) (pr c) (hq c) (hn c) (hp c), Cert.ReferenceIdeal.Read.val_main_v29_eq,
      (hargs c).1, (hargs c).2.1, (hargs c).2.2.1, (hargs c).2.2.2]

/-- The reference runs, leaves its arguments as they were, and has no semaphore to leave. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- Both programs run, and from equal arguments their results are equal: the input projection. -/
theorem projection : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m g m' g' hpre hargs
  have hreal := fun c => Cert.Pre_finite2.real_of _ _ (hpre c)
  choose hx hw using hreal
  choose xr hx using hx
  choose wr hw using hw
  refine ⟨fun c => Cert.Kernel2Ideal.Proj.result m c, ?_, ?_⟩
  · refine (θ_run (Cert.Kernel2Ideal.defs (F := Ideal)) _ _).mono (fun r h c => ?_) (Cert.Kernel2Ideal.Value.run_blocks (F := Ideal) m g)
    obtain ⟨hv, ha⟩ := h c
    exact ⟨hv.trans (Cert.Kernel2Ideal.Proj.arrAt_eq m c), ha⟩
  · refine (θ_run (Cert.Reference2Ideal.defs (F := Ideal)) _ _).mono (fun r h c => ?_) (Cert.Reference2Ideal.Value.run (F := Ideal) m' g')
    obtain ⟨hv, ha⟩ := h c
    refine ⟨hv.trans ?_, ha⟩
    beta_reduce
    rw [Cert.Kernel2Ideal.Proj.result_eq m c (xr c) (wr c) (hx c) (hw c), Cert.Reference2Ideal.Read.val_main_v8_eq,
      (hargs c).1, (hargs c).2]

/-- The projection's reference runs, leaves its arguments as they were, and has no semaphore to leave. -/
theorem reference2_frame : Cert.quiescent_Reference2Ideal (hReference2Ideal := Cert.Reference2Ideal.Gen.facts) := fun m g _ =>
  (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m g)

/-- Both programs run, and from equal arguments their results are equal: the attention's preparation. -/
theorem preparation : Cert.algebraic_Kernel3Ideal_Reference3Ideal_pre_finite3 (hKernel3Ideal := Cert.Kernel3Ideal.Gen.facts)
    (hReference3Ideal := Cert.Reference3Ideal.Gen.facts) (hPre_finite3 := Cert.Pre_finite3.facts) := by
  intro m g m' g' hpre hargs
  have hreal := fun c => Cert.Pre_finite3.real_of _ _ _ _ _ _ _ (hpre c)
  refine ⟨fun c => Cert.Kernel3Ideal.Prep.resultQ m c, fun c => Cert.Kernel3Ideal.Prep.resultK m c, fun c => Cert.Kernel3Ideal.Prep.resultV m c,
    fun c => Cert.Kernel3Ideal.Prep.resultR m c, ?_, ?_⟩
  · refine (θ_run (Cert.Kernel3Ideal.defs (F := Ideal)) _ _).mono (fun r h c => ?_) (Cert.Kernel3Ideal.Value.run_blocks (F := Ideal) m g)
    obtain ⟨hq, hk, hv, hr, ha⟩ := h c
    exact ⟨hq.trans (Cert.Kernel3Ideal.Prep.arrQ m c), hk.trans (Cert.Kernel3Ideal.Prep.arrK m c), hv.trans (Cert.Kernel3Ideal.Prep.arrV m c),
      hr.trans (Cert.Kernel3Ideal.Prep.arrR m c), ha⟩
  · refine (θ_run (Cert.Reference3Ideal.defs (F := Ideal)) _ _).mono (fun r h c => ?_) (Cert.Reference3Ideal.Value.run (F := Ideal) m' g')
    obtain ⟨hq, hk, hv, hr, ha⟩ := h c
    obtain ⟨e0, e1, e2, e3, e4, e5, e6⟩ := hargs c
    refine ⟨hq.trans ?_, hk.trans ?_, hv.trans ?_, hr.trans ?_, ha⟩
    · beta_reduce
      rw [Cert.Kernel3Ideal.Prep.resultQ_eq m c (hreal c).1 (hreal c).2.1 (hreal c).2.2, Cert.Reference3Ideal.Read.val_main_v74_eq, e0, e1, e2, e3, e4]
      rfl
    · beta_reduce
      rw [Cert.Kernel3Ideal.Prep.resultK_eq m c, Cert.Reference3Ideal.Read.val_main_v76_eq, e0, e5, e6]
      rfl
    · beta_reduce
      rw [Cert.Kernel3Ideal.Prep.resultV_eq m c, Cert.Reference3Ideal.Read.val_main_v78_eq, e0, e5, e6]
      rfl
    · beta_reduce
      rw [Cert.Kernel3Ideal.Prep.resultR_eq m c, Cert.Reference3Ideal.Read.val_main_v79_eq, e0, e1, e2]
      rfl

/-- The preparation's reference runs, leaves its arguments as they were, and has no semaphore to leave. -/
theorem reference3_frame : Cert.quiescent_Reference3Ideal (hReference3Ideal := Cert.Reference3Ideal.Gen.facts) := fun m g _ =>
  (θ_run (Cert.Reference3Ideal.defs (F := Ideal)) _ _).mono
    (fun r h => ⟨fun c => (h c).2.2.2.2, Idealize.ShloMosaic.sem_eq_zero_of_no_sems (by decide) r.2⟩)
    (Cert.Reference3Ideal.Value.run (F := Ideal) m g)

/-- Both programs run, and from equal arguments their results are equal: the merge of the branches and its norm. -/
theorem merge : Cert.algebraic_Kernel4Ideal_Reference4Ideal (hKernel4Ideal := Cert.Kernel4Ideal.Gen.facts)
    (hReference4Ideal := Cert.Reference4Ideal.Gen.facts) := by
  intro m g m' g' hpre hargs
  refine ⟨fun c => Cert.Kernel4Ideal.Merge.resultH m c, fun c => Cert.Kernel4Ideal.Merge.resultB m c, ?_, ?_⟩
  · refine (θ_run (Cert.Kernel4Ideal.defs (F := Ideal)) _ _).mono (fun r h c => ?_) (Cert.Kernel4Ideal.Value.run_blocks (F := Ideal) m g)
    obtain ⟨hh, hb, _, _, _, ha⟩ := h c
    exact ⟨hh.trans (Cert.Kernel4Ideal.Merge.arrH m c), hb.trans (Cert.Kernel4Ideal.Merge.arrB m c), ha⟩
  · refine (θ_run (Cert.Reference4Ideal.defs (F := Ideal)) _ _).mono (fun r h c => ?_) (Cert.Reference4Ideal.Value.run (F := Ideal) m' g')
    obtain ⟨hh, hb, ha⟩ := h c
    obtain ⟨e0, e1, e2, e3, e4, e5, e6, e7, e8⟩ := hargs c
    refine ⟨hh.trans ?_, hb.trans ?_, ha⟩
    · beta_reduce
      rw [Cert.Kernel4Ideal.Merge.resultH_eq m c, Cert.Reference4Ideal.Read.val_main_v48_eq, e0, e1, e2, e3, e4, e5, e6]
      rfl
    · beta_reduce
      rw [Cert.Kernel4Ideal.Merge.resultB_eq m c, Cert.Reference4Ideal.Read.val_main_v49_eq, e0, e1, e2, e3, e4, e5, e6]
      rfl

/-- The merge's reference runs, leaves its arguments as they were, and has no semaphore to leave. -/
theorem reference4_frame : Cert.quiescent_Reference4Ideal (hReference4Ideal := Cert.Reference4Ideal.Gen.facts) := fun m g _ =>
  (θ_run (Cert.Reference4Ideal.defs (F := Ideal)) _ _).mono
    (fun r h => ⟨fun c => (h c).2.2, Idealize.ShloMosaic.sem_eq_zero_of_no_sems (by decide) r.2⟩)
    (Cert.Reference4Ideal.Value.run (F := Ideal) m g)

/-- Both programs run, and from equal positions their results are equal: the four rope tables. -/
theorem rope : Cert.algebraic_Kernel5Ideal_Reference5Ideal (hKernel5Ideal := Cert.Kernel5Ideal.Gen.facts)
    (hReference5Ideal := Cert.Reference5Ideal.Gen.facts) := by
  intro m g m' g' hpre hargs
  refine ⟨fun c => Cert.Kernel5Ideal.Rope.table m c Cert.Kernel5Ideal.Rope.rowRc, fun c => Cert.Kernel5Ideal.Rope.table m c Cert.Kernel5Ideal.Rope.rowRs,
    fun c => Cert.Kernel5Ideal.Rope.table m c Cert.Kernel5Ideal.Rope.rowMc, fun c => Cert.Kernel5Ideal.Rope.table m c Cert.Kernel5Ideal.Rope.rowMs, ?_, ?_⟩
  · refine (θ_run (Cert.Kernel5Ideal.defs (F := Ideal)) _ _).mono (fun r h c => ?_) (Cert.Kernel5Ideal.Value.run_blocks (F := Ideal) m g)
    obtain ⟨h2, h3, h4, h5, ha⟩ := h c
    exact ⟨h2.trans (Cert.Kernel5Ideal.Rope.arr2 m c), h3.trans (Cert.Kernel5Ideal.Rope.arr3 m c), h4.trans (Cert.Kernel5Ideal.Rope.arr4 m c),
      h5.trans (Cert.Kernel5Ideal.Rope.arr5 m c), ha⟩
  · refine (θ_run (Cert.Reference5Ideal.defs (F := Ideal)) _ _).mono (fun r h c => ?_) (Cert.Reference5Ideal.Value.run (F := Ideal) m' g')
    obtain ⟨h2, h3, h4, h5, ha⟩ := h c
    refine ⟨h2.trans ?_, h3.trans ?_, h4.trans ?_, h5.trans ?_, ha⟩
    · beta_reduce
      rw [Cert.Kernel5Ideal.Rope.rc_eq m c, Cert.Reference5Ideal.Read.val_main_v39_eq, hargs c]
    · beta_reduce
      rw [Cert.Kernel5Ideal.Rope.rs_eq m c, Cert.Reference5Ideal.Read.val_main_v40_eq, hargs c]
    · beta_reduce
      rw [Cert.Kernel5Ideal.Rope.mc_eq m c, Cert.Reference5Ideal.Read.val_main_v41_eq, hargs c]
    · beta_reduce
      rw [Cert.Kernel5Ideal.Rope.ms_eq m c, Cert.Reference5Ideal.Read.val_main_v42_eq, hargs c]

/-- The rope tables' reference runs, leaves its argument as it was, and has no semaphore to leave. -/
theorem reference5_frame : Cert.quiescent_Reference5Ideal (hReference5Ideal := Cert.Reference5Ideal.Gen.facts) := fun m g _ =>
  (θ_run (Cert.Reference5Ideal.defs (F := Ideal)) _ _).mono
    (fun r h => ⟨fun c => (h c).2.2.2.2, Idealize.ShloMosaic.sem_eq_zero_of_no_sems (by decide) r.2⟩)
    (Cert.Reference5Ideal.Value.run (F := Ideal) m g)

/-- Both programs run, and from equal arguments their results are equal: the merge's gates. -/
theorem gates : Cert.algebraic_Kernel6Ideal_Reference6Ideal_pre_finite6 (hKernel6Ideal := Cert.Kernel6Ideal.Gen.facts)
    (hReference6Ideal := Cert.Reference6Ideal.Gen.facts) (hPre_finite6 := Cert.Pre_finite6.facts) := by
  intro m g m' g' hpre hargs
  have hreal := fun c => Cert.Pre_finite6.real_of _ _ _ _ _ _ _ _ _ (hpre c)
  refine ⟨fun c => Cert.Kernel6Ideal.Merge.resultG m c, ?_, ?_⟩
  · refine (θ_run (Cert.Kernel6Ideal.defs (F := Ideal)) _ _).mono (fun r h c => ?_) (Cert.Kernel6Ideal.Value.run_blocks (F := Ideal) m g)
    obtain ⟨_, _, _, hg, _, ha⟩ := h c
    exact ⟨hg.trans (Cert.Kernel6Ideal.Merge.arrG m c), ha⟩
  · refine (θ_run (Cert.Reference6Ideal.defs (F := Ideal)) _ _).mono (fun r h c => ?_) (Cert.Reference6Ideal.Value.run (F := Ideal) m' g')
    obtain ⟨hg, ha⟩ := h c
    obtain ⟨e0, e1, e2, e3, e4, e5, e6, e7, e8⟩ := hargs c
    refine ⟨hg.trans ?_, ha⟩
    beta_reduce
    rw [Cert.Kernel6Ideal.Merge.resultG_eq m c (hreal c).1 (hreal c).2.1 (hreal c).2.2, Cert.Reference6Ideal.Read.val_main_v96_eq]
    show Cert.Reference6Ideal.Read.val_main_v96 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) = _
    rw [e0, e1, e2, e3, e4, e5, e6, e7, e8]
    rfl

/-- The gates' reference runs, leaves its arguments as they were, and has no semaphore to leave. -/
theorem reference6_frame : Cert.quiescent_Reference6Ideal (hReference6Ideal := Cert.Reference6Ideal.Gen.facts) := fun m g _ =>
  (θ_run (Cert.Reference6Ideal.defs (F := Ideal)) _ _).mono
    (fun r h => ⟨fun c => (h c).2, Idealize.ShloMosaic.sem_eq_zero_of_no_sems (by decide) r.2⟩)
    (Cert.Reference6Ideal.Value.run (F := Ideal) m g)

/-- The expert numbers with their slots, and the counts. -/
theorem routing : Cert.algebraic_Kernel7Ideal_Reference7Ideal_pre_finite7 (hKernel7Ideal := Cert.Kernel7Ideal.Gen.facts)
    (hReference7Ideal := Cert.Reference7Ideal.Gen.facts) (hPre_finite7 := Cert.Pre_finite7.facts) := by
  intro m g m' g' hpre hargs
  have hreal := fun c => Cert.Pre_finite7.real_of _ _ _ _ _ _ _ _ _ (hpre c)
  have hL := fun c => Cert.Kernel7Ideal.Merge.L_pos m c (hreal c).1 (hreal c).2.1 (hreal c).2.2.1 (hreal c).2.2.2
  refine ⟨fun c => Cert.Kernel7Ideal.Merge.resultI m c, fun c => Cert.Kernel7Ideal.Merge.resultC m c, ?_, ?_⟩
  · refine (θ_run (Cert.Kernel7Ideal.defs (F := Ideal)) _ _).mono (fun r h c => ?_) (Cert.Kernel7Ideal.Value.run_blocks (F := Ideal) m g)
    obtain ⟨_, _, hi, _, hc, ha⟩ := h c
    exact ⟨hi.trans (Cert.Kernel7Ideal.Merge.arrI m c (hL c)), hc.trans (Cert.Kernel7Ideal.Merge.arrC m c (hL c)), ha⟩
  · refine (θ_run (Cert.Reference7Ideal.defs (F := Ideal)) _ _).mono (fun r h c => ?_) (Cert.Reference7Ideal.Value.run (F := Ideal) m' g')
    obtain ⟨hi, hc, ha⟩ := h c
    obtain ⟨e0, e1, e2, e3, e4, e5, e6, e7, e8⟩ := hargs c
    refine ⟨hi.trans ?_, hc.trans ?_, ha⟩
    · beta_reduce
      rw [Cert.Kernel7Ideal.Merge.resultI_eq m c (hreal c).1 (hreal c).2.1 (hreal c).2.2.1, Cert.Reference7Ideal.Read.val_main_v129_eq]
      show Cert.Reference7Ideal.Read.val_main_v129 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) = _
      rw [e0, e1, e2, e3, e4, e5, e6, e7, e8]
      rfl
    · beta_reduce
      rw [Cert.Kernel7Ideal.Merge.resultC_eq m c (hreal c).1 (hreal c).2.1 (hreal c).2.2.1, Cert.Reference7Ideal.Read.val_main_v85_eq]
      show Cert.Reference7Ideal.Read.val_main_v85 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) = _
      rw [e0, e1, e2, e3, e4, e5, e6, e7, e8]
      rfl

/-- The routing's reference runs, leaves its arguments as they were, and has no semaphore to leave. -/
theorem reference7_frame : Cert.quiescent_Reference7Ideal (hReference7Ideal := Cert.Reference7Ideal.Gen.facts) := fun m g _ =>
  (θ_run (Cert.Reference7Ideal.defs (F := Ideal)) _ _).mono
    (fun r h => ⟨fun c => (h c).2.2, Idealize.ShloMosaic.sem_eq_zero_of_no_sems (by decide) r.2⟩)
    (Cert.Reference7Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.facts, Cert.Pre_finite2.facts, Cert.Pre_finite3.facts, Cert.Pre_finite6.facts, Cert.Pre_finite7.facts,
    fun m g _ => Cert.Kernel.Gen.frame m g, fun m g _ => Cert.KernelIdeal.Gen.frame m g, fun m g _ => Cert.KernelIdeal.Gen.frame m g,
    fun m g _ => reference_frame m g trivial, fun m g _ => reference_frame m g trivial,
    fun m g _ => Cert.Kernel2.Gen.frame m g, fun m g _ => Cert.Kernel2Ideal.Gen.frame m g, fun m g _ => Cert.Kernel2Ideal.Gen.frame m g,
    fun m g _ => reference2_frame m g trivial, fun m g _ => reference2_frame m g trivial,
    fun m g _ => Cert.Kernel3.Gen.frame m g, fun m g _ => Cert.Kernel3Ideal.Gen.frame m g, fun m g _ => Cert.Kernel3Ideal.Gen.frame m g,
    fun m g _ => reference3_frame m g trivial, fun m g _ => reference3_frame m g trivial,
    fun m g _ => Cert.Kernel4.Gen.frame m g, fun m g _ => Cert.Kernel4Ideal.Gen.frame m g, fun m g _ => reference4_frame m g trivial,
    fun m g _ => Cert.Kernel5.Gen.frame m g, fun m g _ => Cert.Kernel5Ideal.Gen.frame m g, fun m g _ => reference5_frame m g trivial,
    fun m g _ => Cert.Kernel6.Gen.frame m g, fun m g _ => Cert.Kernel6Ideal.Gen.frame m g, fun m g _ => Cert.Kernel6Ideal.Gen.frame m g,
    fun m g _ => reference6_frame m g trivial, fun m g _ => reference6_frame m g trivial,
    fun m g _ => Cert.Kernel7.Gen.frame m g, fun m g _ => Cert.Kernel7Ideal.Gen.frame m g, fun m g _ => Cert.Kernel7Ideal.Gen.frame m g,
    fun m g _ => reference7_frame m g trivial, fun m g _ => reference7_frame m g trivial,
    IdealRules.named_const.statement Cert.KernelIdeal.κ "mask" .f32 0xF149F2CA#32 ⊥ rfl,
    attention, trivial, projection,
    IdealRules.named_const.statement Cert.Kernel3Ideal.κ "scale" .f32 0x3DD53B95#32 _ rfl, preparation,
    IdealRules.named_const.statement Cert.Kernel4Ideal.κ "alpha" .f32 0x3F9837F0#32 _ rfl, merge, trivial, rope,
    IdealRules.named_const.statement Cert.Kernel6Ideal.κ "alpha" .f32 0x3F9837F0#32 _ rfl, gates,
    IdealRules.named_const.statement Cert.Kernel7Ideal.κ "alpha" .f32 0x3F9837F0#32 _ rfl, routing⟩

end Cert.Proof

end
